-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pool_grad_real [hPre_pool_grad_real : Cert.Pre_pool_grad_real.Facts] (m : (ℓ : Loc Cert.KernelIdeal.nD Cert.KernelIdeal.τ Cert.KernelIdeal.sig) → Buf (Elt Ideal) ℓ) : Prop :=
  ∀ c : Dev Cert.KernelIdeal.nD,
    (Cert.Pre_pool_grad_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_pool_grad_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_pool_grad_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_pool_grad_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pool_grad_real [hPre_pool_grad_real : Cert.Pre_pool_grad_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pool_grad_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_pool_grad_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_pool_grad_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_pool_grad_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_pool_real [hPre_pool_real : Cert.Pre_pool_real.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_pool_real.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2))) = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_pool_real [hPre_pool_real : Cert.Pre_pool_real.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_pool_real.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2))) = (fun _ => 1#1)

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelGw (m : (ℓ : Loc Cert.KernelGw.nD Cert.KernelGw.τ Cert.KernelGw.sig) → Buf (Elt Bits) ℓ) : Prop :=
  True

def Pre_KernelGwIdeal (m : (ℓ : Loc Cert.KernelGwIdeal.nD Cert.KernelGwIdeal.τ Cert.KernelGwIdeal.sig) → Buf (Elt Ideal) ℓ) : Prop :=
  True

def Pre_ReferenceGwIdeal (m : (ℓ : Loc Cert.ReferenceGwIdeal.nD Cert.ReferenceGwIdeal.τ Cert.ReferenceGwIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelTail (m : (ℓ : Loc Cert.KernelTail.nD Cert.KernelTail.τ Cert.KernelTail.sig) → Buf (Elt Bits) ℓ) : Prop :=
  True

def Pre_KernelTailIdeal (m : (ℓ : Loc Cert.KernelTailIdeal.nD Cert.KernelTailIdeal.τ Cert.KernelTailIdeal.sig) → Buf (Elt Ideal) ℓ) : Prop :=
  True

def Pre_ReferenceTailIdeal (m : (ℓ : Loc Cert.ReferenceTailIdeal.nD Cert.ReferenceTailIdeal.τ Cert.ReferenceTailIdeal.sig) → Buf (Elt Ideal) ℓ) : Prop :=
  True

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelClose (m : (ℓ : Loc Cert.KernelClose.nD Cert.KernelClose.τ Cert.KernelClose.sig) → Buf (Elt Bits) ℓ) : Prop :=
  True

def Pre_KernelCloseIdeal (m : (ℓ : Loc Cert.KernelCloseIdeal.nD Cert.KernelCloseIdeal.τ Cert.KernelCloseIdeal.sig) → Buf (Elt Ideal) ℓ) : Prop :=
  True

def Pre_ReferenceCloseIdeal (m : (ℓ : Loc Cert.ReferenceCloseIdeal.nD Cert.ReferenceCloseIdeal.τ Cert.ReferenceCloseIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelUpdate (m : (ℓ : Loc Cert.KernelUpdate.nD Cert.KernelUpdate.τ Cert.KernelUpdate.sig) → Buf (Elt Bits) ℓ) : Prop :=
  True

def Pre_KernelUpdateIdeal (m : (ℓ : Loc Cert.KernelUpdateIdeal.nD Cert.KernelUpdateIdeal.τ Cert.KernelUpdateIdeal.sig) → Buf (Elt Ideal) ℓ) : Prop :=
  True

def Pre_ReferenceUpdateIdeal (m : (ℓ : Loc Cert.ReferenceUpdateIdeal.nD Cert.ReferenceUpdateIdeal.τ Cert.ReferenceUpdateIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelMany (m : (ℓ : Loc Cert.KernelMany.nD Cert.KernelMany.τ Cert.KernelMany.sig) → Buf (Elt Bits) ℓ) : Prop :=
  True

def Pre_KernelManyIdeal (m : (ℓ : Loc Cert.KernelManyIdeal.nD Cert.KernelManyIdeal.τ Cert.KernelManyIdeal.sig) → Buf (Elt Ideal) ℓ) : Prop :=
  True

def Pre_ReferenceManyIdeal (m : (ℓ : Loc Cert.ReferenceManyIdeal.nD Cert.ReferenceManyIdeal.τ Cert.ReferenceManyIdeal.sig) → Buf (Elt Ideal) ℓ) : Prop :=
  True

def Pre_KernelBounds (m : (ℓ : Loc Cert.KernelBounds.nD Cert.KernelBounds.τ Cert.KernelBounds.sig) → Buf (Elt Bits) ℓ) : Prop :=
  True

def Pre_KernelBoundsIdeal (m : (ℓ : Loc Cert.KernelBoundsIdeal.nD Cert.KernelBoundsIdeal.τ Cert.KernelBoundsIdeal.sig) → Buf (Elt Ideal) ℓ) : Prop :=
  True

def Pre_ReferenceBoundsIdeal (m : (ℓ : Loc Cert.ReferenceBoundsIdeal.nD Cert.ReferenceBoundsIdeal.τ Cert.ReferenceBoundsIdeal.sig) → Buf (Elt Ideal) ℓ) : Prop :=
  True

def Pre_KernelCond (m : (ℓ : Loc Cert.KernelCond.nD Cert.KernelCond.τ Cert.KernelCond.sig) → Buf (Elt Bits) ℓ) : Prop :=
  True

def Pre_KernelCondIdeal (m : (ℓ : Loc Cert.KernelCondIdeal.nD Cert.KernelCondIdeal.τ Cert.KernelCondIdeal.sig) → Buf (Elt Ideal) ℓ) : Prop :=
  True

def Pre_ReferenceCondIdeal (m : (ℓ : Loc Cert.ReferenceCondIdeal.nD Cert.ReferenceCondIdeal.τ Cert.ReferenceCondIdeal.sig) → Buf (Elt Ideal) ℓ) : Prop :=
  True

def Pre_KernelCondGrad (m : (ℓ : Loc Cert.KernelCondGrad.nD Cert.KernelCondGrad.τ Cert.KernelCondGrad.sig) → Buf (Elt Bits) ℓ) : Prop :=
  True

def Pre_KernelCondGradIdeal (m : (ℓ : Loc Cert.KernelCondGradIdeal.nD Cert.KernelCondGradIdeal.τ Cert.KernelCondGradIdeal.sig) → Buf (Elt Ideal) ℓ) : Prop :=
  True

def Pre_ReferenceCondGradIdeal (m : (ℓ : Loc Cert.ReferenceCondGradIdeal.nD Cert.ReferenceCondGradIdeal.τ Cert.ReferenceCondGradIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pool_grad_real [hKernelIdeal : Cert.KernelIdeal.Facts] [hPre_pool_grad_real : Cert.Pre_pool_grad_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_grad_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pool_grad_real [hReferenceIdeal : Cert.ReferenceIdeal.Facts] [hPre_pool_grad_real : Cert.Pre_pool_grad_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pool_grad_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2))
      ∧ r.2.sem = fun _ => 0)

def quiescent_KernelPoolIdeal_pre_pool_real [hKernelPoolIdeal : Cert.KernelPoolIdeal.Facts] [hPre_pool_real : Cert.Pre_pool_real.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_pool_real m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2))
      ∧ r.2.sem = fun _ => 0)

def quiescent_ReferencePoolIdeal_pre_pool_real [hReferencePoolIdeal : Cert.ReferencePoolIdeal.Facts] [hPre_pool_real : Cert.Pre_pool_real.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_pool_real m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9))
      ∧ r.2.sem = fun _ => 0)

def quiescent_KernelGw [hKernelGw : Cert.KernelGw.Facts] : Prop :=
  ∀ (m : (ℓ : Loc Cert.KernelGw.nD Cert.KernelGw.τ Cert.KernelGw.sig) → Buf (Elt Bits) ℓ) (g : Dev Cert.KernelGw.nD → PrngReg), Pre_KernelGw m →
    θ_run (Cert.KernelGw.defs (F := Bits)) (onTc (τ := Cert.KernelGw.τ) (Cert.KernelGw.main (F := Bits))) ⟨m, fun _ => 0, g⟩ (fun r => (∀ c : Dev Cert.KernelGw.nD,
      r.2.mem ((c.tc : Thread Cert.KernelGw.nD Cert.KernelGw.τ).loc Cert.KernelGw.main_arg0) = m ((c.tc : Thread Cert.KernelGw.nD Cert.KernelGw.τ).loc Cert.KernelGw.main_arg0)
      ∧ r.2.mem ((c.tc : Thread Cert.KernelGw.nD Cert.KernelGw.τ).loc Cert.KernelGw.main_arg1) = m ((c.tc : Thread Cert.KernelGw.nD Cert.KernelGw.τ).loc Cert.KernelGw.main_arg1))
      ∧ r.2.sem = fun _ => 0)

def quiescent_KernelGwIdeal [hKernelGwIdeal : Cert.KernelGwIdeal.Facts] : Prop :=
  ∀ (m : (ℓ : Loc Cert.KernelGwIdeal.nD Cert.KernelGwIdeal.τ Cert.KernelGwIdeal.sig) → Buf (Elt Ideal) ℓ) (g : Dev Cert.KernelGwIdeal.nD → PrngReg), Pre_KernelGwIdeal m →
    θ_run (Cert.KernelGwIdeal.defs (F := Ideal)) (onTc (τ := Cert.KernelGwIdeal.τ) (Cert.KernelGwIdeal.main (F := Ideal))) ⟨m, fun _ => 0, g⟩ (fun r => (∀ c : Dev Cert.KernelGwIdeal.nD,
      r.2.mem ((c.tc : Thread Cert.KernelGwIdeal.nD Cert.KernelGwIdeal.τ).loc Cert.KernelGwIdeal.main_arg0) = m ((c.tc : Thread Cert.KernelGwIdeal.nD Cert.KernelGwIdeal.τ).loc Cert.KernelGwIdeal.main_arg0)
      ∧ r.2.mem ((c.tc : Thread Cert.KernelGwIdeal.nD Cert.KernelGwIdeal.τ).loc Cert.KernelGwIdeal.main_arg1) = m ((c.tc : Thread Cert.KernelGwIdeal.nD Cert.KernelGwIdeal.τ).loc Cert.KernelGwIdeal.main_arg1))
      ∧ r.2.sem = fun _ => 0)

def quiescent_ReferenceGwIdeal [hReferenceGwIdeal : Cert.ReferenceGwIdeal.Facts] : Prop :=
  ∀ (m : (ℓ : Loc Cert.ReferenceGwIdeal.nD Cert.ReferenceGwIdeal.τ Cert.ReferenceGwIdeal.sig) → Buf (Elt Ideal) ℓ) (g : Dev Cert.ReferenceGwIdeal.nD → PrngReg), Pre_ReferenceGwIdeal m →
    θ_run (Cert.ReferenceGwIdeal.defs (F := Ideal)) (onTc (τ := Cert.ReferenceGwIdeal.τ) (Cert.ReferenceGwIdeal.main (F := Ideal))) ⟨m, fun _ => 0, g⟩ (fun r => (∀ c : Dev Cert.ReferenceGwIdeal.nD,
      r.2.mem ((c.tc : Thread Cert.ReferenceGwIdeal.nD Cert.ReferenceGwIdeal.τ).loc Cert.ReferenceGwIdeal.main_arg0) = m ((c.tc : Thread Cert.ReferenceGwIdeal.nD Cert.ReferenceGwIdeal.τ).loc Cert.ReferenceGwIdeal.main_arg0)
      ∧ r.2.mem ((c.tc : Thread Cert.ReferenceGwIdeal.nD Cert.ReferenceGwIdeal.τ).loc Cert.ReferenceGwIdeal.main_arg1) = m ((c.tc : Thread Cert.ReferenceGwIdeal.nD Cert.ReferenceGwIdeal.τ).loc Cert.ReferenceGwIdeal.main_arg1))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1))
      ∧ r.2.sem = fun _ => 0)

def quiescent_KernelTail [hKernelTail : Cert.KernelTail.Facts] : Prop :=
  ∀ (m : (ℓ : Loc Cert.KernelTail.nD Cert.KernelTail.τ Cert.KernelTail.sig) → Buf (Elt Bits) ℓ) (g : Dev Cert.KernelTail.nD → PrngReg), Pre_KernelTail m →
    θ_run (Cert.KernelTail.defs (F := Bits)) (onTc (τ := Cert.KernelTail.τ) (Cert.KernelTail.main (F := Bits))) ⟨m, fun _ => 0, g⟩ (fun r => (∀ c : Dev Cert.KernelTail.nD,
      r.2.mem ((c.tc : Thread Cert.KernelTail.nD Cert.KernelTail.τ).loc Cert.KernelTail.main_arg0) = m ((c.tc : Thread Cert.KernelTail.nD Cert.KernelTail.τ).loc Cert.KernelTail.main_arg0)
      ∧ r.2.mem ((c.tc : Thread Cert.KernelTail.nD Cert.KernelTail.τ).loc Cert.KernelTail.main_arg1) = m ((c.tc : Thread Cert.KernelTail.nD Cert.KernelTail.τ).loc Cert.KernelTail.main_arg1)
      ∧ r.2.mem ((c.tc : Thread Cert.KernelTail.nD Cert.KernelTail.τ).loc Cert.KernelTail.main_arg2) = m ((c.tc : Thread Cert.KernelTail.nD Cert.KernelTail.τ).loc Cert.KernelTail.main_arg2)
      ∧ r.2.mem ((c.tc : Thread Cert.KernelTail.nD Cert.KernelTail.τ).loc Cert.KernelTail.main_arg3) = m ((c.tc : Thread Cert.KernelTail.nD Cert.KernelTail.τ).loc Cert.KernelTail.main_arg3)
      ∧ r.2.mem ((c.tc : Thread Cert.KernelTail.nD Cert.KernelTail.τ).loc Cert.KernelTail.main_arg4) = m ((c.tc : Thread Cert.KernelTail.nD Cert.KernelTail.τ).loc Cert.KernelTail.main_arg4)
      ∧ r.2.mem ((c.tc : Thread Cert.KernelTail.nD Cert.KernelTail.τ).loc Cert.KernelTail.main_arg5) = m ((c.tc : Thread Cert.KernelTail.nD Cert.KernelTail.τ).loc Cert.KernelTail.main_arg5))
      ∧ r.2.sem = fun _ => 0)

def quiescent_KernelTailIdeal [hKernelTailIdeal : Cert.KernelTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg), Pre_KernelTailIdeal m →
    θ_run (Cert.KernelTailIdeal.defs (F := Ideal)) (onTc (τ := Cert.KernelTailIdeal.τ) (Cert.KernelTailIdeal.main (F := Ideal))) ⟨m, fun _ => 0, g⟩ (fun r => (∀ c : Dev Cert.KernelTailIdeal.nD,
      r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
      ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
      ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
      ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
      ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
      ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5))
      ∧ r.2.sem = fun _ => 0)

def quiescent_ReferenceTailIdeal [hReferenceTailIdeal : Cert.ReferenceTailIdeal.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1)
      ∧ r.2.mem ((c.tc : Thread Cert.ReferenceTailIdeal.nD Cert.ReferenceTailIdeal.τ).loc Cert.ReferenceTailIdeal.main_arg2) = m ((c.tc : Thread Cert.ReferenceTailIdeal.nD Cert.ReferenceTailIdeal.τ).loc Cert.ReferenceTailIdeal.main_arg2)
      ∧ r.2.mem ((c.tc : Thread Cert.ReferenceTailIdeal.nD Cert.ReferenceTailIdeal.τ).loc Cert.ReferenceTailIdeal.main_arg3) = m ((c.tc : Thread Cert.ReferenceTailIdeal.nD Cert.ReferenceTailIdeal.τ).loc Cert.ReferenceTailIdeal.main_arg3)
      ∧ r.2.mem ((c.tc : Thread Cert.ReferenceTailIdeal.nD Cert.ReferenceTailIdeal.τ).loc Cert.ReferenceTailIdeal.main_arg4) = m ((c.tc : Thread Cert.ReferenceTailIdeal.nD Cert.ReferenceTailIdeal.τ).loc Cert.ReferenceTailIdeal.main_arg4)
      ∧ r.2.mem ((c.tc : Thread Cert.ReferenceTailIdeal.nD Cert.ReferenceTailIdeal.τ).loc Cert.ReferenceTailIdeal.main_arg5) = m ((c.tc : Thread Cert.ReferenceTailIdeal.nD Cert.ReferenceTailIdeal.τ).loc Cert.ReferenceTailIdeal.main_arg5))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2)
      ∧ r.2.mem ((c.tc : Thread Cert.KernelPre.nD Cert.KernelPre.τ).loc Cert.KernelPre.main_arg3) = m ((c.tc : Thread Cert.KernelPre.nD Cert.KernelPre.τ).loc Cert.KernelPre.main_arg3))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelClose [hKernelClose : Cert.KernelClose.Facts] : Prop :=
  ∀ (m : (ℓ : Loc Cert.KernelClose.nD Cert.KernelClose.τ Cert.KernelClose.sig) → Buf (Elt Bits) ℓ) (g : Dev Cert.KernelClose.nD → PrngReg), Pre_KernelClose m →
    θ_run (Cert.KernelClose.defs (F := Bits)) (onTc (τ := Cert.KernelClose.τ) (Cert.KernelClose.main (F := Bits))) ⟨m, fun _ => 0, g⟩ (fun r => (∀ c : Dev Cert.KernelClose.nD,
      r.2.mem ((c.tc : Thread Cert.KernelClose.nD Cert.KernelClose.τ).loc Cert.KernelClose.main_arg0) = m ((c.tc : Thread Cert.KernelClose.nD Cert.KernelClose.τ).loc Cert.KernelClose.main_arg0)
      ∧ r.2.mem ((c.tc : Thread Cert.KernelClose.nD Cert.KernelClose.τ).loc Cert.KernelClose.main_arg1) = m ((c.tc : Thread Cert.KernelClose.nD Cert.KernelClose.τ).loc Cert.KernelClose.main_arg1)
      ∧ r.2.mem ((c.tc : Thread Cert.KernelClose.nD Cert.KernelClose.τ).loc Cert.KernelClose.main_arg2) = m ((c.tc : Thread Cert.KernelClose.nD Cert.KernelClose.τ).loc Cert.KernelClose.main_arg2)
      ∧ r.2.mem ((c.tc : Thread Cert.KernelClose.nD Cert.KernelClose.τ).loc Cert.KernelClose.main_arg3) = m ((c.tc : Thread Cert.KernelClose.nD Cert.KernelClose.τ).loc Cert.KernelClose.main_arg3)
      ∧ r.2.mem ((c.tc : Thread Cert.KernelClose.nD Cert.KernelClose.τ).loc Cert.KernelClose.main_arg4) = m ((c.tc : Thread Cert.KernelClose.nD Cert.KernelClose.τ).loc Cert.KernelClose.main_arg4)
      ∧ r.2.mem ((c.tc : Thread Cert.KernelClose.nD Cert.KernelClose.τ).loc Cert.KernelClose.main_arg5) = m ((c.tc : Thread Cert.KernelClose.nD Cert.KernelClose.τ).loc Cert.KernelClose.main_arg5)
      ∧ r.2.mem ((c.tc : Thread Cert.KernelClose.nD Cert.KernelClose.τ).loc Cert.KernelClose.main_arg6) = m ((c.tc : Thread Cert.KernelClose.nD Cert.KernelClose.τ).loc Cert.KernelClose.main_arg6)
      ∧ r.2.mem ((c.tc : Thread Cert.KernelClose.nD Cert.KernelClose.τ).loc Cert.KernelClose.main_arg7) = m ((c.tc : Thread Cert.KernelClose.nD Cert.KernelClose.τ).loc Cert.KernelClose.main_arg7)
      ∧ r.2.mem ((c.tc : Thread Cert.KernelClose.nD Cert.KernelClose.τ).loc Cert.KernelClose.main_arg8) = m ((c.tc : Thread Cert.KernelClose.nD Cert.KernelClose.τ).loc Cert.KernelClose.main_arg8))
      ∧ r.2.sem = fun _ => 0)

def quiescent_KernelCloseIdeal [hKernelCloseIdeal : Cert.KernelCloseIdeal.Facts] : Prop :=
  ∀ (m : (ℓ : Loc Cert.KernelCloseIdeal.nD Cert.KernelCloseIdeal.τ Cert.KernelCloseIdeal.sig) → Buf (Elt Ideal) ℓ) (g : Dev Cert.KernelCloseIdeal.nD → PrngReg), Pre_KernelCloseIdeal m →
    θ_run (Cert.KernelCloseIdeal.defs (F := Ideal)) (onTc (τ := Cert.KernelCloseIdeal.τ) (Cert.KernelCloseIdeal.main (F := Ideal))) ⟨m, fun _ => 0, g⟩ (fun r => (∀ c : Dev Cert.KernelCloseIdeal.nD,
      r.2.mem ((c.tc : Thread Cert.KernelCloseIdeal.nD Cert.KernelCloseIdeal.τ).loc Cert.KernelCloseIdeal.main_arg0) = m ((c.tc : Thread Cert.KernelCloseIdeal.nD Cert.KernelCloseIdeal.τ).loc Cert.KernelCloseIdeal.main_arg0)
      ∧ r.2.mem ((c.tc : Thread Cert.KernelCloseIdeal.nD Cert.KernelCloseIdeal.τ).loc Cert.KernelCloseIdeal.main_arg1) = m ((c.tc : Thread Cert.KernelCloseIdeal.nD Cert.KernelCloseIdeal.τ).loc Cert.KernelCloseIdeal.main_arg1)
      ∧ r.2.mem ((c.tc : Thread Cert.KernelCloseIdeal.nD Cert.KernelCloseIdeal.τ).loc Cert.KernelCloseIdeal.main_arg2) = m ((c.tc : Thread Cert.KernelCloseIdeal.nD Cert.KernelCloseIdeal.τ).loc Cert.KernelCloseIdeal.main_arg2)
      ∧ r.2.mem ((c.tc : Thread Cert.KernelCloseIdeal.nD Cert.KernelCloseIdeal.τ).loc Cert.KernelCloseIdeal.main_arg3) = m ((c.tc : Thread Cert.KernelCloseIdeal.nD Cert.KernelCloseIdeal.τ).loc Cert.KernelCloseIdeal.main_arg3)
      ∧ r.2.mem ((c.tc : Thread Cert.KernelCloseIdeal.nD Cert.KernelCloseIdeal.τ).loc Cert.KernelCloseIdeal.main_arg4) = m ((c.tc : Thread Cert.KernelCloseIdeal.nD Cert.KernelCloseIdeal.τ).loc Cert.KernelCloseIdeal.main_arg4)
      ∧ r.2.mem ((c.tc : Thread Cert.KernelCloseIdeal.nD Cert.KernelCloseIdeal.τ).loc Cert.KernelCloseIdeal.main_arg5) = m ((c.tc : Thread Cert.KernelCloseIdeal.nD Cert.KernelCloseIdeal.τ).loc Cert.KernelCloseIdeal.main_arg5)
      ∧ r.2.mem ((c.tc : Thread Cert.KernelCloseIdeal.nD Cert.KernelCloseIdeal.τ).loc Cert.KernelCloseIdeal.main_arg6) = m ((c.tc : Thread Cert.KernelCloseIdeal.nD Cert.KernelCloseIdeal.τ).loc Cert.KernelCloseIdeal.main_arg6)
      ∧ r.2.mem ((c.tc : Thread Cert.KernelCloseIdeal.nD Cert.KernelCloseIdeal.τ).loc Cert.KernelCloseIdeal.main_arg7) = m ((c.tc : Thread Cert.KernelCloseIdeal.nD Cert.KernelCloseIdeal.τ).loc Cert.KernelCloseIdeal.main_arg7)
      ∧ r.2.mem ((c.tc : Thread Cert.KernelCloseIdeal.nD Cert.KernelCloseIdeal.τ).loc Cert.KernelCloseIdeal.main_arg8) = m ((c.tc : Thread Cert.KernelCloseIdeal.nD Cert.KernelCloseIdeal.τ).loc Cert.KernelCloseIdeal.main_arg8))
      ∧ r.2.sem = fun _ => 0)

def quiescent_ReferenceCloseIdeal [hReferenceCloseIdeal : Cert.ReferenceCloseIdeal.Facts] : Prop :=
  ∀ (m : (ℓ : Loc Cert.ReferenceCloseIdeal.nD Cert.ReferenceCloseIdeal.τ Cert.ReferenceCloseIdeal.sig) → Buf (Elt Ideal) ℓ) (g : Dev Cert.ReferenceCloseIdeal.nD → PrngReg), Pre_ReferenceCloseIdeal m →
    θ_run (Cert.ReferenceCloseIdeal.defs (F := Ideal)) (onTc (τ := Cert.ReferenceCloseIdeal.τ) (Cert.ReferenceCloseIdeal.main (F := Ideal))) ⟨m, fun _ => 0, g⟩ (fun r => (∀ c : Dev Cert.ReferenceCloseIdeal.nD,
      r.2.mem ((c.tc : Thread Cert.ReferenceCloseIdeal.nD Cert.ReferenceCloseIdeal.τ).loc Cert.ReferenceCloseIdeal.main_arg0) = m ((c.tc : Thread Cert.ReferenceCloseIdeal.nD Cert.ReferenceCloseIdeal.τ).loc Cert.ReferenceCloseIdeal.main_arg0)
      ∧ r.2.mem ((c.tc : Thread Cert.ReferenceCloseIdeal.nD Cert.ReferenceCloseIdeal.τ).loc Cert.ReferenceCloseIdeal.main_arg1) = m ((c.tc : Thread Cert.ReferenceCloseIdeal.nD Cert.ReferenceCloseIdeal.τ).loc Cert.ReferenceCloseIdeal.main_arg1)
      ∧ r.2.mem ((c.tc : Thread Cert.ReferenceCloseIdeal.nD Cert.ReferenceCloseIdeal.τ).loc Cert.ReferenceCloseIdeal.main_arg2) = m ((c.tc : Thread Cert.ReferenceCloseIdeal.nD Cert.ReferenceCloseIdeal.τ).loc Cert.ReferenceCloseIdeal.main_arg2)
      ∧ r.2.mem ((c.tc : Thread Cert.ReferenceCloseIdeal.nD Cert.ReferenceCloseIdeal.τ).loc Cert.ReferenceCloseIdeal.main_arg3) = m ((c.tc : Thread Cert.ReferenceCloseIdeal.nD Cert.ReferenceCloseIdeal.τ).loc Cert.ReferenceCloseIdeal.main_arg3)
      ∧ r.2.mem ((c.tc : Thread Cert.ReferenceCloseIdeal.nD Cert.ReferenceCloseIdeal.τ).loc Cert.ReferenceCloseIdeal.main_arg4) = m ((c.tc : Thread Cert.ReferenceCloseIdeal.nD Cert.ReferenceCloseIdeal.τ).loc Cert.ReferenceCloseIdeal.main_arg4)
      ∧ r.2.mem ((c.tc : Thread Cert.ReferenceCloseIdeal.nD Cert.ReferenceCloseIdeal.τ).loc Cert.ReferenceCloseIdeal.main_arg5) = m ((c.tc : Thread Cert.ReferenceCloseIdeal.nD Cert.ReferenceCloseIdeal.τ).loc Cert.ReferenceCloseIdeal.main_arg5)
      ∧ r.2.mem ((c.tc : Thread Cert.ReferenceCloseIdeal.nD Cert.ReferenceCloseIdeal.τ).loc Cert.ReferenceCloseIdeal.main_arg6) = m ((c.tc : Thread Cert.ReferenceCloseIdeal.nD Cert.ReferenceCloseIdeal.τ).loc Cert.ReferenceCloseIdeal.main_arg6)
      ∧ r.2.mem ((c.tc : Thread Cert.ReferenceCloseIdeal.nD Cert.ReferenceCloseIdeal.τ).loc Cert.ReferenceCloseIdeal.main_arg7) = m ((c.tc : Thread Cert.ReferenceCloseIdeal.nD Cert.ReferenceCloseIdeal.τ).loc Cert.ReferenceCloseIdeal.main_arg7)
      ∧ r.2.mem ((c.tc : Thread Cert.ReferenceCloseIdeal.nD Cert.ReferenceCloseIdeal.τ).loc Cert.ReferenceCloseIdeal.main_arg8) = m ((c.tc : Thread Cert.ReferenceCloseIdeal.nD Cert.ReferenceCloseIdeal.τ).loc Cert.ReferenceCloseIdeal.main_arg8))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4)
      ∧ r.2.mem ((c.tc : Thread Cert.KernelLoss.nD Cert.KernelLoss.τ).loc Cert.KernelLoss.main_arg5) = m ((c.tc : Thread Cert.KernelLoss.nD Cert.KernelLoss.τ).loc Cert.KernelLoss.main_arg5)
      ∧ r.2.mem ((c.tc : Thread Cert.KernelLoss.nD Cert.KernelLoss.τ).loc Cert.KernelLoss.main_arg6) = m ((c.tc : Thread Cert.KernelLoss.nD Cert.KernelLoss.τ).loc Cert.KernelLoss.main_arg6)
      ∧ r.2.mem ((c.tc : Thread Cert.KernelLoss.nD Cert.KernelLoss.τ).loc Cert.KernelLoss.main_arg7) = m ((c.tc : Thread Cert.KernelLoss.nD Cert.KernelLoss.τ).loc Cert.KernelLoss.main_arg7)
      ∧ r.2.mem ((c.tc : Thread Cert.KernelLoss.nD Cert.KernelLoss.τ).loc Cert.KernelLoss.main_arg8) = m ((c.tc : Thread Cert.KernelLoss.nD Cert.KernelLoss.τ).loc Cert.KernelLoss.main_arg8)
      ∧ r.2.mem ((c.tc : Thread Cert.KernelLoss.nD Cert.KernelLoss.τ).loc Cert.KernelLoss.main_arg9) = m ((c.tc : Thread Cert.KernelLoss.nD Cert.KernelLoss.τ).loc Cert.KernelLoss.main_arg9))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
      ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6)
      ∧ r.2.mem ((c.tc : Thread Cert.KernelLossIdeal.nD Cert.KernelLossIdeal.τ).loc Cert.KernelLossIdeal.main_arg7) = m ((c.tc : Thread Cert.KernelLossIdeal.nD Cert.KernelLossIdeal.τ).loc Cert.KernelLossIdeal.main_arg7)
      ∧ r.2.mem ((c.tc : Thread Cert.KernelLossIdeal.nD Cert.KernelLossIdeal.τ).loc Cert.KernelLossIdeal.main_arg8) = m ((c.tc : Thread Cert.KernelLossIdeal.nD Cert.KernelLossIdeal.τ).loc Cert.KernelLossIdeal.main_arg8)
      ∧ r.2.mem ((c.tc : Thread Cert.KernelLossIdeal.nD Cert.KernelLossIdeal.τ).loc Cert.KernelLossIdeal.main_arg9) = m ((c.tc : Thread Cert.KernelLossIdeal.nD Cert.KernelLossIdeal.τ).loc Cert.KernelLossIdeal.main_arg9))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5)
      ∧ r.2.mem ((c.tc : Thread Cert.ReferenceLossIdeal.nD Cert.ReferenceLossIdeal.τ).loc Cert.ReferenceLossIdeal.main_arg6) = m ((c.tc : Thread Cert.ReferenceLossIdeal.nD Cert.ReferenceLossIdeal.τ).loc Cert.ReferenceLossIdeal.main_arg6)
      ∧ r.2.mem ((c.tc : Thread Cert.ReferenceLossIdeal.nD Cert.ReferenceLossIdeal.τ).loc Cert.ReferenceLossIdeal.main_arg7) = m ((c.tc : Thread Cert.ReferenceLossIdeal.nD Cert.ReferenceLossIdeal.τ).loc Cert.ReferenceLossIdeal.main_arg7)
      ∧ r.2.mem ((c.tc : Thread Cert.ReferenceLossIdeal.nD Cert.ReferenceLossIdeal.τ).loc Cert.ReferenceLossIdeal.main_arg8) = m ((c.tc : Thread Cert.ReferenceLossIdeal.nD Cert.ReferenceLossIdeal.τ).loc Cert.ReferenceLossIdeal.main_arg8)
      ∧ r.2.mem ((c.tc : Thread Cert.ReferenceLossIdeal.nD Cert.ReferenceLossIdeal.τ).loc Cert.ReferenceLossIdeal.main_arg9) = m ((c.tc : Thread Cert.ReferenceLossIdeal.nD Cert.ReferenceLossIdeal.τ).loc Cert.ReferenceLossIdeal.main_arg9))
      ∧ r.2.sem = fun _ => 0)

def quiescent_KernelUpdate [hKernelUpdate : Cert.KernelUpdate.Facts] : Prop :=
  ∀ (m : (ℓ : Loc Cert.KernelUpdate.nD Cert.KernelUpdate.τ Cert.KernelUpdate.sig) → Buf (Elt Bits) ℓ) (g : Dev Cert.KernelUpdate.nD → PrngReg), Pre_KernelUpdate m →
    θ_run (Cert.KernelUpdate.defs (F := Bits)) (onTc (τ := Cert.KernelUpdate.τ) (Cert.KernelUpdate.main (F := Bits))) ⟨m, fun _ => 0, g⟩ (fun r => (∀ c : Dev Cert.KernelUpdate.nD,
      r.2.mem ((c.tc : Thread Cert.KernelUpdate.nD Cert.KernelUpdate.τ).loc Cert.KernelUpdate.main_arg0) = m ((c.tc : Thread Cert.KernelUpdate.nD Cert.KernelUpdate.τ).loc Cert.KernelUpdate.main_arg0)
      ∧ r.2.mem ((c.tc : Thread Cert.KernelUpdate.nD Cert.KernelUpdate.τ).loc Cert.KernelUpdate.main_arg1) = m ((c.tc : Thread Cert.KernelUpdate.nD Cert.KernelUpdate.τ).loc Cert.KernelUpdate.main_arg1)
      ∧ r.2.mem ((c.tc : Thread Cert.KernelUpdate.nD Cert.KernelUpdate.τ).loc Cert.KernelUpdate.main_arg2) = m ((c.tc : Thread Cert.KernelUpdate.nD Cert.KernelUpdate.τ).loc Cert.KernelUpdate.main_arg2)
      ∧ r.2.mem ((c.tc : Thread Cert.KernelUpdate.nD Cert.KernelUpdate.τ).loc Cert.KernelUpdate.main_arg3) = m ((c.tc : Thread Cert.KernelUpdate.nD Cert.KernelUpdate.τ).loc Cert.KernelUpdate.main_arg3))
      ∧ r.2.sem = fun _ => 0)

def quiescent_KernelUpdateIdeal [hKernelUpdateIdeal : Cert.KernelUpdateIdeal.Facts] : Prop :=
  ∀ (m : (ℓ : Loc Cert.KernelUpdateIdeal.nD Cert.KernelUpdateIdeal.τ Cert.KernelUpdateIdeal.sig) → Buf (Elt Ideal) ℓ) (g : Dev Cert.KernelUpdateIdeal.nD → PrngReg), Pre_KernelUpdateIdeal m →
    θ_run (Cert.KernelUpdateIdeal.defs (F := Ideal)) (onTc (τ := Cert.KernelUpdateIdeal.τ) (Cert.KernelUpdateIdeal.main (F := Ideal))) ⟨m, fun _ => 0, g⟩ (fun r => (∀ c : Dev Cert.KernelUpdateIdeal.nD,
      r.2.mem ((c.tc : Thread Cert.KernelUpdateIdeal.nD Cert.KernelUpdateIdeal.τ).loc Cert.KernelUpdateIdeal.main_arg0) = m ((c.tc : Thread Cert.KernelUpdateIdeal.nD Cert.KernelUpdateIdeal.τ).loc Cert.KernelUpdateIdeal.main_arg0)
      ∧ r.2.mem ((c.tc : Thread Cert.KernelUpdateIdeal.nD Cert.KernelUpdateIdeal.τ).loc Cert.KernelUpdateIdeal.main_arg1) = m ((c.tc : Thread Cert.KernelUpdateIdeal.nD Cert.KernelUpdateIdeal.τ).loc Cert.KernelUpdateIdeal.main_arg1)
      ∧ r.2.mem ((c.tc : Thread Cert.KernelUpdateIdeal.nD Cert.KernelUpdateIdeal.τ).loc Cert.KernelUpdateIdeal.main_arg2) = m ((c.tc : Thread Cert.KernelUpdateIdeal.nD Cert.KernelUpdateIdeal.τ).loc Cert.KernelUpdateIdeal.main_arg2)
      ∧ r.2.mem ((c.tc : Thread Cert.KernelUpdateIdeal.nD Cert.KernelUpdateIdeal.τ).loc Cert.KernelUpdateIdeal.main_arg3) = m ((c.tc : Thread Cert.KernelUpdateIdeal.nD Cert.KernelUpdateIdeal.τ).loc Cert.KernelUpdateIdeal.main_arg3))
      ∧ r.2.sem = fun _ => 0)

def quiescent_ReferenceUpdateIdeal [hReferenceUpdateIdeal : Cert.ReferenceUpdateIdeal.Facts] : Prop :=
  ∀ (m : (ℓ : Loc Cert.ReferenceUpdateIdeal.nD Cert.ReferenceUpdateIdeal.τ Cert.ReferenceUpdateIdeal.sig) → Buf (Elt Ideal) ℓ) (g : Dev Cert.ReferenceUpdateIdeal.nD → PrngReg), Pre_ReferenceUpdateIdeal m →
    θ_run (Cert.ReferenceUpdateIdeal.defs (F := Ideal)) (onTc (τ := Cert.ReferenceUpdateIdeal.τ) (Cert.ReferenceUpdateIdeal.main (F := Ideal))) ⟨m, fun _ => 0, g⟩ (fun r => (∀ c : Dev Cert.ReferenceUpdateIdeal.nD,
      r.2.mem ((c.tc : Thread Cert.ReferenceUpdateIdeal.nD Cert.ReferenceUpdateIdeal.τ).loc Cert.ReferenceUpdateIdeal.main_arg0) = m ((c.tc : Thread Cert.ReferenceUpdateIdeal.nD Cert.ReferenceUpdateIdeal.τ).loc Cert.ReferenceUpdateIdeal.main_arg0)
      ∧ r.2.mem ((c.tc : Thread Cert.ReferenceUpdateIdeal.nD Cert.ReferenceUpdateIdeal.τ).loc Cert.ReferenceUpdateIdeal.main_arg1) = m ((c.tc : Thread Cert.ReferenceUpdateIdeal.nD Cert.ReferenceUpdateIdeal.τ).loc Cert.ReferenceUpdateIdeal.main_arg1)
      ∧ r.2.mem ((c.tc : Thread Cert.ReferenceUpdateIdeal.nD Cert.ReferenceUpdateIdeal.τ).loc Cert.ReferenceUpdateIdeal.main_arg2) = m ((c.tc : Thread Cert.ReferenceUpdateIdeal.nD Cert.ReferenceUpdateIdeal.τ).loc Cert.ReferenceUpdateIdeal.main_arg2)
      ∧ r.2.mem ((c.tc : Thread Cert.ReferenceUpdateIdeal.nD Cert.ReferenceUpdateIdeal.τ).loc Cert.ReferenceUpdateIdeal.main_arg3) = m ((c.tc : Thread Cert.ReferenceUpdateIdeal.nD Cert.ReferenceUpdateIdeal.τ).loc Cert.ReferenceUpdateIdeal.main_arg3))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2)
      ∧ r.2.mem ((c.tc : Thread Cert.KernelAda.nD Cert.KernelAda.τ).loc Cert.KernelAda.main_arg3) = m ((c.tc : Thread Cert.KernelAda.nD Cert.KernelAda.τ).loc Cert.KernelAda.main_arg3))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3))
      ∧ r.2.sem = fun _ => 0)

def quiescent_KernelMany [hKernelMany : Cert.KernelMany.Facts] : Prop :=
  ∀ (m : (ℓ : Loc Cert.KernelMany.nD Cert.KernelMany.τ Cert.KernelMany.sig) → Buf (Elt Bits) ℓ) (g : Dev Cert.KernelMany.nD → PrngReg), Pre_KernelMany m →
    θ_run (Cert.KernelMany.defs (F := Bits)) (onTc (τ := Cert.KernelMany.τ) (Cert.KernelMany.main (F := Bits))) ⟨m, fun _ => 0, g⟩ (fun r => (∀ c : Dev Cert.KernelMany.nD,
      r.2.mem ((c.tc : Thread Cert.KernelMany.nD Cert.KernelMany.τ).loc Cert.KernelMany.main_arg0) = m ((c.tc : Thread Cert.KernelMany.nD Cert.KernelMany.τ).loc Cert.KernelMany.main_arg0)
      ∧ r.2.mem ((c.tc : Thread Cert.KernelMany.nD Cert.KernelMany.τ).loc Cert.KernelMany.main_arg1) = m ((c.tc : Thread Cert.KernelMany.nD Cert.KernelMany.τ).loc Cert.KernelMany.main_arg1)
      ∧ r.2.mem ((c.tc : Thread Cert.KernelMany.nD Cert.KernelMany.τ).loc Cert.KernelMany.main_arg2) = m ((c.tc : Thread Cert.KernelMany.nD Cert.KernelMany.τ).loc Cert.KernelMany.main_arg2)
      ∧ r.2.mem ((c.tc : Thread Cert.KernelMany.nD Cert.KernelMany.τ).loc Cert.KernelMany.main_arg3) = m ((c.tc : Thread Cert.KernelMany.nD Cert.KernelMany.τ).loc Cert.KernelMany.main_arg3)
      ∧ r.2.mem ((c.tc : Thread Cert.KernelMany.nD Cert.KernelMany.τ).loc Cert.KernelMany.main_arg4) = m ((c.tc : Thread Cert.KernelMany.nD Cert.KernelMany.τ).loc Cert.KernelMany.main_arg4)
      ∧ r.2.mem ((c.tc : Thread Cert.KernelMany.nD Cert.KernelMany.τ).loc Cert.KernelMany.main_arg5) = m ((c.tc : Thread Cert.KernelMany.nD Cert.KernelMany.τ).loc Cert.KernelMany.main_arg5)
      ∧ r.2.mem ((c.tc : Thread Cert.KernelMany.nD Cert.KernelMany.τ).loc Cert.KernelMany.main_arg6) = m ((c.tc : Thread Cert.KernelMany.nD Cert.KernelMany.τ).loc Cert.KernelMany.main_arg6)
      ∧ r.2.mem ((c.tc : Thread Cert.KernelMany.nD Cert.KernelMany.τ).loc Cert.KernelMany.main_arg7) = m ((c.tc : Thread Cert.KernelMany.nD Cert.KernelMany.τ).loc Cert.KernelMany.main_arg7)
      ∧ r.2.mem ((c.tc : Thread Cert.KernelMany.nD Cert.KernelMany.τ).loc Cert.KernelMany.main_arg8) = m ((c.tc : Thread Cert.KernelMany.nD Cert.KernelMany.τ).loc Cert.KernelMany.main_arg8)
      ∧ r.2.mem ((c.tc : Thread Cert.KernelMany.nD Cert.KernelMany.τ).loc Cert.KernelMany.main_arg9) = m ((c.tc : Thread Cert.KernelMany.nD Cert.KernelMany.τ).loc Cert.KernelMany.main_arg9)
      ∧ r.2.mem ((c.tc : Thread Cert.KernelMany.nD Cert.KernelMany.τ).loc Cert.KernelMany.main_arg10) = m ((c.tc : Thread Cert.KernelMany.nD Cert.KernelMany.τ).loc Cert.KernelMany.main_arg10)
      ∧ r.2.mem ((c.tc : Thread Cert.KernelMany.nD Cert.KernelMany.τ).loc Cert.KernelMany.main_arg11) = m ((c.tc : Thread Cert.KernelMany.nD Cert.KernelMany.τ).loc Cert.KernelMany.main_arg11))
      ∧ r.2.sem = fun _ => 0)

def quiescent_KernelManyIdeal [hKernelManyIdeal : Cert.KernelManyIdeal.Facts] : Prop :=
  ∀ (m : (ℓ : Loc Cert.KernelManyIdeal.nD Cert.KernelManyIdeal.τ Cert.KernelManyIdeal.sig) → Buf (Elt Ideal) ℓ) (g : Dev Cert.KernelManyIdeal.nD → PrngReg), Pre_KernelManyIdeal m →
    θ_run (Cert.KernelManyIdeal.defs (F := Ideal)) (onTc (τ := Cert.KernelManyIdeal.τ) (Cert.KernelManyIdeal.main (F := Ideal))) ⟨m, fun _ => 0, g⟩ (fun r => (∀ c : Dev Cert.KernelManyIdeal.nD,
      r.2.mem ((c.tc : Thread Cert.KernelManyIdeal.nD Cert.KernelManyIdeal.τ).loc Cert.KernelManyIdeal.main_arg0) = m ((c.tc : Thread Cert.KernelManyIdeal.nD Cert.KernelManyIdeal.τ).loc Cert.KernelManyIdeal.main_arg0)
      ∧ r.2.mem ((c.tc : Thread Cert.KernelManyIdeal.nD Cert.KernelManyIdeal.τ).loc Cert.KernelManyIdeal.main_arg1) = m ((c.tc : Thread Cert.KernelManyIdeal.nD Cert.KernelManyIdeal.τ).loc Cert.KernelManyIdeal.main_arg1)
      ∧ r.2.mem ((c.tc : Thread Cert.KernelManyIdeal.nD Cert.KernelManyIdeal.τ).loc Cert.KernelManyIdeal.main_arg2) = m ((c.tc : Thread Cert.KernelManyIdeal.nD Cert.KernelManyIdeal.τ).loc Cert.KernelManyIdeal.main_arg2)
      ∧ r.2.mem ((c.tc : Thread Cert.KernelManyIdeal.nD Cert.KernelManyIdeal.τ).loc Cert.KernelManyIdeal.main_arg3) = m ((c.tc : Thread Cert.KernelManyIdeal.nD Cert.KernelManyIdeal.τ).loc Cert.KernelManyIdeal.main_arg3)
      ∧ r.2.mem ((c.tc : Thread Cert.KernelManyIdeal.nD Cert.KernelManyIdeal.τ).loc Cert.KernelManyIdeal.main_arg4) = m ((c.tc : Thread Cert.KernelManyIdeal.nD Cert.KernelManyIdeal.τ).loc Cert.KernelManyIdeal.main_arg4)
      ∧ r.2.mem ((c.tc : Thread Cert.KernelManyIdeal.nD Cert.KernelManyIdeal.τ).loc Cert.KernelManyIdeal.main_arg5) = m ((c.tc : Thread Cert.KernelManyIdeal.nD Cert.KernelManyIdeal.τ).loc Cert.KernelManyIdeal.main_arg5)
      ∧ r.2.mem ((c.tc : Thread Cert.KernelManyIdeal.nD Cert.KernelManyIdeal.τ).loc Cert.KernelManyIdeal.main_arg6) = m ((c.tc : Thread Cert.KernelManyIdeal.nD Cert.KernelManyIdeal.τ).loc Cert.KernelManyIdeal.main_arg6)
      ∧ r.2.mem ((c.tc : Thread Cert.KernelManyIdeal.nD Cert.KernelManyIdeal.τ).loc Cert.KernelManyIdeal.main_arg7) = m ((c.tc : Thread Cert.KernelManyIdeal.nD Cert.KernelManyIdeal.τ).loc Cert.KernelManyIdeal.main_arg7)
      ∧ r.2.mem ((c.tc : Thread Cert.KernelManyIdeal.nD Cert.KernelManyIdeal.τ).loc Cert.KernelManyIdeal.main_arg8) = m ((c.tc : Thread Cert.KernelManyIdeal.nD Cert.KernelManyIdeal.τ).loc Cert.KernelManyIdeal.main_arg8)
      ∧ r.2.mem ((c.tc : Thread Cert.KernelManyIdeal.nD Cert.KernelManyIdeal.τ).loc Cert.KernelManyIdeal.main_arg9) = m ((c.tc : Thread Cert.KernelManyIdeal.nD Cert.KernelManyIdeal.τ).loc Cert.KernelManyIdeal.main_arg9)
      ∧ r.2.mem ((c.tc : Thread Cert.KernelManyIdeal.nD Cert.KernelManyIdeal.τ).loc Cert.KernelManyIdeal.main_arg10) = m ((c.tc : Thread Cert.KernelManyIdeal.nD Cert.KernelManyIdeal.τ).loc Cert.KernelManyIdeal.main_arg10)
      ∧ r.2.mem ((c.tc : Thread Cert.KernelManyIdeal.nD Cert.KernelManyIdeal.τ).loc Cert.KernelManyIdeal.main_arg11) = m ((c.tc : Thread Cert.KernelManyIdeal.nD Cert.KernelManyIdeal.τ).loc Cert.KernelManyIdeal.main_arg11))
      ∧ r.2.sem = fun _ => 0)

def quiescent_ReferenceManyIdeal [hReferenceManyIdeal : Cert.ReferenceManyIdeal.Facts] : Prop :=
  ∀ (m : (ℓ : Loc Cert.ReferenceManyIdeal.nD Cert.ReferenceManyIdeal.τ Cert.ReferenceManyIdeal.sig) → Buf (Elt Ideal) ℓ) (g : Dev Cert.ReferenceManyIdeal.nD → PrngReg), Pre_ReferenceManyIdeal m →
    θ_run (Cert.ReferenceManyIdeal.defs (F := Ideal)) (onTc (τ := Cert.ReferenceManyIdeal.τ) (Cert.ReferenceManyIdeal.main (F := Ideal))) ⟨m, fun _ => 0, g⟩ (fun r => (∀ c : Dev Cert.ReferenceManyIdeal.nD,
      r.2.mem ((c.tc : Thread Cert.ReferenceManyIdeal.nD Cert.ReferenceManyIdeal.τ).loc Cert.ReferenceManyIdeal.main_arg0) = m ((c.tc : Thread Cert.ReferenceManyIdeal.nD Cert.ReferenceManyIdeal.τ).loc Cert.ReferenceManyIdeal.main_arg0)
      ∧ r.2.mem ((c.tc : Thread Cert.ReferenceManyIdeal.nD Cert.ReferenceManyIdeal.τ).loc Cert.ReferenceManyIdeal.main_arg1) = m ((c.tc : Thread Cert.ReferenceManyIdeal.nD Cert.ReferenceManyIdeal.τ).loc Cert.ReferenceManyIdeal.main_arg1)
      ∧ r.2.mem ((c.tc : Thread Cert.ReferenceManyIdeal.nD Cert.ReferenceManyIdeal.τ).loc Cert.ReferenceManyIdeal.main_arg2) = m ((c.tc : Thread Cert.ReferenceManyIdeal.nD Cert.ReferenceManyIdeal.τ).loc Cert.ReferenceManyIdeal.main_arg2)
      ∧ r.2.mem ((c.tc : Thread Cert.ReferenceManyIdeal.nD Cert.ReferenceManyIdeal.τ).loc Cert.ReferenceManyIdeal.main_arg3) = m ((c.tc : Thread Cert.ReferenceManyIdeal.nD Cert.ReferenceManyIdeal.τ).loc Cert.ReferenceManyIdeal.main_arg3)
      ∧ r.2.mem ((c.tc : Thread Cert.ReferenceManyIdeal.nD Cert.ReferenceManyIdeal.τ).loc Cert.ReferenceManyIdeal.main_arg4) = m ((c.tc : Thread Cert.ReferenceManyIdeal.nD Cert.ReferenceManyIdeal.τ).loc Cert.ReferenceManyIdeal.main_arg4)
      ∧ r.2.mem ((c.tc : Thread Cert.ReferenceManyIdeal.nD Cert.ReferenceManyIdeal.τ).loc Cert.ReferenceManyIdeal.main_arg5) = m ((c.tc : Thread Cert.ReferenceManyIdeal.nD Cert.ReferenceManyIdeal.τ).loc Cert.ReferenceManyIdeal.main_arg5)
      ∧ r.2.mem ((c.tc : Thread Cert.ReferenceManyIdeal.nD Cert.ReferenceManyIdeal.τ).loc Cert.ReferenceManyIdeal.main_arg6) = m ((c.tc : Thread Cert.ReferenceManyIdeal.nD Cert.ReferenceManyIdeal.τ).loc Cert.ReferenceManyIdeal.main_arg6)
      ∧ r.2.mem ((c.tc : Thread Cert.ReferenceManyIdeal.nD Cert.ReferenceManyIdeal.τ).loc Cert.ReferenceManyIdeal.main_arg7) = m ((c.tc : Thread Cert.ReferenceManyIdeal.nD Cert.ReferenceManyIdeal.τ).loc Cert.ReferenceManyIdeal.main_arg7)
      ∧ r.2.mem ((c.tc : Thread Cert.ReferenceManyIdeal.nD Cert.ReferenceManyIdeal.τ).loc Cert.ReferenceManyIdeal.main_arg8) = m ((c.tc : Thread Cert.ReferenceManyIdeal.nD Cert.ReferenceManyIdeal.τ).loc Cert.ReferenceManyIdeal.main_arg8)
      ∧ r.2.mem ((c.tc : Thread Cert.ReferenceManyIdeal.nD Cert.ReferenceManyIdeal.τ).loc Cert.ReferenceManyIdeal.main_arg9) = m ((c.tc : Thread Cert.ReferenceManyIdeal.nD Cert.ReferenceManyIdeal.τ).loc Cert.ReferenceManyIdeal.main_arg9)
      ∧ r.2.mem ((c.tc : Thread Cert.ReferenceManyIdeal.nD Cert.ReferenceManyIdeal.τ).loc Cert.ReferenceManyIdeal.main_arg10) = m ((c.tc : Thread Cert.ReferenceManyIdeal.nD Cert.ReferenceManyIdeal.τ).loc Cert.ReferenceManyIdeal.main_arg10)
      ∧ r.2.mem ((c.tc : Thread Cert.ReferenceManyIdeal.nD Cert.ReferenceManyIdeal.τ).loc Cert.ReferenceManyIdeal.main_arg11) = m ((c.tc : Thread Cert.ReferenceManyIdeal.nD Cert.ReferenceManyIdeal.τ).loc Cert.ReferenceManyIdeal.main_arg11))
      ∧ r.2.sem = fun _ => 0)

def quiescent_KernelBounds [hKernelBounds : Cert.KernelBounds.Facts] : Prop :=
  ∀ (m : (ℓ : Loc Cert.KernelBounds.nD Cert.KernelBounds.τ Cert.KernelBounds.sig) → Buf (Elt Bits) ℓ) (g : Dev Cert.KernelBounds.nD → PrngReg), Pre_KernelBounds m →
    θ_run (Cert.KernelBounds.defs (F := Bits)) (onTc (τ := Cert.KernelBounds.τ) (Cert.KernelBounds.main (F := Bits))) ⟨m, fun _ => 0, g⟩ (fun r => (∀ c : Dev Cert.KernelBounds.nD,
      r.2.mem ((c.tc : Thread Cert.KernelBounds.nD Cert.KernelBounds.τ).loc Cert.KernelBounds.main_arg0) = m ((c.tc : Thread Cert.KernelBounds.nD Cert.KernelBounds.τ).loc Cert.KernelBounds.main_arg0))
      ∧ r.2.sem = fun _ => 0)

def quiescent_KernelBoundsIdeal [hKernelBoundsIdeal : Cert.KernelBoundsIdeal.Facts] : Prop :=
  ∀ (m : (ℓ : Loc Cert.KernelBoundsIdeal.nD Cert.KernelBoundsIdeal.τ Cert.KernelBoundsIdeal.sig) → Buf (Elt Ideal) ℓ) (g : Dev Cert.KernelBoundsIdeal.nD → PrngReg), Pre_KernelBoundsIdeal m →
    θ_run (Cert.KernelBoundsIdeal.defs (F := Ideal)) (onTc (τ := Cert.KernelBoundsIdeal.τ) (Cert.KernelBoundsIdeal.main (F := Ideal))) ⟨m, fun _ => 0, g⟩ (fun r => (∀ c : Dev Cert.KernelBoundsIdeal.nD,
      r.2.mem ((c.tc : Thread Cert.KernelBoundsIdeal.nD Cert.KernelBoundsIdeal.τ).loc Cert.KernelBoundsIdeal.main_arg0) = m ((c.tc : Thread Cert.KernelBoundsIdeal.nD Cert.KernelBoundsIdeal.τ).loc Cert.KernelBoundsIdeal.main_arg0))
      ∧ r.2.sem = fun _ => 0)

def quiescent_ReferenceBoundsIdeal [hReferenceBoundsIdeal : Cert.ReferenceBoundsIdeal.Facts] : Prop :=
  ∀ (m : (ℓ : Loc Cert.ReferenceBoundsIdeal.nD Cert.ReferenceBoundsIdeal.τ Cert.ReferenceBoundsIdeal.sig) → Buf (Elt Ideal) ℓ) (g : Dev Cert.ReferenceBoundsIdeal.nD → PrngReg), Pre_ReferenceBoundsIdeal m →
    θ_run (Cert.ReferenceBoundsIdeal.defs (F := Ideal)) (onTc (τ := Cert.ReferenceBoundsIdeal.τ) (Cert.ReferenceBoundsIdeal.main (F := Ideal))) ⟨m, fun _ => 0, g⟩ (fun r => (∀ c : Dev Cert.ReferenceBoundsIdeal.nD,
      r.2.mem ((c.tc : Thread Cert.ReferenceBoundsIdeal.nD Cert.ReferenceBoundsIdeal.τ).loc Cert.ReferenceBoundsIdeal.main_arg0) = m ((c.tc : Thread Cert.ReferenceBoundsIdeal.nD Cert.ReferenceBoundsIdeal.τ).loc Cert.ReferenceBoundsIdeal.main_arg0))
      ∧ r.2.sem = fun _ => 0)

def quiescent_KernelCond [hKernelCond : Cert.KernelCond.Facts] : Prop :=
  ∀ (m : (ℓ : Loc Cert.KernelCond.nD Cert.KernelCond.τ Cert.KernelCond.sig) → Buf (Elt Bits) ℓ) (g : Dev Cert.KernelCond.nD → PrngReg), Pre_KernelCond m →
    θ_run (Cert.KernelCond.defs (F := Bits)) (onTc (τ := Cert.KernelCond.τ) (Cert.KernelCond.main (F := Bits))) ⟨m, fun _ => 0, g⟩ (fun r => (∀ c : Dev Cert.KernelCond.nD,
      r.2.mem ((c.tc : Thread Cert.KernelCond.nD Cert.KernelCond.τ).loc Cert.KernelCond.main_arg0) = m ((c.tc : Thread Cert.KernelCond.nD Cert.KernelCond.τ).loc Cert.KernelCond.main_arg0)
      ∧ r.2.mem ((c.tc : Thread Cert.KernelCond.nD Cert.KernelCond.τ).loc Cert.KernelCond.main_arg1) = m ((c.tc : Thread Cert.KernelCond.nD Cert.KernelCond.τ).loc Cert.KernelCond.main_arg1)
      ∧ r.2.mem ((c.tc : Thread Cert.KernelCond.nD Cert.KernelCond.τ).loc Cert.KernelCond.main_arg2) = m ((c.tc : Thread Cert.KernelCond.nD Cert.KernelCond.τ).loc Cert.KernelCond.main_arg2))
      ∧ r.2.sem = fun _ => 0)

def quiescent_KernelCondIdeal [hKernelCondIdeal : Cert.KernelCondIdeal.Facts] : Prop :=
  ∀ (m : (ℓ : Loc Cert.KernelCondIdeal.nD Cert.KernelCondIdeal.τ Cert.KernelCondIdeal.sig) → Buf (Elt Ideal) ℓ) (g : Dev Cert.KernelCondIdeal.nD → PrngReg), Pre_KernelCondIdeal m →
    θ_run (Cert.KernelCondIdeal.defs (F := Ideal)) (onTc (τ := Cert.KernelCondIdeal.τ) (Cert.KernelCondIdeal.main (F := Ideal))) ⟨m, fun _ => 0, g⟩ (fun r => (∀ c : Dev Cert.KernelCondIdeal.nD,
      r.2.mem ((c.tc : Thread Cert.KernelCondIdeal.nD Cert.KernelCondIdeal.τ).loc Cert.KernelCondIdeal.main_arg0) = m ((c.tc : Thread Cert.KernelCondIdeal.nD Cert.KernelCondIdeal.τ).loc Cert.KernelCondIdeal.main_arg0)
      ∧ r.2.mem ((c.tc : Thread Cert.KernelCondIdeal.nD Cert.KernelCondIdeal.τ).loc Cert.KernelCondIdeal.main_arg1) = m ((c.tc : Thread Cert.KernelCondIdeal.nD Cert.KernelCondIdeal.τ).loc Cert.KernelCondIdeal.main_arg1)
      ∧ r.2.mem ((c.tc : Thread Cert.KernelCondIdeal.nD Cert.KernelCondIdeal.τ).loc Cert.KernelCondIdeal.main_arg2) = m ((c.tc : Thread Cert.KernelCondIdeal.nD Cert.KernelCondIdeal.τ).loc Cert.KernelCondIdeal.main_arg2))
      ∧ r.2.sem = fun _ => 0)

def quiescent_ReferenceCondIdeal [hReferenceCondIdeal : Cert.ReferenceCondIdeal.Facts] : Prop :=
  ∀ (m : (ℓ : Loc Cert.ReferenceCondIdeal.nD Cert.ReferenceCondIdeal.τ Cert.ReferenceCondIdeal.sig) → Buf (Elt Ideal) ℓ) (g : Dev Cert.ReferenceCondIdeal.nD → PrngReg), Pre_ReferenceCondIdeal m →
    θ_run (Cert.ReferenceCondIdeal.defs (F := Ideal)) (onTc (τ := Cert.ReferenceCondIdeal.τ) (Cert.ReferenceCondIdeal.main (F := Ideal))) ⟨m, fun _ => 0, g⟩ (fun r => (∀ c : Dev Cert.ReferenceCondIdeal.nD,
      r.2.mem ((c.tc : Thread Cert.ReferenceCondIdeal.nD Cert.ReferenceCondIdeal.τ).loc Cert.ReferenceCondIdeal.main_arg0) = m ((c.tc : Thread Cert.ReferenceCondIdeal.nD Cert.ReferenceCondIdeal.τ).loc Cert.ReferenceCondIdeal.main_arg0)
      ∧ r.2.mem ((c.tc : Thread Cert.ReferenceCondIdeal.nD Cert.ReferenceCondIdeal.τ).loc Cert.ReferenceCondIdeal.main_arg1) = m ((c.tc : Thread Cert.ReferenceCondIdeal.nD Cert.ReferenceCondIdeal.τ).loc Cert.ReferenceCondIdeal.main_arg1)
      ∧ r.2.mem ((c.tc : Thread Cert.ReferenceCondIdeal.nD Cert.ReferenceCondIdeal.τ).loc Cert.ReferenceCondIdeal.main_arg2) = m ((c.tc : Thread Cert.ReferenceCondIdeal.nD Cert.ReferenceCondIdeal.τ).loc Cert.ReferenceCondIdeal.main_arg2))
      ∧ r.2.sem = fun _ => 0)

def quiescent_KernelCondGrad [hKernelCondGrad : Cert.KernelCondGrad.Facts] : Prop :=
  ∀ (m : (ℓ : Loc Cert.KernelCondGrad.nD Cert.KernelCondGrad.τ Cert.KernelCondGrad.sig) → Buf (Elt Bits) ℓ) (g : Dev Cert.KernelCondGrad.nD → PrngReg), Pre_KernelCondGrad m →
    θ_run (Cert.KernelCondGrad.defs (F := Bits)) (onTc (τ := Cert.KernelCondGrad.τ) (Cert.KernelCondGrad.main (F := Bits))) ⟨m, fun _ => 0, g⟩ (fun r => (∀ c : Dev Cert.KernelCondGrad.nD,
      r.2.mem ((c.tc : Thread Cert.KernelCondGrad.nD Cert.KernelCondGrad.τ).loc Cert.KernelCondGrad.main_arg0) = m ((c.tc : Thread Cert.KernelCondGrad.nD Cert.KernelCondGrad.τ).loc Cert.KernelCondGrad.main_arg0)
      ∧ r.2.mem ((c.tc : Thread Cert.KernelCondGrad.nD Cert.KernelCondGrad.τ).loc Cert.KernelCondGrad.main_arg1) = m ((c.tc : Thread Cert.KernelCondGrad.nD Cert.KernelCondGrad.τ).loc Cert.KernelCondGrad.main_arg1))
      ∧ r.2.sem = fun _ => 0)

def quiescent_KernelCondGradIdeal [hKernelCondGradIdeal : Cert.KernelCondGradIdeal.Facts] : Prop :=
  ∀ (m : (ℓ : Loc Cert.KernelCondGradIdeal.nD Cert.KernelCondGradIdeal.τ Cert.KernelCondGradIdeal.sig) → Buf (Elt Ideal) ℓ) (g : Dev Cert.KernelCondGradIdeal.nD → PrngReg), Pre_KernelCondGradIdeal m →
    θ_run (Cert.KernelCondGradIdeal.defs (F := Ideal)) (onTc (τ := Cert.KernelCondGradIdeal.τ) (Cert.KernelCondGradIdeal.main (F := Ideal))) ⟨m, fun _ => 0, g⟩ (fun r => (∀ c : Dev Cert.KernelCondGradIdeal.nD,
      r.2.mem ((c.tc : Thread Cert.KernelCondGradIdeal.nD Cert.KernelCondGradIdeal.τ).loc Cert.KernelCondGradIdeal.main_arg0) = m ((c.tc : Thread Cert.KernelCondGradIdeal.nD Cert.KernelCondGradIdeal.τ).loc Cert.KernelCondGradIdeal.main_arg0)
      ∧ r.2.mem ((c.tc : Thread Cert.KernelCondGradIdeal.nD Cert.KernelCondGradIdeal.τ).loc Cert.KernelCondGradIdeal.main_arg1) = m ((c.tc : Thread Cert.KernelCondGradIdeal.nD Cert.KernelCondGradIdeal.τ).loc Cert.KernelCondGradIdeal.main_arg1))
      ∧ r.2.sem = fun _ => 0)

def quiescent_ReferenceCondGradIdeal [hReferenceCondGradIdeal : Cert.ReferenceCondGradIdeal.Facts] : Prop :=
  ∀ (m : (ℓ : Loc Cert.ReferenceCondGradIdeal.nD Cert.ReferenceCondGradIdeal.τ Cert.ReferenceCondGradIdeal.sig) → Buf (Elt Ideal) ℓ) (g : Dev Cert.ReferenceCondGradIdeal.nD → PrngReg), Pre_ReferenceCondGradIdeal m →
    θ_run (Cert.ReferenceCondGradIdeal.defs (F := Ideal)) (onTc (τ := Cert.ReferenceCondGradIdeal.τ) (Cert.ReferenceCondGradIdeal.main (F := Ideal))) ⟨m, fun _ => 0, g⟩ (fun r => (∀ c : Dev Cert.ReferenceCondGradIdeal.nD,
      r.2.mem ((c.tc : Thread Cert.ReferenceCondGradIdeal.nD Cert.ReferenceCondGradIdeal.τ).loc Cert.ReferenceCondGradIdeal.main_arg0) = m ((c.tc : Thread Cert.ReferenceCondGradIdeal.nD Cert.ReferenceCondGradIdeal.τ).loc Cert.ReferenceCondGradIdeal.main_arg0)
      ∧ r.2.mem ((c.tc : Thread Cert.ReferenceCondGradIdeal.nD Cert.ReferenceCondGradIdeal.τ).loc Cert.ReferenceCondGradIdeal.main_arg1) = m ((c.tc : Thread Cert.ReferenceCondGradIdeal.nD Cert.ReferenceCondGradIdeal.τ).loc Cert.ReferenceCondGradIdeal.main_arg1))
      ∧ r.2.sem = fun _ => 0)

def preserves_Kernel_KernelIdeal : Prop :=
  True

def algebraic_KernelIdeal_ReferenceIdeal_pre_pool_grad_real [hKernelIdeal : Cert.KernelIdeal.Facts] [hReferenceIdeal : Cert.ReferenceIdeal.Facts] [hPre_pool_grad_real : Cert.Pre_pool_grad_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pool_grad_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v155) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelPool_KernelPoolIdeal : Prop :=
  True

def algebraic_KernelPoolIdeal_ReferencePoolIdeal_pre_pool_real [hKernelPoolIdeal : Cert.KernelPoolIdeal.Facts] [hReferencePoolIdeal : Cert.ReferencePoolIdeal.Facts] [hPre_pool_real : Cert.Pre_pool_real.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_pool_real m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)) →
    ∃ (v0 : (c : Dev Cert.KernelPoolIdeal.nD) → Buf (Elt Ideal) ((c.tc : Thread Cert.KernelPoolIdeal.nD Cert.KernelPoolIdeal.τ).loc Cert.KernelPoolIdeal.main_v0_0)) (v1 : (c : Dev Cert.KernelPoolIdeal.nD) → Buf (Elt Ideal) ((c.tc : Thread Cert.KernelPoolIdeal.nD Cert.KernelPoolIdeal.τ).loc Cert.KernelPoolIdeal.main_v0_1)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v0_0) = v0 c
          ∧ r.2.mem ((c.tc : Thread Cert.KernelPoolIdeal.nD Cert.KernelPoolIdeal.τ).loc Cert.KernelPoolIdeal.main_v0_1) = v1 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v74) = v0 c
          ∧ r.2.mem ((c.tc : Thread Cert.ReferencePoolIdeal.nD Cert.ReferencePoolIdeal.τ).loc Cert.ReferencePoolIdeal.main_v75) = v1 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)) →
    ∃ (v0 : (c : Dev Cert.KernelNormIdeal.nD) → Buf (Elt Ideal) ((c.tc : Thread Cert.KernelNormIdeal.nD Cert.KernelNormIdeal.τ).loc Cert.KernelNormIdeal.main_v0_0)) (v1 : (c : Dev Cert.KernelNormIdeal.nD) → Buf (Elt Ideal) ((c.tc : Thread Cert.KernelNormIdeal.nD Cert.KernelNormIdeal.τ).loc Cert.KernelNormIdeal.main_v0_1)) (v2 : (c : Dev Cert.KernelNormIdeal.nD) → Buf (Elt Ideal) ((c.tc : Thread Cert.KernelNormIdeal.nD Cert.KernelNormIdeal.τ).loc Cert.KernelNormIdeal.main_v0_2)) (v3 : (c : Dev Cert.KernelNormIdeal.nD) → Buf (Elt Ideal) ((c.tc : Thread Cert.KernelNormIdeal.nD Cert.KernelNormIdeal.τ).loc Cert.KernelNormIdeal.main_v0_3)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0_0) = v0 c
          ∧ r.2.mem ((c.tc : Thread Cert.KernelNormIdeal.nD Cert.KernelNormIdeal.τ).loc Cert.KernelNormIdeal.main_v0_1) = v1 c
          ∧ r.2.mem ((c.tc : Thread Cert.KernelNormIdeal.nD Cert.KernelNormIdeal.τ).loc Cert.KernelNormIdeal.main_v0_2) = v2 c
          ∧ r.2.mem ((c.tc : Thread Cert.KernelNormIdeal.nD Cert.KernelNormIdeal.τ).loc Cert.KernelNormIdeal.main_v0_3) = v3 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v49) = v0 c
          ∧ r.2.mem ((c.tc : Thread Cert.ReferenceNormIdeal.nD Cert.ReferenceNormIdeal.τ).loc Cert.ReferenceNormIdeal.main_v24) = v1 c
          ∧ r.2.mem ((c.tc : Thread Cert.ReferenceNormIdeal.nD Cert.ReferenceNormIdeal.τ).loc Cert.ReferenceNormIdeal.main_v27) = v2 c
          ∧ r.2.mem ((c.tc : Thread Cert.ReferenceNormIdeal.nD Cert.ReferenceNormIdeal.τ).loc Cert.ReferenceNormIdeal.main_v32) = v3 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)) →
    ∃ (v0 : (c : Dev Cert.KernelMergeIdeal.nD) → Buf (Elt Ideal) ((c.tc : Thread Cert.KernelMergeIdeal.nD Cert.KernelMergeIdeal.τ).loc Cert.KernelMergeIdeal.main_v0_0)) (v1 : (c : Dev Cert.KernelMergeIdeal.nD) → Buf (Elt Ideal) ((c.tc : Thread Cert.KernelMergeIdeal.nD Cert.KernelMergeIdeal.τ).loc Cert.KernelMergeIdeal.main_v0_1)) (v2 : (c : Dev Cert.KernelMergeIdeal.nD) → Buf (Elt Ideal) ((c.tc : Thread Cert.KernelMergeIdeal.nD Cert.KernelMergeIdeal.τ).loc Cert.KernelMergeIdeal.main_v0_2)) (v3 : (c : Dev Cert.KernelMergeIdeal.nD) → Buf (Elt Ideal) ((c.tc : Thread Cert.KernelMergeIdeal.nD Cert.KernelMergeIdeal.τ).loc Cert.KernelMergeIdeal.main_v1)) (v4 : (c : Dev Cert.KernelMergeIdeal.nD) → Buf (Elt Ideal) ((c.tc : Thread Cert.KernelMergeIdeal.nD Cert.KernelMergeIdeal.τ).loc Cert.KernelMergeIdeal.main_v0_4)) (v5 : (c : Dev Cert.KernelMergeIdeal.nD) → Buf (Elt Ideal) ((c.tc : Thread Cert.KernelMergeIdeal.nD Cert.KernelMergeIdeal.τ).loc Cert.KernelMergeIdeal.main_v0_5)) (v6 : (c : Dev Cert.KernelMergeIdeal.nD) → Buf (Elt Ideal) ((c.tc : Thread Cert.KernelMergeIdeal.nD Cert.KernelMergeIdeal.τ).loc Cert.KernelMergeIdeal.main_v0_6)) (v7 : (c : Dev Cert.KernelMergeIdeal.nD) → Buf (Elt Ideal) ((c.tc : Thread Cert.KernelMergeIdeal.nD Cert.KernelMergeIdeal.τ).loc Cert.KernelMergeIdeal.main_v0_7)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0_0) = v0 c
          ∧ r.2.mem ((c.tc : Thread Cert.KernelMergeIdeal.nD Cert.KernelMergeIdeal.τ).loc Cert.KernelMergeIdeal.main_v0_1) = v1 c
          ∧ r.2.mem ((c.tc : Thread Cert.KernelMergeIdeal.nD Cert.KernelMergeIdeal.τ).loc Cert.KernelMergeIdeal.main_v0_2) = v2 c
          ∧ r.2.mem ((c.tc : Thread Cert.KernelMergeIdeal.nD Cert.KernelMergeIdeal.τ).loc Cert.KernelMergeIdeal.main_v1) = v3 c
          ∧ r.2.mem ((c.tc : Thread Cert.KernelMergeIdeal.nD Cert.KernelMergeIdeal.τ).loc Cert.KernelMergeIdeal.main_v0_4) = v4 c
          ∧ r.2.mem ((c.tc : Thread Cert.KernelMergeIdeal.nD Cert.KernelMergeIdeal.τ).loc Cert.KernelMergeIdeal.main_v0_5) = v5 c
          ∧ r.2.mem ((c.tc : Thread Cert.KernelMergeIdeal.nD Cert.KernelMergeIdeal.τ).loc Cert.KernelMergeIdeal.main_v0_6) = v6 c
          ∧ r.2.mem ((c.tc : Thread Cert.KernelMergeIdeal.nD Cert.KernelMergeIdeal.τ).loc Cert.KernelMergeIdeal.main_v0_7) = v7 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v87) = v0 c
          ∧ r.2.mem ((c.tc : Thread Cert.ReferenceMergeIdeal.nD Cert.ReferenceMergeIdeal.τ).loc Cert.ReferenceMergeIdeal.main_v88) = v1 c
          ∧ r.2.mem ((c.tc : Thread Cert.ReferenceMergeIdeal.nD Cert.ReferenceMergeIdeal.τ).loc Cert.ReferenceMergeIdeal.main_v89) = v2 c
          ∧ r.2.mem ((c.tc : Thread Cert.ReferenceMergeIdeal.nD Cert.ReferenceMergeIdeal.τ).loc Cert.ReferenceMergeIdeal.main_v91) = v3 c
          ∧ r.2.mem ((c.tc : Thread Cert.ReferenceMergeIdeal.nD Cert.ReferenceMergeIdeal.τ).loc Cert.ReferenceMergeIdeal.main_v82) = v4 c
          ∧ r.2.mem ((c.tc : Thread Cert.ReferenceMergeIdeal.nD Cert.ReferenceMergeIdeal.τ).loc Cert.ReferenceMergeIdeal.main_v86) = v5 c
          ∧ r.2.mem ((c.tc : Thread Cert.ReferenceMergeIdeal.nD Cert.ReferenceMergeIdeal.τ).loc Cert.ReferenceMergeIdeal.main_v21) = v6 c
          ∧ r.2.mem ((c.tc : Thread Cert.ReferenceMergeIdeal.nD Cert.ReferenceMergeIdeal.τ).loc Cert.ReferenceMergeIdeal.main_v24) = v7 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9))

def preserves_KernelGw_KernelGwIdeal : Prop :=
  True

def algebraic_KernelGwIdeal_ReferenceGwIdeal [hKernelGwIdeal : Cert.KernelGwIdeal.Facts] [hReferenceGwIdeal : Cert.ReferenceGwIdeal.Facts] : Prop :=
  ∀ (m : (ℓ : Loc Cert.KernelGwIdeal.nD Cert.KernelGwIdeal.τ Cert.KernelGwIdeal.sig) → Buf (Elt Ideal) ℓ) (g : Dev Cert.KernelGwIdeal.nD → PrngReg)
    (m' : (ℓ : Loc Cert.ReferenceGwIdeal.nD Cert.ReferenceGwIdeal.τ Cert.ReferenceGwIdeal.sig) → Buf (Elt Ideal) ℓ) (g' : Dev Cert.ReferenceGwIdeal.nD → PrngReg), Pre_KernelGwIdeal m →
    (∀ c : Dev Cert.KernelGwIdeal.nD,
      m' ((c.tc : Thread Cert.ReferenceGwIdeal.nD Cert.ReferenceGwIdeal.τ).loc Cert.ReferenceGwIdeal.main_arg0) = m ((c.tc : Thread Cert.KernelGwIdeal.nD Cert.KernelGwIdeal.τ).loc Cert.KernelGwIdeal.main_arg0)
      ∧ m' ((c.tc : Thread Cert.ReferenceGwIdeal.nD Cert.ReferenceGwIdeal.τ).loc Cert.ReferenceGwIdeal.main_arg1) = m ((c.tc : Thread Cert.KernelGwIdeal.nD Cert.KernelGwIdeal.τ).loc Cert.KernelGwIdeal.main_arg1)) →
    ∃ (v0 : (c : Dev Cert.KernelGwIdeal.nD) → Buf (Elt Ideal) ((c.tc : Thread Cert.KernelGwIdeal.nD Cert.KernelGwIdeal.τ).loc Cert.KernelGwIdeal.main_v0)),
      θ_run (Cert.KernelGwIdeal.defs (F := Ideal)) (onTc (τ := Cert.KernelGwIdeal.τ) (Cert.KernelGwIdeal.main (F := Ideal))) ⟨m, fun _ => 0, g⟩ (fun r => ∀ c : Dev Cert.KernelGwIdeal.nD,
          r.2.mem ((c.tc : Thread Cert.KernelGwIdeal.nD Cert.KernelGwIdeal.τ).loc Cert.KernelGwIdeal.main_v0) = v0 c
          ∧ r.2.mem ((c.tc : Thread Cert.KernelGwIdeal.nD Cert.KernelGwIdeal.τ).loc Cert.KernelGwIdeal.main_arg0) = m ((c.tc : Thread Cert.KernelGwIdeal.nD Cert.KernelGwIdeal.τ).loc Cert.KernelGwIdeal.main_arg0)
          ∧ r.2.mem ((c.tc : Thread Cert.KernelGwIdeal.nD Cert.KernelGwIdeal.τ).loc Cert.KernelGwIdeal.main_arg1) = m ((c.tc : Thread Cert.KernelGwIdeal.nD Cert.KernelGwIdeal.τ).loc Cert.KernelGwIdeal.main_arg1))
      ∧ θ_run (Cert.ReferenceGwIdeal.defs (F := Ideal)) (onTc (τ := Cert.ReferenceGwIdeal.τ) (Cert.ReferenceGwIdeal.main (F := Ideal))) ⟨m', fun _ => 0, g'⟩ (fun r => ∀ c : Dev Cert.ReferenceGwIdeal.nD,
          r.2.mem ((c.tc : Thread Cert.ReferenceGwIdeal.nD Cert.ReferenceGwIdeal.τ).loc Cert.ReferenceGwIdeal.main_v9) = v0 c
          ∧ r.2.mem ((c.tc : Thread Cert.ReferenceGwIdeal.nD Cert.ReferenceGwIdeal.τ).loc Cert.ReferenceGwIdeal.main_arg0) = m' ((c.tc : Thread Cert.ReferenceGwIdeal.nD Cert.ReferenceGwIdeal.τ).loc Cert.ReferenceGwIdeal.main_arg0)
          ∧ r.2.mem ((c.tc : Thread Cert.ReferenceGwIdeal.nD Cert.ReferenceGwIdeal.τ).loc Cert.ReferenceGwIdeal.main_arg1) = m' ((c.tc : Thread Cert.ReferenceGwIdeal.nD Cert.ReferenceGwIdeal.τ).loc Cert.ReferenceGwIdeal.main_arg1))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)) →
    ∃ (v0 : (c : Dev Cert.KernelDhIdeal.nD) → Buf (Elt Ideal) ((c.tc : Thread Cert.KernelDhIdeal.nD Cert.KernelDhIdeal.τ).loc Cert.KernelDhIdeal.main_v0)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v0) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v6) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1))

def preserves_KernelTail_KernelTailIdeal : Prop :=
  True

def algebraic_KernelTailIdeal_ReferenceTailIdeal [hKernelTailIdeal : Cert.KernelTailIdeal.Facts] [hReferenceTailIdeal : Cert.ReferenceTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg)
    (m' : (ℓ : Loc Cert.ReferenceTailIdeal.nD Cert.ReferenceTailIdeal.τ Cert.ReferenceTailIdeal.sig) → Buf (Elt Ideal) ℓ) (g' : Dev Cert.ReferenceTailIdeal.nD → PrngReg), Pre_KernelTailIdeal m →
    (∀ c : Dev Cert.KernelTailIdeal.nD,
      m' ((c.tc : Thread Cert.ReferenceTailIdeal.nD Cert.ReferenceTailIdeal.τ).loc Cert.ReferenceTailIdeal.main_arg0) = m ((c.tc : Thread Cert.KernelTailIdeal.nD Cert.KernelTailIdeal.τ).loc Cert.KernelTailIdeal.main_arg0)
      ∧ m' ((c.tc : Thread Cert.ReferenceTailIdeal.nD Cert.ReferenceTailIdeal.τ).loc Cert.ReferenceTailIdeal.main_arg1) = m ((c.tc : Thread Cert.KernelTailIdeal.nD Cert.KernelTailIdeal.τ).loc Cert.KernelTailIdeal.main_arg1)
      ∧ m' ((c.tc : Thread Cert.ReferenceTailIdeal.nD Cert.ReferenceTailIdeal.τ).loc Cert.ReferenceTailIdeal.main_arg2) = m ((c.tc : Thread Cert.KernelTailIdeal.nD Cert.KernelTailIdeal.τ).loc Cert.KernelTailIdeal.main_arg2)
      ∧ m' ((c.tc : Thread Cert.ReferenceTailIdeal.nD Cert.ReferenceTailIdeal.τ).loc Cert.ReferenceTailIdeal.main_arg3) = m ((c.tc : Thread Cert.KernelTailIdeal.nD Cert.KernelTailIdeal.τ).loc Cert.KernelTailIdeal.main_arg3)
      ∧ m' ((c.tc : Thread Cert.ReferenceTailIdeal.nD Cert.ReferenceTailIdeal.τ).loc Cert.ReferenceTailIdeal.main_arg4) = m ((c.tc : Thread Cert.KernelTailIdeal.nD Cert.KernelTailIdeal.τ).loc Cert.KernelTailIdeal.main_arg4)
      ∧ m' ((c.tc : Thread Cert.ReferenceTailIdeal.nD Cert.ReferenceTailIdeal.τ).loc Cert.ReferenceTailIdeal.main_arg5) = m ((c.tc : Thread Cert.KernelTailIdeal.nD Cert.KernelTailIdeal.τ).loc Cert.KernelTailIdeal.main_arg5)) →
    ∃ (v0 : (c : Dev Cert.KernelTailIdeal.nD) → Buf (Elt Ideal) ((c.tc : Thread Cert.KernelTailIdeal.nD Cert.KernelTailIdeal.τ).loc Cert.KernelTailIdeal.main_v0_0)) (v1 : (c : Dev Cert.KernelTailIdeal.nD) → Buf (Elt Ideal) ((c.tc : Thread Cert.KernelTailIdeal.nD Cert.KernelTailIdeal.τ).loc Cert.KernelTailIdeal.main_v0_1)) (v2 : (c : Dev Cert.KernelTailIdeal.nD) → Buf (Elt Ideal) ((c.tc : Thread Cert.KernelTailIdeal.nD Cert.KernelTailIdeal.τ).loc Cert.KernelTailIdeal.main_v0_2)),
      θ_run (Cert.KernelTailIdeal.defs (F := Ideal)) (onTc (τ := Cert.KernelTailIdeal.τ) (Cert.KernelTailIdeal.main (F := Ideal))) ⟨m, fun _ => 0, g⟩ (fun r => ∀ c : Dev Cert.KernelTailIdeal.nD,
          r.2.mem ((c.tc : Thread Cert.KernelTailIdeal.nD Cert.KernelTailIdeal.τ).loc Cert.KernelTailIdeal.main_v0_0) = v0 c
          ∧ r.2.mem ((c.tc : Thread Cert.KernelTailIdeal.nD Cert.KernelTailIdeal.τ).loc Cert.KernelTailIdeal.main_v0_1) = v1 c
          ∧ r.2.mem ((c.tc : Thread Cert.KernelTailIdeal.nD Cert.KernelTailIdeal.τ).loc Cert.KernelTailIdeal.main_v0_2) = v2 c
          ∧ r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
          ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
          ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
          ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
          ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
          ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5))
      ∧ θ_run (Cert.ReferenceTailIdeal.defs (F := Ideal)) (onTc (τ := Cert.ReferenceTailIdeal.τ) (Cert.ReferenceTailIdeal.main (F := Ideal))) ⟨m', fun _ => 0, g'⟩ (fun r => ∀ c : Dev Cert.ReferenceTailIdeal.nD,
          r.2.mem ((c.tc : Thread Cert.ReferenceTailIdeal.nD Cert.ReferenceTailIdeal.τ).loc Cert.ReferenceTailIdeal.main_v17) = v0 c
          ∧ r.2.mem ((c.tc : Thread Cert.ReferenceTailIdeal.nD Cert.ReferenceTailIdeal.τ).loc Cert.ReferenceTailIdeal.main_v25) = v1 c
          ∧ r.2.mem ((c.tc : Thread Cert.ReferenceTailIdeal.nD Cert.ReferenceTailIdeal.τ).loc Cert.ReferenceTailIdeal.main_v9) = v2 c
          ∧ r.2.mem ((c.tc : Thread Cert.ReferenceTailIdeal.nD Cert.ReferenceTailIdeal.τ).loc Cert.ReferenceTailIdeal.main_arg0) = m' ((c.tc : Thread Cert.ReferenceTailIdeal.nD Cert.ReferenceTailIdeal.τ).loc Cert.ReferenceTailIdeal.main_arg0)
          ∧ r.2.mem ((c.tc : Thread Cert.ReferenceTailIdeal.nD Cert.ReferenceTailIdeal.τ).loc Cert.ReferenceTailIdeal.main_arg1) = m' ((c.tc : Thread Cert.ReferenceTailIdeal.nD Cert.ReferenceTailIdeal.τ).loc Cert.ReferenceTailIdeal.main_arg1)
          ∧ r.2.mem ((c.tc : Thread Cert.ReferenceTailIdeal.nD Cert.ReferenceTailIdeal.τ).loc Cert.ReferenceTailIdeal.main_arg2) = m' ((c.tc : Thread Cert.ReferenceTailIdeal.nD Cert.ReferenceTailIdeal.τ).loc Cert.ReferenceTailIdeal.main_arg2)
          ∧ r.2.mem ((c.tc : Thread Cert.ReferenceTailIdeal.nD Cert.ReferenceTailIdeal.τ).loc Cert.ReferenceTailIdeal.main_arg3) = m' ((c.tc : Thread Cert.ReferenceTailIdeal.nD Cert.ReferenceTailIdeal.τ).loc Cert.ReferenceTailIdeal.main_arg3)
          ∧ r.2.mem ((c.tc : Thread Cert.ReferenceTailIdeal.nD Cert.ReferenceTailIdeal.τ).loc Cert.ReferenceTailIdeal.main_arg4) = m' ((c.tc : Thread Cert.ReferenceTailIdeal.nD Cert.ReferenceTailIdeal.τ).loc Cert.ReferenceTailIdeal.main_arg4)
          ∧ r.2.mem ((c.tc : Thread Cert.ReferenceTailIdeal.nD Cert.ReferenceTailIdeal.τ).loc Cert.ReferenceTailIdeal.main_arg5) = m' ((c.tc : Thread Cert.ReferenceTailIdeal.nD Cert.ReferenceTailIdeal.τ).loc Cert.ReferenceTailIdeal.main_arg5))

def preserves_KernelPre_KernelPreIdeal : Prop :=
  True

def algebraic_KernelPreIdeal_ReferencePreIdeal [hKernelPreIdeal : Cert.KernelPreIdeal.Facts] [hReferencePreIdeal : Cert.ReferencePreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)
      ∧ m' ((c.tc : Thread Cert.ReferencePreIdeal.nD Cert.ReferencePreIdeal.τ).loc Cert.ReferencePreIdeal.main_arg2) = m ((c.tc : Thread Cert.KernelPreIdeal.nD Cert.KernelPreIdeal.τ).loc Cert.KernelPreIdeal.main_arg2)
      ∧ m' ((c.tc : Thread Cert.ReferencePreIdeal.nD Cert.ReferencePreIdeal.τ).loc Cert.ReferencePreIdeal.main_arg3) = m ((c.tc : Thread Cert.KernelPreIdeal.nD Cert.KernelPreIdeal.τ).loc Cert.KernelPreIdeal.main_arg3)) →
    ∃ (v0 : (c : Dev Cert.KernelPreIdeal.nD) → Buf (Elt Ideal) ((c.tc : Thread Cert.KernelPreIdeal.nD Cert.KernelPreIdeal.τ).loc Cert.KernelPreIdeal.main_v0_0)) (v1 : (c : Dev Cert.KernelPreIdeal.nD) → Buf (Elt Ideal) ((c.tc : Thread Cert.KernelPreIdeal.nD Cert.KernelPreIdeal.τ).loc Cert.KernelPreIdeal.main_v0_1)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v0_0) = v0 c
          ∧ r.2.mem ((c.tc : Thread Cert.KernelPreIdeal.nD Cert.KernelPreIdeal.τ).loc Cert.KernelPreIdeal.main_v0_1) = v1 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
          ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
          ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v18) = v0 c
          ∧ r.2.mem ((c.tc : Thread Cert.ReferencePreIdeal.nD Cert.ReferencePreIdeal.τ).loc Cert.ReferencePreIdeal.main_v19) = v1 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1)
          ∧ r.2.mem ((c.tc : Thread Cert.ReferencePreIdeal.nD Cert.ReferencePreIdeal.τ).loc Cert.ReferencePreIdeal.main_arg2) = m' ((c.tc : Thread Cert.ReferencePreIdeal.nD Cert.ReferencePreIdeal.τ).loc Cert.ReferencePreIdeal.main_arg2)
          ∧ r.2.mem ((c.tc : Thread Cert.ReferencePreIdeal.nD Cert.ReferencePreIdeal.τ).loc Cert.ReferencePreIdeal.main_arg3) = m' ((c.tc : Thread Cert.ReferencePreIdeal.nD Cert.ReferencePreIdeal.τ).loc Cert.ReferencePreIdeal.main_arg3))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v0)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v5) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelClose_KernelCloseIdeal : Prop :=
  True

def algebraic_KernelCloseIdeal_ReferenceCloseIdeal [hKernelCloseIdeal : Cert.KernelCloseIdeal.Facts] [hReferenceCloseIdeal : Cert.ReferenceCloseIdeal.Facts] : Prop :=
  ∀ (m : (ℓ : Loc Cert.KernelCloseIdeal.nD Cert.KernelCloseIdeal.τ Cert.KernelCloseIdeal.sig) → Buf (Elt Ideal) ℓ) (g : Dev Cert.KernelCloseIdeal.nD → PrngReg)
    (m' : (ℓ : Loc Cert.ReferenceCloseIdeal.nD Cert.ReferenceCloseIdeal.τ Cert.ReferenceCloseIdeal.sig) → Buf (Elt Ideal) ℓ) (g' : Dev Cert.ReferenceCloseIdeal.nD → PrngReg), Pre_KernelCloseIdeal m →
    (∀ c : Dev Cert.KernelCloseIdeal.nD,
      m' ((c.tc : Thread Cert.ReferenceCloseIdeal.nD Cert.ReferenceCloseIdeal.τ).loc Cert.ReferenceCloseIdeal.main_arg0) = m ((c.tc : Thread Cert.KernelCloseIdeal.nD Cert.KernelCloseIdeal.τ).loc Cert.KernelCloseIdeal.main_arg0)
      ∧ m' ((c.tc : Thread Cert.ReferenceCloseIdeal.nD Cert.ReferenceCloseIdeal.τ).loc Cert.ReferenceCloseIdeal.main_arg1) = m ((c.tc : Thread Cert.KernelCloseIdeal.nD Cert.KernelCloseIdeal.τ).loc Cert.KernelCloseIdeal.main_arg1)
      ∧ m' ((c.tc : Thread Cert.ReferenceCloseIdeal.nD Cert.ReferenceCloseIdeal.τ).loc Cert.ReferenceCloseIdeal.main_arg2) = m ((c.tc : Thread Cert.KernelCloseIdeal.nD Cert.KernelCloseIdeal.τ).loc Cert.KernelCloseIdeal.main_arg2)
      ∧ m' ((c.tc : Thread Cert.ReferenceCloseIdeal.nD Cert.ReferenceCloseIdeal.τ).loc Cert.ReferenceCloseIdeal.main_arg3) = m ((c.tc : Thread Cert.KernelCloseIdeal.nD Cert.KernelCloseIdeal.τ).loc Cert.KernelCloseIdeal.main_arg3)
      ∧ m' ((c.tc : Thread Cert.ReferenceCloseIdeal.nD Cert.ReferenceCloseIdeal.τ).loc Cert.ReferenceCloseIdeal.main_arg4) = m ((c.tc : Thread Cert.KernelCloseIdeal.nD Cert.KernelCloseIdeal.τ).loc Cert.KernelCloseIdeal.main_arg4)
      ∧ m' ((c.tc : Thread Cert.ReferenceCloseIdeal.nD Cert.ReferenceCloseIdeal.τ).loc Cert.ReferenceCloseIdeal.main_arg5) = m ((c.tc : Thread Cert.KernelCloseIdeal.nD Cert.KernelCloseIdeal.τ).loc Cert.KernelCloseIdeal.main_arg5)
      ∧ m' ((c.tc : Thread Cert.ReferenceCloseIdeal.nD Cert.ReferenceCloseIdeal.τ).loc Cert.ReferenceCloseIdeal.main_arg6) = m ((c.tc : Thread Cert.KernelCloseIdeal.nD Cert.KernelCloseIdeal.τ).loc Cert.KernelCloseIdeal.main_arg6)
      ∧ m' ((c.tc : Thread Cert.ReferenceCloseIdeal.nD Cert.ReferenceCloseIdeal.τ).loc Cert.ReferenceCloseIdeal.main_arg7) = m ((c.tc : Thread Cert.KernelCloseIdeal.nD Cert.KernelCloseIdeal.τ).loc Cert.KernelCloseIdeal.main_arg7)
      ∧ m' ((c.tc : Thread Cert.ReferenceCloseIdeal.nD Cert.ReferenceCloseIdeal.τ).loc Cert.ReferenceCloseIdeal.main_arg8) = m ((c.tc : Thread Cert.KernelCloseIdeal.nD Cert.KernelCloseIdeal.τ).loc Cert.KernelCloseIdeal.main_arg8)) →
    ∃ (v0 : (c : Dev Cert.KernelCloseIdeal.nD) → Buf (Elt Ideal) ((c.tc : Thread Cert.KernelCloseIdeal.nD Cert.KernelCloseIdeal.τ).loc Cert.KernelCloseIdeal.main_v0_0)) (v1 : (c : Dev Cert.KernelCloseIdeal.nD) → Buf (Elt Ideal) ((c.tc : Thread Cert.KernelCloseIdeal.nD Cert.KernelCloseIdeal.τ).loc Cert.KernelCloseIdeal.main_v0_1)) (v2 : (c : Dev Cert.KernelCloseIdeal.nD) → Buf (Elt Ideal) ((c.tc : Thread Cert.KernelCloseIdeal.nD Cert.KernelCloseIdeal.τ).loc Cert.KernelCloseIdeal.main_v0_2)) (v3 : (c : Dev Cert.KernelCloseIdeal.nD) → Buf (Elt Ideal) ((c.tc : Thread Cert.KernelCloseIdeal.nD Cert.KernelCloseIdeal.τ).loc Cert.KernelCloseIdeal.main_v0_3)) (v4 : (c : Dev Cert.KernelCloseIdeal.nD) → Buf (Elt Ideal) ((c.tc : Thread Cert.KernelCloseIdeal.nD Cert.KernelCloseIdeal.τ).loc Cert.KernelCloseIdeal.main_v0_4)),
      θ_run (Cert.KernelCloseIdeal.defs (F := Ideal)) (onTc (τ := Cert.KernelCloseIdeal.τ) (Cert.KernelCloseIdeal.main (F := Ideal))) ⟨m, fun _ => 0, g⟩ (fun r => ∀ c : Dev Cert.KernelCloseIdeal.nD,
          r.2.mem ((c.tc : Thread Cert.KernelCloseIdeal.nD Cert.KernelCloseIdeal.τ).loc Cert.KernelCloseIdeal.main_v0_0) = v0 c
          ∧ r.2.mem ((c.tc : Thread Cert.KernelCloseIdeal.nD Cert.KernelCloseIdeal.τ).loc Cert.KernelCloseIdeal.main_v0_1) = v1 c
          ∧ r.2.mem ((c.tc : Thread Cert.KernelCloseIdeal.nD Cert.KernelCloseIdeal.τ).loc Cert.KernelCloseIdeal.main_v0_2) = v2 c
          ∧ r.2.mem ((c.tc : Thread Cert.KernelCloseIdeal.nD Cert.KernelCloseIdeal.τ).loc Cert.KernelCloseIdeal.main_v0_3) = v3 c
          ∧ r.2.mem ((c.tc : Thread Cert.KernelCloseIdeal.nD Cert.KernelCloseIdeal.τ).loc Cert.KernelCloseIdeal.main_v0_4) = v4 c
          ∧ r.2.mem ((c.tc : Thread Cert.KernelCloseIdeal.nD Cert.KernelCloseIdeal.τ).loc Cert.KernelCloseIdeal.main_arg0) = m ((c.tc : Thread Cert.KernelCloseIdeal.nD Cert.KernelCloseIdeal.τ).loc Cert.KernelCloseIdeal.main_arg0)
          ∧ r.2.mem ((c.tc : Thread Cert.KernelCloseIdeal.nD Cert.KernelCloseIdeal.τ).loc Cert.KernelCloseIdeal.main_arg1) = m ((c.tc : Thread Cert.KernelCloseIdeal.nD Cert.KernelCloseIdeal.τ).loc Cert.KernelCloseIdeal.main_arg1)
          ∧ r.2.mem ((c.tc : Thread Cert.KernelCloseIdeal.nD Cert.KernelCloseIdeal.τ).loc Cert.KernelCloseIdeal.main_arg2) = m ((c.tc : Thread Cert.KernelCloseIdeal.nD Cert.KernelCloseIdeal.τ).loc Cert.KernelCloseIdeal.main_arg2)
          ∧ r.2.mem ((c.tc : Thread Cert.KernelCloseIdeal.nD Cert.KernelCloseIdeal.τ).loc Cert.KernelCloseIdeal.main_arg3) = m ((c.tc : Thread Cert.KernelCloseIdeal.nD Cert.KernelCloseIdeal.τ).loc Cert.KernelCloseIdeal.main_arg3)
          ∧ r.2.mem ((c.tc : Thread Cert.KernelCloseIdeal.nD Cert.KernelCloseIdeal.τ).loc Cert.KernelCloseIdeal.main_arg4) = m ((c.tc : Thread Cert.KernelCloseIdeal.nD Cert.KernelCloseIdeal.τ).loc Cert.KernelCloseIdeal.main_arg4)
          ∧ r.2.mem ((c.tc : Thread Cert.KernelCloseIdeal.nD Cert.KernelCloseIdeal.τ).loc Cert.KernelCloseIdeal.main_arg5) = m ((c.tc : Thread Cert.KernelCloseIdeal.nD Cert.KernelCloseIdeal.τ).loc Cert.KernelCloseIdeal.main_arg5)
          ∧ r.2.mem ((c.tc : Thread Cert.KernelCloseIdeal.nD Cert.KernelCloseIdeal.τ).loc Cert.KernelCloseIdeal.main_arg6) = m ((c.tc : Thread Cert.KernelCloseIdeal.nD Cert.KernelCloseIdeal.τ).loc Cert.KernelCloseIdeal.main_arg6)
          ∧ r.2.mem ((c.tc : Thread Cert.KernelCloseIdeal.nD Cert.KernelCloseIdeal.τ).loc Cert.KernelCloseIdeal.main_arg7) = m ((c.tc : Thread Cert.KernelCloseIdeal.nD Cert.KernelCloseIdeal.τ).loc Cert.KernelCloseIdeal.main_arg7)
          ∧ r.2.mem ((c.tc : Thread Cert.KernelCloseIdeal.nD Cert.KernelCloseIdeal.τ).loc Cert.KernelCloseIdeal.main_arg8) = m ((c.tc : Thread Cert.KernelCloseIdeal.nD Cert.KernelCloseIdeal.τ).loc Cert.KernelCloseIdeal.main_arg8))
      ∧ θ_run (Cert.ReferenceCloseIdeal.defs (F := Ideal)) (onTc (τ := Cert.ReferenceCloseIdeal.τ) (Cert.ReferenceCloseIdeal.main (F := Ideal))) ⟨m', fun _ => 0, g'⟩ (fun r => ∀ c : Dev Cert.ReferenceCloseIdeal.nD,
          r.2.mem ((c.tc : Thread Cert.ReferenceCloseIdeal.nD Cert.ReferenceCloseIdeal.τ).loc Cert.ReferenceCloseIdeal.main_v31) = v0 c
          ∧ r.2.mem ((c.tc : Thread Cert.ReferenceCloseIdeal.nD Cert.ReferenceCloseIdeal.τ).loc Cert.ReferenceCloseIdeal.main_v32) = v1 c
          ∧ r.2.mem ((c.tc : Thread Cert.ReferenceCloseIdeal.nD Cert.ReferenceCloseIdeal.τ).loc Cert.ReferenceCloseIdeal.main_v33) = v2 c
          ∧ r.2.mem ((c.tc : Thread Cert.ReferenceCloseIdeal.nD Cert.ReferenceCloseIdeal.τ).loc Cert.ReferenceCloseIdeal.main_v30) = v3 c
          ∧ r.2.mem ((c.tc : Thread Cert.ReferenceCloseIdeal.nD Cert.ReferenceCloseIdeal.τ).loc Cert.ReferenceCloseIdeal.main_v48) = v4 c
          ∧ r.2.mem ((c.tc : Thread Cert.ReferenceCloseIdeal.nD Cert.ReferenceCloseIdeal.τ).loc Cert.ReferenceCloseIdeal.main_arg0) = m' ((c.tc : Thread Cert.ReferenceCloseIdeal.nD Cert.ReferenceCloseIdeal.τ).loc Cert.ReferenceCloseIdeal.main_arg0)
          ∧ r.2.mem ((c.tc : Thread Cert.ReferenceCloseIdeal.nD Cert.ReferenceCloseIdeal.τ).loc Cert.ReferenceCloseIdeal.main_arg1) = m' ((c.tc : Thread Cert.ReferenceCloseIdeal.nD Cert.ReferenceCloseIdeal.τ).loc Cert.ReferenceCloseIdeal.main_arg1)
          ∧ r.2.mem ((c.tc : Thread Cert.ReferenceCloseIdeal.nD Cert.ReferenceCloseIdeal.τ).loc Cert.ReferenceCloseIdeal.main_arg2) = m' ((c.tc : Thread Cert.ReferenceCloseIdeal.nD Cert.ReferenceCloseIdeal.τ).loc Cert.ReferenceCloseIdeal.main_arg2)
          ∧ r.2.mem ((c.tc : Thread Cert.ReferenceCloseIdeal.nD Cert.ReferenceCloseIdeal.τ).loc Cert.ReferenceCloseIdeal.main_arg3) = m' ((c.tc : Thread Cert.ReferenceCloseIdeal.nD Cert.ReferenceCloseIdeal.τ).loc Cert.ReferenceCloseIdeal.main_arg3)
          ∧ r.2.mem ((c.tc : Thread Cert.ReferenceCloseIdeal.nD Cert.ReferenceCloseIdeal.τ).loc Cert.ReferenceCloseIdeal.main_arg4) = m' ((c.tc : Thread Cert.ReferenceCloseIdeal.nD Cert.ReferenceCloseIdeal.τ).loc Cert.ReferenceCloseIdeal.main_arg4)
          ∧ r.2.mem ((c.tc : Thread Cert.ReferenceCloseIdeal.nD Cert.ReferenceCloseIdeal.τ).loc Cert.ReferenceCloseIdeal.main_arg5) = m' ((c.tc : Thread Cert.ReferenceCloseIdeal.nD Cert.ReferenceCloseIdeal.τ).loc Cert.ReferenceCloseIdeal.main_arg5)
          ∧ r.2.mem ((c.tc : Thread Cert.ReferenceCloseIdeal.nD Cert.ReferenceCloseIdeal.τ).loc Cert.ReferenceCloseIdeal.main_arg6) = m' ((c.tc : Thread Cert.ReferenceCloseIdeal.nD Cert.ReferenceCloseIdeal.τ).loc Cert.ReferenceCloseIdeal.main_arg6)
          ∧ r.2.mem ((c.tc : Thread Cert.ReferenceCloseIdeal.nD Cert.ReferenceCloseIdeal.τ).loc Cert.ReferenceCloseIdeal.main_arg7) = m' ((c.tc : Thread Cert.ReferenceCloseIdeal.nD Cert.ReferenceCloseIdeal.τ).loc Cert.ReferenceCloseIdeal.main_arg7)
          ∧ r.2.mem ((c.tc : Thread Cert.ReferenceCloseIdeal.nD Cert.ReferenceCloseIdeal.τ).loc Cert.ReferenceCloseIdeal.main_arg8) = m' ((c.tc : Thread Cert.ReferenceCloseIdeal.nD Cert.ReferenceCloseIdeal.τ).loc Cert.ReferenceCloseIdeal.main_arg8))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)
      ∧ m' ((c.tc : Thread Cert.ReferenceLossIdeal.nD Cert.ReferenceLossIdeal.τ).loc Cert.ReferenceLossIdeal.main_arg5) = m ((c.tc : Thread Cert.KernelLossIdeal.nD Cert.KernelLossIdeal.τ).loc Cert.KernelLossIdeal.main_arg5)
      ∧ m' ((c.tc : Thread Cert.ReferenceLossIdeal.nD Cert.ReferenceLossIdeal.τ).loc Cert.ReferenceLossIdeal.main_arg6) = m ((c.tc : Thread Cert.KernelLossIdeal.nD Cert.KernelLossIdeal.τ).loc Cert.KernelLossIdeal.main_arg6)
      ∧ m' ((c.tc : Thread Cert.ReferenceLossIdeal.nD Cert.ReferenceLossIdeal.τ).loc Cert.ReferenceLossIdeal.main_arg7) = m ((c.tc : Thread Cert.KernelLossIdeal.nD Cert.KernelLossIdeal.τ).loc Cert.KernelLossIdeal.main_arg7)
      ∧ m' ((c.tc : Thread Cert.ReferenceLossIdeal.nD Cert.ReferenceLossIdeal.τ).loc Cert.ReferenceLossIdeal.main_arg8) = m ((c.tc : Thread Cert.KernelLossIdeal.nD Cert.KernelLossIdeal.τ).loc Cert.KernelLossIdeal.main_arg8)
      ∧ m' ((c.tc : Thread Cert.ReferenceLossIdeal.nD Cert.ReferenceLossIdeal.τ).loc Cert.ReferenceLossIdeal.main_arg9) = m ((c.tc : Thread Cert.KernelLossIdeal.nD Cert.KernelLossIdeal.τ).loc Cert.KernelLossIdeal.main_arg9)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)) (v3 : (c : Dev Cert.KernelLossIdeal.nD) → Buf (Elt Ideal) ((c.tc : Thread Cert.KernelLossIdeal.nD Cert.KernelLossIdeal.τ).loc Cert.KernelLossIdeal.main_v0_3)) (v4 : (c : Dev Cert.KernelLossIdeal.nD) → Buf (Elt Ideal) ((c.tc : Thread Cert.KernelLossIdeal.nD Cert.KernelLossIdeal.τ).loc Cert.KernelLossIdeal.main_v0_4)) (v5 : (c : Dev Cert.KernelLossIdeal.nD) → Buf (Elt Ideal) ((c.tc : Thread Cert.KernelLossIdeal.nD Cert.KernelLossIdeal.τ).loc Cert.KernelLossIdeal.main_v0_5)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_v0_3) = v3 c
          ∧ r.2.mem ((c.tc : Thread Cert.KernelLossIdeal.nD Cert.KernelLossIdeal.τ).loc Cert.KernelLossIdeal.main_v0_4) = v4 c
          ∧ r.2.mem ((c.tc : Thread Cert.KernelLossIdeal.nD Cert.KernelLossIdeal.τ).loc Cert.KernelLossIdeal.main_v0_5) = v5 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
          ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
          ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6)
          ∧ r.2.mem ((c.tc : Thread Cert.KernelLossIdeal.nD Cert.KernelLossIdeal.τ).loc Cert.KernelLossIdeal.main_arg7) = m ((c.tc : Thread Cert.KernelLossIdeal.nD Cert.KernelLossIdeal.τ).loc Cert.KernelLossIdeal.main_arg7)
          ∧ r.2.mem ((c.tc : Thread Cert.KernelLossIdeal.nD Cert.KernelLossIdeal.τ).loc Cert.KernelLossIdeal.main_arg8) = m ((c.tc : Thread Cert.KernelLossIdeal.nD Cert.KernelLossIdeal.τ).loc Cert.KernelLossIdeal.main_arg8)
          ∧ r.2.mem ((c.tc : Thread Cert.KernelLossIdeal.nD Cert.KernelLossIdeal.τ).loc Cert.KernelLossIdeal.main_arg9) = m ((c.tc : Thread Cert.KernelLossIdeal.nD Cert.KernelLossIdeal.τ).loc Cert.KernelLossIdeal.main_arg9))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v61) = v0 c
          ∧ r.2.mem ((c.tc : Thread Cert.ReferenceLossIdeal.nD Cert.ReferenceLossIdeal.τ).loc Cert.ReferenceLossIdeal.main_v62) = v1 c
          ∧ r.2.mem ((c.tc : Thread Cert.ReferenceLossIdeal.nD Cert.ReferenceLossIdeal.τ).loc Cert.ReferenceLossIdeal.main_v63) = v2 c
          ∧ r.2.mem ((c.tc : Thread Cert.ReferenceLossIdeal.nD Cert.ReferenceLossIdeal.τ).loc Cert.ReferenceLossIdeal.main_v30) = v3 c
          ∧ r.2.mem ((c.tc : Thread Cert.ReferenceLossIdeal.nD Cert.ReferenceLossIdeal.τ).loc Cert.ReferenceLossIdeal.main_v60) = v4 c
          ∧ r.2.mem ((c.tc : Thread Cert.ReferenceLossIdeal.nD Cert.ReferenceLossIdeal.τ).loc Cert.ReferenceLossIdeal.main_v64) = v5 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4)
          ∧ r.2.mem ((c.tc : Thread Cert.ReferenceLossIdeal.nD Cert.ReferenceLossIdeal.τ).loc Cert.ReferenceLossIdeal.main_arg5) = m' ((c.tc : Thread Cert.ReferenceLossIdeal.nD Cert.ReferenceLossIdeal.τ).loc Cert.ReferenceLossIdeal.main_arg5)
          ∧ r.2.mem ((c.tc : Thread Cert.ReferenceLossIdeal.nD Cert.ReferenceLossIdeal.τ).loc Cert.ReferenceLossIdeal.main_arg6) = m' ((c.tc : Thread Cert.ReferenceLossIdeal.nD Cert.ReferenceLossIdeal.τ).loc Cert.ReferenceLossIdeal.main_arg6)
          ∧ r.2.mem ((c.tc : Thread Cert.ReferenceLossIdeal.nD Cert.ReferenceLossIdeal.τ).loc Cert.ReferenceLossIdeal.main_arg7) = m' ((c.tc : Thread Cert.ReferenceLossIdeal.nD Cert.ReferenceLossIdeal.τ).loc Cert.ReferenceLossIdeal.main_arg7)
          ∧ r.2.mem ((c.tc : Thread Cert.ReferenceLossIdeal.nD Cert.ReferenceLossIdeal.τ).loc Cert.ReferenceLossIdeal.main_arg8) = m' ((c.tc : Thread Cert.ReferenceLossIdeal.nD Cert.ReferenceLossIdeal.τ).loc Cert.ReferenceLossIdeal.main_arg8)
          ∧ r.2.mem ((c.tc : Thread Cert.ReferenceLossIdeal.nD Cert.ReferenceLossIdeal.τ).loc Cert.ReferenceLossIdeal.main_arg9) = m' ((c.tc : Thread Cert.ReferenceLossIdeal.nD Cert.ReferenceLossIdeal.τ).loc Cert.ReferenceLossIdeal.main_arg9))

def preserves_KernelUpdate_KernelUpdateIdeal : Prop :=
  True

def algebraic_KernelUpdateIdeal_ReferenceUpdateIdeal [hKernelUpdateIdeal : Cert.KernelUpdateIdeal.Facts] [hReferenceUpdateIdeal : Cert.ReferenceUpdateIdeal.Facts] : Prop :=
  ∀ (m : (ℓ : Loc Cert.KernelUpdateIdeal.nD Cert.KernelUpdateIdeal.τ Cert.KernelUpdateIdeal.sig) → Buf (Elt Ideal) ℓ) (g : Dev Cert.KernelUpdateIdeal.nD → PrngReg)
    (m' : (ℓ : Loc Cert.ReferenceUpdateIdeal.nD Cert.ReferenceUpdateIdeal.τ Cert.ReferenceUpdateIdeal.sig) → Buf (Elt Ideal) ℓ) (g' : Dev Cert.ReferenceUpdateIdeal.nD → PrngReg), Pre_KernelUpdateIdeal m →
    (∀ c : Dev Cert.KernelUpdateIdeal.nD,
      m' ((c.tc : Thread Cert.ReferenceUpdateIdeal.nD Cert.ReferenceUpdateIdeal.τ).loc Cert.ReferenceUpdateIdeal.main_arg0) = m ((c.tc : Thread Cert.KernelUpdateIdeal.nD Cert.KernelUpdateIdeal.τ).loc Cert.KernelUpdateIdeal.main_arg0)
      ∧ m' ((c.tc : Thread Cert.ReferenceUpdateIdeal.nD Cert.ReferenceUpdateIdeal.τ).loc Cert.ReferenceUpdateIdeal.main_arg1) = m ((c.tc : Thread Cert.KernelUpdateIdeal.nD Cert.KernelUpdateIdeal.τ).loc Cert.KernelUpdateIdeal.main_arg1)
      ∧ m' ((c.tc : Thread Cert.ReferenceUpdateIdeal.nD Cert.ReferenceUpdateIdeal.τ).loc Cert.ReferenceUpdateIdeal.main_arg2) = m ((c.tc : Thread Cert.KernelUpdateIdeal.nD Cert.KernelUpdateIdeal.τ).loc Cert.KernelUpdateIdeal.main_arg2)
      ∧ m' ((c.tc : Thread Cert.ReferenceUpdateIdeal.nD Cert.ReferenceUpdateIdeal.τ).loc Cert.ReferenceUpdateIdeal.main_arg3) = m ((c.tc : Thread Cert.KernelUpdateIdeal.nD Cert.KernelUpdateIdeal.τ).loc Cert.KernelUpdateIdeal.main_arg3)) →
    ∃ (v0 : (c : Dev Cert.KernelUpdateIdeal.nD) → Buf (Elt Ideal) ((c.tc : Thread Cert.KernelUpdateIdeal.nD Cert.KernelUpdateIdeal.τ).loc Cert.KernelUpdateIdeal.main_v0_0)) (v1 : (c : Dev Cert.KernelUpdateIdeal.nD) → Buf (Elt Ideal) ((c.tc : Thread Cert.KernelUpdateIdeal.nD Cert.KernelUpdateIdeal.τ).loc Cert.KernelUpdateIdeal.main_v0_1)) (v2 : (c : Dev Cert.KernelUpdateIdeal.nD) → Buf (Elt Ideal) ((c.tc : Thread Cert.KernelUpdateIdeal.nD Cert.KernelUpdateIdeal.τ).loc Cert.KernelUpdateIdeal.main_v0_2)) (v3 : (c : Dev Cert.KernelUpdateIdeal.nD) → Buf (Elt Ideal) ((c.tc : Thread Cert.KernelUpdateIdeal.nD Cert.KernelUpdateIdeal.τ).loc Cert.KernelUpdateIdeal.main_v0_3)),
      θ_run (Cert.KernelUpdateIdeal.defs (F := Ideal)) (onTc (τ := Cert.KernelUpdateIdeal.τ) (Cert.KernelUpdateIdeal.main (F := Ideal))) ⟨m, fun _ => 0, g⟩ (fun r => ∀ c : Dev Cert.KernelUpdateIdeal.nD,
          r.2.mem ((c.tc : Thread Cert.KernelUpdateIdeal.nD Cert.KernelUpdateIdeal.τ).loc Cert.KernelUpdateIdeal.main_v0_0) = v0 c
          ∧ r.2.mem ((c.tc : Thread Cert.KernelUpdateIdeal.nD Cert.KernelUpdateIdeal.τ).loc Cert.KernelUpdateIdeal.main_v0_1) = v1 c
          ∧ r.2.mem ((c.tc : Thread Cert.KernelUpdateIdeal.nD Cert.KernelUpdateIdeal.τ).loc Cert.KernelUpdateIdeal.main_v0_2) = v2 c
          ∧ r.2.mem ((c.tc : Thread Cert.KernelUpdateIdeal.nD Cert.KernelUpdateIdeal.τ).loc Cert.KernelUpdateIdeal.main_v0_3) = v3 c
          ∧ r.2.mem ((c.tc : Thread Cert.KernelUpdateIdeal.nD Cert.KernelUpdateIdeal.τ).loc Cert.KernelUpdateIdeal.main_arg0) = m ((c.tc : Thread Cert.KernelUpdateIdeal.nD Cert.KernelUpdateIdeal.τ).loc Cert.KernelUpdateIdeal.main_arg0)
          ∧ r.2.mem ((c.tc : Thread Cert.KernelUpdateIdeal.nD Cert.KernelUpdateIdeal.τ).loc Cert.KernelUpdateIdeal.main_arg1) = m ((c.tc : Thread Cert.KernelUpdateIdeal.nD Cert.KernelUpdateIdeal.τ).loc Cert.KernelUpdateIdeal.main_arg1)
          ∧ r.2.mem ((c.tc : Thread Cert.KernelUpdateIdeal.nD Cert.KernelUpdateIdeal.τ).loc Cert.KernelUpdateIdeal.main_arg2) = m ((c.tc : Thread Cert.KernelUpdateIdeal.nD Cert.KernelUpdateIdeal.τ).loc Cert.KernelUpdateIdeal.main_arg2)
          ∧ r.2.mem ((c.tc : Thread Cert.KernelUpdateIdeal.nD Cert.KernelUpdateIdeal.τ).loc Cert.KernelUpdateIdeal.main_arg3) = m ((c.tc : Thread Cert.KernelUpdateIdeal.nD Cert.KernelUpdateIdeal.τ).loc Cert.KernelUpdateIdeal.main_arg3))
      ∧ θ_run (Cert.ReferenceUpdateIdeal.defs (F := Ideal)) (onTc (τ := Cert.ReferenceUpdateIdeal.τ) (Cert.ReferenceUpdateIdeal.main (F := Ideal))) ⟨m', fun _ => 0, g'⟩ (fun r => ∀ c : Dev Cert.ReferenceUpdateIdeal.nD,
          r.2.mem ((c.tc : Thread Cert.ReferenceUpdateIdeal.nD Cert.ReferenceUpdateIdeal.τ).loc Cert.ReferenceUpdateIdeal.main_v23) = v0 c
          ∧ r.2.mem ((c.tc : Thread Cert.ReferenceUpdateIdeal.nD Cert.ReferenceUpdateIdeal.τ).loc Cert.ReferenceUpdateIdeal.main_v4) = v1 c
          ∧ r.2.mem ((c.tc : Thread Cert.ReferenceUpdateIdeal.nD Cert.ReferenceUpdateIdeal.τ).loc Cert.ReferenceUpdateIdeal.main_v10) = v2 c
          ∧ r.2.mem ((c.tc : Thread Cert.ReferenceUpdateIdeal.nD Cert.ReferenceUpdateIdeal.τ).loc Cert.ReferenceUpdateIdeal.main_arg1) = v3 c
          ∧ r.2.mem ((c.tc : Thread Cert.ReferenceUpdateIdeal.nD Cert.ReferenceUpdateIdeal.τ).loc Cert.ReferenceUpdateIdeal.main_arg0) = m' ((c.tc : Thread Cert.ReferenceUpdateIdeal.nD Cert.ReferenceUpdateIdeal.τ).loc Cert.ReferenceUpdateIdeal.main_arg0)
          ∧ r.2.mem ((c.tc : Thread Cert.ReferenceUpdateIdeal.nD Cert.ReferenceUpdateIdeal.τ).loc Cert.ReferenceUpdateIdeal.main_arg1) = m' ((c.tc : Thread Cert.ReferenceUpdateIdeal.nD Cert.ReferenceUpdateIdeal.τ).loc Cert.ReferenceUpdateIdeal.main_arg1)
          ∧ r.2.mem ((c.tc : Thread Cert.ReferenceUpdateIdeal.nD Cert.ReferenceUpdateIdeal.τ).loc Cert.ReferenceUpdateIdeal.main_arg2) = m' ((c.tc : Thread Cert.ReferenceUpdateIdeal.nD Cert.ReferenceUpdateIdeal.τ).loc Cert.ReferenceUpdateIdeal.main_arg2)
          ∧ r.2.mem ((c.tc : Thread Cert.ReferenceUpdateIdeal.nD Cert.ReferenceUpdateIdeal.τ).loc Cert.ReferenceUpdateIdeal.main_arg3) = m' ((c.tc : Thread Cert.ReferenceUpdateIdeal.nD Cert.ReferenceUpdateIdeal.τ).loc Cert.ReferenceUpdateIdeal.main_arg3))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)
      ∧ m' ((c.tc : Thread Cert.ReferenceAdaIdeal.nD Cert.ReferenceAdaIdeal.τ).loc Cert.ReferenceAdaIdeal.main_arg3) = m ((c.tc : Thread Cert.KernelAdaIdeal.nD Cert.KernelAdaIdeal.τ).loc Cert.KernelAdaIdeal.main_arg3)) →
    ∃ (v0 : (c : Dev Cert.KernelAdaIdeal.nD) → Buf (Elt Ideal) ((c.tc : Thread Cert.KernelAdaIdeal.nD Cert.KernelAdaIdeal.τ).loc Cert.KernelAdaIdeal.main_v0_0)) (v1 : (c : Dev Cert.KernelAdaIdeal.nD) → Buf (Elt Ideal) ((c.tc : Thread Cert.KernelAdaIdeal.nD Cert.KernelAdaIdeal.τ).loc Cert.KernelAdaIdeal.main_v0_1)) (v2 : (c : Dev Cert.KernelAdaIdeal.nD) → Buf (Elt Ideal) ((c.tc : Thread Cert.KernelAdaIdeal.nD Cert.KernelAdaIdeal.τ).loc Cert.KernelAdaIdeal.main_v0_2)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v0_0) = v0 c
          ∧ r.2.mem ((c.tc : Thread Cert.KernelAdaIdeal.nD Cert.KernelAdaIdeal.τ).loc Cert.KernelAdaIdeal.main_v0_1) = v1 c
          ∧ r.2.mem ((c.tc : Thread Cert.KernelAdaIdeal.nD Cert.KernelAdaIdeal.τ).loc Cert.KernelAdaIdeal.main_v0_2) = v2 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
          ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v23) = v0 c
          ∧ r.2.mem ((c.tc : Thread Cert.ReferenceAdaIdeal.nD Cert.ReferenceAdaIdeal.τ).loc Cert.ReferenceAdaIdeal.main_v4) = v1 c
          ∧ r.2.mem ((c.tc : Thread Cert.ReferenceAdaIdeal.nD Cert.ReferenceAdaIdeal.τ).loc Cert.ReferenceAdaIdeal.main_v10) = v2 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2)
          ∧ r.2.mem ((c.tc : Thread Cert.ReferenceAdaIdeal.nD Cert.ReferenceAdaIdeal.τ).loc Cert.ReferenceAdaIdeal.main_arg3) = m' ((c.tc : Thread Cert.ReferenceAdaIdeal.nD Cert.ReferenceAdaIdeal.τ).loc Cert.ReferenceAdaIdeal.main_arg3))

def preserves_KernelMany_KernelManyIdeal : Prop :=
  True

def algebraic_KernelManyIdeal_ReferenceManyIdeal [hKernelManyIdeal : Cert.KernelManyIdeal.Facts] [hReferenceManyIdeal : Cert.ReferenceManyIdeal.Facts] : Prop :=
  ∀ (m : (ℓ : Loc Cert.KernelManyIdeal.nD Cert.KernelManyIdeal.τ Cert.KernelManyIdeal.sig) → Buf (Elt Ideal) ℓ) (g : Dev Cert.KernelManyIdeal.nD → PrngReg)
    (m' : (ℓ : Loc Cert.ReferenceManyIdeal.nD Cert.ReferenceManyIdeal.τ Cert.ReferenceManyIdeal.sig) → Buf (Elt Ideal) ℓ) (g' : Dev Cert.ReferenceManyIdeal.nD → PrngReg), Pre_KernelManyIdeal m →
    (∀ c : Dev Cert.KernelManyIdeal.nD,
      m' ((c.tc : Thread Cert.ReferenceManyIdeal.nD Cert.ReferenceManyIdeal.τ).loc Cert.ReferenceManyIdeal.main_arg0) = m ((c.tc : Thread Cert.KernelManyIdeal.nD Cert.KernelManyIdeal.τ).loc Cert.KernelManyIdeal.main_arg0)
      ∧ m' ((c.tc : Thread Cert.ReferenceManyIdeal.nD Cert.ReferenceManyIdeal.τ).loc Cert.ReferenceManyIdeal.main_arg1) = m ((c.tc : Thread Cert.KernelManyIdeal.nD Cert.KernelManyIdeal.τ).loc Cert.KernelManyIdeal.main_arg1)
      ∧ m' ((c.tc : Thread Cert.ReferenceManyIdeal.nD Cert.ReferenceManyIdeal.τ).loc Cert.ReferenceManyIdeal.main_arg2) = m ((c.tc : Thread Cert.KernelManyIdeal.nD Cert.KernelManyIdeal.τ).loc Cert.KernelManyIdeal.main_arg2)
      ∧ m' ((c.tc : Thread Cert.ReferenceManyIdeal.nD Cert.ReferenceManyIdeal.τ).loc Cert.ReferenceManyIdeal.main_arg3) = m ((c.tc : Thread Cert.KernelManyIdeal.nD Cert.KernelManyIdeal.τ).loc Cert.KernelManyIdeal.main_arg3)
      ∧ m' ((c.tc : Thread Cert.ReferenceManyIdeal.nD Cert.ReferenceManyIdeal.τ).loc Cert.ReferenceManyIdeal.main_arg4) = m ((c.tc : Thread Cert.KernelManyIdeal.nD Cert.KernelManyIdeal.τ).loc Cert.KernelManyIdeal.main_arg4)
      ∧ m' ((c.tc : Thread Cert.ReferenceManyIdeal.nD Cert.ReferenceManyIdeal.τ).loc Cert.ReferenceManyIdeal.main_arg5) = m ((c.tc : Thread Cert.KernelManyIdeal.nD Cert.KernelManyIdeal.τ).loc Cert.KernelManyIdeal.main_arg5)
      ∧ m' ((c.tc : Thread Cert.ReferenceManyIdeal.nD Cert.ReferenceManyIdeal.τ).loc Cert.ReferenceManyIdeal.main_arg6) = m ((c.tc : Thread Cert.KernelManyIdeal.nD Cert.KernelManyIdeal.τ).loc Cert.KernelManyIdeal.main_arg6)
      ∧ m' ((c.tc : Thread Cert.ReferenceManyIdeal.nD Cert.ReferenceManyIdeal.τ).loc Cert.ReferenceManyIdeal.main_arg7) = m ((c.tc : Thread Cert.KernelManyIdeal.nD Cert.KernelManyIdeal.τ).loc Cert.KernelManyIdeal.main_arg7)
      ∧ m' ((c.tc : Thread Cert.ReferenceManyIdeal.nD Cert.ReferenceManyIdeal.τ).loc Cert.ReferenceManyIdeal.main_arg8) = m ((c.tc : Thread Cert.KernelManyIdeal.nD Cert.KernelManyIdeal.τ).loc Cert.KernelManyIdeal.main_arg8)
      ∧ m' ((c.tc : Thread Cert.ReferenceManyIdeal.nD Cert.ReferenceManyIdeal.τ).loc Cert.ReferenceManyIdeal.main_arg9) = m ((c.tc : Thread Cert.KernelManyIdeal.nD Cert.KernelManyIdeal.τ).loc Cert.KernelManyIdeal.main_arg9)
      ∧ m' ((c.tc : Thread Cert.ReferenceManyIdeal.nD Cert.ReferenceManyIdeal.τ).loc Cert.ReferenceManyIdeal.main_arg10) = m ((c.tc : Thread Cert.KernelManyIdeal.nD Cert.KernelManyIdeal.τ).loc Cert.KernelManyIdeal.main_arg10)
      ∧ m' ((c.tc : Thread Cert.ReferenceManyIdeal.nD Cert.ReferenceManyIdeal.τ).loc Cert.ReferenceManyIdeal.main_arg11) = m ((c.tc : Thread Cert.KernelManyIdeal.nD Cert.KernelManyIdeal.τ).loc Cert.KernelManyIdeal.main_arg11)) →
    ∃ (v0 : (c : Dev Cert.KernelManyIdeal.nD) → Buf (Elt Ideal) ((c.tc : Thread Cert.KernelManyIdeal.nD Cert.KernelManyIdeal.τ).loc Cert.KernelManyIdeal.main_v0_0)) (v1 : (c : Dev Cert.KernelManyIdeal.nD) → Buf (Elt Ideal) ((c.tc : Thread Cert.KernelManyIdeal.nD Cert.KernelManyIdeal.τ).loc Cert.KernelManyIdeal.main_v0_1)) (v2 : (c : Dev Cert.KernelManyIdeal.nD) → Buf (Elt Ideal) ((c.tc : Thread Cert.KernelManyIdeal.nD Cert.KernelManyIdeal.τ).loc Cert.KernelManyIdeal.main_v0_2)) (v3 : (c : Dev Cert.KernelManyIdeal.nD) → Buf (Elt Ideal) ((c.tc : Thread Cert.KernelManyIdeal.nD Cert.KernelManyIdeal.τ).loc Cert.KernelManyIdeal.main_v0_3)) (v4 : (c : Dev Cert.KernelManyIdeal.nD) → Buf (Elt Ideal) ((c.tc : Thread Cert.KernelManyIdeal.nD Cert.KernelManyIdeal.τ).loc Cert.KernelManyIdeal.main_v0_4)) (v5 : (c : Dev Cert.KernelManyIdeal.nD) → Buf (Elt Ideal) ((c.tc : Thread Cert.KernelManyIdeal.nD Cert.KernelManyIdeal.τ).loc Cert.KernelManyIdeal.main_v0_5)) (v6 : (c : Dev Cert.KernelManyIdeal.nD) → Buf (Elt Ideal) ((c.tc : Thread Cert.KernelManyIdeal.nD Cert.KernelManyIdeal.τ).loc Cert.KernelManyIdeal.main_v0_6)) (v7 : (c : Dev Cert.KernelManyIdeal.nD) → Buf (Elt Ideal) ((c.tc : Thread Cert.KernelManyIdeal.nD Cert.KernelManyIdeal.τ).loc Cert.KernelManyIdeal.main_v0_7)) (v8 : (c : Dev Cert.KernelManyIdeal.nD) → Buf (Elt Ideal) ((c.tc : Thread Cert.KernelManyIdeal.nD Cert.KernelManyIdeal.τ).loc Cert.KernelManyIdeal.main_v0_8)) (v9 : (c : Dev Cert.KernelManyIdeal.nD) → Buf (Elt Ideal) ((c.tc : Thread Cert.KernelManyIdeal.nD Cert.KernelManyIdeal.τ).loc Cert.KernelManyIdeal.main_v0_9)) (v10 : (c : Dev Cert.KernelManyIdeal.nD) → Buf (Elt Ideal) ((c.tc : Thread Cert.KernelManyIdeal.nD Cert.KernelManyIdeal.τ).loc Cert.KernelManyIdeal.main_v0_10)) (v11 : (c : Dev Cert.KernelManyIdeal.nD) → Buf (Elt Ideal) ((c.tc : Thread Cert.KernelManyIdeal.nD Cert.KernelManyIdeal.τ).loc Cert.KernelManyIdeal.main_v0_11)),
      θ_run (Cert.KernelManyIdeal.defs (F := Ideal)) (onTc (τ := Cert.KernelManyIdeal.τ) (Cert.KernelManyIdeal.main (F := Ideal))) ⟨m, fun _ => 0, g⟩ (fun r => ∀ c : Dev Cert.KernelManyIdeal.nD,
          r.2.mem ((c.tc : Thread Cert.KernelManyIdeal.nD Cert.KernelManyIdeal.τ).loc Cert.KernelManyIdeal.main_v0_0) = v0 c
          ∧ r.2.mem ((c.tc : Thread Cert.KernelManyIdeal.nD Cert.KernelManyIdeal.τ).loc Cert.KernelManyIdeal.main_v0_1) = v1 c
          ∧ r.2.mem ((c.tc : Thread Cert.KernelManyIdeal.nD Cert.KernelManyIdeal.τ).loc Cert.KernelManyIdeal.main_v0_2) = v2 c
          ∧ r.2.mem ((c.tc : Thread Cert.KernelManyIdeal.nD Cert.KernelManyIdeal.τ).loc Cert.KernelManyIdeal.main_v0_3) = v3 c
          ∧ r.2.mem ((c.tc : Thread Cert.KernelManyIdeal.nD Cert.KernelManyIdeal.τ).loc Cert.KernelManyIdeal.main_v0_4) = v4 c
          ∧ r.2.mem ((c.tc : Thread Cert.KernelManyIdeal.nD Cert.KernelManyIdeal.τ).loc Cert.KernelManyIdeal.main_v0_5) = v5 c
          ∧ r.2.mem ((c.tc : Thread Cert.KernelManyIdeal.nD Cert.KernelManyIdeal.τ).loc Cert.KernelManyIdeal.main_v0_6) = v6 c
          ∧ r.2.mem ((c.tc : Thread Cert.KernelManyIdeal.nD Cert.KernelManyIdeal.τ).loc Cert.KernelManyIdeal.main_v0_7) = v7 c
          ∧ r.2.mem ((c.tc : Thread Cert.KernelManyIdeal.nD Cert.KernelManyIdeal.τ).loc Cert.KernelManyIdeal.main_v0_8) = v8 c
          ∧ r.2.mem ((c.tc : Thread Cert.KernelManyIdeal.nD Cert.KernelManyIdeal.τ).loc Cert.KernelManyIdeal.main_v0_9) = v9 c
          ∧ r.2.mem ((c.tc : Thread Cert.KernelManyIdeal.nD Cert.KernelManyIdeal.τ).loc Cert.KernelManyIdeal.main_v0_10) = v10 c
          ∧ r.2.mem ((c.tc : Thread Cert.KernelManyIdeal.nD Cert.KernelManyIdeal.τ).loc Cert.KernelManyIdeal.main_v0_11) = v11 c
          ∧ r.2.mem ((c.tc : Thread Cert.KernelManyIdeal.nD Cert.KernelManyIdeal.τ).loc Cert.KernelManyIdeal.main_arg0) = m ((c.tc : Thread Cert.KernelManyIdeal.nD Cert.KernelManyIdeal.τ).loc Cert.KernelManyIdeal.main_arg0)
          ∧ r.2.mem ((c.tc : Thread Cert.KernelManyIdeal.nD Cert.KernelManyIdeal.τ).loc Cert.KernelManyIdeal.main_arg1) = m ((c.tc : Thread Cert.KernelManyIdeal.nD Cert.KernelManyIdeal.τ).loc Cert.KernelManyIdeal.main_arg1)
          ∧ r.2.mem ((c.tc : Thread Cert.KernelManyIdeal.nD Cert.KernelManyIdeal.τ).loc Cert.KernelManyIdeal.main_arg2) = m ((c.tc : Thread Cert.KernelManyIdeal.nD Cert.KernelManyIdeal.τ).loc Cert.KernelManyIdeal.main_arg2)
          ∧ r.2.mem ((c.tc : Thread Cert.KernelManyIdeal.nD Cert.KernelManyIdeal.τ).loc Cert.KernelManyIdeal.main_arg3) = m ((c.tc : Thread Cert.KernelManyIdeal.nD Cert.KernelManyIdeal.τ).loc Cert.KernelManyIdeal.main_arg3)
          ∧ r.2.mem ((c.tc : Thread Cert.KernelManyIdeal.nD Cert.KernelManyIdeal.τ).loc Cert.KernelManyIdeal.main_arg4) = m ((c.tc : Thread Cert.KernelManyIdeal.nD Cert.KernelManyIdeal.τ).loc Cert.KernelManyIdeal.main_arg4)
          ∧ r.2.mem ((c.tc : Thread Cert.KernelManyIdeal.nD Cert.KernelManyIdeal.τ).loc Cert.KernelManyIdeal.main_arg5) = m ((c.tc : Thread Cert.KernelManyIdeal.nD Cert.KernelManyIdeal.τ).loc Cert.KernelManyIdeal.main_arg5)
          ∧ r.2.mem ((c.tc : Thread Cert.KernelManyIdeal.nD Cert.KernelManyIdeal.τ).loc Cert.KernelManyIdeal.main_arg6) = m ((c.tc : Thread Cert.KernelManyIdeal.nD Cert.KernelManyIdeal.τ).loc Cert.KernelManyIdeal.main_arg6)
          ∧ r.2.mem ((c.tc : Thread Cert.KernelManyIdeal.nD Cert.KernelManyIdeal.τ).loc Cert.KernelManyIdeal.main_arg7) = m ((c.tc : Thread Cert.KernelManyIdeal.nD Cert.KernelManyIdeal.τ).loc Cert.KernelManyIdeal.main_arg7)
          ∧ r.2.mem ((c.tc : Thread Cert.KernelManyIdeal.nD Cert.KernelManyIdeal.τ).loc Cert.KernelManyIdeal.main_arg8) = m ((c.tc : Thread Cert.KernelManyIdeal.nD Cert.KernelManyIdeal.τ).loc Cert.KernelManyIdeal.main_arg8)
          ∧ r.2.mem ((c.tc : Thread Cert.KernelManyIdeal.nD Cert.KernelManyIdeal.τ).loc Cert.KernelManyIdeal.main_arg9) = m ((c.tc : Thread Cert.KernelManyIdeal.nD Cert.KernelManyIdeal.τ).loc Cert.KernelManyIdeal.main_arg9)
          ∧ r.2.mem ((c.tc : Thread Cert.KernelManyIdeal.nD Cert.KernelManyIdeal.τ).loc Cert.KernelManyIdeal.main_arg10) = m ((c.tc : Thread Cert.KernelManyIdeal.nD Cert.KernelManyIdeal.τ).loc Cert.KernelManyIdeal.main_arg10)
          ∧ r.2.mem ((c.tc : Thread Cert.KernelManyIdeal.nD Cert.KernelManyIdeal.τ).loc Cert.KernelManyIdeal.main_arg11) = m ((c.tc : Thread Cert.KernelManyIdeal.nD Cert.KernelManyIdeal.τ).loc Cert.KernelManyIdeal.main_arg11))
      ∧ θ_run (Cert.ReferenceManyIdeal.defs (F := Ideal)) (onTc (τ := Cert.ReferenceManyIdeal.τ) (Cert.ReferenceManyIdeal.main (F := Ideal))) ⟨m', fun _ => 0, g'⟩ (fun r => ∀ c : Dev Cert.ReferenceManyIdeal.nD,
          r.2.mem ((c.tc : Thread Cert.ReferenceManyIdeal.nD Cert.ReferenceManyIdeal.τ).loc Cert.ReferenceManyIdeal.main_v23) = v0 c
          ∧ r.2.mem ((c.tc : Thread Cert.ReferenceManyIdeal.nD Cert.ReferenceManyIdeal.τ).loc Cert.ReferenceManyIdeal.main_v4) = v1 c
          ∧ r.2.mem ((c.tc : Thread Cert.ReferenceManyIdeal.nD Cert.ReferenceManyIdeal.τ).loc Cert.ReferenceManyIdeal.main_v10) = v2 c
          ∧ r.2.mem ((c.tc : Thread Cert.ReferenceManyIdeal.nD Cert.ReferenceManyIdeal.τ).loc Cert.ReferenceManyIdeal.main_arg1) = v3 c
          ∧ r.2.mem ((c.tc : Thread Cert.ReferenceManyIdeal.nD Cert.ReferenceManyIdeal.τ).loc Cert.ReferenceManyIdeal.main_v47) = v4 c
          ∧ r.2.mem ((c.tc : Thread Cert.ReferenceManyIdeal.nD Cert.ReferenceManyIdeal.τ).loc Cert.ReferenceManyIdeal.main_v28) = v5 c
          ∧ r.2.mem ((c.tc : Thread Cert.ReferenceManyIdeal.nD Cert.ReferenceManyIdeal.τ).loc Cert.ReferenceManyIdeal.main_v34) = v6 c
          ∧ r.2.mem ((c.tc : Thread Cert.ReferenceManyIdeal.nD Cert.ReferenceManyIdeal.τ).loc Cert.ReferenceManyIdeal.main_arg5) = v7 c
          ∧ r.2.mem ((c.tc : Thread Cert.ReferenceManyIdeal.nD Cert.ReferenceManyIdeal.τ).loc Cert.ReferenceManyIdeal.main_v71) = v8 c
          ∧ r.2.mem ((c.tc : Thread Cert.ReferenceManyIdeal.nD Cert.ReferenceManyIdeal.τ).loc Cert.ReferenceManyIdeal.main_v52) = v9 c
          ∧ r.2.mem ((c.tc : Thread Cert.ReferenceManyIdeal.nD Cert.ReferenceManyIdeal.τ).loc Cert.ReferenceManyIdeal.main_v58) = v10 c
          ∧ r.2.mem ((c.tc : Thread Cert.ReferenceManyIdeal.nD Cert.ReferenceManyIdeal.τ).loc Cert.ReferenceManyIdeal.main_arg9) = v11 c
          ∧ r.2.mem ((c.tc : Thread Cert.ReferenceManyIdeal.nD Cert.ReferenceManyIdeal.τ).loc Cert.ReferenceManyIdeal.main_arg0) = m' ((c.tc : Thread Cert.ReferenceManyIdeal.nD Cert.ReferenceManyIdeal.τ).loc Cert.ReferenceManyIdeal.main_arg0)
          ∧ r.2.mem ((c.tc : Thread Cert.ReferenceManyIdeal.nD Cert.ReferenceManyIdeal.τ).loc Cert.ReferenceManyIdeal.main_arg1) = m' ((c.tc : Thread Cert.ReferenceManyIdeal.nD Cert.ReferenceManyIdeal.τ).loc Cert.ReferenceManyIdeal.main_arg1)
          ∧ r.2.mem ((c.tc : Thread Cert.ReferenceManyIdeal.nD Cert.ReferenceManyIdeal.τ).loc Cert.ReferenceManyIdeal.main_arg2) = m' ((c.tc : Thread Cert.ReferenceManyIdeal.nD Cert.ReferenceManyIdeal.τ).loc Cert.ReferenceManyIdeal.main_arg2)
          ∧ r.2.mem ((c.tc : Thread Cert.ReferenceManyIdeal.nD Cert.ReferenceManyIdeal.τ).loc Cert.ReferenceManyIdeal.main_arg3) = m' ((c.tc : Thread Cert.ReferenceManyIdeal.nD Cert.ReferenceManyIdeal.τ).loc Cert.ReferenceManyIdeal.main_arg3)
          ∧ r.2.mem ((c.tc : Thread Cert.ReferenceManyIdeal.nD Cert.ReferenceManyIdeal.τ).loc Cert.ReferenceManyIdeal.main_arg4) = m' ((c.tc : Thread Cert.ReferenceManyIdeal.nD Cert.ReferenceManyIdeal.τ).loc Cert.ReferenceManyIdeal.main_arg4)
          ∧ r.2.mem ((c.tc : Thread Cert.ReferenceManyIdeal.nD Cert.ReferenceManyIdeal.τ).loc Cert.ReferenceManyIdeal.main_arg5) = m' ((c.tc : Thread Cert.ReferenceManyIdeal.nD Cert.ReferenceManyIdeal.τ).loc Cert.ReferenceManyIdeal.main_arg5)
          ∧ r.2.mem ((c.tc : Thread Cert.ReferenceManyIdeal.nD Cert.ReferenceManyIdeal.τ).loc Cert.ReferenceManyIdeal.main_arg6) = m' ((c.tc : Thread Cert.ReferenceManyIdeal.nD Cert.ReferenceManyIdeal.τ).loc Cert.ReferenceManyIdeal.main_arg6)
          ∧ r.2.mem ((c.tc : Thread Cert.ReferenceManyIdeal.nD Cert.ReferenceManyIdeal.τ).loc Cert.ReferenceManyIdeal.main_arg7) = m' ((c.tc : Thread Cert.ReferenceManyIdeal.nD Cert.ReferenceManyIdeal.τ).loc Cert.ReferenceManyIdeal.main_arg7)
          ∧ r.2.mem ((c.tc : Thread Cert.ReferenceManyIdeal.nD Cert.ReferenceManyIdeal.τ).loc Cert.ReferenceManyIdeal.main_arg8) = m' ((c.tc : Thread Cert.ReferenceManyIdeal.nD Cert.ReferenceManyIdeal.τ).loc Cert.ReferenceManyIdeal.main_arg8)
          ∧ r.2.mem ((c.tc : Thread Cert.ReferenceManyIdeal.nD Cert.ReferenceManyIdeal.τ).loc Cert.ReferenceManyIdeal.main_arg9) = m' ((c.tc : Thread Cert.ReferenceManyIdeal.nD Cert.ReferenceManyIdeal.τ).loc Cert.ReferenceManyIdeal.main_arg9)
          ∧ r.2.mem ((c.tc : Thread Cert.ReferenceManyIdeal.nD Cert.ReferenceManyIdeal.τ).loc Cert.ReferenceManyIdeal.main_arg10) = m' ((c.tc : Thread Cert.ReferenceManyIdeal.nD Cert.ReferenceManyIdeal.τ).loc Cert.ReferenceManyIdeal.main_arg10)
          ∧ r.2.mem ((c.tc : Thread Cert.ReferenceManyIdeal.nD Cert.ReferenceManyIdeal.τ).loc Cert.ReferenceManyIdeal.main_arg11) = m' ((c.tc : Thread Cert.ReferenceManyIdeal.nD Cert.ReferenceManyIdeal.τ).loc Cert.ReferenceManyIdeal.main_arg11))

def preserves_KernelBounds_KernelBoundsIdeal : Prop :=
  True

def algebraic_KernelBoundsIdeal_ReferenceBoundsIdeal [hKernelBoundsIdeal : Cert.KernelBoundsIdeal.Facts] [hReferenceBoundsIdeal : Cert.ReferenceBoundsIdeal.Facts] : Prop :=
  ∀ (m : (ℓ : Loc Cert.KernelBoundsIdeal.nD Cert.KernelBoundsIdeal.τ Cert.KernelBoundsIdeal.sig) → Buf (Elt Ideal) ℓ) (g : Dev Cert.KernelBoundsIdeal.nD → PrngReg)
    (m' : (ℓ : Loc Cert.ReferenceBoundsIdeal.nD Cert.ReferenceBoundsIdeal.τ Cert.ReferenceBoundsIdeal.sig) → Buf (Elt Ideal) ℓ) (g' : Dev Cert.ReferenceBoundsIdeal.nD → PrngReg), Pre_KernelBoundsIdeal m →
    (∀ c : Dev Cert.KernelBoundsIdeal.nD,
      m' ((c.tc : Thread Cert.ReferenceBoundsIdeal.nD Cert.ReferenceBoundsIdeal.τ).loc Cert.ReferenceBoundsIdeal.main_arg0) = m ((c.tc : Thread Cert.KernelBoundsIdeal.nD Cert.KernelBoundsIdeal.τ).loc Cert.KernelBoundsIdeal.main_arg0)) →
    ∃ (v0 : (c : Dev Cert.KernelBoundsIdeal.nD) → Buf (Elt Ideal) ((c.tc : Thread Cert.KernelBoundsIdeal.nD Cert.KernelBoundsIdeal.τ).loc Cert.KernelBoundsIdeal.main_v0)),
      θ_run (Cert.KernelBoundsIdeal.defs (F := Ideal)) (onTc (τ := Cert.KernelBoundsIdeal.τ) (Cert.KernelBoundsIdeal.main (F := Ideal))) ⟨m, fun _ => 0, g⟩ (fun r => ∀ c : Dev Cert.KernelBoundsIdeal.nD,
          r.2.mem ((c.tc : Thread Cert.KernelBoundsIdeal.nD Cert.KernelBoundsIdeal.τ).loc Cert.KernelBoundsIdeal.main_v0) = v0 c
          ∧ r.2.mem ((c.tc : Thread Cert.KernelBoundsIdeal.nD Cert.KernelBoundsIdeal.τ).loc Cert.KernelBoundsIdeal.main_arg0) = m ((c.tc : Thread Cert.KernelBoundsIdeal.nD Cert.KernelBoundsIdeal.τ).loc Cert.KernelBoundsIdeal.main_arg0))
      ∧ θ_run (Cert.ReferenceBoundsIdeal.defs (F := Ideal)) (onTc (τ := Cert.ReferenceBoundsIdeal.τ) (Cert.ReferenceBoundsIdeal.main (F := Ideal))) ⟨m', fun _ => 0, g'⟩ (fun r => ∀ c : Dev Cert.ReferenceBoundsIdeal.nD,
          r.2.mem ((c.tc : Thread Cert.ReferenceBoundsIdeal.nD Cert.ReferenceBoundsIdeal.τ).loc Cert.ReferenceBoundsIdeal.main_v15) = v0 c
          ∧ r.2.mem ((c.tc : Thread Cert.ReferenceBoundsIdeal.nD Cert.ReferenceBoundsIdeal.τ).loc Cert.ReferenceBoundsIdeal.main_arg0) = m' ((c.tc : Thread Cert.ReferenceBoundsIdeal.nD Cert.ReferenceBoundsIdeal.τ).loc Cert.ReferenceBoundsIdeal.main_arg0))

def preserves_KernelCond_KernelCondIdeal : Prop :=
  True

def algebraic_KernelCondIdeal_ReferenceCondIdeal [hKernelCondIdeal : Cert.KernelCondIdeal.Facts] [hReferenceCondIdeal : Cert.ReferenceCondIdeal.Facts] : Prop :=
  ∀ (m : (ℓ : Loc Cert.KernelCondIdeal.nD Cert.KernelCondIdeal.τ Cert.KernelCondIdeal.sig) → Buf (Elt Ideal) ℓ) (g : Dev Cert.KernelCondIdeal.nD → PrngReg)
    (m' : (ℓ : Loc Cert.ReferenceCondIdeal.nD Cert.ReferenceCondIdeal.τ Cert.ReferenceCondIdeal.sig) → Buf (Elt Ideal) ℓ) (g' : Dev Cert.ReferenceCondIdeal.nD → PrngReg), Pre_KernelCondIdeal m →
    (∀ c : Dev Cert.KernelCondIdeal.nD,
      m' ((c.tc : Thread Cert.ReferenceCondIdeal.nD Cert.ReferenceCondIdeal.τ).loc Cert.ReferenceCondIdeal.main_arg0) = m ((c.tc : Thread Cert.KernelCondIdeal.nD Cert.KernelCondIdeal.τ).loc Cert.KernelCondIdeal.main_arg0)
      ∧ m' ((c.tc : Thread Cert.ReferenceCondIdeal.nD Cert.ReferenceCondIdeal.τ).loc Cert.ReferenceCondIdeal.main_arg1) = m ((c.tc : Thread Cert.KernelCondIdeal.nD Cert.KernelCondIdeal.τ).loc Cert.KernelCondIdeal.main_arg1)
      ∧ m' ((c.tc : Thread Cert.ReferenceCondIdeal.nD Cert.ReferenceCondIdeal.τ).loc Cert.ReferenceCondIdeal.main_arg2) = m ((c.tc : Thread Cert.KernelCondIdeal.nD Cert.KernelCondIdeal.τ).loc Cert.KernelCondIdeal.main_arg2)) →
    ∃ (v0 : (c : Dev Cert.KernelCondIdeal.nD) → Buf (Elt Ideal) ((c.tc : Thread Cert.KernelCondIdeal.nD Cert.KernelCondIdeal.τ).loc Cert.KernelCondIdeal.main_v1)),
      θ_run (Cert.KernelCondIdeal.defs (F := Ideal)) (onTc (τ := Cert.KernelCondIdeal.τ) (Cert.KernelCondIdeal.main (F := Ideal))) ⟨m, fun _ => 0, g⟩ (fun r => ∀ c : Dev Cert.KernelCondIdeal.nD,
          r.2.mem ((c.tc : Thread Cert.KernelCondIdeal.nD Cert.KernelCondIdeal.τ).loc Cert.KernelCondIdeal.main_v1) = v0 c
          ∧ r.2.mem ((c.tc : Thread Cert.KernelCondIdeal.nD Cert.KernelCondIdeal.τ).loc Cert.KernelCondIdeal.main_arg0) = m ((c.tc : Thread Cert.KernelCondIdeal.nD Cert.KernelCondIdeal.τ).loc Cert.KernelCondIdeal.main_arg0)
          ∧ r.2.mem ((c.tc : Thread Cert.KernelCondIdeal.nD Cert.KernelCondIdeal.τ).loc Cert.KernelCondIdeal.main_arg1) = m ((c.tc : Thread Cert.KernelCondIdeal.nD Cert.KernelCondIdeal.τ).loc Cert.KernelCondIdeal.main_arg1)
          ∧ r.2.mem ((c.tc : Thread Cert.KernelCondIdeal.nD Cert.KernelCondIdeal.τ).loc Cert.KernelCondIdeal.main_arg2) = m ((c.tc : Thread Cert.KernelCondIdeal.nD Cert.KernelCondIdeal.τ).loc Cert.KernelCondIdeal.main_arg2))
      ∧ θ_run (Cert.ReferenceCondIdeal.defs (F := Ideal)) (onTc (τ := Cert.ReferenceCondIdeal.τ) (Cert.ReferenceCondIdeal.main (F := Ideal))) ⟨m', fun _ => 0, g'⟩ (fun r => ∀ c : Dev Cert.ReferenceCondIdeal.nD,
          r.2.mem ((c.tc : Thread Cert.ReferenceCondIdeal.nD Cert.ReferenceCondIdeal.τ).loc Cert.ReferenceCondIdeal.main_v17) = v0 c
          ∧ r.2.mem ((c.tc : Thread Cert.ReferenceCondIdeal.nD Cert.ReferenceCondIdeal.τ).loc Cert.ReferenceCondIdeal.main_arg0) = m' ((c.tc : Thread Cert.ReferenceCondIdeal.nD Cert.ReferenceCondIdeal.τ).loc Cert.ReferenceCondIdeal.main_arg0)
          ∧ r.2.mem ((c.tc : Thread Cert.ReferenceCondIdeal.nD Cert.ReferenceCondIdeal.τ).loc Cert.ReferenceCondIdeal.main_arg1) = m' ((c.tc : Thread Cert.ReferenceCondIdeal.nD Cert.ReferenceCondIdeal.τ).loc Cert.ReferenceCondIdeal.main_arg1)
          ∧ r.2.mem ((c.tc : Thread Cert.ReferenceCondIdeal.nD Cert.ReferenceCondIdeal.τ).loc Cert.ReferenceCondIdeal.main_arg2) = m' ((c.tc : Thread Cert.ReferenceCondIdeal.nD Cert.ReferenceCondIdeal.τ).loc Cert.ReferenceCondIdeal.main_arg2))

def preserves_KernelCondGrad_KernelCondGradIdeal : Prop :=
  True

def algebraic_KernelCondGradIdeal_ReferenceCondGradIdeal [hKernelCondGradIdeal : Cert.KernelCondGradIdeal.Facts] [hReferenceCondGradIdeal : Cert.ReferenceCondGradIdeal.Facts] : Prop :=
  ∀ (m : (ℓ : Loc Cert.KernelCondGradIdeal.nD Cert.KernelCondGradIdeal.τ Cert.KernelCondGradIdeal.sig) → Buf (Elt Ideal) ℓ) (g : Dev Cert.KernelCondGradIdeal.nD → PrngReg)
    (m' : (ℓ : Loc Cert.ReferenceCondGradIdeal.nD Cert.ReferenceCondGradIdeal.τ Cert.ReferenceCondGradIdeal.sig) → Buf (Elt Ideal) ℓ) (g' : Dev Cert.ReferenceCondGradIdeal.nD → PrngReg), Pre_KernelCondGradIdeal m →
    (∀ c : Dev Cert.KernelCondGradIdeal.nD,
      m' ((c.tc : Thread Cert.ReferenceCondGradIdeal.nD Cert.ReferenceCondGradIdeal.τ).loc Cert.ReferenceCondGradIdeal.main_arg0) = m ((c.tc : Thread Cert.KernelCondGradIdeal.nD Cert.KernelCondGradIdeal.τ).loc Cert.KernelCondGradIdeal.main_arg0)
      ∧ m' ((c.tc : Thread Cert.ReferenceCondGradIdeal.nD Cert.ReferenceCondGradIdeal.τ).loc Cert.ReferenceCondGradIdeal.main_arg1) = m ((c.tc : Thread Cert.KernelCondGradIdeal.nD Cert.KernelCondGradIdeal.τ).loc Cert.KernelCondGradIdeal.main_arg1)) →
    ∃ (v0 : (c : Dev Cert.KernelCondGradIdeal.nD) → Buf (Elt Ideal) ((c.tc : Thread Cert.KernelCondGradIdeal.nD Cert.KernelCondGradIdeal.τ).loc Cert.KernelCondGradIdeal.main_v3)),
      θ_run (Cert.KernelCondGradIdeal.defs (F := Ideal)) (onTc (τ := Cert.KernelCondGradIdeal.τ) (Cert.KernelCondGradIdeal.main (F := Ideal))) ⟨m, fun _ => 0, g⟩ (fun r => ∀ c : Dev Cert.KernelCondGradIdeal.nD,
          r.2.mem ((c.tc : Thread Cert.KernelCondGradIdeal.nD Cert.KernelCondGradIdeal.τ).loc Cert.KernelCondGradIdeal.main_v3) = v0 c
          ∧ r.2.mem ((c.tc : Thread Cert.KernelCondGradIdeal.nD Cert.KernelCondGradIdeal.τ).loc Cert.KernelCondGradIdeal.main_arg0) = m ((c.tc : Thread Cert.KernelCondGradIdeal.nD Cert.KernelCondGradIdeal.τ).loc Cert.KernelCondGradIdeal.main_arg0)
          ∧ r.2.mem ((c.tc : Thread Cert.KernelCondGradIdeal.nD Cert.KernelCondGradIdeal.τ).loc Cert.KernelCondGradIdeal.main_arg1) = m ((c.tc : Thread Cert.KernelCondGradIdeal.nD Cert.KernelCondGradIdeal.τ).loc Cert.KernelCondGradIdeal.main_arg1))
      ∧ θ_run (Cert.ReferenceCondGradIdeal.defs (F := Ideal)) (onTc (τ := Cert.ReferenceCondGradIdeal.τ) (Cert.ReferenceCondGradIdeal.main (F := Ideal))) ⟨m', fun _ => 0, g'⟩ (fun r => ∀ c : Dev Cert.ReferenceCondGradIdeal.nD,
          r.2.mem ((c.tc : Thread Cert.ReferenceCondGradIdeal.nD Cert.ReferenceCondGradIdeal.τ).loc Cert.ReferenceCondGradIdeal.main_v15) = v0 c
          ∧ r.2.mem ((c.tc : Thread Cert.ReferenceCondGradIdeal.nD Cert.ReferenceCondGradIdeal.τ).loc Cert.ReferenceCondGradIdeal.main_arg0) = m' ((c.tc : Thread Cert.ReferenceCondGradIdeal.nD Cert.ReferenceCondGradIdeal.τ).loc Cert.ReferenceCondGradIdeal.main_arg0)
          ∧ r.2.mem ((c.tc : Thread Cert.ReferenceCondGradIdeal.nD Cert.ReferenceCondGradIdeal.τ).loc Cert.ReferenceCondGradIdeal.main_arg1) = m' ((c.tc : Thread Cert.ReferenceCondGradIdeal.nD Cert.ReferenceCondGradIdeal.τ).loc Cert.ReferenceCondGradIdeal.main_arg1))

def Claim : Prop :=
  ∃ (hKernel : Cert.Kernel.Facts) (hKernelIdeal : Cert.KernelIdeal.Facts) (hReferenceIdeal : Cert.ReferenceIdeal.Facts) (hKernelPool : Cert.KernelPool.Facts) (hKernelPoolIdeal : Cert.KernelPoolIdeal.Facts) (hReferencePoolIdeal : Cert.ReferencePoolIdeal.Facts) (hKernelNorm : Cert.KernelNorm.Facts) (hKernelNormIdeal : Cert.KernelNormIdeal.Facts) (hReferenceNormIdeal : Cert.ReferenceNormIdeal.Facts) (hKernelMerge : Cert.KernelMerge.Facts) (hKernelMergeIdeal : Cert.KernelMergeIdeal.Facts) (hReferenceMergeIdeal : Cert.ReferenceMergeIdeal.Facts) (hKernelGw : Cert.KernelGw.Facts) (hKernelGwIdeal : Cert.KernelGwIdeal.Facts) (hReferenceGwIdeal : Cert.ReferenceGwIdeal.Facts) (hKernelDh : Cert.KernelDh.Facts) (hKernelDhIdeal : Cert.KernelDhIdeal.Facts) (hReferenceDhIdeal : Cert.ReferenceDhIdeal.Facts) (hKernelTail : Cert.KernelTail.Facts) (hKernelTailIdeal : Cert.KernelTailIdeal.Facts) (hReferenceTailIdeal : Cert.ReferenceTailIdeal.Facts) (hKernelPre : Cert.KernelPre.Facts) (hKernelPreIdeal : Cert.KernelPreIdeal.Facts) (hReferencePreIdeal : Cert.ReferencePreIdeal.Facts) (hKernelProj : Cert.KernelProj.Facts) (hKernelProjIdeal : Cert.KernelProjIdeal.Facts) (hReferenceProjIdeal : Cert.ReferenceProjIdeal.Facts) (hKernelClose : Cert.KernelClose.Facts) (hKernelCloseIdeal : Cert.KernelCloseIdeal.Facts) (hReferenceCloseIdeal : Cert.ReferenceCloseIdeal.Facts) (hKernelLoss : Cert.KernelLoss.Facts) (hKernelLossIdeal : Cert.KernelLossIdeal.Facts) (hReferenceLossIdeal : Cert.ReferenceLossIdeal.Facts) (hKernelUpdate : Cert.KernelUpdate.Facts) (hKernelUpdateIdeal : Cert.KernelUpdateIdeal.Facts) (hReferenceUpdateIdeal : Cert.ReferenceUpdateIdeal.Facts) (hKernelAda : Cert.KernelAda.Facts) (hKernelAdaIdeal : Cert.KernelAdaIdeal.Facts) (hReferenceAdaIdeal : Cert.ReferenceAdaIdeal.Facts) (hKernelMany : Cert.KernelMany.Facts) (hKernelManyIdeal : Cert.KernelManyIdeal.Facts) (hReferenceManyIdeal : Cert.ReferenceManyIdeal.Facts) (hKernelBounds : Cert.KernelBounds.Facts) (hKernelBoundsIdeal : Cert.KernelBoundsIdeal.Facts) (hReferenceBoundsIdeal : Cert.ReferenceBoundsIdeal.Facts) (hKernelCond : Cert.KernelCond.Facts) (hKernelCondIdeal : Cert.KernelCondIdeal.Facts) (hReferenceCondIdeal : Cert.ReferenceCondIdeal.Facts) (hKernelCondGrad : Cert.KernelCondGrad.Facts) (hKernelCondGradIdeal : Cert.KernelCondGradIdeal.Facts) (hReferenceCondGradIdeal : Cert.ReferenceCondGradIdeal.Facts) (hPre_pool_grad_real : Cert.Pre_pool_grad_real.Facts) (hPre_pool_real : Cert.Pre_pool_real.Facts),
    quiescent_Kernel (hKernel := hKernel)
    ∧ quiescent_KernelIdeal (hKernelIdeal := hKernelIdeal)
    ∧ quiescent_KernelIdeal_pre_pool_grad_real (hKernelIdeal := hKernelIdeal) (hPre_pool_grad_real := hPre_pool_grad_real)
    ∧ quiescent_ReferenceIdeal (hReferenceIdeal := hReferenceIdeal)
    ∧ quiescent_ReferenceIdeal_pre_pool_grad_real (hReferenceIdeal := hReferenceIdeal) (hPre_pool_grad_real := hPre_pool_grad_real)
    ∧ quiescent_KernelPool (hKernelPool := hKernelPool)
    ∧ quiescent_KernelPoolIdeal (hKernelPoolIdeal := hKernelPoolIdeal)
    ∧ quiescent_KernelPoolIdeal_pre_pool_real (hKernelPoolIdeal := hKernelPoolIdeal) (hPre_pool_real := hPre_pool_real)
    ∧ quiescent_ReferencePoolIdeal (hReferencePoolIdeal := hReferencePoolIdeal)
    ∧ quiescent_ReferencePoolIdeal_pre_pool_real (hReferencePoolIdeal := hReferencePoolIdeal) (hPre_pool_real := hPre_pool_real)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelGw (hKernelGw := hKernelGw)
    ∧ quiescent_KernelGwIdeal (hKernelGwIdeal := hKernelGwIdeal)
    ∧ quiescent_ReferenceGwIdeal (hReferenceGwIdeal := hReferenceGwIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelTail (hKernelTail := hKernelTail)
    ∧ quiescent_KernelTailIdeal (hKernelTailIdeal := hKernelTailIdeal)
    ∧ quiescent_ReferenceTailIdeal (hReferenceTailIdeal := hReferenceTailIdeal)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelClose (hKernelClose := hKernelClose)
    ∧ quiescent_KernelCloseIdeal (hKernelCloseIdeal := hKernelCloseIdeal)
    ∧ quiescent_ReferenceCloseIdeal (hReferenceCloseIdeal := hReferenceCloseIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelUpdate (hKernelUpdate := hKernelUpdate)
    ∧ quiescent_KernelUpdateIdeal (hKernelUpdateIdeal := hKernelUpdateIdeal)
    ∧ quiescent_ReferenceUpdateIdeal (hReferenceUpdateIdeal := hReferenceUpdateIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelMany (hKernelMany := hKernelMany)
    ∧ quiescent_KernelManyIdeal (hKernelManyIdeal := hKernelManyIdeal)
    ∧ quiescent_ReferenceManyIdeal (hReferenceManyIdeal := hReferenceManyIdeal)
    ∧ quiescent_KernelBounds (hKernelBounds := hKernelBounds)
    ∧ quiescent_KernelBoundsIdeal (hKernelBoundsIdeal := hKernelBoundsIdeal)
    ∧ quiescent_ReferenceBoundsIdeal (hReferenceBoundsIdeal := hReferenceBoundsIdeal)
    ∧ quiescent_KernelCond (hKernelCond := hKernelCond)
    ∧ quiescent_KernelCondIdeal (hKernelCondIdeal := hKernelCondIdeal)
    ∧ quiescent_ReferenceCondIdeal (hReferenceCondIdeal := hReferenceCondIdeal)
    ∧ quiescent_KernelCondGrad (hKernelCondGrad := hKernelCondGrad)
    ∧ quiescent_KernelCondGradIdeal (hKernelCondGradIdeal := hKernelCondGradIdeal)
    ∧ quiescent_ReferenceCondGradIdeal (hReferenceCondGradIdeal := hReferenceCondGradIdeal)
    ∧ preserves_Kernel_KernelIdeal
    ∧ algebraic_KernelIdeal_ReferenceIdeal_pre_pool_grad_real (hKernelIdeal := hKernelIdeal) (hReferenceIdeal := hReferenceIdeal) (hPre_pool_grad_real := hPre_pool_grad_real)
    ∧ preserves_KernelPool_KernelPoolIdeal
    ∧ algebraic_KernelPoolIdeal_ReferencePoolIdeal_pre_pool_real (hKernelPoolIdeal := hKernelPoolIdeal) (hReferencePoolIdeal := hReferencePoolIdeal) (hPre_pool_real := hPre_pool_real)
    ∧ preserves_KernelNorm_KernelNormIdeal
    ∧ algebraic_KernelNormIdeal_ReferenceNormIdeal (hKernelNormIdeal := hKernelNormIdeal) (hReferenceNormIdeal := hReferenceNormIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelGw_KernelGwIdeal
    ∧ algebraic_KernelGwIdeal_ReferenceGwIdeal (hKernelGwIdeal := hKernelGwIdeal) (hReferenceGwIdeal := hReferenceGwIdeal)
    ∧ preserves_KernelDh_KernelDhIdeal
    ∧ algebraic_KernelDhIdeal_ReferenceDhIdeal (hKernelDhIdeal := hKernelDhIdeal) (hReferenceDhIdeal := hReferenceDhIdeal)
    ∧ preserves_KernelTail_KernelTailIdeal
    ∧ algebraic_KernelTailIdeal_ReferenceTailIdeal (hKernelTailIdeal := hKernelTailIdeal) (hReferenceTailIdeal := hReferenceTailIdeal)
    ∧ preserves_KernelPre_KernelPreIdeal
    ∧ algebraic_KernelPreIdeal_ReferencePreIdeal (hKernelPreIdeal := hKernelPreIdeal) (hReferencePreIdeal := hReferencePreIdeal)
    ∧ preserves_KernelProj_KernelProjIdeal
    ∧ algebraic_KernelProjIdeal_ReferenceProjIdeal (hKernelProjIdeal := hKernelProjIdeal) (hReferenceProjIdeal := hReferenceProjIdeal)
    ∧ preserves_KernelClose_KernelCloseIdeal
    ∧ algebraic_KernelCloseIdeal_ReferenceCloseIdeal (hKernelCloseIdeal := hKernelCloseIdeal) (hReferenceCloseIdeal := hReferenceCloseIdeal)
    ∧ preserves_KernelLoss_KernelLossIdeal
    ∧ algebraic_KernelLossIdeal_ReferenceLossIdeal (hKernelLossIdeal := hKernelLossIdeal) (hReferenceLossIdeal := hReferenceLossIdeal)
    ∧ preserves_KernelUpdate_KernelUpdateIdeal
    ∧ algebraic_KernelUpdateIdeal_ReferenceUpdateIdeal (hKernelUpdateIdeal := hKernelUpdateIdeal) (hReferenceUpdateIdeal := hReferenceUpdateIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelMany_KernelManyIdeal
    ∧ algebraic_KernelManyIdeal_ReferenceManyIdeal (hKernelManyIdeal := hKernelManyIdeal) (hReferenceManyIdeal := hReferenceManyIdeal)
    ∧ preserves_KernelBounds_KernelBoundsIdeal
    ∧ algebraic_KernelBoundsIdeal_ReferenceBoundsIdeal (hKernelBoundsIdeal := hKernelBoundsIdeal) (hReferenceBoundsIdeal := hReferenceBoundsIdeal)
    ∧ preserves_KernelCond_KernelCondIdeal
    ∧ algebraic_KernelCondIdeal_ReferenceCondIdeal (hKernelCondIdeal := hKernelCondIdeal) (hReferenceCondIdeal := hReferenceCondIdeal)
    ∧ preserves_KernelCondGrad_KernelCondGradIdeal
    ∧ algebraic_KernelCondGradIdeal_ReferenceCondGradIdeal (hKernelCondGradIdeal := hKernelCondGradIdeal) (hReferenceCondGradIdeal := hReferenceCondGradIdeal)
-- ==== Pre_pool_grad_real.lean ====
abbrev S2048x512 : Shape := ⟨2, ![2048, 512]⟩
abbrev S2048x7168 : Shape := ⟨2, ![2048, 7168]⟩
abbrev S4x128x128 : Shape := ⟨3, ![4, 128, 128]⟩
abbrev S1x512 : Shape := ⟨2, ![1, 512]⟩
abbrev S_ : Shape := ⟨0, ![]⟩
abbrev S2048x1024 : Shape := ⟨2, ![2048, 1024]⟩

class Facts : Prop where
  bcast_S_S2048x512 : S_.BroadcastsInDim S2048x512 (![] : Fin 0 → Fin S2048x512.rank)
  slices_S2048x7168_S2048x1024_0_0 : S2048x7168.Slices ![0, 0] S2048x1024
  bitsLt_bf16_f32 : FTy.bits .bf16 < FTy.bits .f32
  bcast_S_S2048x1024 : S_.BroadcastsInDim S2048x1024 (![] : Fin 0 → Fin S2048x1024.rank)
  bcast_S_S4x128x128 : S_.BroadcastsInDim S4x128x128 (![] : Fin 0 → Fin S4x128x128.rank)
  bcast_S_S1x512 : S_.BroadcastsInDim S1x512 (![] : Fin 0 → Fin S1x512.rank)

variable [Facts]

def fn {F : FTy → Type} [FloatOps F] (main_arg0 : FVec F S2048x512 .f32) (main_arg1 : FVec F S2048x7168 .bf16) (main_arg2 : FVec F S4x128x128 .f32) (main_arg3 : FVec F S1x512 .f32) (main_arg4 : FVec F S2048x7168 .bf16) : IVec S2048x512 1 × IVec S2048x1024 1 × IVec S4x128x128 1 × IVec S1x512 1 :=
  let main_v0 : FVec F S2048x512 .f32 := subf main_arg0 main_arg0
  let main_cst : FVec F S_ .f32 := constant S_ .f32 0x00000000#32
  let main_v1 : FVec F S2048x512 .f32 := broadcastInDim S2048x512 ![] bcast_S_S2048x512 main_cst
  let main_v2 : IVec S2048x512 1 := cmpf .oeq main_v0 main_v1
  let main_v3 : FVec F S2048x1024 .bf16 := (extractStridedSlice S2048x1024 ![0, 0] · slices_S2048x7168_S2048x1024_0_0) main_arg1
  let main_v4 : FVec F S2048x1024 .f32 := (extf .f32 · bitsLt_bf16_f32) main_v3
  let main_v5 : FVec F S2048x1024 .f32 := subf main_v4 main_v4
  let main_cst_0 : FVec F S_ .f32 := constant S_ .f32 0x00000000#32
  let main_v6 : FVec F S2048x1024 .f32 := broadcastInDim S2048x1024 ![] bcast_S_S2048x1024 main_cst_0
  let main_v7 : IVec S2048x1024 1 := cmpf .oeq main_v5 main_v6
  let main_v8 : FVec F S4x128x128 .f32 := subf main_arg2 main_arg2
  let main_cst_1 : FVec F S_ .f32 := constant S_ .f32 0x00000000#32
  let main_v9 : FVec F S4x128x128 .f32 := broadcastInDim S4x128x128 ![] bcast_S_S4x128x128 main_cst_1
  let main_v10 : IVec S4x128x128 1 := cmpf .oeq main_v8 main_v9
  let main_v11 : FVec F S1x512 .f32 := subf main_arg3 main_arg3
  let main_cst_2 : FVec F S_ .f32 := constant S_ .f32 0x00000000#32
  let main_v12 : FVec F S1x512 .f32 := broadcastInDim S1x512 ![] bcast_S_S1x512 main_cst_2
  let main_v13 : IVec S1x512 1 := cmpf .oeq main_v11 main_v12
  (main_v2, main_v7, main_v10, main_v13)
-- ==== Pre_pool_real.lean ====
abbrev S2048x7168 : Shape := ⟨2, ![2048, 7168]⟩
abbrev S4x128x128 : Shape := ⟨3, ![4, 128, 128]⟩
abbrev S1x512 : Shape := ⟨2, ![1, 512]⟩
abbrev S2048x512 : Shape := ⟨2, ![2048, 512]⟩
abbrev S_ : Shape := ⟨0, ![]⟩

class Facts : Prop where
  slices_S2048x7168_S2048x512_0_0 : S2048x7168.Slices ![0, 0] S2048x512
  bitsLt_bf16_f32 : FTy.bits .bf16 < FTy.bits .f32
  bcast_S_S2048x512 : S_.BroadcastsInDim S2048x512 (![] : Fin 0 → Fin S2048x512.rank)

variable [Facts]

def fn {F : FTy → Type} [FloatOps F] (main_arg0 : FVec F S2048x7168 .bf16) (main_arg1 : FVec F S4x128x128 .f32) (main_arg2 : FVec F S1x512 .f32) : IVec S2048x512 1 :=
  let main_v0 : FVec F S2048x512 .bf16 := (extractStridedSlice S2048x512 ![0, 0] · slices_S2048x7168_S2048x512_0_0) main_arg0
  let main_v1 : FVec F S2048x512 .f32 := (extf .f32 · bitsLt_bf16_f32) main_v0
  let main_v2 : FVec F S2048x512 .f32 := subf main_v1 main_v1
  let main_cst : FVec F S_ .f32 := constant S_ .f32 0x00000000#32
  let main_v3 : FVec F S2048x512 .f32 := broadcastInDim S2048x512 ![] bcast_S_S2048x512 main_cst
  let main_v4 : IVec S2048x512 1 := cmpf .oeq main_v2 main_v3
  main_v4
-- ==== Kernel.lean ====
abbrev S2048x512 : Shape := ⟨2, ![2048, 512]⟩
abbrev S2048x7168 : Shape := ⟨2, ![2048, 7168]⟩
abbrev S4x128x128 : Shape := ⟨3, ![4, 128, 128]⟩
abbrev S1x512 : Shape := ⟨2, ![1, 512]⟩
abbrev S2048x128 : Shape := ⟨2, ![2048, 128]⟩
abbrev S1x128x128 : Shape := ⟨3, ![1, 128, 128]⟩
abbrev S1x128 : Shape := ⟨2, ![1, 128]⟩
abbrev S2048x1 : Shape := ⟨2, ![2048, 1]⟩
abbrev S128x128 : Shape := ⟨2, ![128, 128]⟩
abbrev S128 : Shape := ⟨1, ![128]⟩

abbrev nBuf : Space → Nat
  | .hbm => 8
  | .vmem => 17
  | .smem => 0
  | _ => 0

abbrev bufTy : (tb : Table) → Fin (tcTables nBuf tb) → BufTy
  | .hbm, ⟨0, _⟩ => ⟨S2048x512, .f32⟩
  | .hbm, ⟨1, _⟩ => ⟨S2048x7168, .bf16⟩
  | .hbm, ⟨2, _⟩ => ⟨S4x128x128, .f32⟩
  | .hbm, ⟨3, _⟩ => ⟨S1x512, .f32⟩
  | .hbm, ⟨4, _⟩ => ⟨S2048x7168, .bf16⟩
  | .hbm, ⟨5, _⟩ => ⟨S2048x7168, .bf16⟩
  | .hbm, ⟨6, _⟩ => ⟨S4x128x128, .f32⟩
  | .hbm, ⟨7, _⟩ => ⟨S1x512, .f32⟩
  | .local _ .vmem, ⟨0, _⟩ => ⟨S2048x128, .f32⟩
  | .local _ .vmem, ⟨1, _⟩ => ⟨S2048x128, .f32⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x128x128, .f32⟩
  | .local _ .vmem, ⟨7, _⟩ => ⟨S1x128x128, .f32⟩
  | .local _ .vmem, ⟨8, _⟩ => ⟨S1x128, .f32⟩
  | .local _ .vmem, ⟨9, _⟩ => ⟨S1x128, .f32⟩
  | .local _ .vmem, ⟨10, _⟩ => ⟨S2048x128, .bf16⟩
  | .local _ .vmem, ⟨11, _⟩ => ⟨S2048x128, .bf16⟩
  | .local _ .vmem, ⟨12, _⟩ => ⟨S1x128x128, .f32⟩
  | .local _ .vmem, ⟨13, _⟩ => ⟨S1x128x128, .f32⟩
  | .local _ .vmem, ⟨14, _⟩ => ⟨S1x128, .f32⟩
  | .local _ .vmem, ⟨15, _⟩ => ⟨S1x128, .f32⟩
  | .local _ .vmem, ⟨16, _⟩ => ⟨S2048x128, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c1_i32 : BitVec 32 := 1#32
  let v0 : BitVec 1 := Scalar.cmpi .eq arg1 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c0_i32_0 : BitVec 32 := 0#32
  let v3 : BitVec 1 := Scalar.cmpi .eq arg1 c0_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c3_i32 : BitVec 32 := 3#32
  let v1 : BitVec 32 := Scalar.minsi v0 c3_i32
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c3_i32 : BitVec 32 := 3#32
  let v1 : BitVec 32 := Scalar.minsi v0 c3_i32
  let c0_i32 : BitVec 32 := 0#32
  let v2 : BitVec 32 := Scalar.addi c0_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c3_i32 : BitVec 32 := 3#32
  let v1 : BitVec 32 := Scalar.minsi v0 c3_i32
  let c4_i32 : BitVec 32 := 4#32
  let v2 : BitVec 32 := Scalar.addi c4_i32 v1
  let c0_i32 : BitVec 32 := 0#32
  let c0_i32_0 : BitVec 32 := 0#32
  ![c0_i32.toNat, v2.toNat]

def cc0_transform_3 (i : grid0.Coords) : Fin 3 → Nat :=
  let arg0 : BitVec 32 := BitVec.ofNat 32 (i 0).val
  let arg1 : BitVec 32 := BitVec.ofNat 32 (i 1).val
  let v0 : BitVec 32 := Scalar.addi arg0 arg1
  let c3_i32 : BitVec 32 := 3#32
  let v1 : BitVec 32 := Scalar.minsi v0 c3_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c3_i32 : BitVec 32 := 3#32
  let v1 : BitVec 32 := Scalar.minsi v0 c3_i32
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.muli c4_i32 arg1
  let v2 : BitVec 32 := Scalar.addi v0 v1
  let c0_i32_0 : BitVec 32 := 0#32
  let c0_i32_1 : BitVec 32 := 0#32
  ![c0_i32_0.toNat, v2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x512 : Shape := ⟨2, ![2048, 512]⟩
abbrev S2048x7168 : Shape := ⟨2, ![2048, 7168]⟩
abbrev S4x128x128 : Shape := ⟨3, ![4, 128, 128]⟩
abbrev S1x512 : Shape := ⟨2, ![1, 512]⟩
abbrev S1x2048x512 : Shape := ⟨3, ![1, 2048, 512]⟩
abbrev S512 : Shape := ⟨1, ![512]⟩
abbrev S_ : Shape := ⟨0, ![]⟩
abbrev S2048 : Shape := ⟨1, ![2048]⟩
abbrev S1x2048x128 : Shape := ⟨3, ![1, 2048, 128]⟩
abbrev S1x2x128 : Shape := ⟨3, ![1, 2, 128]⟩
abbrev S1x2046x128 : Shape := ⟨3, ![1, 2046, 128]⟩
abbrev S1x2048x1 : Shape := ⟨3, ![1, 2048, 1]⟩
abbrev S1x4x128 : Shape := ⟨3, ![1, 4, 128]⟩
abbrev S1x2044x128 : Shape := ⟨3, ![1, 2044, 128]⟩
abbrev S1x8x128 : Shape := ⟨3, ![1, 8, 128]⟩
abbrev S1x2040x128 : Shape := ⟨3, ![1, 2040, 128]⟩
abbrev S1x16x128 : Shape := ⟨3, ![1, 16, 128]⟩
abbrev S1x2032x128 : Shape := ⟨3, ![1, 2032, 128]⟩
abbrev S1x2048x1x128 : Shape := ⟨4, ![1, 2048, 1, 128]⟩
abbrev S1x2048x4x128 : Shape := ⟨4, ![1, 2048, 4, 128]⟩
abbrev S4x128x1x2048 : Shape := ⟨4, ![4, 128, 1, 2048]⟩
abbrev S1x1x512 : Shape := ⟨3, ![1, 1, 512]⟩
abbrev S4x1x2048x128 : Shape := ⟨4, ![4, 1, 2048, 128]⟩
abbrev S2048x1024 : Shape := ⟨2, ![2048, 1024]⟩
abbrev S2048x6144 : Shape := ⟨2, ![2048, 6144]⟩

abbrev nBuf : Space → Nat
  | .hbm => 207
  | .vmem => 0
  | .smem => 0
  | _ => 0

abbrev hbmTy0_0 (i : Nat) : BufTy := match i % 128 with
  | 0 => ⟨S2048x512, .f32⟩
  | 1 => ⟨S2048x7168, .bf16⟩
  | 2 => ⟨S4x128x128, .f32⟩
  | 3 => ⟨S1x512, .f32⟩
  | 4 => ⟨S2048x7168, .bf16⟩
  | 5 => ⟨S2048x512, .bf16⟩
  | 6 => ⟨S2048x512, .f32⟩
  | 7 => ⟨S2048x512, .bf16⟩
  | 8 => ⟨S2048x512, .f32⟩
  | 9 => ⟨S1x2048x512, .f32⟩
  | 10 => ⟨S1x2048x512, .f32⟩
  | 11 => ⟨S512, .f32⟩
  | 12 => ⟨S_, .f32⟩
  | 13 => ⟨S_, .f32⟩
  | 14 => ⟨S1x2048x512, .f32⟩
  | 15 => ⟨S2048, .i32⟩
  | 16 => ⟨S2048, .f32⟩
  | 17 => ⟨S_, .f32⟩
  | 18 => ⟨S2048, .f32⟩
  | 19 => ⟨S2048, .f32⟩
  | 20 => ⟨S1x2048x128, .f32⟩
  | 21 => ⟨S_, .f32⟩
  | 22 => ⟨S1x2x128, .f32⟩
  | 23 => ⟨S1x2046x128, .f32⟩
  | 24 => ⟨S1x2048x128, .f32⟩
  | 25 => ⟨S_, .f32⟩
  | 26 => ⟨S1x2x128, .f32⟩
  | 27 => ⟨S_, .f32⟩
  | 28 => ⟨S2048, .f32⟩
  | 29 => ⟨S2048, .f32⟩
  | 30 => ⟨S1x2048x1, .f32⟩
  | 31 => ⟨S1x2048x128, .f32⟩
  | 32 => ⟨S1x2048x128, .f32⟩
  | 33 => ⟨S1x2048x128, .f32⟩
  | 34 => ⟨S1x2048x128, .f32⟩
  | 35 => ⟨S1x2048x128, .f32⟩
  | 36 => ⟨S1x2048x128, .f32⟩
  | 37 => ⟨S_, .f32⟩
  | 38 => ⟨S1x4x128, .f32⟩
  | 39 => ⟨S1x2044x128, .f32⟩
  | 40 => ⟨S1x2048x128, .f32⟩
  | 41 => ⟨S_, .f32⟩
  | 42 => ⟨S1x4x128, .f32⟩
  | 43 => ⟨S_, .f32⟩
  | 44 => ⟨S2048, .f32⟩
  | 45 => ⟨S2048, .f32⟩
  | 46 => ⟨S1x2048x1, .f32⟩
  | 47 => ⟨S1x2048x128, .f32⟩
  | 48 => ⟨S1x2048x128, .f32⟩
  | 49 => ⟨S1x2048x128, .f32⟩
  | 50 => ⟨S1x2048x128, .f32⟩
  | 51 => ⟨S1x2048x128, .f32⟩
  | 52 => ⟨S1x2048x128, .f32⟩
  | 53 => ⟨S_, .f32⟩
  | 54 => ⟨S1x8x128, .f32⟩
  | 55 => ⟨S1x2040x128, .f32⟩
  | 56 => ⟨S1x2048x128, .f32⟩
  | 57 => ⟨S_, .f32⟩
  | 58 => ⟨S1x8x128, .f32⟩
  | 59 => ⟨S_, .f32⟩
  | 60 => ⟨S2048, .f32⟩
  | 61 => ⟨S2048, .f32⟩
  | 62 => ⟨S1x2048x1, .f32⟩
  | 63 => ⟨S1x2048x128, .f32⟩
  | 64 => ⟨S1x2048x128, .f32⟩
  | 65 => ⟨S1x2048x128, .f32⟩
  | 66 => ⟨S1x2048x128, .f32⟩
  | 67 => ⟨S1x2048x128, .f32⟩
  | 68 => ⟨S1x2048x128, .f32⟩
  | 69 => ⟨S_, .f32⟩
  | 70 => ⟨S1x16x128, .f32⟩
  | 71 => ⟨S1x2032x128, .f32⟩
  | 72 => ⟨S1x2048x128, .f32⟩
  | 73 => ⟨S_, .f32⟩
  | 74 => ⟨S1x16x128, .f32⟩
  | 75 => ⟨S_, .f32⟩
  | 76 => ⟨S2048, .f32⟩
  | 77 => ⟨S2048, .f32⟩
  | 78 => ⟨S1x2048x1, .f32⟩
  | 79 => ⟨S1x2048x128, .f32⟩
  | 80 => ⟨S1x2048x128, .f32⟩
  | 81 => ⟨S1x2048x128, .f32⟩
  | 82 => ⟨S1x2048x128, .f32⟩
  | 83 => ⟨S1x2048x128, .f32⟩
  | 84 => ⟨S1x2048x1x128, .f32⟩
  | 85 => ⟨S1x2048x1x128, .f32⟩
  | 86 => ⟨S1x2048x1x128, .f32⟩
  | 87 => ⟨S1x2048x1x128, .f32⟩
  | 88 => ⟨S1x2048x4x128, .f32⟩
  | 89 => ⟨S4x128x1x2048, .f32⟩
  | 90 => ⟨S1x2048x4x128, .f32⟩
  | 91 => ⟨S1x2048x512, .f32⟩
  | 92 => ⟨S1x1x512, .f32⟩
  | 93 => ⟨S1x2048x512, .f32⟩
  | 94 => ⟨S1x2048x512, .f32⟩
  | 95 => ⟨S1x2048x512, .f32⟩
  | 96 => ⟨S1x2048x512, .f32⟩
  | 97 => ⟨S_, .f32⟩
  | 98 => ⟨S1x2048x512, .f32⟩
  | 99 => ⟨S1x2048x512, .f32⟩
  | 100 => ⟨S_, .f32⟩
  | 101 => ⟨S1x2048x512, .f32⟩
  | 102 => ⟨S1x2048x512, .f32⟩
  | 103 => ⟨S_, .f32⟩
  | 104 => ⟨S1x2048x512, .f32⟩
  | 105 => ⟨S1x2048x512, .f32⟩
  | 106 => ⟨S1x2048x512, .f32⟩
  | 107 => ⟨S1x2048x512, .f32⟩
  | 108 => ⟨S1x2048x512, .f32⟩
  | 109 => ⟨S1x2048x512, .f32⟩
  | 110 => ⟨S1x2048x512, .f32⟩
  | 111 => ⟨S1x2048x512, .f32⟩
  | 112 => ⟨S1x2048x512, .f32⟩
  | 113 => ⟨S1x2048x512, .f32⟩
  | 114 => ⟨S1x2048x512, .f32⟩
  | 115 => ⟨S1x2048x512, .f32⟩
  | 116 => ⟨S1x2048x512, .f32⟩
  | 117 => ⟨S_, .f32⟩
  | 118 => ⟨S1x512, .f32⟩
  | 119 => ⟨S1x1x512, .f32⟩
  | 120 => ⟨S1x2048x512, .f32⟩
  | 121 => ⟨S1x2048x512, .f32⟩
  | 122 => ⟨S_, .f32⟩
  | 123 => ⟨S512, .f32⟩
  | 124 => ⟨S1x2048x4x128, .f32⟩
  | 125 => ⟨S4x128x1x2048, .f32⟩
  | 126 => ⟨S4x1x2048x128, .f32⟩
  | 127 => ⟨S1x2048x4x128, .f32⟩
  | _ => ⟨S2048x512, .f32⟩

abbrev hbmTy0_1 (i : Nat) : BufTy := match i % 128 with
  | 0 => ⟨S4x128x128, .f32⟩
  | 1 => ⟨S4x128x128, .f32⟩
  | 2 => ⟨S1x2048x1x128, .f32⟩
  | 3 => ⟨S1x2048x128, .f32⟩
  | 4 => ⟨S1x2048x1x128, .f32⟩
  | 5 => ⟨S1x2048x128, .f32⟩
  | 6 => ⟨S1x2048x1x128, .f32⟩
  | 7 => ⟨S1x2048x128, .f32⟩
  | 8 => ⟨S1x2048x1x128, .f32⟩
  | 9 => ⟨S1x2048x128, .f32⟩
  | 10 => ⟨S1x2048x128, .f32⟩
  | 11 => ⟨S_, .f32⟩
  | 12 => ⟨S1x2048x512, .f32⟩
  | 13 => ⟨S1x2048x128, .f32⟩
  | 14 => ⟨S1x2048x128, .f32⟩
  | 15 => ⟨S1x2048x128, .f32⟩
  | 16 => ⟨S1x16x128, .f32⟩
  | 17 => ⟨S1x2032x128, .f32⟩
  | 18 => ⟨S_, .f32⟩
  | 19 => ⟨S1x2048x128, .f32⟩
  | 20 => ⟨S1x2048x128, .f32⟩
  | 21 => ⟨S_, .f32⟩
  | 22 => ⟨S1x2048x512, .f32⟩
  | 23 => ⟨S1x2048x128, .f32⟩
  | 24 => ⟨S_, .f32⟩
  | 25 => ⟨S1x2048x512, .f32⟩
  | 26 => ⟨S1x2048x512, .f32⟩
  | 27 => ⟨S1x2048x128, .f32⟩
  | 28 => ⟨S1x2048x128, .f32⟩
  | 29 => ⟨S1x2048x128, .f32⟩
  | 30 => ⟨S1x8x128, .f32⟩
  | 31 => ⟨S1x2040x128, .f32⟩
  | 32 => ⟨S_, .f32⟩
  | 33 => ⟨S1x2048x128, .f32⟩
  | 34 => ⟨S1x2048x128, .f32⟩
  | 35 => ⟨S_, .f32⟩
  | 36 => ⟨S1x2048x512, .f32⟩
  | 37 => ⟨S1x2048x512, .f32⟩
  | 38 => ⟨S1x2048x128, .f32⟩
  | 39 => ⟨S_, .f32⟩
  | 40 => ⟨S1x2048x512, .f32⟩
  | 41 => ⟨S1x2048x512, .f32⟩
  | 42 => ⟨S1x2048x128, .f32⟩
  | 43 => ⟨S1x2048x128, .f32⟩
  | 44 => ⟨S1x2048x128, .f32⟩
  | 45 => ⟨S1x4x128, .f32⟩
  | 46 => ⟨S1x2044x128, .f32⟩
  | 47 => ⟨S_, .f32⟩
  | 48 => ⟨S1x2048x128, .f32⟩
  | 49 => ⟨S1x2048x128, .f32⟩
  | 50 => ⟨S_, .f32⟩
  | 51 => ⟨S1x2048x512, .f32⟩
  | 52 => ⟨S1x2048x512, .f32⟩
  | 53 => ⟨S1x2048x128, .f32⟩
  | 54 => ⟨S_, .f32⟩
  | 55 => ⟨S1x2048x512, .f32⟩
  | 56 => ⟨S1x2048x512, .f32⟩
  | 57 => ⟨S1x2048x128, .f32⟩
  | 58 => ⟨S1x2048x128, .f32⟩
  | 59 => ⟨S1x2048x128, .f32⟩
  | 60 => ⟨S1x2x128, .f32⟩
  | 61 => ⟨S1x2046x128, .f32⟩
  | 62 => ⟨S_, .f32⟩
  | 63 => ⟨S1x2048x128, .f32⟩
  | 64 => ⟨S1x2048x128, .f32⟩
  | 65 => ⟨S_, .f32⟩
  | 66 => ⟨S1x2048x512, .f32⟩
  | 67 => ⟨S1x2048x512, .f32⟩
  | 68 => ⟨S_, .f32⟩
  | 69 => ⟨S_, .f32⟩
  | 70 => ⟨S1x2048x512, .f32⟩
  | 71 => ⟨S1x2048x512, .f32⟩
  | 72 => ⟨S2048x512, .f32⟩
  | 73 => ⟨S2048x512, .f32⟩
  | 74 => ⟨S2048x1024, .f32⟩
  | 75 => ⟨S2048x1024, .bf16⟩
  | 76 => ⟨S2048x6144, .bf16⟩
  | 77 => ⟨S2048x7168, .bf16⟩
  | 78 => ⟨S1x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_v75_2 : Ref sig .tc := ⟨.hbm, 102, rfl⟩
abbrev main_call1_cst_1 : Ref sig .tc := ⟨.hbm, 103, rfl⟩
abbrev main_call1_v6 : Ref sig .tc := ⟨.hbm, 104, rfl⟩
abbrev main_call1_v7 : Ref sig .tc := ⟨.hbm, 105, rfl⟩
abbrev main_v75_1 : Ref sig .tc := ⟨.hbm, 106, rfl⟩
abbrev main_v75_0 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v80 : Ref sig .tc := ⟨.hbm, 115, rfl⟩
abbrev main_v81 : Ref sig .tc := ⟨.hbm, 116, rfl⟩
abbrev main_cst_12 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_13 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_14 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_15 : Ref sig .tc := ⟨.hbm, 146, rfl⟩
abbrev main_v108 : Ref sig .tc := ⟨.hbm, 147, rfl⟩
abbrev main_v109 : Ref sig .tc := ⟨.hbm, 148, rfl⟩
abbrev main_cst_16 : Ref sig .tc := ⟨.hbm, 149, rfl⟩
abbrev main_v110 : Ref sig .tc := ⟨.hbm, 150, rfl⟩
abbrev main_v111 : Ref sig .tc := ⟨.hbm, 151, rfl⟩
abbrev main_cst_17 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_18 : Ref sig .tc := ⟨.hbm, 160, rfl⟩
abbrev main_v119 : Ref sig .tc := ⟨.hbm, 161, rfl⟩
abbrev main_v120 : Ref sig .tc := ⟨.hbm, 162, rfl⟩
abbrev main_cst_19 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_20 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_21 : Ref sig .tc := ⟨.hbm, 175, rfl⟩
abbrev main_v131 : Ref sig .tc := ⟨.hbm, 176, rfl⟩
abbrev main_v132 : Ref sig .tc := ⟨.hbm, 177, rfl⟩
abbrev main_cst_22 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_23 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_24 : Ref sig .tc := ⟨.hbm, 190, rfl⟩
abbrev main_v143 : Ref sig .tc := ⟨.hbm, 191, rfl⟩
abbrev main_v144 : Ref sig .tc := ⟨.hbm, 192, rfl⟩
abbrev main_cst_25 : Ref sig .tc := ⟨.hbm, 193, rfl⟩
abbrev main_v145 : Ref sig .tc := ⟨.hbm, 194, rfl⟩
abbrev main_v146 : Ref sig .tc := ⟨.hbm, 195, rfl⟩
abbrev main_call3_cst : Ref sig .tc := ⟨.hbm, 196, rfl⟩
abbrev main_call3_v0 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩

abbrev nD : Nat := 1
abbrev τ : Topo := Topo.v7x

variable {F : FTy → Type} [FloatOps F]
-- ==== KernelPool.lean ====
abbrev S2048x7168 : Shape := ⟨2, ![2048, 7168]⟩
abbrev S4x128x128 : Shape := ⟨3, ![4, 128, 128]⟩
abbrev S1x512 : Shape := ⟨2, ![1, 512]⟩
abbrev S2048x512 : Shape := ⟨2, ![2048, 512]⟩
abbrev S512x2048 : Shape := ⟨2, ![512, 2048]⟩
abbrev S2048x128 : Shape := ⟨2, ![2048, 128]⟩
abbrev S1x128x128 : Shape := ⟨3, ![1, 128, 128]⟩
abbrev S1x128 : Shape := ⟨2, ![1, 128]⟩
abbrev S128x2048 : Shape := ⟨2, ![128, 2048]⟩
abbrev S2048x1 : Shape := ⟨2, ![2048, 1]⟩
abbrev S128x128 : Shape := ⟨2, ![128, 128]⟩

abbrev nBuf : Space → Nat
  | .hbm => 5
  | .vmem => 12
  | .smem => 0
  | _ => 0

abbrev bufTy : (tb : Table) → Fin (tcTables nBuf tb) → BufTy
  | .hbm, ⟨0, _⟩ => ⟨S2048x7168, .bf16⟩
  | .hbm, ⟨1, _⟩ => ⟨S4x128x128, .f32⟩
  | .hbm, ⟨2, _⟩ => ⟨S1x512, .f32⟩
  | .hbm, ⟨3, _⟩ => ⟨S2048x512, .bf16⟩
  | .hbm, ⟨4, _⟩ => ⟨S512x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S1x128x128, .f32⟩
  | .local _ .vmem, ⟨5, _⟩ => ⟨S1x128x128, .f32⟩
  | .local _ .vmem, ⟨6, _⟩ => ⟨S1x128, .f32⟩
  | .local _ .vmem, ⟨7, _⟩ => ⟨S1x128, .f32⟩
  | .local _ .vmem, ⟨8, _⟩ => ⟨S2048x128, .bf16⟩
  | .local _ .vmem, ⟨9, _⟩ => ⟨S2048x128, .bf16⟩
  | .local _ .vmem, ⟨10, _⟩ => ⟨S128x2048, .bf16⟩
  | .local _ .vmem, ⟨11, _⟩ => ⟨S128x2048, .bf16⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferencePoolIdeal.lean ====
abbrev S2048x7168 : Shape := ⟨2, ![2048, 7168]⟩
abbrev S4x128x128 : Shape := ⟨3, ![4, 128, 128]⟩
abbrev S1x512 : Shape := ⟨2, ![1, 512]⟩
abbrev S2048x512 : Shape := ⟨2, ![2048, 512]⟩
abbrev S1x2048x512 : Shape := ⟨3, ![1, 2048, 512]⟩
abbrev S512 : Shape := ⟨1, ![512]⟩
abbrev S_ : Shape := ⟨0, ![]⟩
abbrev S2048 : Shape := ⟨1, ![2048]⟩
abbrev S1x2048x128 : Shape := ⟨3, ![1, 2048, 128]⟩
abbrev S1x2x128 : Shape := ⟨3, ![1, 2, 128]⟩
abbrev S1x2046x128 : Shape := ⟨3, ![1, 2046, 128]⟩
abbrev S1x2048x1 : Shape := ⟨3, ![1, 2048, 1]⟩
abbrev S1x4x128 : Shape := ⟨3, ![1, 4, 128]⟩
abbrev S1x2044x128 : Shape := ⟨3, ![1, 2044, 128]⟩
abbrev S1x8x128 : Shape := ⟨3, ![1, 8, 128]⟩
abbrev S1x2040x128 : Shape := ⟨3, ![1, 2040, 128]⟩
abbrev S1x16x128 : Shape := ⟨3, ![1, 16, 128]⟩
abbrev S1x2032x128 : Shape := ⟨3, ![1, 2032, 128]⟩
abbrev S1x2048x1x128 : Shape := ⟨4, ![1, 2048, 1, 128]⟩
abbrev S1x2048x4x128 : Shape := ⟨4, ![1, 2048, 4, 128]⟩
abbrev S4x128x1x2048 : Shape := ⟨4, ![4, 128, 1, 2048]⟩
abbrev S1x1x512 : Shape := ⟨3, ![1, 1, 512]⟩
abbrev S512x2048 : Shape := ⟨2, ![512, 2048]⟩

abbrev nBuf : Space → Nat
  | .hbm => 98
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S4x128x128, .f32⟩
  | .hbm, ⟨2, _⟩ => ⟨S1x512, .f32⟩
  | .hbm, ⟨3, _⟩ => ⟨S2048x512, .bf16⟩
  | .hbm, ⟨4, _⟩ => ⟨S2048x512, .f32⟩
  | .hbm, ⟨5, _⟩ => ⟨S2048x512, .bf16⟩
  | .hbm, ⟨6, _⟩ => ⟨S2048x512, .f32⟩
  | .hbm, ⟨7, _⟩ => ⟨S1x2048x512, .f32⟩
  | .hbm, ⟨8, _⟩ => ⟨S1x2048x512, .f32⟩
  | .hbm, ⟨9, _⟩ => ⟨S512, .f32⟩
  | .hbm, ⟨10, _⟩ => ⟨S_, .f32⟩
  | .hbm, ⟨11, _⟩ => ⟨S_, .f32⟩
  | .hbm, ⟨12, _⟩ => ⟨S1x2048x512, .f32⟩
  | .hbm, ⟨13, _⟩ => ⟨S2048, .i32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S1x2048x128, .f32⟩
  | .hbm, ⟨19, _⟩ => ⟨S_, .f32⟩
  | .hbm, ⟨20, _⟩ => ⟨S1x2x128, .f32⟩
  | .hbm, ⟨21, _⟩ => ⟨S1x2046x128, .f32⟩
  | .hbm, ⟨22, _⟩ => ⟨S1x2048x128, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S1x2048x1, .f32⟩
  | .hbm, ⟨27, _⟩ => ⟨S1x2048x128, .f32⟩
  | .hbm, ⟨28, _⟩ => ⟨S1x2048x128, .f32⟩
  | .hbm, ⟨29, _⟩ => ⟨S1x2048x128, .f32⟩
  | .hbm, ⟨30, _⟩ => ⟨S1x2048x128, .f32⟩
  | .hbm, ⟨31, _⟩ => ⟨S1x2048x128, .f32⟩
  | .hbm, ⟨32, _⟩ => ⟨S1x2048x128, .f32⟩
  | .hbm, ⟨33, _⟩ => ⟨S_, .f32⟩
  | .hbm, ⟨34, _⟩ => ⟨S1x4x128, .f32⟩
  | .hbm, ⟨35, _⟩ => ⟨S1x2044x128, .f32⟩
  | .hbm, ⟨36, _⟩ => ⟨S1x2048x128, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S1x2048x1, .f32⟩
  | .hbm, ⟨41, _⟩ => ⟨S1x2048x128, .f32⟩
  | .hbm, ⟨42, _⟩ => ⟨S1x2048x128, .f32⟩
  | .hbm, ⟨43, _⟩ => ⟨S1x2048x128, .f32⟩
  | .hbm, ⟨44, _⟩ => ⟨S1x2048x128, .f32⟩
  | .hbm, ⟨45, _⟩ => ⟨S1x2048x128, .f32⟩
  | .hbm, ⟨46, _⟩ => ⟨S1x2048x128, .f32⟩
  | .hbm, ⟨47, _⟩ => ⟨S_, .f32⟩
  | .hbm, ⟨48, _⟩ => ⟨S1x8x128, .f32⟩
  | .hbm, ⟨49, _⟩ => ⟨S1x2040x128, .f32⟩
  | .hbm, ⟨50, _⟩ => ⟨S1x2048x128, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S1x2048x1, .f32⟩
  | .hbm, ⟨55, _⟩ => ⟨S1x2048x128, .f32⟩
  | .hbm, ⟨56, _⟩ => ⟨S1x2048x128, .f32⟩
  | .hbm, ⟨57, _⟩ => ⟨S1x2048x128, .f32⟩
  | .hbm, ⟨58, _⟩ => ⟨S1x2048x128, .f32⟩
  | .hbm, ⟨59, _⟩ => ⟨S1x2048x128, .f32⟩
  | .hbm, ⟨60, _⟩ => ⟨S1x2048x128, .f32⟩
  | .hbm, ⟨61, _⟩ => ⟨S_, .f32⟩
  | .hbm, ⟨62, _⟩ => ⟨S1x16x128, .f32⟩
  | .hbm, ⟨63, _⟩ => ⟨S1x2032x128, .f32⟩
  | .hbm, ⟨64, _⟩ => ⟨S1x2048x128, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S1x2048x1, .f32⟩
  | .hbm, ⟨69, _⟩ => ⟨S1x2048x128, .f32⟩
  | .hbm, ⟨70, _⟩ => ⟨S1x2048x128, .f32⟩
  | .hbm, ⟨71, _⟩ => ⟨S1x2048x128, .f32⟩
  | .hbm, ⟨72, _⟩ => ⟨S1x2048x128, .f32⟩
  | .hbm, ⟨73, _⟩ => ⟨S1x2048x128, .f32⟩
  | .hbm, ⟨74, _⟩ => ⟨S1x2048x1x128, .f32⟩
  | .hbm, ⟨75, _⟩ => ⟨S1x2048x1x128, .f32⟩
  | .hbm, ⟨76, _⟩ => ⟨S1x2048x1x128, .f32⟩
  | .hbm, ⟨77, _⟩ => ⟨S1x2048x1x128, .f32⟩
  | .hbm, ⟨78, _⟩ => ⟨S1x2048x4x128, .f32⟩
  | .hbm, ⟨79, _⟩ => ⟨S4x128x1x2048, .f32⟩
  | .hbm, ⟨80, _⟩ => ⟨S1x2048x4x128, .f32⟩
  | .hbm, ⟨81, _⟩ => ⟨S1x2048x512, .f32⟩
  | .hbm, ⟨82, _⟩ => ⟨S1x1x512, .f32⟩
  | .hbm, ⟨83, _⟩ => ⟨S1x2048x512, .f32⟩
  | .hbm, ⟨84, _⟩ => ⟨S1x2048x512, .f32⟩
  | .hbm, ⟨85, _⟩ => ⟨S1x2048x512, .f32⟩
  | .hbm, ⟨86, _⟩ => ⟨S1x2048x512, .f32⟩
  | .hbm, ⟨87, _⟩ => ⟨S_, .f32⟩
  | .hbm, ⟨88, _⟩ => ⟨S1x2048x512, .f32⟩
  | .hbm, ⟨89, _⟩ => ⟨S1x2048x512, .f32⟩
  | .hbm, ⟨90, _⟩ => ⟨S_, .f32⟩
  | .hbm, ⟨91, _⟩ => ⟨S1x2048x512, .f32⟩
  | .hbm, ⟨92, _⟩ => ⟨S1x2048x512, .f32⟩
  | .hbm, ⟨93, _⟩ => ⟨S1x2048x512, .f32⟩
  | .hbm, ⟨94, _⟩ => ⟨S1x2048x512, .f32⟩
  | .hbm, ⟨95, _⟩ => ⟨S2048x512, .f32⟩
  | .hbm, ⟨96, _⟩ => ⟨S2048x512, .bf16⟩
  | .hbm, ⟨97, _⟩ => ⟨S512x2048, .bf16⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== KernelNorm.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceNormIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== KernelMerge.lean ====
abbrev S2048x1024 : Shape := ⟨2, ![2048, 1024]⟩
abbrev S2048x7168 : Shape := ⟨2, ![2048, 7168]⟩
abbrev S4x512x256 : Shape := ⟨3, ![4, 512, 256]⟩
abbrev S1024x1024 : Shape := ⟨2, ![1024, 1024]⟩
abbrev S1x1024 : Shape := ⟨2, ![1, 1024]⟩
abbrev S2048x512 : Shape := ⟨2, ![2048, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024 : Shape := ⟨1, ![1024]⟩
abbrev S256x256 : Shape := ⟨2, ![256, 256]⟩
abbrev S1x512x256 : Shape := ⟨3, ![1, 512, 256]⟩
abbrev S512x256 : Shape := ⟨2, ![512, 256]⟩
abbrev S2048x2048 : Shape := ⟨2, ![2048, 2048]⟩

abbrev nBuf : Space → Nat
  | .hbm => 19
  | .vmem => 32
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x7168, .bf16⟩
  | .hbm, ⟨3, _⟩ => ⟨S2048x1024, .bf16⟩
  | .hbm, ⟨4, _⟩ => ⟨S2048x1024, .bf16⟩
  | .hbm, ⟨5, _⟩ => ⟨S4x512x256, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x7168, .bf16⟩
  | .hbm, ⟨14, _⟩ => ⟨S2048x512, .f32⟩
  | .hbm, ⟨15, _⟩ => ⟨S2048x1024, .f32⟩
  | .hbm, ⟨16, _⟩ => ⟨S1x1024, .f32⟩
  | .hbm, ⟨17, _⟩ => ⟨S1x1024, .f32⟩
  | .hbm, ⟨18, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S4x512x256, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x512, .f32⟩
  | .local _ .vmem, ⟨26, _⟩ => ⟨S256x512, .f32⟩
  | .local _ .vmem, ⟨27, _⟩ => ⟨S256x1024, .f32⟩
  | .local _ .vmem, ⟨28, _⟩ => ⟨S256x1024, .f32⟩
  | .local _ .vmem, ⟨29, _⟩ => ⟨S1x1024, .f32⟩
  | .local _ .vmem, ⟨30, _⟩ => ⟨S1x1024, .f32⟩
  | .local _ .vmem, ⟨31, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def k0_cond2 (i : grid0.Coords) : BitVec 1 :=
  let arg1 : BitVec 32 := BitVec.ofNat 32 (i 1).val
  let c1_i32 : BitVec 32 := 1#32
  let v5 : BitVec 1 := Scalar.cmpi .eq arg1 c1_i32
  let v6 : BitVec 32 := Scalar.extui v5
  let c0_i32_2 : BitVec 32 := 0#32
  let v7 : BitVec 1 := Scalar.cmpi .ne v6 c0_i32_2
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c7_i32 : BitVec 32 := 7#32
  let v1 : BitVec 32 := Scalar.minsi v0 c7_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c7_i32 : BitVec 32 := 7#32
  let v1 : BitVec 32 := Scalar.minsi v0 c7_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c7_i32 : BitVec 32 := 7#32
  let v1 : BitVec 32 := Scalar.minsi v0 c7_i32
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c7_i32 : BitVec 32 := 7#32
  let v1 : BitVec 32 := Scalar.minsi v0 c7_i32
  let c6_i32 : BitVec 32 := 6#32
  let c0_i32 : BitVec 32 := 0#32
  ![v1.toNat, c6_i32.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c7_i32 : BitVec 32 := 7#32
  let v1 : BitVec 32 := Scalar.minsi v0 c7_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.addi arg0 arg1
  let c7_i32 : BitVec 32 := 7#32
  let v1 : BitVec 32 := Scalar.minsi v0 c7_i32
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== ReferenceMergeIdeal.lean ====
abbrev S2048x1024 : Shape := ⟨2, ![2048, 1024]⟩
abbrev S2048x7168 : Shape := ⟨2, ![2048, 7168]⟩
abbrev S4x512x256 : Shape := ⟨3, ![4, 512, 256]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S512x4x256 : Shape := ⟨3, ![512, 4, 256]⟩
abbrev S512x1024 : Shape := ⟨2, ![512, 1024]⟩
abbrev S2048x512 : Shape := ⟨2, ![2048, 512]⟩
abbrev S2048x2048 : Shape := ⟨2, ![2048, 2048]⟩

abbrev nBuf : Space → Nat
  | .hbm => 119
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x7168, .bf16⟩
  | .hbm, ⟨3, _⟩ => ⟨S2048x1024, .bf16⟩
  | .hbm, ⟨4, _⟩ => ⟨S2048x1024, .bf16⟩
  | .hbm, ⟨5, _⟩ => ⟨S4x512x256, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S_, .f32⟩
  | .hbm, ⟨54, _⟩ => ⟨S2048, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .bf16⟩
  | .hbm, ⟨61, _⟩ => ⟨S2048x1024, .f32⟩
  | .hbm, ⟨62, _⟩ => ⟨S2048x1024, .bf16⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S1024x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S2048x1024, .f32⟩
  | .hbm, ⟨87, _⟩ => ⟨S2048x1024, .f32⟩
  | .hbm, ⟨88, _⟩ => ⟨S_, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S4x512x256, .f32⟩
  | .hbm, ⟨103, _⟩ => ⟨S512x4x256, .f32⟩
  | .hbm, ⟨104, _⟩ => ⟨S512x1024, .f32⟩
  | .hbm, ⟨105, _⟩ => ⟨S_, .f32⟩
  | .hbm, ⟨106, _⟩ => ⟨S2048x512, .f32⟩
  | .hbm, ⟨107, _⟩ => ⟨S2048x1024, .f32⟩
  | .hbm, ⟨108, _⟩ => ⟨S2048x512, .f32⟩
  | .hbm, ⟨109, _⟩ => ⟨S_, .f32⟩
  | .hbm, ⟨110, _⟩ => ⟨S2048x1024, .f32⟩
  | .hbm, ⟨111, _⟩ => ⟨S1024x1024, .f32⟩
  | .hbm, ⟨112, _⟩ => ⟨S2048x1024, .f32⟩
  | .hbm, ⟨113, _⟩ => ⟨S2048x1024, .f32⟩
  | .hbm, ⟨114, _⟩ => ⟨S2048x1024, .bf16⟩
  | .hbm, ⟨115, _⟩ => ⟨S2048x1024, .bf16⟩
  | .hbm, ⟨116, _⟩ => ⟨S2048x1024, .bf16⟩
  | .hbm, ⟨117, _⟩ => ⟨S2048x2048, .f32⟩
  | .hbm, ⟨118, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== KernelGw.lean ====
abbrev S1024x2048 : Shape := ⟨2, ![1024, 2048]⟩
abbrev S2048x7168 : Shape := ⟨2, ![2048, 7168]⟩
abbrev S4x1024x1792 : Shape := ⟨3, ![4, 1024, 1792]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .bf16⟩
  | .hbm, ⟨1, _⟩ => ⟨S2048x7168, .bf16⟩
  | .hbm, ⟨2, _⟩ => ⟨S4x1024x1792, .bf16⟩
  | .local _ .vmem, ⟨0, _⟩ => ⟨S1024x2048, .bf16⟩
  | .local _ .vmem, ⟨1, _⟩ => ⟨S2048x256, .bf16⟩
  | .local _ .vmem, ⟨2, _⟩ => ⟨S2048x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1024x256, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 28, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwIdeal.lean ====
abbrev S1024x2048 : Shape := ⟨2, ![1024, 2048]⟩
abbrev S2048x7168 : Shape := ⟨2, ![2048, 7168]⟩
abbrev S2048x1024 : Shape := ⟨2, ![2048, 1024]⟩
abbrev S_ : Shape := ⟨0, ![]⟩
abbrev S1024x7168 : Shape := ⟨2, ![1024, 7168]⟩
abbrev S7168x1024 : Shape := ⟨2, ![7168, 1024]⟩
abbrev S1024x4x1792 : Shape := ⟨3, ![1024, 4, 1792]⟩
abbrev S4x1024x1792 : Shape := ⟨3, ![4, 1024, 1792]⟩

abbrev nBuf : Space → Nat
  | .hbm => 13
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x7168, .bf16⟩
  | .hbm, ⟨2, _⟩ => ⟨S1024x2048, .f32⟩
  | .hbm, ⟨3, _⟩ => ⟨S2048x1024, .f32⟩
  | .hbm, ⟨4, _⟩ => ⟨S_, .f32⟩
  | .hbm, ⟨5, _⟩ => ⟨S1024x7168, .f32⟩
  | .hbm, ⟨6, _⟩ => ⟨S2048x7168, .f32⟩
  | .hbm, ⟨7, _⟩ => ⟨S2048x7168, .f32⟩
  | .hbm, ⟨8, _⟩ => ⟨S7168x1024, .f32⟩
  | .hbm, ⟨9, _⟩ => ⟨S1024x7168, .f32⟩
  | .hbm, ⟨10, _⟩ => ⟨S1024x4x1792, .f32⟩
  | .hbm, ⟨11, _⟩ => ⟨S4x1024x1792, .f32⟩
  | .hbm, ⟨12, _⟩ => ⟨S4x1024x1792, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelDh.lean ====
abbrev S2048x7168 : Shape := ⟨2, ![2048, 7168]⟩
abbrev S4x1024x1792 : Shape := ⟨3, ![4, 1024, 1792]⟩
abbrev S2048x1024 : Shape := ⟨2, ![2048, 1024]⟩
abbrev S1024x1792 : Shape := ⟨2, ![1024, 1792]⟩
abbrev S1x1024x1792 : Shape := ⟨3, ![1, 1024, 1792]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x7168, .bf16⟩
  | .hbm, ⟨1, _⟩ => ⟨S4x1024x1792, .bf16⟩
  | .hbm, ⟨2, _⟩ => ⟨S2048x1024, .f32⟩
  | .local _ .vmem, ⟨0, _⟩ => ⟨S1024x1792, .bf16⟩
  | .local _ .vmem, ⟨1, _⟩ => ⟨S1024x1792, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhIdeal.lean ====
abbrev S2048x7168 : Shape := ⟨2, ![2048, 7168]⟩
abbrev S4x1024x1792 : Shape := ⟨3, ![4, 1024, 1792]⟩
abbrev S1024x4x1792 : Shape := ⟨3, ![1024, 4, 1792]⟩
abbrev S1024x7168 : Shape := ⟨2, ![1024, 7168]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S4x1024x1792, .bf16⟩
  | .hbm, ⟨2, _⟩ => ⟨S4x1024x1792, .f32⟩
  | .hbm, ⟨3, _⟩ => ⟨S1024x4x1792, .f32⟩
  | .hbm, ⟨4, _⟩ => ⟨S1024x7168, .f32⟩
  | .hbm, ⟨5, _⟩ => ⟨S_, .f32⟩
  | .hbm, ⟨6, _⟩ => ⟨S2048x1024, .f32⟩
  | .hbm, ⟨7, _⟩ => ⟨S2048x7168, .f32⟩
  | .hbm, ⟨8, _⟩ => ⟨S2048x7168, .f32⟩
  | .hbm, ⟨9, _⟩ => ⟨S2048x1024, .f32⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelTail.lean ====
abbrev S1024x2048 : Shape := ⟨2, ![1024, 2048]⟩
abbrev S512x2048 : Shape := ⟨2, ![512, 2048]⟩
abbrev S2048x1024 : Shape := ⟨2, ![2048, 1024]⟩
abbrev S1024x1024 : Shape := ⟨2, ![1024, 1024]⟩
abbrev S4x512x256 : Shape := ⟨3, ![4, 512, 256]⟩
abbrev S2048x256 : Shape := ⟨2, ![2048, 256]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 9
  | .vmem => 15
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S512x2048, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S1024x1024, .bf16⟩
  | .hbm, ⟨7, _⟩ => ⟨S1024x1024, .bf16⟩
  | .hbm, ⟨8, _⟩ => ⟨S4x512x256, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1x512x256, .bf16⟩
  | .local _ .vmem, ⟨14, _⟩ => ⟨S1x512x256, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceTailIdeal.lean ====
abbrev S1024x2048 : Shape := ⟨2, ![1024, 2048]⟩
abbrev S512x2048 : Shape := ⟨2, ![512, 2048]⟩
abbrev S2048x1024 : Shape := ⟨2, ![2048, 1024]⟩
abbrev S2048x512 : Shape := ⟨2, ![2048, 512]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩
abbrev S1024x1024 : Shape := ⟨2, ![1024, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S512x2048, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S512x2048, .f32⟩
  | .hbm, ⟨7, _⟩ => ⟨S2048x512, .f32⟩
  | .hbm, ⟨8, _⟩ => ⟨S_, .f32⟩
  | .hbm, ⟨9, _⟩ => ⟨S512x1024, .f32⟩
  | .hbm, ⟨10, _⟩ => ⟨S2048x1024, .f32⟩
  | .hbm, ⟨11, _⟩ => ⟨S2048x1024, .f32⟩
  | .hbm, ⟨12, _⟩ => ⟨S1024x512, .f32⟩
  | .hbm, ⟨13, _⟩ => ⟨S512x1024, .f32⟩
  | .hbm, ⟨14, _⟩ => ⟨S512x1024, .bf16⟩
  | .hbm, ⟨15, _⟩ => ⟨S512x4x256, .bf16⟩
  | .hbm, ⟨16, _⟩ => ⟨S4x512x256, .bf16⟩
  | .hbm, ⟨17, _⟩ => ⟨S1024x2048, .f32⟩
  | .hbm, ⟨18, _⟩ => ⟨S2048x1024, .f32⟩
  | .hbm, ⟨19, _⟩ => ⟨S_, .f32⟩
  | .hbm, ⟨20, _⟩ => ⟨S1024x1024, .f32⟩
  | .hbm, ⟨21, _⟩ => ⟨S2048x1024, .f32⟩
  | .hbm, ⟨22, _⟩ => ⟨S2048x1024, .f32⟩
  | .hbm, ⟨23, _⟩ => ⟨S1024x1024, .f32⟩
  | .hbm, ⟨24, _⟩ => ⟨S1024x1024, .f32⟩
  | .hbm, ⟨25, _⟩ => ⟨S1024x1024, .bf16⟩
  | .hbm, ⟨26, _⟩ => ⟨S1024x2048, .f32⟩
  | .hbm, ⟨27, _⟩ => ⟨S2048x1024, .f32⟩
  | .hbm, ⟨28, _⟩ => ⟨S_, .f32⟩
  | .hbm, ⟨29, _⟩ => ⟨S1024x1024, .f32⟩
  | .hbm, ⟨30, _⟩ => ⟨S2048x1024, .f32⟩
  | .hbm, ⟨31, _⟩ => ⟨S2048x1024, .f32⟩
  | .hbm, ⟨32, _⟩ => ⟨S1024x1024, .f32⟩
  | .hbm, ⟨33, _⟩ => ⟨S1024x1024, .f32⟩
  | .hbm, ⟨34, _⟩ => ⟨S1024x1024, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== KernelPre.lean ====
abbrev S2048x1024 : Shape := ⟨2, ![2048, 1024]⟩
abbrev S1x1024 : Shape := ⟨2, ![1, 1024]⟩
abbrev S1024x2048 : Shape := ⟨2, ![1024, 2048]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .bf16⟩
  | .hbm, ⟨5, _⟩ => ⟨S1024x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S1024x256, .bf16⟩
  | .local _ .vmem, ⟨8, _⟩ => ⟨S1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferencePreIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | .hbm, ⟨27, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelProj.lean ====
abbrev S2048x1024 : Shape := ⟨2, ![2048, 1024]⟩
abbrev S4x1024x1792 : Shape := ⟨3, ![4, 1024, 1792]⟩
abbrev S2048x7168 : Shape := ⟨2, ![2048, 7168]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x1792, .bf16⟩
  | .hbm, ⟨2, _⟩ => ⟨S2048x7168, .bf16⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 28, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjIdeal.lean ====
abbrev S2048x1024 : Shape := ⟨2, ![2048, 1024]⟩
abbrev S4x1024x1792 : Shape := ⟨3, ![4, 1024, 1792]⟩
abbrev S1024x4x1792 : Shape := ⟨3, ![1024, 4, 1792]⟩
abbrev S1024x7168 : Shape := ⟨2, ![1024, 7168]⟩
abbrev S2048x7168 : Shape := ⟨2, ![2048, 7168]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1792, .bf16⟩
  | .hbm, ⟨2, _⟩ => ⟨S4x1024x1792, .f32⟩
  | .hbm, ⟨3, _⟩ => ⟨S1024x4x1792, .f32⟩
  | .hbm, ⟨4, _⟩ => ⟨S1024x7168, .f32⟩
  | .hbm, ⟨5, _⟩ => ⟨S2048x1024, .f32⟩
  | .hbm, ⟨6, _⟩ => ⟨S2048x7168, .f32⟩
  | .hbm, ⟨7, _⟩ => ⟨S2048x7168, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelClose.lean ====
abbrev S2048x7168 : Shape := ⟨2, ![2048, 7168]⟩
abbrev S2048x512 : Shape := ⟨2, ![2048, 512]⟩
abbrev S2048x1024 : Shape := ⟨2, ![2048, 1024]⟩
abbrev S4x512x256 : Shape := ⟨3, ![4, 512, 256]⟩
abbrev S1024x1024 : Shape := ⟨2, ![1024, 1024]⟩
abbrev S1x1024 : Shape := ⟨2, ![1, 1024]⟩
abbrev S1024x2048 : Shape := ⟨2, ![1024, 2048]⟩
abbrev S256x1024 : Shape := ⟨2, ![256, 1024]⟩
abbrev S256x512 : Shape := ⟨2, ![256, 512]⟩
abbrev S1024x256 : Shape := ⟨2, ![1024, 256]⟩
abbrev S1x512x256 : Shape := ⟨3, ![1, 512, 256]⟩
abbrev S512x256 : Shape := ⟨2, ![512, 256]⟩
abbrev S256x256 : Shape := ⟨2, ![256, 256]⟩
abbrev S256 : Shape := ⟨1, ![256]⟩
abbrev S256x1 : Shape := ⟨2, ![256, 1]⟩

abbrev nBuf : Space → Nat
  | .hbm => 14
  | .vmem => 25
  | .smem => 0
  | _ => 0

abbrev bufTy : (tb : Table) → Fin (tcTables nBuf tb) → BufTy
  | .hbm, ⟨0, _⟩ => ⟨S2048x7168, .bf16⟩
  | .hbm, ⟨1, _⟩ => ⟨S2048x512, .bf16⟩
  | .hbm, ⟨2, _⟩ => ⟨S2048x1024, .bf16⟩
  | .hbm, ⟨3, _⟩ => ⟨S2048x1024, .f32⟩
  | .hbm, ⟨4, _⟩ => ⟨S4x512x256, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2048x1024, .bf16⟩
  | .hbm, ⟨10, _⟩ => ⟨S2048x1024, .bf16⟩
  | .hbm, ⟨11, _⟩ => ⟨S1024x2048, .bf16⟩
  | .hbm, ⟨12, _⟩ => ⟨S2048x1024, .f32⟩
  | .hbm, ⟨13, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S4x512x256, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1024x256, .bf16⟩
  | .local _ .vmem, ⟨20, _⟩ => ⟨S1024x256, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceCloseIdeal.lean ====
abbrev S2048x7168 : Shape := ⟨2, ![2048, 7168]⟩
abbrev S2048x512 : Shape := ⟨2, ![2048, 512]⟩
abbrev S2048x1024 : Shape := ⟨2, ![2048, 1024]⟩
abbrev S4x512x256 : Shape := ⟨3, ![4, 512, 256]⟩
abbrev S1024x1024 : Shape := ⟨2, ![1024, 1024]⟩
abbrev S1x1024 : Shape := ⟨2, ![1, 1024]⟩
abbrev S512x4x256 : Shape := ⟨3, ![512, 4, 256]⟩
abbrev S512x1024 : Shape := ⟨2, ![512, 1024]⟩
abbrev S_ : Shape := ⟨0, ![]⟩
abbrev S1024x2048 : Shape := ⟨2, ![1024, 2048]⟩
abbrev S2048 : Shape := ⟨1, ![2048]⟩
abbrev S2048x1 : Shape := ⟨2, ![2048, 1]⟩

abbrev nBuf : Space → Nat
  | .hbm => 65
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S2048x512, .bf16⟩
  | .hbm, ⟨2, _⟩ => ⟨S2048x1024, .bf16⟩
  | .hbm, ⟨3, _⟩ => ⟨S2048x1024, .f32⟩
  | .hbm, ⟨4, _⟩ => ⟨S4x512x256, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4x512x256, .f32⟩
  | .hbm, ⟨10, _⟩ => ⟨S512x4x256, .f32⟩
  | .hbm, ⟨11, _⟩ => ⟨S512x1024, .f32⟩
  | .hbm, ⟨12, _⟩ => ⟨S2048x512, .f32⟩
  | .hbm, ⟨13, _⟩ => ⟨S2048x1024, .f32⟩
  | .hbm, ⟨14, _⟩ => ⟨S2048x1024, .f32⟩
  | .hbm, ⟨15, _⟩ => ⟨S1024x1024, .f32⟩
  | .hbm, ⟨16, _⟩ => ⟨S2048x1024, .f32⟩
  | .hbm, ⟨17, _⟩ => ⟨S2048x1024, .bf16⟩
  | .hbm, ⟨18, _⟩ => ⟨S2048x1024, .f32⟩
  | .hbm, ⟨19, _⟩ => ⟨S2048x1024, .bf16⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .bf16⟩
  | .hbm, ⟨41, _⟩ => ⟨S2048x1024, .f32⟩
  | .hbm, ⟨42, _⟩ => ⟨S1024x1024, .f32⟩
  | .hbm, ⟨43, _⟩ => ⟨S2048x1024, .f32⟩
  | .hbm, ⟨44, _⟩ => ⟨S2048x1024, .bf16⟩
  | .hbm, ⟨45, _⟩ => ⟨S2048x1024, .bf16⟩
  | .hbm, ⟨46, _⟩ => ⟨S1024x2048, .bf16⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== KernelLoss.lean ====
abbrev S2048x7168 : Shape := ⟨2, ![2048, 7168]⟩
abbrev S2048x512 : Shape := ⟨2, ![2048, 512]⟩
abbrev S2048x1024 : Shape := ⟨2, ![2048, 1024]⟩
abbrev S4x512x256 : Shape := ⟨3, ![4, 512, 256]⟩
abbrev S1024x1024 : Shape := ⟨2, ![1024, 1024]⟩
abbrev S1x1024 : Shape := ⟨2, ![1, 1024]⟩
abbrev S1024x2048 : Shape := ⟨2, ![1024, 2048]⟩
abbrev S8x128 : Shape := ⟨2, ![8, 128]⟩
abbrev S256x1024 : Shape := ⟨2, ![256, 1024]⟩
abbrev S256x512 : Shape := ⟨2, ![256, 512]⟩
abbrev S1024x256 : Shape := ⟨2, ![1024, 256]⟩
abbrev S1x512x256 : Shape := ⟨3, ![1, 512, 256]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 16
  | .vmem => 28
  | .smem => 0
  | _ => 0

abbrev bufTy : (tb : Table) → Fin (tcTables nBuf tb) → BufTy
  | .hbm, ⟨0, _⟩ => ⟨S2048x7168, .bf16⟩
  | .hbm, ⟨1, _⟩ => ⟨S2048x512, .bf16⟩
  | .hbm, ⟨2, _⟩ => ⟨S2048x1024, .bf16⟩
  | .hbm, ⟨3, _⟩ => ⟨S2048x1024, .f32⟩
  | .hbm, ⟨4, _⟩ => ⟨S4x512x256, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x1024, .bf16⟩
  | .hbm, ⟨11, _⟩ => ⟨S2048x1024, .bf16⟩
  | .hbm, ⟨12, _⟩ => ⟨S1024x2048, .bf16⟩
  | .hbm, ⟨13, _⟩ => ⟨S2048x1024, .f32⟩
  | .hbm, ⟨14, _⟩ => ⟨S2048x1024, .f32⟩
  | .hbm, ⟨15, _⟩ => ⟨S8x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S4x512x256, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S1024x256, .bf16⟩
  | .local _ .vmem, ⟨22, _⟩ => ⟨S1024x256, .bf16⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S8x128, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceLossIdeal.lean ====
abbrev S2048x7168 : Shape := ⟨2, ![2048, 7168]⟩
abbrev S2048x512 : Shape := ⟨2, ![2048, 512]⟩
abbrev S2048x1024 : Shape := ⟨2, ![2048, 1024]⟩
abbrev S4x512x256 : Shape := ⟨3, ![4, 512, 256]⟩
abbrev S1024x1024 : Shape := ⟨2, ![1024, 1024]⟩
abbrev S1x1024 : Shape := ⟨2, ![1, 1024]⟩
abbrev S512x4x256 : Shape := ⟨3, ![512, 4, 256]⟩
abbrev S512x1024 : Shape := ⟨2, ![512, 1024]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩
abbrev S8x128 : Shape := ⟨2, ![8, 128]⟩

abbrev nBuf : Space → Nat
  | .hbm => 90
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S2048x512, .bf16⟩
  | .hbm, ⟨2, _⟩ => ⟨S2048x1024, .bf16⟩
  | .hbm, ⟨3, _⟩ => ⟨S2048x1024, .f32⟩
  | .hbm, ⟨4, _⟩ => ⟨S4x512x256, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S4x512x256, .f32⟩
  | .hbm, ⟨11, _⟩ => ⟨S512x4x256, .f32⟩
  | .hbm, ⟨12, _⟩ => ⟨S512x1024, .f32⟩
  | .hbm, ⟨13, _⟩ => ⟨S2048x512, .f32⟩
  | .hbm, ⟨14, _⟩ => ⟨S2048x1024, .f32⟩
  | .hbm, ⟨15, _⟩ => ⟨S2048x1024, .f32⟩
  | .hbm, ⟨16, _⟩ => ⟨S1024x1024, .f32⟩
  | .hbm, ⟨17, _⟩ => ⟨S2048x1024, .f32⟩
  | .hbm, ⟨18, _⟩ => ⟨S2048x1024, .bf16⟩
  | .hbm, ⟨19, _⟩ => ⟨S2048x1024, .f32⟩
  | .hbm, ⟨20, _⟩ => ⟨S2048x1024, .bf16⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .bf16⟩
  | .hbm, ⟨42, _⟩ => ⟨S2048x1024, .f32⟩
  | .hbm, ⟨43, _⟩ => ⟨S1024x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S2048, .f32⟩
  | .hbm, ⟨81, _⟩ => ⟨S_, .f32⟩
  | .hbm, ⟨82, _⟩ => ⟨S2048, .f32⟩
  | .hbm, ⟨83, _⟩ => ⟨S2048, .f32⟩
  | .hbm, ⟨84, _⟩ => ⟨S2048x1024, .f32⟩
  | .hbm, ⟨85, _⟩ => ⟨S2048x1024, .f32⟩
  | .hbm, ⟨86, _⟩ => ⟨S2048x1024, .bf16⟩
  | .hbm, ⟨87, _⟩ => ⟨S2048x1024, .bf16⟩
  | .hbm, ⟨88, _⟩ => ⟨S1024x2048, .bf16⟩
  | .hbm, ⟨89, _⟩ => ⟨S8x128, .f32⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_cst_11 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]
-- ==== KernelUpdate.lean ====
abbrev S2048x1792 : Shape := ⟨2, ![2048, 1792]⟩
abbrev S256x1792 : Shape := ⟨2, ![256, 1792]⟩

abbrev nBuf : Space → Nat
  | .hbm => 8
  | .vmem => 16
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S2048x1792, .f32⟩
  | .hbm, ⟨7, _⟩ => ⟨S2048x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateIdeal.lean ====
abbrev S2048x1792 : Shape := ⟨2, ![2048, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S_, .f32⟩
  | .hbm, ⟨5, _⟩ => ⟨S2048x1792, .f32⟩
  | .hbm, ⟨6, _⟩ => ⟨S2048x1792, .f32⟩
  | .hbm, ⟨7, _⟩ => ⟨S_, .f32⟩
  | .hbm, ⟨8, _⟩ => ⟨S2048x1792, .f32⟩
  | .hbm, ⟨9, _⟩ => ⟨S2048x1792, .f32⟩
  | .hbm, ⟨10, _⟩ => ⟨S2048x1792, .f32⟩
  | .hbm, ⟨11, _⟩ => ⟨S_, .f32⟩
  | .hbm, ⟨12, _⟩ => ⟨S2048x1792, .f32⟩
  | .hbm, ⟨13, _⟩ => ⟨S2048x1792, .f32⟩
  | .hbm, ⟨14, _⟩ => ⟨S2048x1792, .f32⟩
  | .hbm, ⟨15, _⟩ => ⟨S_, .f32⟩
  | .hbm, ⟨16, _⟩ => ⟨S2048x1792, .f32⟩
  | .hbm, ⟨17, _⟩ => ⟨S2048x1792, .f32⟩
  | .hbm, ⟨18, _⟩ => ⟨S2048x1792, .f32⟩
  | .hbm, ⟨19, _⟩ => ⟨S_, .f32⟩
  | .hbm, ⟨20, _⟩ => ⟨S2048x1792, .f32⟩
  | .hbm, ⟨21, _⟩ => ⟨S2048x1792, .f32⟩
  | .hbm, ⟨22, _⟩ => ⟨S_, .f32⟩
  | .hbm, ⟨23, _⟩ => ⟨S2048x1792, .f32⟩
  | .hbm, ⟨24, _⟩ => ⟨S2048x1792, .f32⟩
  | .hbm, ⟨25, _⟩ => ⟨S2048x1792, .f32⟩
  | .hbm, ⟨26, _⟩ => ⟨S_, .f32⟩
  | .hbm, ⟨27, _⟩ => ⟨S2048x1792, .f32⟩
  | .hbm, ⟨28, _⟩ => ⟨S2048x1792, .f32⟩
  | .hbm, ⟨29, _⟩ => ⟨S2048x1792, .f32⟩
  | .hbm, ⟨30, _⟩ => ⟨S_, .f32⟩
  | .hbm, ⟨31, _⟩ => ⟨S2048x1792, .f32⟩
  | .hbm, ⟨32, _⟩ => ⟨S2048x1792, .f32⟩
  | .hbm, ⟨33, _⟩ => ⟨S2048x1792, .f32⟩
  | .hbm, ⟨34, _⟩ => ⟨S_, .f32⟩
  | .hbm, ⟨35, _⟩ => ⟨S2048x1792, .f32⟩
  | .hbm, ⟨36, _⟩ => ⟨S2048x1792, .f32⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAda.lean ====
abbrev S2048x768 : Shape := ⟨2, ![2048, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdaIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelMany.lean ====
abbrev S1024x256 : Shape := ⟨2, ![1024, 256]⟩
abbrev S512x1024 : Shape := ⟨2, ![512, 1024]⟩
abbrev S256x256 : Shape := ⟨2, ![256, 256]⟩
abbrev S128x1024 : Shape := ⟨2, ![128, 1024]⟩

abbrev nBuf : Space → Nat
  | .hbm => 24
  | .vmem => 48
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S512x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S128x1024, .f32⟩
  | .local _ .vmem, ⟨45, _⟩ => ⟨S128x1024, .f32⟩
  | .local _ .vmem, ⟨46, _⟩ => ⟨S128x1024, .f32⟩
  | .local _ .vmem, ⟨47, _⟩ => ⟨S128x1024, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S128x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ReferenceManyIdeal.lean ====
abbrev S1024x256 : Shape := ⟨2, ![1024, 256]⟩
abbrev S512x1024 : Shape := ⟨2, ![512, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S_, .f32⟩
  | .hbm, ⟨46, _⟩ => ⟨S512x1024, .f32⟩
  | .hbm, ⟨47, _⟩ => ⟨S512x1024, .f32⟩
  | .hbm, ⟨48, _⟩ => ⟨S_, .f32⟩
  | .hbm, ⟨49, _⟩ => ⟨S512x1024, .f32⟩
  | .hbm, ⟨50, _⟩ => ⟨S512x1024, .f32⟩
  | .hbm, ⟨51, _⟩ => ⟨S512x1024, .f32⟩
  | .hbm, ⟨52, _⟩ => ⟨S_, .f32⟩
  | .hbm, ⟨53, _⟩ => ⟨S512x1024, .f32⟩
  | .hbm, ⟨54, _⟩ => ⟨S512x1024, .f32⟩
  | .hbm, ⟨55, _⟩ => ⟨S512x1024, .f32⟩
  | .hbm, ⟨56, _⟩ => ⟨S_, .f32⟩
  | .hbm, ⟨57, _⟩ => ⟨S512x1024, .f32⟩
  | .hbm, ⟨58, _⟩ => ⟨S512x1024, .f32⟩
  | .hbm, ⟨59, _⟩ => ⟨S512x1024, .f32⟩
  | .hbm, ⟨60, _⟩ => ⟨S_, .f32⟩
  | .hbm, ⟨61, _⟩ => ⟨S512x1024, .f32⟩
  | .hbm, ⟨62, _⟩ => ⟨S512x1024, .f32⟩
  | .hbm, ⟨63, _⟩ => ⟨S_, .f32⟩
  | .hbm, ⟨64, _⟩ => ⟨S512x1024, .f32⟩
  | .hbm, ⟨65, _⟩ => ⟨S512x1024, .f32⟩
  | .hbm, ⟨66, _⟩ => ⟨S512x1024, .f32⟩
  | .hbm, ⟨67, _⟩ => ⟨S_, .f32⟩
  | .hbm, ⟨68, _⟩ => ⟨S512x1024, .f32⟩
  | .hbm, ⟨69, _⟩ => ⟨S512x1024, .f32⟩
  | .hbm, ⟨70, _⟩ => ⟨S512x1024, .f32⟩
  | .hbm, ⟨71, _⟩ => ⟨S_, .f32⟩
  | .hbm, ⟨72, _⟩ => ⟨S512x1024, .f32⟩
  | .hbm, ⟨73, _⟩ => ⟨S512x1024, .f32⟩
  | .hbm, ⟨74, _⟩ => ⟨S512x1024, .f32⟩
  | .hbm, ⟨75, _⟩ => ⟨S_, .f32⟩
  | .hbm, ⟨76, _⟩ => ⟨S512x1024, .f32⟩
  | .hbm, ⟨77, _⟩ => ⟨S512x1024, .f32⟩
  | .hbm, ⟨78, _⟩ => ⟨S_, .f32⟩
  | .hbm, ⟨79, _⟩ => ⟨S512x1024, .f32⟩
  | .hbm, ⟨80, _⟩ => ⟨S512x1024, .f32⟩
  | .hbm, ⟨81, _⟩ => ⟨S_, .f32⟩
  | .hbm, ⟨82, _⟩ => ⟨S512x1024, .f32⟩
  | .hbm, ⟨83, _⟩ => ⟨S512x1024, .f32⟩
  | .hbm, ⟨84, _⟩ => ⟨S512x1024, .f32⟩
  | .hbm, ⟨85, _⟩ => ⟨S_, .f32⟩
  | .hbm, ⟨86, _⟩ => ⟨S512x1024, .f32⟩
  | .hbm, ⟨87, _⟩ => ⟨S512x1024, .f32⟩
  | .hbm, ⟨88, _⟩ => ⟨S512x1024, .f32⟩
  | .hbm, ⟨89, _⟩ => ⟨S_, .f32⟩
  | .hbm, ⟨90, _⟩ => ⟨S512x1024, .f32⟩
  | .hbm, ⟨91, _⟩ => ⟨S512x1024, .f32⟩
  | .hbm, ⟨92, _⟩ => ⟨S512x1024, .f32⟩
  | .hbm, ⟨93, _⟩ => ⟨S_, .f32⟩
  | .hbm, ⟨94, _⟩ => ⟨S512x1024, .f32⟩
  | .hbm, ⟨95, _⟩ => ⟨S512x1024, .f32⟩
  | .hbm, ⟨96, _⟩ => ⟨S_, .f32⟩
  | .hbm, ⟨97, _⟩ => ⟨S512x1024, .f32⟩
  | .hbm, ⟨98, _⟩ => ⟨S512x1024, .f32⟩
  | .hbm, ⟨99, _⟩ => ⟨S512x1024, .f32⟩
  | .hbm, ⟨100, _⟩ => ⟨S_, .f32⟩
  | .hbm, ⟨101, _⟩ => ⟨S512x1024, .f32⟩
  | .hbm, ⟨102, _⟩ => ⟨S512x1024, .f32⟩
  | .hbm, ⟨103, _⟩ => ⟨S512x1024, .f32⟩
  | .hbm, ⟨104, _⟩ => ⟨S_, .f32⟩
  | .hbm, ⟨105, _⟩ => ⟨S512x1024, .f32⟩
  | .hbm, ⟨106, _⟩ => ⟨S512x1024, .f32⟩
  | .hbm, ⟨107, _⟩ => ⟨S512x1024, .f32⟩
  | .hbm, ⟨108, _⟩ => ⟨S_, .f32⟩
  | .hbm, ⟨109, _⟩ => ⟨S512x1024, .f32⟩
  | .hbm, ⟨110, _⟩ => ⟨S512x1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== KernelBounds.lean ====
abbrev S2x1024 : Shape := ⟨2, ![2, 1024]⟩
abbrev S1x1024 : Shape := ⟨2, ![1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .local _ .vmem, ⟨0, _⟩ => ⟨S2x1024, .f32⟩
  | .local _ .vmem, ⟨1, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceBoundsIdeal.lean ====
abbrev S2x1024 : Shape := ⟨2, ![2, 1024]⟩
abbrev S_ : Shape := ⟨0, ![]⟩
abbrev S1024 : Shape := ⟨1, ![1024]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S_, .f32⟩
  | .hbm, ⟨17, _⟩ => ⟨S2x1024, .f32⟩
  | .hbm, ⟨18, _⟩ => ⟨S1x1024, .f32⟩
  | .hbm, ⟨19, _⟩ => ⟨S2x1024, .f32⟩
  | .hbm, ⟨20, _⟩ => ⟨S2x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== KernelCond.lean ====
abbrev S8x1024 : Shape := ⟨2, ![8, 1024]⟩
abbrev S2x1024x768 : Shape := ⟨3, ![2, 1024, 768]⟩
abbrev S2x768 : Shape := ⟨2, ![2, 768]⟩
abbrev S_ : Shape := ⟨0, ![]⟩
abbrev S128x1024 : Shape := ⟨2, ![128, 1024]⟩
abbrev S8x1536 : Shape := ⟨2, ![8, 1536]⟩
abbrev S1x1024x768 : Shape := ⟨3, ![1, 1024, 768]⟩
abbrev S1024x768 : Shape := ⟨2, ![1024, 768]⟩
abbrev S128x768 : Shape := ⟨2, ![128, 768]⟩
abbrev S8x768 : Shape := ⟨2, ![8, 768]⟩
abbrev S1x768 : Shape := ⟨2, ![1, 768]⟩

abbrev nBuf : Space → Nat
  | .hbm => 7
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x768, .f32⟩
  | .hbm, ⟨3, _⟩ => ⟨S_, .i32⟩
  | .hbm, ⟨4, _⟩ => ⟨S_, .f32⟩
  | .hbm, ⟨5, _⟩ => ⟨S128x1024, .f32⟩
  | .hbm, ⟨6, _⟩ => ⟨S8x1536, .f32⟩
  | .local _ .vmem, ⟨0, _⟩ => ⟨S128x1024, .f32⟩
  | .local _ .vmem, ⟨1, _⟩ => ⟨S2x1024x768, .f32⟩
  | .local _ .vmem, ⟨2, _⟩ => ⟨S2x768, .f32⟩
  | .local _ .vmem, ⟨3, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceCondIdeal.lean ====
abbrev S8x1024 : Shape := ⟨2, ![8, 1024]⟩
abbrev S2x1024x768 : Shape := ⟨3, ![2, 1024, 768]⟩
abbrev S2x768 : Shape := ⟨2, ![2, 768]⟩
abbrev S_ : Shape := ⟨0, ![]⟩
abbrev S1x1024x768 : Shape := ⟨3, ![1, 1024, 768]⟩
abbrev S1024x768 : Shape := ⟨2, ![1024, 768]⟩
abbrev S8x768 : Shape := ⟨2, ![8, 768]⟩
abbrev S1x768 : Shape := ⟨2, ![1, 768]⟩
abbrev S768 : Shape := ⟨1, ![768]⟩
abbrev S8x1536 : Shape := ⟨2, ![8, 1536]⟩

abbrev nBuf : Space → Nat
  | .hbm => 29
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x768, .f32⟩
  | .hbm, ⟨13, _⟩ => ⟨S1024x768, .f32⟩
  | .hbm, ⟨14, _⟩ => ⟨S8x768, .f32⟩
  | .hbm, ⟨15, _⟩ => ⟨S1x768, .f32⟩
  | .hbm, ⟨16, _⟩ => ⟨S768, .f32⟩
  | .hbm, ⟨17, _⟩ => ⟨S1x768, .f32⟩
  | .hbm, ⟨18, _⟩ => ⟨S8x768, .f32⟩
  | .hbm, ⟨19, _⟩ => ⟨S8x768, .f32⟩
  | .hbm, ⟨20, _⟩ => ⟨S1x1024x768, .f32⟩
  | .hbm, ⟨21, _⟩ => ⟨S1024x768, .f32⟩
  | .hbm, ⟨22, _⟩ => ⟨S8x768, .f32⟩
  | .hbm, ⟨23, _⟩ => ⟨S1x768, .f32⟩
  | .hbm, ⟨24, _⟩ => ⟨S768, .f32⟩
  | .hbm, ⟨25, _⟩ => ⟨S1x768, .f32⟩
  | .hbm, ⟨26, _⟩ => ⟨S8x768, .f32⟩
  | .hbm, ⟨27, _⟩ => ⟨S8x768, .f32⟩
  | .hbm, ⟨28, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== KernelCondGrad.lean ====
abbrev S8x1024 : Shape := ⟨2, ![8, 1024]⟩
abbrev S2x8x768 : Shape := ⟨3, ![2, 8, 768]⟩
abbrev S_ : Shape := ⟨0, ![]⟩
abbrev S128x1024 : Shape := ⟨2, ![128, 1024]⟩
abbrev S1024x128 : Shape := ⟨2, ![1024, 128]⟩
abbrev S2x128x768 : Shape := ⟨3, ![2, 128, 768]⟩
abbrev S2x1024x768 : Shape := ⟨3, ![2, 1024, 768]⟩
abbrev S1x128x768 : Shape := ⟨3, ![1, 128, 768]⟩
abbrev S128x768 : Shape := ⟨2, ![128, 768]⟩
abbrev S1024x768 : Shape := ⟨2, ![1024, 768]⟩
abbrev S1x1024x768 : Shape := ⟨3, ![1, 1024, 768]⟩

abbrev nBuf : Space → Nat
  | .hbm => 10
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S_, .i32⟩
  | .hbm, ⟨3, _⟩ => ⟨S_, .f32⟩
  | .hbm, ⟨4, _⟩ => ⟨S128x1024, .f32⟩
  | .hbm, ⟨5, _⟩ => ⟨S1024x128, .f32⟩
  | .hbm, ⟨6, _⟩ => ⟨S_, .i32⟩
  | .hbm, ⟨7, _⟩ => ⟨S_, .f32⟩
  | .hbm, ⟨8, _⟩ => ⟨S2x128x768, .f32⟩
  | .hbm, ⟨9, _⟩ => ⟨S2x1024x768, .f32⟩
  | .local _ .vmem, ⟨0, _⟩ => ⟨S1024x128, .f32⟩
  | .local _ .vmem, ⟨1, _⟩ => ⟨S2x128x768, .f32⟩
  | .local _ .vmem, ⟨2, _⟩ => ⟨S2x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceCondGradIdeal.lean ====
abbrev S8x1024 : Shape := ⟨2, ![8, 1024]⟩
abbrev S2x8x768 : Shape := ⟨3, ![2, 8, 768]⟩
abbrev S_ : Shape := ⟨0, ![]⟩
abbrev S1024x768 : Shape := ⟨2, ![1024, 768]⟩
abbrev S8x768 : Shape := ⟨2, ![8, 768]⟩
abbrev S1x8x768 : Shape := ⟨3, ![1, 8, 768]⟩
abbrev S768x1024 : Shape := ⟨2, ![768, 1024]⟩
abbrev S1x1024x768 : Shape := ⟨3, ![1, 1024, 768]⟩
abbrev S2x1024x768 : Shape := ⟨3, ![2, 1024, 768]⟩

abbrev nBuf : Space → Nat
  | .hbm => 28
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S1024x768, .f32⟩
  | .hbm, ⟨13, _⟩ => ⟨S8x768, .f32⟩
  | .hbm, ⟨14, _⟩ => ⟨S1x8x768, .f32⟩
  | .hbm, ⟨15, _⟩ => ⟨S8x768, .f32⟩
  | .hbm, ⟨16, _⟩ => ⟨S768x1024, .f32⟩
  | .hbm, ⟨17, _⟩ => ⟨S1024x768, .f32⟩
  | .hbm, ⟨18, _⟩ => ⟨S_, .f32⟩
  | .hbm, ⟨19, _⟩ => ⟨S1024x768, .f32⟩
  | .hbm, ⟨20, _⟩ => ⟨S8x768, .f32⟩
  | .hbm, ⟨21, _⟩ => ⟨S1x8x768, .f32⟩
  | .hbm, ⟨22, _⟩ => ⟨S8x768, .f32⟩
  | .hbm, ⟨23, _⟩ => ⟨S768x1024, .f32⟩
  | .hbm, ⟨24, _⟩ => ⟨S1024x768, .f32⟩
  | .hbm, ⟨25, _⟩ => ⟨S1x1024x768, .f32⟩
  | .hbm, ⟨26, _⟩ => ⟨S1x1024x768, .f32⟩
  | .hbm, ⟨27, _⟩ => ⟨S2x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.MergeRun.lean ====
/- The body of the gated merge's gradient, run once in each of its three cases over any float values. -/
module

public import proofs.«01_k».proof.Proof.Gen.KernelMergeIdeal.Frame
public import proofs.«01_k».proof.Proof.Gen.KernelMergeIdeal.Skeleton
public import Idealize.ShloMosaic.Lib.Pipeline.ValueKit

@[expose] public section

set_option maxRecDepth 16384

noncomputable section

namespace Cert.KernelMergeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMergeIdeal.Gen

variable {F : FTy → Type} [FloatOps F]

local notation "𝕄" => MT nD τ sig Unit (Elt F) ℕ (UR sig nD τ) ℕ

/-! ## When the body's branches are taken -/

/-- The sums are reset. -/
abbrev cond1 (i : grid0.Coords) : Prop := k0_cond1 i = 1#1
/-- The kept columns are handed out. -/
abbrev cond2 (i : grid0.Coords) : Prop := k0_cond2 i = 1#1
/-- A block of rows is computed. -/
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val % 2 = 1 :=
  (by decide +kernel : ∀ t : Fin grid0.N, cond2 (grid0.coords t) ↔ t.val % 2 = 1)
theorem hcond3 : ∀ t : Fin cfg0.N, cond3 (grid0.coords t) ↔ t.val % 2 = 0 :=
  (by decide +kernel : ∀ t : Fin grid0.N, cond3 (grid0.coords t) ↔ t.val % 2 = 0)

variable (c : Dev nD) (i : grid0.Coords)
  (arg2 : Memref sig .tc .vmem S256x1024 .f32) (harg2 : arg2.IsWhole)
  (arg3 : Memref sig .tc .vmem S256x1024 .f32) (harg3 : arg3.IsWhole)
  (arg4 : Memref sig .tc .vmem S256x1024 .bf16) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S4x512x256 .bf16) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S256x1024 .bf16) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S256x1024 .bf16) (harg16 : arg16.IsWhole)
  (arg17 : Memref sig .tc .vmem S256x512 .f32) (harg17 : arg17.IsWhole)
  (arg18 : Memref sig .tc .vmem S256x1024 .f32) (harg18 : arg18.IsWhole)
  (arg19 : Memref sig .tc .vmem S1x1024 .f32) (harg19 : arg19.IsWhole)
  (arg20 : Memref sig .tc .vmem S1x1024 .f32) (harg20 : arg20.IsWhole)
  (arg21 : Memref sig .tc .vmem S256x1024 .bf16) (harg21 : arg21.IsWhole)
  (x0 : Vec F S256x1024 .f32)
  (x1 : Vec F S256x1024 .f32)
  (x2 : Vec F S256x1024 .bf16)
  (x3 : Vec F S256x1024 .bf16)
  (x4 : Vec F S256x1024 .bf16)
  (x5 : Vec F S256x1024 .bf16)
  (x6 : Vec F S4x512x256 .bf16)
  (x7 : Vec F S1024x1024 .bf16)
  (x8 : Vec F S1024x1024 .bf16)
  (x9 : Vec F S1x1024 .f32)
  (x10 : Vec F S1x1024 .f32)

set_option maxHeartbeats 4000000 in
/-- The body at the first point: the sums are reset. What its stores leave in each buffer, as pieces, with the proof that it runs to them. -/
noncomputable def runA (hc1 : cond1 i) (hc2 : ¬cond2 i) (hc3 : cond3 i)  :
    Σ' (L11 : List (View.Piece (Elt F) S256x1024 .bf16)), Σ' (L12 : List (View.Piece (Elt F) S256x1024 .bf16)), Σ' (L13 : List (View.Piece (Elt F) S256x1024 .bf16)), Σ' (L14 : List (View.Piece (Elt F) S256x1024 .bf16)), Σ' (L15 : List (View.Piece (Elt F) S256x512 .f32)), Σ' (L16 : List (View.Piece (Elt F) S256x1024 .f32)), Σ' (L17 : List (View.Piece (Elt F) S1x1024 .f32)), Σ' (L18 : List (View.Piece (Elt F) S1x1024 .f32)), { L19 : List (View.Piece (Elt F) S256x1024 .bf16) //
      ∀  (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19)) -∗ K ⟨⟩))
          ⊢ wp frame (wpE (defs₀ (F := F)) Variants.none c none) E (cc0_head_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, fun  E K => ?run⟩
  case run =>
    simp only [cc0_head_bwd_eq_skeleton]; unfold cc0_head_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

set_option maxHeartbeats 4000000 in
/-- The body at a later block of rows' first point: the sums go on from what they held. What its stores leave in each buffer, as pieces, with the proof that it runs to them. -/
noncomputable def runB (hc1 : ¬cond1 i) (hc2 : ¬cond2 i) (hc3 : cond3 i) (y17 : Vec F S1x1024 .f32) (y18 : Vec F S1x1024 .f32) :
    Σ' (L11 : List (View.Piece (Elt F) S256x1024 .bf16)), Σ' (L12 : List (View.Piece (Elt F) S256x1024 .bf16)), Σ' (L13 : List (View.Piece (Elt F) S256x1024 .bf16)), Σ' (L14 : List (View.Piece (Elt F) S256x1024 .bf16)), Σ' (L15 : List (View.Piece (Elt F) S256x512 .f32)), Σ' (L16 : List (View.Piece (Elt F) S256x1024 .f32)), Σ' (L17 : List (View.Piece (Elt F) S1x1024 .f32)), Σ' (L18 : List (View.Piece (Elt F) S1x1024 .f32)), { L19 : List (View.Piece (Elt F) S256x1024 .bf16) //
      ∀  (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare y17 ∗ owns (c : Thread nD τ) arg20 fullShare y18 ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19)) -∗ K ⟨⟩))
          ⊢ wp frame (wpE (defs₀ (F := F)) Variants.none c none) E (cc0_head_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, fun  E K => ?run⟩
  case run =>
    simp only [cc0_head_bwd_eq_skeleton]; unfold cc0_head_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%d19, %f19, -, H19⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg19.eq_unread hf17; obtain rfl := harg20.eq_unread hf18
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

set_option maxHeartbeats 4000000 in
/-- The body at a block of rows' second point: the columns kept in scratch are handed out. What its stores leave in each buffer, as pieces, with the proof that it runs to them. -/
noncomputable def runC (hc1 : ¬cond1 i) (hc2 : cond2 i) (hc3 : ¬cond3 i) (y19 : Vec F S256x1024 .bf16) :
    { L14 : List (View.Piece (Elt F) S256x1024 .bf16) //
      ∀ (y11 : Vec F S256x1024 .bf16) (y12 : Vec F S256x1024 .bf16) (y13 : Vec F S256x1024 .bf16) (y15 : Vec F S256x512 .f32) (y16 : Vec F S256x1024 .f32) (y17 : Vec F S1x1024 .f32) (y18 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare y11 ∗ owns (c : Thread nD τ) arg14 fullShare y12 ∗ owns (c : Thread nD τ) arg15 fullShare y13 ∗ (∃ d, owns (c : Thread nD τ) arg16 fullShare d) ∗ owns (c : Thread nD τ) arg17 fullShare y15 ∗ owns (c : Thread nD τ) arg18 fullShare y16 ∗ owns (c : Thread nD τ) arg19 fullShare y17 ∗ owns (c : Thread nD τ) arg20 fullShare y18 ∗ owns (c : Thread nD τ) arg21 fullShare y19
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare y11 ∗ owns (c : Thread nD τ) arg14 fullShare y12 ∗ owns (c : Thread nD τ) arg15 fullShare y13 ∗ (∃ f, arg16.view.loc (c : Thread nD τ) ↦[arg16.view.set]{fullShare} arg16.view.writes (Elt F) f L14) ∗ owns (c : Thread nD τ) arg17 fullShare y15 ∗ owns (c : Thread nD τ) arg18 fullShare y16 ∗ owns (c : Thread nD τ) arg19 fullShare y17 ∗ owns (c : Thread nD τ) arg20 fullShare y18 ∗ owns (c : Thread nD τ) arg21 fullShare y19) -∗ K ⟨⟩))
          ⊢ wp frame (wpE (defs₀ (F := F)) Variants.none c none) E (cc0_head_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun y11 y12 y13 y15 y16 y17 y18 E K => ?run⟩
  case run =>
    simp only [cc0_head_bwd_eq_skeleton]; unfold cc0_head_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hf15; obtain rfl := harg18.eq_unread hf16; obtain rfl := harg19.eq_unread hf17; obtain rfl := harg20.eq_unread hf18; obtain rfl := harg21.eq_unread hf19
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    iexists _; isplitr; · ipureintro; exact harg21.read_unread _
    iexact H19

end Cert.KernelMergeIdeal.Hand

end
-- ==== Proof.MergeFrame.lean ====
/- The frame of the gated merge's gradient: what every buffer holds after each point in closed form, the body's
   obligation from its three runs, the launch, and the arguments unchanged. -/
module

public import proofs.«01_k».proof.Proof.MergeRun
public import Idealize.ShloMosaic.Lib.Pipeline.TableIdle
public import Idealize.ShloMosaic.Lib.Claim

@[expose] public section

set_option maxRecDepth 16384

noncomputable section

namespace Cert.KernelMergeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMergeIdeal.Gen

variable {F : FTy → Type} [FloatOps F]

local notation "𝕄" => MT nD τ sig Unit (Elt F) ℕ (UR sig nD τ) ℕ

/-! ## What the body computes of its blocks -/

section
variable (x0 : Vec F S256x1024 .f32)
variable (x1 : Vec F S256x1024 .f32)
variable (x2 : Vec F S256x1024 .bf16)
variable (x3 : Vec F S256x1024 .bf16)
variable (x4 : Vec F S256x1024 .bf16)
variable (x5 : Vec F S256x1024 .bf16)
variable (x6 : Vec F S4x512x256 .bf16)
variable (x7 : Vec F S1024x1024 .bf16)
variable (x8 : Vec F S1024x1024 .bf16)
variable (x9 : Vec F S1x1024 .f32)
variable (x10 : Vec F S1x1024 .f32)
/-- The gradient by the output of the merge product. -/
def T11 : Vec F S256x1024 .bf16 := k0_pay11 x1 (k0_pay5 x1) (k0_pay9 x0 x10 x9) (k0_pay10 x1)
/-- The gradient by the pooled branch. -/
def T12 : Vec F S256x1024 .bf16 := k0_pay15 x1 (k0_pay5 x1) (k0_pay9 x0 x10 x9) (k0_pay10 x1) x8 x2
/-- The gradient by the recurrent branch. -/
def T13 : Vec F S256x1024 .bf16 := k0_pay16 x1 (k0_pay5 x1) (k0_pay9 x0 x10 x9) (k0_pay10 x1) x8 x3
/-- The first gate columns of the gradient by the projection. -/
def T14 : Vec F S256x1024 .bf16 := k0_pay17 (k0_pay12 x1 (k0_pay5 x1) (k0_pay9 x0 x10 x9) (k0_pay10 x1) x8) (k0_pay13 x2) x4
/-- The second gate columns of the gradient by the projection. -/
def T19 : Vec F S256x1024 .bf16 := k0_pay18 (k0_pay12 x1 (k0_pay5 x1) (k0_pay9 x0 x10 x9) (k0_pay10 x1) x8) (k0_pay14 x3) x5
/-- The gradient by the pool. -/
def T15 : Vec F S256x512 .f32 := k0_pay3 (k0_pay15 x1 (k0_pay5 x1) (k0_pay9 x0 x10 x9) (k0_pay10 x1) x8 x2) (k0_pay19 (k0_pay15 x1 (k0_pay5 x1) (k0_pay9 x0 x10 x9) (k0_pay10 x1) x8 x2) (View.ld x6 (Rect.unit (s := S4x512x256) ![0, 0, 0] S1x512x256.size inb_S4x512x256_S1x512x256_0_0_0)) (View.ld x6 (Rect.unit (s := S4x512x256) ![1, 0, 0] S1x512x256.size inb_S4x512x256_S1x512x256_1_0_0))) (k0_pay20 (k0_pay15 x1 (k0_pay5 x1) (k0_pay9 x0 x10 x9) (k0_pay10 x1) x8 x2)) (k0_pay21 (View.ld x6 (Rect.unit (s := S4x512x256) ![2, 0, 0] S1x512x256.size inb_S4x512x256_S1x512x256_2_0_0))) (View.ld x6 (Rect.unit (s := S4x512x256) ![3, 0, 0] S1x512x256.size inb_S4x512x256_S1x512x256_3_0_0))
/-- The gradient by the normed recurrence. -/
def T16 : Vec F S256x1024 .f32 := k0_pay4 (k0_pay16 x1 (k0_pay5 x1) (k0_pay9 x0 x10 x9) (k0_pay10 x1) x8 x3) x7
end

/-! ## The pieces each run found, read back -/

section
variable (c : Dev nD) (i : grid0.Coords)
  (arg2 : Memref sig .tc .vmem S256x1024 .f32) (harg2 : arg2.IsWhole)
  (arg3 : Memref sig .tc .vmem S256x1024 .f32) (harg3 : arg3.IsWhole)
  (arg4 : Memref sig .tc .vmem S256x1024 .bf16) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S4x512x256 .bf16) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S256x1024 .bf16) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S256x1024 .bf16) (harg16 : arg16.IsWhole)
  (arg17 : Memref sig .tc .vmem S256x512 .f32) (harg17 : arg17.IsWhole)
  (arg18 : Memref sig .tc .vmem S256x1024 .f32) (harg18 : arg18.IsWhole)
  (arg19 : Memref sig .tc .vmem S1x1024 .f32) (harg19 : arg19.IsWhole)
  (arg20 : Memref sig .tc .vmem S1x1024 .f32) (harg20 : arg20.IsWhole)
  (arg21 : Memref sig .tc .vmem S256x1024 .bf16) (harg21 : arg21.IsWhole)
  (x0 : Vec F S256x1024 .f32)
  (x1 : Vec F S256x1024 .f32)
  (x2 : Vec F S256x1024 .bf16)
  (x3 : Vec F S256x1024 .bf16)
  (x4 : Vec F S256x1024 .bf16)
  (x5 : Vec F S256x1024 .bf16)
  (x6 : Vec F S4x512x256 .bf16)
  (x7 : Vec F S1024x1024 .bf16)
  (x8 : Vec F S1024x1024 .bf16)
  (x9 : Vec F S1x1024 .f32)
  (x10 : Vec F S1x1024 .f32)
theorem gotA11 (hc1 : cond1 i) (hc2 : ¬cond2 i) (hc3 : cond3 i)  (f) :
    arg13.view.read (Elt F) (arg13.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 ).1) = T11 x0 x1 x9 x10 := by
  rw [View.read_writes_eq_canon _ _ _ (View.cover_of_tiledL _ S256x1024.size (by sl_kernel_rfl))]
  frame_out
  rfl
theorem gotA12 (hc1 : cond1 i) (hc2 : ¬cond2 i) (hc3 : cond3 i)  (f) :
    arg14.view.read (Elt F) (arg14.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 ).2.1) = T12 x0 x1 x2 x8 x9 x10 := by
  rw [View.read_writes_eq_canon _ _ _ (View.cover_of_tiledL _ S256x1024.size (by sl_kernel_rfl))]
  frame_out
  rfl
theorem gotA13 (hc1 : cond1 i) (hc2 : ¬cond2 i) (hc3 : cond3 i)  (f) :
    arg15.view.read (Elt F) (arg15.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 ).2.2.1) = T13 x0 x1 x3 x8 x9 x10 := by
  rw [View.read_writes_eq_canon _ _ _ (View.cover_of_tiledL _ S256x1024.size (by sl_kernel_rfl))]
  frame_out
  rfl
theorem gotA14 (hc1 : cond1 i) (hc2 : ¬cond2 i) (hc3 : cond3 i)  (f) :
    arg16.view.read (Elt F) (arg16.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 ).2.2.2.1) = T14 x0 x1 x2 x4 x8 x9 x10 := by
  rw [View.read_writes_eq_canon _ _ _ (View.cover_of_tiledL _ S256x1024.size (by sl_kernel_rfl))]
  frame_out
  rfl
theorem gotA15 (hc1 : cond1 i) (hc2 : ¬cond2 i) (hc3 : cond3 i)  (f) :
    arg17.view.read (Elt F) (arg17.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 ).2.2.2.2.1) = T15 x0 x1 x2 x6 x8 x9 x10 := by
  rw [View.read_writes_eq_canon _ _ _ (View.cover_of_tiledL _ S256x512.size (by sl_kernel_rfl))]
  frame_out
  rfl
theorem gotA16 (hc1 : cond1 i) (hc2 : ¬cond2 i) (hc3 : cond3 i)  (f) :
    arg18.view.read (Elt F) (arg18.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 ).2.2.2.2.2.1) = T16 x0 x1 x3 x7 x8 x9 x10 := by
  rw [View.read_writes_eq_canon _ _ _ (View.cover_of_tiledL _ S256x1024.size (by sl_kernel_rfl))]
  frame_out
  rfl
theorem gotA17 (hc1 : cond1 i) (hc2 : ¬cond2 i) (hc3 : cond3 i)  (f) :
    arg19.view.read (Elt F) (arg19.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 ).2.2.2.2.2.2.1) = k0_pay7 x1 x0 x10 (k0_pay1 (F := F)) := by
  rw [View.read_writes_eq_canon _ _ _ (View.cover_of_tiledL _ S1x1024.size (by sl_kernel_rfl))]
  frame_out

theorem gotA18 (hc1 : cond1 i) (hc2 : ¬cond2 i) (hc3 : cond3 i)  (f) :
    arg20.view.read (Elt F) (arg20.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 ).2.2.2.2.2.2.2.1) = k0_pay8 x1 x0 x9 (k0_pay2 (F := F)) := by
  rw [View.read_writes_eq_canon _ _ _ (View.cover_of_tiledL _ S1x1024.size (by sl_kernel_rfl))]
  frame_out

theorem gotA19 (hc1 : cond1 i) (hc2 : ¬cond2 i) (hc3 : cond3 i)  (f) :
    arg21.view.read (Elt F) (arg21.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 ).2.2.2.2.2.2.2.2.1) = T19 x0 x1 x3 x5 x8 x9 x10 := by
  rw [View.read_writes_eq_canon _ _ _ (View.cover_of_tiledL _ S256x1024.size (by sl_kernel_rfl))]
  frame_out
  rfl
theorem gotB11 (hc1 : ¬cond1 i) (hc2 : ¬cond2 i) (hc3 : cond3 i) (y17 : Vec F S1x1024 .f32) (y18 : Vec F S1x1024 .f32) (f) :
    arg13.view.read (Elt F) (arg13.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 y17 y18).1) = T11 x0 x1 x9 x10 := by
  rw [View.read_writes_eq_canon _ _ _ (View.cover_of_tiledL _ S256x1024.size (by sl_kernel_rfl))]
  frame_out
  rfl
theorem gotB12 (hc1 : ¬cond1 i) (hc2 : ¬cond2 i) (hc3 : cond3 i) (y17 : Vec F S1x1024 .f32) (y18 : Vec F S1x1024 .f32) (f) :
    arg14.view.read (Elt F) (arg14.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 y17 y18).2.1) = T12 x0 x1 x2 x8 x9 x10 := by
  rw [View.read_writes_eq_canon _ _ _ (View.cover_of_tiledL _ S256x1024.size (by sl_kernel_rfl))]
  frame_out
  rfl
theorem gotB13 (hc1 : ¬cond1 i) (hc2 : ¬cond2 i) (hc3 : cond3 i) (y17 : Vec F S1x1024 .f32) (y18 : Vec F S1x1024 .f32) (f) :
    arg15.view.read (Elt F) (arg15.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 y17 y18).2.2.1) = T13 x0 x1 x3 x8 x9 x10 := by
  rw [View.read_writes_eq_canon _ _ _ (View.cover_of_tiledL _ S256x1024.size (by sl_kernel_rfl))]
  frame_out
  rfl
theorem gotB14 (hc1 : ¬cond1 i) (hc2 : ¬cond2 i) (hc3 : cond3 i) (y17 : Vec F S1x1024 .f32) (y18 : Vec F S1x1024 .f32) (f) :
    arg16.view.read (Elt F) (arg16.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 y17 y18).2.2.2.1) = T14 x0 x1 x2 x4 x8 x9 x10 := by
  rw [View.read_writes_eq_canon _ _ _ (View.cover_of_tiledL _ S256x1024.size (by sl_kernel_rfl))]
  frame_out
  rfl
theorem gotB15 (hc1 : ¬cond1 i) (hc2 : ¬cond2 i) (hc3 : cond3 i) (y17 : Vec F S1x1024 .f32) (y18 : Vec F S1x1024 .f32) (f) :
    arg17.view.read (Elt F) (arg17.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 y17 y18).2.2.2.2.1) = T15 x0 x1 x2 x6 x8 x9 x10 := by
  rw [View.read_writes_eq_canon _ _ _ (View.cover_of_tiledL _ S256x512.size (by sl_kernel_rfl))]
  frame_out
  rfl
theorem gotB16 (hc1 : ¬cond1 i) (hc2 : ¬cond2 i) (hc3 : cond3 i) (y17 : Vec F S1x1024 .f32) (y18 : Vec F S1x1024 .f32) (f) :
    arg18.view.read (Elt F) (arg18.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 y17 y18).2.2.2.2.2.1) = T16 x0 x1 x3 x7 x8 x9 x10 := by
  rw [View.read_writes_eq_canon _ _ _ (View.cover_of_tiledL _ S256x1024.size (by sl_kernel_rfl))]
  frame_out
  rfl
theorem gotB17 (hc1 : ¬cond1 i) (hc2 : ¬cond2 i) (hc3 : cond3 i) (y17 : Vec F S1x1024 .f32) (y18 : Vec F S1x1024 .f32) (f) :
    arg19.view.read (Elt F) (arg19.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 y17 y18).2.2.2.2.2.2.1) = k0_pay7 x1 x0 x10 y17 := by
  rw [View.read_writes_eq_canon _ _ _ (View.cover_of_tiledL _ S1x1024.size (by sl_kernel_rfl))]
  frame_out

theorem gotB18 (hc1 : ¬cond1 i) (hc2 : ¬cond2 i) (hc3 : cond3 i) (y17 : Vec F S1x1024 .f32) (y18 : Vec F S1x1024 .f32) (f) :
    arg20.view.read (Elt F) (arg20.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 y17 y18).2.2.2.2.2.2.2.1) = k0_pay8 x1 x0 x9 y18 := by
  rw [View.read_writes_eq_canon _ _ _ (View.cover_of_tiledL _ S1x1024.size (by sl_kernel_rfl))]
  frame_out

theorem gotB19 (hc1 : ¬cond1 i) (hc2 : ¬cond2 i) (hc3 : cond3 i) (y17 : Vec F S1x1024 .f32) (y18 : Vec F S1x1024 .f32) (f) :
    arg21.view.read (Elt F) (arg21.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 y17 y18).2.2.2.2.2.2.2.2.1) = T19 x0 x1 x3 x5 x8 x9 x10 := by
  rw [View.read_writes_eq_canon _ _ _ (View.cover_of_tiledL _ S256x1024.size (by sl_kernel_rfl))]
  frame_out
  rfl
theorem gotC14 (hc1 : ¬cond1 i) (hc2 : cond2 i) (hc3 : ¬cond3 i) (y19 : Vec F S256x1024 .bf16) (f) :
    arg16.view.read (Elt F) (arg16.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hc1 hc2 hc3 y19).1) = y19 := by
  rw [View.read_writes_eq_canon _ _ _ (View.cover_of_tiledL _ S256x1024.size (by sl_kernel_rfl))]
  frame_out

end

/-! ## What each buffer holds after each point -/

variable (m : (ℓ : Loc nD τ sig) → Buf (Elt F) ℓ) (ρ : Dev nD → PrngReg)

/-- The point at which the rows of point `t` were computed: the even one of the pair. -/
def even (t : Fin cfg0.N) : Fin cfg0.N := ⟨t.val / 2 * 2, lt_of_le_of_lt (Nat.div_mul_le_self _ _) t.isLt⟩
theorem even_of (t : Fin cfg0.N) (h : t.val % 2 = 0) : even t = t := Fin.ext (by show t.val / 2 * 2 = t.val; omega)
theorem even_pred (t : Fin cfg0.N) (h : t.val % 2 = 1) (h') : even ⟨t.val - 1, h'⟩ = even t :=
  Fin.ext (by show (t.val - 1) / 2 * 2 = t.val / 2 * 2; omega)
/-- The point that computes the `k`-th block of rows. -/
def pt (k : ℕ) (h : k < 8) : Fin cfg0.N := ⟨2 * k, by have : cfg0.N = 16 := N_0; omega⟩
theorem half (t : Fin cfg0.N) : t.val / 2 < 8 := by have := t.isLt; have : cfg0.N = 16 := N_0; omega

/-- The gradient by the gate, summed over the blocks of rows up to the `k`-th. -/
def sumGate (c : Dev nD) : (k : ℕ) → k < 8 → Vec F S1x1024 .f32
  | 0, h => k0_pay7 (iblk m c 1 (pt 0 h)) (iblk m c 0 (pt 0 h)) (iblk m c 10 (pt 0 h)) (F := F) k0_pay1
  | k + 1, h => k0_pay7 (iblk m c 1 (pt (k + 1) h)) (iblk m c 0 (pt (k + 1) h)) (iblk m c 10 (pt (k + 1) h)) (sumGate c k (Nat.lt_of_succ_lt h))
theorem sumGate_congr (c : Dev nD) {k k' : ℕ} (h h') (e : k = k') : sumGate m c k h = sumGate m c k' h' := by subst e; rfl
theorem sumGate_first (c : Dev nD) (t : Fin cfg0.N) (h : t.val = 0) : sumGate m c (t.val / 2) (half t) = k0_pay7 (iblk m c 1 t) (iblk m c 0 t) (iblk m c 10 t) (k0_pay1 (F := F)) := by
  obtain ⟨n, hn⟩ := t
  obtain rfl : n = 0 := h
  refine (sumGate_congr m c _ (by decide : 0 < 8) (Nat.zero_div 2)).trans ?_
  rfl
theorem sumGate_next (c : Dev nD) (t : Fin cfg0.N) (h : t.val ≠ 0) (h2 : t.val % 2 = 0) (h') :
    sumGate m c (t.val / 2) (half t) = k0_pay7 (iblk m c 1 t) (iblk m c 0 t) (iblk m c 10 t) (sumGate m c ((t.val - 1) / 2) h') := by
  obtain ⟨n, hn⟩ := t
  obtain ⟨k, rfl⟩ : ∃ k, n = 2 * (k + 1) := ⟨n / 2 - 1, by simp only at h h2; omega⟩
  have hk : k + 1 < 8 := by have := half ⟨_, hn⟩; simp only at this; omega
  rw [sumGate_congr m c _ hk (by simp only; omega), sumGate_congr m c h' (Nat.lt_of_succ_lt hk) (by simp only; omega)]
  rfl

/-- The gradient by the norm's weight, summed over the blocks of rows up to the `k`-th. -/
def sumNorm (c : Dev nD) : (k : ℕ) → k < 8 → Vec F S1x1024 .f32
  | 0, h => k0_pay8 (iblk m c 1 (pt 0 h)) (iblk m c 0 (pt 0 h)) (iblk m c 9 (pt 0 h)) (F := F) k0_pay2
  | k + 1, h => k0_pay8 (iblk m c 1 (pt (k + 1) h)) (iblk m c 0 (pt (k + 1) h)) (iblk m c 9 (pt (k + 1) h)) (sumNorm c k (Nat.lt_of_succ_lt h))
theorem sumNorm_congr (c : Dev nD) {k k' : ℕ} (h h') (e : k = k') : sumNorm m c k h = sumNorm m c k' h' := by subst e; rfl
theorem sumNorm_first (c : Dev nD) (t : Fin cfg0.N) (h : t.val = 0) : sumNorm m c (t.val / 2) (half t) = k0_pay8 (iblk m c 1 t) (iblk m c 0 t) (iblk m c 9 t) (k0_pay2 (F := F)) := by
  obtain ⟨n, hn⟩ := t
  obtain rfl : n = 0 := h
  refine (sumNorm_congr m c _ (by decide : 0 < 8) (Nat.zero_div 2)).trans ?_
  rfl
theorem sumNorm_next (c : Dev nD) (t : Fin cfg0.N) (h : t.val ≠ 0) (h2 : t.val % 2 = 0) (h') :
    sumNorm m c (t.val / 2) (half t) = k0_pay8 (iblk m c 1 t) (iblk m c 0 t) (iblk m c 9 t) (sumNorm m c ((t.val - 1) / 2) h') := by
  obtain ⟨n, hn⟩ := t
  obtain ⟨k, rfl⟩ : ∃ k, n = 2 * (k + 1) := ⟨n / 2 - 1, by simp only at h h2; omega⟩
  have hk : k + 1 < 8 := by have := half ⟨_, hn⟩; simp only at this; omega
  rw [sumNorm_congr m c _ hk (by simp only; omega), sumNorm_congr m c h' (Nat.lt_of_succ_lt hk) (by simp only; omega)]
  rfl

/-- The columns kept in scratch after the rows of point `t`. -/
def kept (c : Dev nD) (t : Fin cfg0.N) : Vec F S256x1024 .bf16 := T19 (iblk m c 0 t) (iblk m c 1 t) (iblk m c 3 t) (iblk m c 5 t) (iblk m c 8 t) (iblk m c 9 t) (iblk m c 10 t)

/-- The invariant: before the first point the scratch holds anything, afterwards the second gate columns of the last rows. -/
def PhiS (c : Dev nD) : (n : ℕ) → n ≤ cfg0.N → sProp 𝕄
  | 0, _ => Pipeline.ΦA spec0 c
  | n + 1, hn => iprop(owns (c : Thread nD τ) (Memref.whole cc0_scratch0) fullShare (kept m c (even ⟨n, hn⟩)) ∗ (∃ r, prngReg c r))

theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn
    = iprop(owns (c : Thread nD τ) (Memref.whole cc0_scratch0) fullShare (kept m c (even ⟨n, hn⟩)) ∗ (∃ r, prngReg c r)) := rfl
theorem PhiS_pos (c : Dev nD) (n : ℕ) (h : n ≤ cfg0.N) (hz : n ≠ 0) : PhiS m c n h
    = iprop(owns (c : Thread nD τ) (Memref.whole cc0_scratch0) fullShare (kept m c (even ⟨n - 1, by omega⟩)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => T11 (iblk m c 0 (even t)) (iblk m c 1 (even t)) (iblk m c 9 (even t)) (iblk m c 10 (even t))
    | ⟨12, _⟩ => T12 (iblk m c 0 (even t)) (iblk m c 1 (even t)) (iblk m c 2 (even t)) (iblk m c 8 (even t)) (iblk m c 9 (even t)) (iblk m c 10 (even t))
    | ⟨13, _⟩ => T13 (iblk m c 0 (even t)) (iblk m c 1 (even t)) (iblk m c 3 (even t)) (iblk m c 8 (even t)) (iblk m c 9 (even t)) (iblk m c 10 (even t))
    | ⟨14, _⟩ => if t.val % 2 = 0 then T14 (iblk m c 0 t) (iblk m c 1 t) (iblk m c 2 t) (iblk m c 4 t) (iblk m c 8 t) (iblk m c 9 t) (iblk m c 10 t) else kept m c (even t)
    | ⟨15, _⟩ => T15 (iblk m c 0 (even t)) (iblk m c 1 (even t)) (iblk m c 2 (even t)) (iblk m c 6 (even t)) (iblk m c 8 (even t)) (iblk m c 9 (even t)) (iblk m c 10 (even t))
    | ⟨16, _⟩ => T16 (iblk m c 0 (even t)) (iblk m c 1 (even t)) (iblk m c 3 (even t)) (iblk m c 7 (even t)) (iblk m c 8 (even t)) (iblk m c 9 (even t)) (iblk m c 10 (even t))
    | ⟨17, _⟩ => sumGate m c (t.val / 2) (half t)
    | ⟨18, _⟩ => sumNorm m c (t.val / 2) (half t)
    | ⟨_ + 19, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = T11 (iblk m c 0 (even t)) (iblk m c 1 (even t)) (iblk m c 9 (even t)) (iblk m c 10 (even t)) := by dsimp only [dats]
theorem after12 (c : Dev nD) (t : Fin cfg0.N) : (dats m 0 c).after 12 t = T12 (iblk m c 0 (even t)) (iblk m c 1 (even t)) (iblk m c 2 (even t)) (iblk m c 8 (even t)) (iblk m c 9 (even t)) (iblk m c 10 (even t)) := by dsimp only [dats]
theorem after13 (c : Dev nD) (t : Fin cfg0.N) : (dats m 0 c).after 13 t = T13 (iblk m c 0 (even t)) (iblk m c 1 (even t)) (iblk m c 3 (even t)) (iblk m c 8 (even t)) (iblk m c 9 (even t)) (iblk m c 10 (even t)) := by dsimp only [dats]
theorem after14 (c : Dev nD) (t : Fin cfg0.N) : (dats m 0 c).after 14 t = if t.val % 2 = 0 then T14 (iblk m c 0 t) (iblk m c 1 t) (iblk m c 2 t) (iblk m c 4 t) (iblk m c 8 t) (iblk m c 9 t) (iblk m c 10 t) else kept m c (even t) := by dsimp only [dats]
theorem after15 (c : Dev nD) (t : Fin cfg0.N) : (dats m 0 c).after 15 t = T15 (iblk m c 0 (even t)) (iblk m c 1 (even t)) (iblk m c 2 (even t)) (iblk m c 6 (even t)) (iblk m c 8 (even t)) (iblk m c 9 (even t)) (iblk m c 10 (even t)) := by dsimp only [dats]
theorem after16 (c : Dev nD) (t : Fin cfg0.N) : (dats m 0 c).after 16 t = T16 (iblk m c 0 (even t)) (iblk m c 1 (even t)) (iblk m c 3 (even t)) (iblk m c 7 (even t)) (iblk m c 8 (even t)) (iblk m c 9 (even t)) (iblk m c 10 (even t)) := by dsimp only [dats]
theorem after17 (c : Dev nD) (t : Fin cfg0.N) : (dats m 0 c).after 17 t = sumGate m c (t.val / 2) (half t) := by dsimp only [dats]
theorem after18 (c : Dev nD) (t : Fin cfg0.N) : (dats m 0 c).after 18 t = sumNorm m c (t.val / 2) (half t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-! An output idle at a pair's second point holds there what the first point left. -/

theorem idle11 : ∀ t : Fin cfg0.N, cfg0.idle 11 (cfg0.grid.coords t) = true → t.val % 2 = 1 :=
  (by decide +kernel : ∀ t : Fin grid0.N, cfg0.idle 11 (grid0.coords t) = true → t.val % 2 = 1)
theorem carry11 (c : Dev nD) (t : Fin cfg0.N) (h : t.val % 2 = 1) (h') :
    (dats m 0 c).after 11 t = (dats m 0 c).after 11 ⟨t.val - 1, h'⟩ := by rw [after11, after11, even_pred t h]
theorem fresh11 : ∀ t : Fin cfg0.N, t.val % 2 = 1 → cfg0.fresh 11 t.val = false :=
  (by decide +kernel : ∀ t : Fin grid0.N, t.val % 2 = 1 → cfg0.fresh 11 t.val = false)
theorem beforeP11 (c : Dev nD) (t : Fin cfg0.N) (h : t.val % 2 = 1) (d) :
    (dats m 0 c).before 11 t d = (dats m 0 c).after 11 ⟨t.val - 1, Nat.lt_of_le_of_lt (Nat.sub_le _ _) t.isLt⟩ := by
  have e := (dats m 0 c).before_out_traj 11 rfl (fun _ _ => rfl) (fun t _ hi _ => carry11 m c t (idle11 t hi) _) t.val t rfl d
  rw [fresh11 t h] at e
  exact e
theorem beforeC11 (c : Dev nD) (t : Fin cfg0.N) (h : t.val % 2 = 1) (d) : (dats m 0 c).before 11 t d = (dats m 0 c).after 11 t :=
  (beforeP11 m c t h d).trans (carry11 m c t h _).symm
theorem idle12 : ∀ t : Fin cfg0.N, cfg0.idle 12 (cfg0.grid.coords t) = true → t.val % 2 = 1 :=
  (by decide +kernel : ∀ t : Fin grid0.N, cfg0.idle 12 (grid0.coords t) = true → t.val % 2 = 1)
theorem carry12 (c : Dev nD) (t : Fin cfg0.N) (h : t.val % 2 = 1) (h') :
    (dats m 0 c).after 12 t = (dats m 0 c).after 12 ⟨t.val - 1, h'⟩ := by rw [after12, after12, even_pred t h]
theorem fresh12 : ∀ t : Fin cfg0.N, t.val % 2 = 1 → cfg0.fresh 12 t.val = false :=
  (by decide +kernel : ∀ t : Fin grid0.N, t.val % 2 = 1 → cfg0.fresh 12 t.val = false)
theorem beforeP12 (c : Dev nD) (t : Fin cfg0.N) (h : t.val % 2 = 1) (d) :
    (dats m 0 c).before 12 t d = (dats m 0 c).after 12 ⟨t.val - 1, Nat.lt_of_le_of_lt (Nat.sub_le _ _) t.isLt⟩ := by
  have e := (dats m 0 c).before_out_traj 12 rfl (fun _ _ => rfl) (fun t _ hi _ => carry12 m c t (idle12 t hi) _) t.val t rfl d
  rw [fresh12 t h] at e
  exact e
theorem beforeC12 (c : Dev nD) (t : Fin cfg0.N) (h : t.val % 2 = 1) (d) : (dats m 0 c).before 12 t d = (dats m 0 c).after 12 t :=
  (beforeP12 m c t h d).trans (carry12 m c t h _).symm
theorem idle13 : ∀ t : Fin cfg0.N, cfg0.idle 13 (cfg0.grid.coords t) = true → t.val % 2 = 1 :=
  (by decide +kernel : ∀ t : Fin grid0.N, cfg0.idle 13 (grid0.coords t) = true → t.val % 2 = 1)
theorem carry13 (c : Dev nD) (t : Fin cfg0.N) (h : t.val % 2 = 1) (h') :
    (dats m 0 c).after 13 t = (dats m 0 c).after 13 ⟨t.val - 1, h'⟩ := by rw [after13, after13, even_pred t h]
theorem fresh13 : ∀ t : Fin cfg0.N, t.val % 2 = 1 → cfg0.fresh 13 t.val = false :=
  (by decide +kernel : ∀ t : Fin grid0.N, t.val % 2 = 1 → cfg0.fresh 13 t.val = false)
theorem beforeP13 (c : Dev nD) (t : Fin cfg0.N) (h : t.val % 2 = 1) (d) :
    (dats m 0 c).before 13 t d = (dats m 0 c).after 13 ⟨t.val - 1, Nat.lt_of_le_of_lt (Nat.sub_le _ _) t.isLt⟩ := by
  have e := (dats m 0 c).before_out_traj 13 rfl (fun _ _ => rfl) (fun t _ hi _ => carry13 m c t (idle13 t hi) _) t.val t rfl d
  rw [fresh13 t h] at e
  exact e
theorem beforeC13 (c : Dev nD) (t : Fin cfg0.N) (h : t.val % 2 = 1) (d) : (dats m 0 c).before 13 t d = (dats m 0 c).after 13 t :=
  (beforeP13 m c t h d).trans (carry13 m c t h _).symm
theorem idle15 : ∀ t : Fin cfg0.N, cfg0.idle 15 (cfg0.grid.coords t) = true → t.val % 2 = 1 :=
  (by decide +kernel : ∀ t : Fin grid0.N, cfg0.idle 15 (grid0.coords t) = true → t.val % 2 = 1)
theorem carry15 (c : Dev nD) (t : Fin cfg0.N) (h : t.val % 2 = 1) (h') :
    (dats m 0 c).after 15 t = (dats m 0 c).after 15 ⟨t.val - 1, h'⟩ := by rw [after15, after15, even_pred t h]
theorem fresh15 : ∀ t : Fin cfg0.N, t.val % 2 = 1 → cfg0.fresh 15 t.val = false :=
  (by decide +kernel : ∀ t : Fin grid0.N, t.val % 2 = 1 → cfg0.fresh 15 t.val = false)
theorem beforeP15 (c : Dev nD) (t : Fin cfg0.N) (h : t.val % 2 = 1) (d) :
    (dats m 0 c).before 15 t d = (dats m 0 c).after 15 ⟨t.val - 1, Nat.lt_of_le_of_lt (Nat.sub_le _ _) t.isLt⟩ := by
  have e := (dats m 0 c).before_out_traj 15 rfl (fun _ _ => rfl) (fun t _ hi _ => carry15 m c t (idle15 t hi) _) t.val t rfl d
  rw [fresh15 t h] at e
  exact e
theorem beforeC15 (c : Dev nD) (t : Fin cfg0.N) (h : t.val % 2 = 1) (d) : (dats m 0 c).before 15 t d = (dats m 0 c).after 15 t :=
  (beforeP15 m c t h d).trans (carry15 m c t h _).symm
theorem idle16 : ∀ t : Fin cfg0.N, cfg0.idle 16 (cfg0.grid.coords t) = true → t.val % 2 = 1 :=
  (by decide +kernel : ∀ t : Fin grid0.N, cfg0.idle 16 (grid0.coords t) = true → t.val % 2 = 1)
theorem carry16 (c : Dev nD) (t : Fin cfg0.N) (h : t.val % 2 = 1) (h') :
    (dats m 0 c).after 16 t = (dats m 0 c).after 16 ⟨t.val - 1, h'⟩ := by rw [after16, after16, even_pred t h]
theorem fresh16 : ∀ t : Fin cfg0.N, t.val % 2 = 1 → cfg0.fresh 16 t.val = false :=
  (by decide +kernel : ∀ t : Fin grid0.N, t.val % 2 = 1 → cfg0.fresh 16 t.val = false)
theorem beforeP16 (c : Dev nD) (t : Fin cfg0.N) (h : t.val % 2 = 1) (d) :
    (dats m 0 c).before 16 t d = (dats m 0 c).after 16 ⟨t.val - 1, Nat.lt_of_le_of_lt (Nat.sub_le _ _) t.isLt⟩ := by
  have e := (dats m 0 c).before_out_traj 16 rfl (fun _ _ => rfl) (fun t _ hi _ => carry16 m c t (idle16 t hi) _) t.val t rfl d
  rw [fresh16 t h] at e
  exact e
theorem beforeC16 (c : Dev nD) (t : Fin cfg0.N) (h : t.val % 2 = 1) (d) : (dats m 0 c).before 16 t d = (dats m 0 c).after 16 t :=
  (beforeP16 m c t h d).trans (carry16 m c t h _).symm
theorem idle17 : ∀ t : Fin cfg0.N, cfg0.idle 17 (cfg0.grid.coords t) = true → t.val % 2 = 1 :=
  (by decide +kernel : ∀ t : Fin grid0.N, cfg0.idle 17 (grid0.coords t) = true → t.val % 2 = 1)
theorem carry17 (c : Dev nD) (t : Fin cfg0.N) (h : t.val % 2 = 1) (h') :
    (dats m 0 c).after 17 t = (dats m 0 c).after 17 ⟨t.val - 1, h'⟩ := by rw [after17, after17]; exact sumGate_congr m c _ _ (by simp only; omega)
theorem fresh17 : ∀ t : Fin cfg0.N, t.val ≠ 0 → cfg0.fresh 17 t.val = false :=
  (by decide +kernel : ∀ t : Fin grid0.N, t.val ≠ 0 → cfg0.fresh 17 t.val = false)
theorem beforeP17 (c : Dev nD) (t : Fin cfg0.N) (h : t.val ≠ 0) (d) :
    (dats m 0 c).before 17 t d = (dats m 0 c).after 17 ⟨t.val - 1, Nat.lt_of_le_of_lt (Nat.sub_le _ _) t.isLt⟩ := by
  have e := (dats m 0 c).before_out_traj 17 rfl (fun _ _ => rfl) (fun t _ hi _ => carry17 m c t (idle17 t hi) _) t.val t rfl d
  rw [fresh17 t h] at e
  exact e
theorem beforeC17 (c : Dev nD) (t : Fin cfg0.N) (h : t.val % 2 = 1) (d) : (dats m 0 c).before 17 t d = (dats m 0 c).after 17 t :=
  (beforeP17 m c t (by omega) d).trans (carry17 m c t h _).symm
theorem idle18 : ∀ t : Fin cfg0.N, cfg0.idle 18 (cfg0.grid.coords t) = true → t.val % 2 = 1 :=
  (by decide +kernel : ∀ t : Fin grid0.N, cfg0.idle 18 (grid0.coords t) = true → t.val % 2 = 1)
theorem carry18 (c : Dev nD) (t : Fin cfg0.N) (h : t.val % 2 = 1) (h') :
    (dats m 0 c).after 18 t = (dats m 0 c).after 18 ⟨t.val - 1, h'⟩ := by rw [after18, after18]; exact sumNorm_congr m c _ _ (by simp only; omega)
theorem fresh18 : ∀ t : Fin cfg0.N, t.val ≠ 0 → cfg0.fresh 18 t.val = false :=
  (by decide +kernel : ∀ t : Fin grid0.N, t.val ≠ 0 → cfg0.fresh 18 t.val = false)
theorem beforeP18 (c : Dev nD) (t : Fin cfg0.N) (h : t.val ≠ 0) (d) :
    (dats m 0 c).before 18 t d = (dats m 0 c).after 18 ⟨t.val - 1, Nat.lt_of_le_of_lt (Nat.sub_le _ _) t.isLt⟩ := by
  have e := (dats m 0 c).before_out_traj 18 rfl (fun _ _ => rfl) (fun t _ hi _ => carry18 m c t (idle18 t hi) _) t.val t rfl d
  rw [fresh18 t h] at e
  exact e
theorem beforeC18 (c : Dev nD) (t : Fin cfg0.N) (h : t.val % 2 = 1) (d) : (dats m 0 c).before 18 t d = (dats m 0 c).after 18 t :=
  (beforeP18 m c t (by omega) d).trans (carry18 m c t h _).symm

/-! ## The body's obligation -/

/-- A buffer at its stated contents is what the obligation asks, at an idle point as well if it was found at them. -/
theorem leaves_of (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  cases hi : cfg0.idle w (cfg0.grid.coords t) with
  | false => exact .rfl
  | true =>
    cases hf : (cfg0.win w).flush t with
    | true => exact .rfl
    | false =>
      show _ ⊢ iprop(∃ d, owns (c : Thread nD τ) ((cfg0.win w).stage (cfg0.slots t w)) fullShare ((dats m 0 c).before w t d))
      iintro H
      iexists (dats m 0 c).after w t
      rw [h hi]
      iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))
/-- what it leaves, -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))
/-- and what is asked of it. -/
def bodyAsk (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

theorem live14 : ∀ t : Fin cfg0.N, cfg0.idle 14 (cfg0.grid.coords t) = false :=
  (by decide +kernel : ∀ t : Fin grid0.N, cfg0.idle 14 (grid0.coords t) = false)

theorem ask (c : Dev nD) (t : Fin cfg0.N) : bodyPost m c t ⊢ bodyAsk m c t := by
  unfold bodyPost bodyAsk
  iintro ⟨HP, Ho, H0, H1, H2, H3, H4, H5, H6, H7, H8, H9, H10, H11, H12, H13, H14, H15, H16, H17, H18⟩
  isplitl [HP]; · iexact HP
  isplitl [Ho]; · iexact Ho
  isplitl [H0]; · iapply (leaves_of m c 0 t (fun hi => absurd hi Bool.false_ne_true)); iexact H0
  isplitl [H1]; · iapply (leaves_of m c 1 t (fun hi => absurd hi Bool.false_ne_true)); iexact H1
  isplitl [H2]; · iapply (leaves_of m c 2 t (fun hi => absurd hi Bool.false_ne_true)); iexact H2
  isplitl [H3]; · iapply (leaves_of m c 3 t (fun hi => absurd hi Bool.false_ne_true)); iexact H3
  isplitl [H4]; · iapply (leaves_of m c 4 t (fun hi => absurd hi Bool.false_ne_true)); iexact H4
  isplitl [H5]; · iapply (leaves_of m c 5 t (fun hi => absurd hi Bool.false_ne_true)); iexact H5
  isplitl [H6]; · iapply (leaves_of m c 6 t (fun hi => absurd hi Bool.false_ne_true)); iexact H6
  isplitl [H7]; · iapply (leaves_of m c 7 t (fun hi => absurd hi Bool.false_ne_true)); iexact H7
  isplitl [H8]; · iapply (leaves_of m c 8 t (fun hi => absurd hi Bool.false_ne_true)); iexact H8
  isplitl [H9]; · iapply (leaves_of m c 9 t (fun hi => absurd hi Bool.false_ne_true)); iexact H9
  isplitl [H10]; · iapply (leaves_of m c 10 t (fun hi => absurd hi Bool.false_ne_true)); iexact H10
  isplitl [H11]; · iapply (leaves_of m c 11 t (fun hi => beforeC11 m c t (idle11 t hi))); iexact H11
  isplitl [H12]; · iapply (leaves_of m c 12 t (fun hi => beforeC12 m c t (idle12 t hi))); iexact H12
  isplitl [H13]; · iapply (leaves_of m c 13 t (fun hi => beforeC13 m c t (idle13 t hi))); iexact H13
  isplitl [H14]; · iapply (leaves_of m c 14 t (fun hi => absurd ((live14 t).symm.trans hi) Bool.false_ne_true)); iexact H14
  isplitl [H15]; · iapply (leaves_of m c 15 t (fun hi => beforeC15 m c t (idle15 t hi))); iexact H15
  isplitl [H16]; · iapply (leaves_of m c 16 t (fun hi => beforeC16 m c t (idle16 t hi))); iexact H16
  isplitl [H17]; · iapply (leaves_of m c 17 t (fun hi => beforeC17 m c t (idle17 t hi))); iexact H17
  iapply (leaves_of m c 18 t (fun hi => beforeC18 m c t (idle18 t hi))); iexact H18

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl]
  rw [show (dats m 0 c).Φ t.succ = PhiS m c (t.val + 1) t.isLt from rfl, PhiS_succ]
  by_cases h : t.val % 2 = 0
  · have hc2 : ¬cond2 (grid0.coords t) := fun e => by have := (hcond2 t).mp e; omega
    have hc3 : cond3 (grid0.coords t) := (hcond3 t).mpr h
    rw [even_of t h]
    by_cases hz : t.val = 0
    · have hc1 : cond1 (grid0.coords t) := (hcond1 t).mpr hz
      rw [Phi_castSucc m c t, PhiS_zero m c _ _ hz, PhiA_eq]
      rw [after11 m c t, after12 m c t, after13 m c t, after14 m c t, after15 m c t, after16 m c t, if_pos h, even_of t h]
      rw [after17 m c t, after18 m c t, sumGate_first m c t hz, sumNorm_first m c t hz]
      iintro ⟨⟨H19, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runA c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexact H19
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩⟩
      isplitl [H19 Hg]
      · isplitl [H19]
        · unfold owns; iexists _; isplitr
          swap; · iexact H19
          ipureintro; exact gotA19 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _
        iexact Hg
      isplitl [Ho]; · iexact Ho
      isplitl [H0]; · rw [after0]; iexact H0
      isplitl [H1]; · rw [after1]; iexact H1
      isplitl [H2]; · rw [after2]; iexact H2
      isplitl [H3]; · rw [after3]; iexact H3
      isplitl [H4]; · rw [after4]; iexact H4
      isplitl [H5]; · rw [after5]; iexact H5
      isplitl [H6]; · rw [after6]; iexact H6
      isplitl [H7]; · rw [after7]; iexact H7
      isplitl [H8]; · rw [after8]; iexact H8
      isplitl [H9]; · rw [after9]; iexact H9
      isplitl [H10]; · rw [after10]; iexact H10
      isplitl [H11]
      · unfold owns; iexists _; isplitr
        swap; · iexact H11
        ipureintro; exact gotA11 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _
      isplitl [H12]
      · unfold owns; iexists _; isplitr
        swap; · iexact H12
        ipureintro; exact gotA12 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _
      isplitl [H13]
      · unfold owns; iexists _; isplitr
        swap; · iexact H13
        ipureintro; exact gotA13 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _
      isplitl [H14]
      · unfold owns; iexists _; isplitr
        swap; · iexact H14
        ipureintro; exact gotA14 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _
      isplitl [H15]
      · unfold owns; iexists _; isplitr
        swap; · iexact H15
        ipureintro; exact gotA15 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _
      isplitl [H16]
      · unfold owns; iexists _; isplitr
        swap; · iexact H16
        ipureintro; exact gotA16 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _
      isplitl [H17]
      · unfold owns; iexists _; isplitr
        swap; · iexact H17
        ipureintro; exact gotA17 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _
      unfold owns; iexists _; isplitr
      swap; · iexact H18
      ipureintro; exact gotA18 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _
    · have hc1 : ¬cond1 (grid0.coords t) := fun e => hz ((hcond1 t).mp e)
      rw [Phi_castSucc m c t, PhiS_pos m c _ _ hz]
      simp only [beforeP17 m c t hz, beforeP18 m c t hz]
      rw [after11 m c t, after12 m c t, after13 m c t, after14 m c t, after15 m c t, after16 m c t, if_pos h, even_of t h]
      rw [after17 m c t, after18 m c t, sumGate_next m c t hz h (half ⟨t.val - 1, Nat.lt_of_le_of_lt (Nat.sub_le _ _) t.isLt⟩), sumNorm_next m c t hz h (half ⟨t.val - 1, Nat.lt_of_le_of_lt (Nat.sub_le _ _) t.isLt⟩)]
      rw [after17, after18]
      iintro ⟨⟨H19, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runB c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _ _).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexact H17
      isplitl [H18]; · iexact H18
      isplitl [H19]; · iexists _; iexact H19
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩⟩
      isplitl [H19 Hg]
      · isplitl [H19]
        · unfold owns; iexists _; isplitr
          swap; · iexact H19
          ipureintro; exact gotB19 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _ _ _
        iexact Hg
      isplitl [Ho]; · iexact Ho
      isplitl [H0]; · rw [after0]; iexact H0
      isplitl [H1]; · rw [after1]; iexact H1
      isplitl [H2]; · rw [after2]; iexact H2
      isplitl [H3]; · rw [after3]; iexact H3
      isplitl [H4]; · rw [after4]; iexact H4
      isplitl [H5]; · rw [after5]; iexact H5
      isplitl [H6]; · rw [after6]; iexact H6
      isplitl [H7]; · rw [after7]; iexact H7
      isplitl [H8]; · rw [after8]; iexact H8
      isplitl [H9]; · rw [after9]; iexact H9
      isplitl [H10]; · rw [after10]; iexact H10
      isplitl [H11]
      · unfold owns; iexists _; isplitr
        swap; · iexact H11
        ipureintro; exact gotB11 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _ _ _
      isplitl [H12]
      · unfold owns; iexists _; isplitr
        swap; · iexact H12
        ipureintro; exact gotB12 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _ _ _
      isplitl [H13]
      · unfold owns; iexists _; isplitr
        swap; · iexact H13
        ipureintro; exact gotB13 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _ _ _
      isplitl [H14]
      · unfold owns; iexists _; isplitr
        swap; · iexact H14
        ipureintro; exact gotB14 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _ _ _
      isplitl [H15]
      · unfold owns; iexists _; isplitr
        swap; · iexact H15
        ipureintro; exact gotB15 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _ _ _
      isplitl [H16]
      · unfold owns; iexists _; isplitr
        swap; · iexact H16
        ipureintro; exact gotB16 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _ _ _
      isplitl [H17]
      · unfold owns; iexists _; isplitr
        swap; · iexact H17
        ipureintro; exact gotB17 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _ _ _
      unfold owns; iexists _; isplitr
      swap; · iexact H18
      ipureintro; exact gotB18 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _ _ _
  · have h : t.val % 2 = 1 := by omega
    have hz : t.val ≠ 0 := by omega
    have hc1 : ¬cond1 (grid0.coords t) := fun e => hz ((hcond1 t).mp e)
    have hc2 : cond2 (grid0.coords t) := (hcond2 t).mpr h
    have hc3 : ¬cond3 (grid0.coords t) := fun e => by have := (hcond3 t).mp e; omega
    rw [Phi_castSucc m c t, PhiS_pos m c _ _ hz, even_pred t h]
    simp only [beforeC11 m c t h, beforeC12 m c t h, beforeC13 m c t h, beforeC15 m c t h, beforeC16 m c t h, beforeC17 m c t h, beforeC18 m c t h]
    rw [after14 m c t, if_neg (by omega)]
    iintro ⟨⟨H19, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((runC c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _).2 _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    isplitl [H16]; · iexact H16
    isplitl [H17]; · iexact H17
    isplitl [H18]; · iexact H18
    isplitl [H19]; · iexact H19
    iintro ⟨H0, H1, H2, H3, H4, H5, H6, H7, H8, H9, H10, H11, H12, H13, ⟨%e14, H14⟩, H15, H16, H17, H18, H19⟩
    isplitl [H19 Hg]
    · isplitl [H19]; · iexact H19
      iexact Hg
    isplitl [Ho]; · iexact Ho
    isplitl [H0]; · rw [after0]; iexact H0
    isplitl [H1]; · rw [after1]; iexact H1
    isplitl [H2]; · rw [after2]; iexact H2
    isplitl [H3]; · rw [after3]; iexact H3
    isplitl [H4]; · rw [after4]; iexact H4
    isplitl [H5]; · rw [after5]; iexact H5
    isplitl [H6]; · rw [after6]; iexact H6
    isplitl [H7]; · rw [after7]; iexact H7
    isplitl [H8]; · rw [after8]; iexact H8
    isplitl [H9]; · rw [after9]; iexact H9
    isplitl [H10]; · rw [after10]; iexact H10
    isplitl [H11]; · iexact H11
    isplitl [H12]; · iexact H12
    isplitl [H13]; · iexact H13
    isplitl [H14]
    · unfold owns; iexists _; isplitr
      swap; · iexact H14
      ipureintro; exact gotC14 c _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc1 hc2 hc3 _ _
    isplitl [H15]; · iexact H15
    isplitl [H16]; · iexact H16
    isplitl [H17]; · iexact H17
    iexact H18

/-- The body table's row is the body at the point. -/
theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => ask m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦA spec0 c := by
  rw [show (dats m 0 c).Φ (Fin.last cfg0.N) = PhiS m c cfg0.N le_rfl from rfl,
    PhiS_pos m c _ _ (by have : cfg0.N = 16 := N_0; omega), PhiA_eq]
  iintro ⟨H19, Hg⟩
  isplitl [H19]
  · iexists _; iexact H19
  iexact Hg

/-! ## The run -/

set_option maxHeartbeats 4000000 in
set_option backward.isDefEq.respectTransparency.types false in
/-- The launch: every run ends with the arrays at what the proof data says, the host's line after the call done, and every
    counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_quiescent m ρ))

end Cert.KernelMergeIdeal.Hand

end
-- ==== Proof.Root.lean ====
/- Arithmetic of the extended reals that the gradients of the norms need: the constants, and the two ways of
   writing the derivative of `v^(-1/2)`. -/
module

public import Idealize.ShloMosaic.PureOps.Ideal
public import Idealize.ShloMosaic.PureOps.Ideal.Laws
public import Idealize.ShloMosaic.Lib.IdealHost

@[expose] public section

noncomputable section

open Idealize.ShloMosaic
open scoped BigOperators

namespace Cert.Root

/-- The binary32 pattern of `-1/2`. -/
theorem neg_half : Ideal.ofBits .f32 0xBF000000#32 = ((-(1 / 2) : ℝ) : EReal) := by
  simp [Ideal.ofBits, Ideal.ieee, -EReal.coe_mul]; norm_num

/-- The binary32 pattern of `1024`. -/
theorem c1024 : Ideal.ofBits .f32 0x44800000#32 = ((1024 : ℝ) : EReal) := by
  simp [Ideal.ofBits, Ideal.ieee, -EReal.coe_mul]; norm_num

/-- The binary32 pattern nearest to a millionth is positive. -/
theorem eps_pos : 0 < Ideal.ofBits .f32 0x358637BD#32 := by
  simp [Ideal.ofBits, Ideal.ieee, -EReal.coe_mul]

/-- A square is not negative. -/
theorem sq_nonneg (x : EReal) : 0 ≤ x * x := by
  induction x with
  | bot => simp
  | top => simp
  | coe r => exact_mod_cast mul_self_nonneg r

/-- A mean of squares plus the small constant is positive. -/
theorem mean_pos {n : ℕ} (x : Fin n → EReal) :
    0 < Ideal.div (∑ k, x k * x k) (Ideal.ofBits .f32 0x44800000#32) + Ideal.ofBits .f32 0x358637BD#32 := by
  have h : 0 ≤ Ideal.div (∑ k, x k * x k) (Ideal.ofBits .f32 0x44800000#32) := by
    rw [c1024, Ideal.div_coe (by norm_num)]
    refine mul_nonneg (Finset.sum_nonneg fun k _ => sq_nonneg _) ?_
    exact_mod_cast (by norm_num : (0 : ℝ) ≤ 1 / 1024)
  exact lt_of_lt_of_le eps_pos (le_add_of_nonneg_left h)

/-- `v^(-1/2) / v` is the cube of `v^(-1/2)` for a positive `v`; at infinity both are zero. -/
theorem rsqrt_div {v : EReal} (hv : 0 < v) :
    Ideal.div (Ideal.rsqrt v) v = Ideal.rsqrt v * Ideal.rsqrt v * Ideal.rsqrt v := by
  induction v with
  | bot => simp at hv
  | top => simp [Ideal.div]
  | coe r =>
    have hr : 0 < r := by exact_mod_cast hv
    rw [Ideal.rsqrt_coe, if_neg (not_lt.mpr hr.le), if_neg hr.ne', Ideal.div_coe hr.ne']
    norm_cast
    have h2 : (Real.sqrt r)⁻¹ * (Real.sqrt r)⁻¹ = 1 / r := by
      rw [← mul_inv, Real.mul_self_sqrt hr.le, one_div]
    rw [h2, mul_comm]

/-- Half of minus a value, twice, is minus the value. -/
theorem halves (y : EReal) : ((-(1 / 2) : ℝ) : EReal) * y + ((-(1 / 2) : ℝ) : EReal) * y = -y := by
  induction y with
  | bot => rw [EReal.coe_mul_bot_of_neg (by norm_num)]; simp
  | top => rw [EReal.coe_mul_top_of_neg (by norm_num)]; simp
  | coe r => norm_cast; ring

/-- The gradient through a row's inverse root, as the two programs write it: `-1/2 * (r / v)` added twice is
    `r * r * r` subtracted once (`S` is the sum over the row). -/
theorem root_grad (a u x S v : EReal) (hv : 0 < v) :
    a + u * Ideal.rsqrt v
      + x * ∑ _k : Fin 1, Ideal.div (S * (Ideal.ofBits .f32 0xBF000000#32 * Ideal.div (Ideal.rsqrt v) v)) (Ideal.ofBits .f32 0x44800000#32)
      + (∑ _k : Fin 1, Ideal.div (S * (Ideal.ofBits .f32 0xBF000000#32 * Ideal.div (Ideal.rsqrt v) v)) (Ideal.ofBits .f32 0x44800000#32)) * x
    = a + Ideal.rsqrt v * u
      - x * (Ideal.rsqrt v * Ideal.rsqrt v * Ideal.rsqrt v) * Ideal.div S (Ideal.ofBits .f32 0x44800000#32) := by
  rw [rsqrt_div hv, neg_half, c1024, Ideal.div_coe (by norm_num), Ideal.div_coe (by norm_num), Fin.sum_univ_one]
  generalize ((1 / 1024 : ℝ) : EReal) = k
  generalize hR : Ideal.rsqrt v * Ideal.rsqrt v * Ideal.rsqrt v = R
  generalize ht : ((-(1 / 2) : ℝ) : EReal) = h
  have e1 : x * (S * (h * R) * k) = h * (x * R * (S * k)) := by
    simp only [mul_comm, mul_left_comm, mul_assoc]
  have e2 : S * (h * R) * k * x = h * (x * R * (S * k)) := by
    rw [← e1, mul_comm]
  rw [e1, e2, add_assoc, ← ht, halves, mul_comm u, sub_eq_add_neg]

end Cert.Root

end
-- ==== Proof.MergeValue.lean ====
/- The gradient of the gated merge that closes a layer: the eight results of `KernelMergeIdeal` are those of
   `ReferenceMergeIdeal`, whatever the ten argument arrays hold.

   The gradient of the gated norm is the one place where the two are written differently: with `v` the mean square of a
   row plus the small constant and `r = v^(-1/2)`, the reference adds `-1/2 * (r / v)` twice and the kernel subtracts
   `r * r * r` once; `v` is positive. The kernel adds up the product with the pool's projection shard by shard, and
   keeps the second gate's columns over a grid point. -/
module

public import proofs.«01_k».proof.Proof.MergeFrame
public import proofs.«01_k».proof.Proof.Gen.ReferenceMergeIdeal.Run
public import proofs.«01_k».proof.Proof.Root
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeValue

/-- A whole activation array in either format, the packed projection, the weights, a row vector. -/
abbrev Act := FVec Ideal Cert.ReferenceMergeIdeal.S2048x1024 .f32
abbrev Low := FVec Ideal Cert.ReferenceMergeIdeal.S2048x1024 .bf16
abbrev Proj := FVec Ideal Cert.ReferenceMergeIdeal.S2048x7168 .bf16
abbrev Wp := FVec Ideal Cert.ReferenceMergeIdeal.S4x512x256 .bf16
abbrev Sq := FVec Ideal Cert.ReferenceMergeIdeal.S1024x1024 .bf16
abbrev Row := FVec Ideal Cert.ReferenceMergeIdeal.S1x1024 .f32

/-- The sigmoid. -/
def sg (p : EReal) : EReal := Ideal.div 1 (1 + Ideal.exp (-p))

/-- The gradient through a row's inverse root: the row's sum times `-1/2 * (r / v)`, divided by the length. -/
def back (S v : EReal) : EReal :=
  ∑ _k : Fin 1, Ideal.div (S * (Ideal.ofBits .f32 0xBF000000#32 * Ideal.div (Ideal.rsqrt v) v)) (Ideal.ofBits .f32 0x44800000#32)

/-- The two ways of writing the gradient of a normed entry. -/
theorem back_eq (u x S v : EReal) (hv : 0 < v) : u * Ideal.rsqrt v + x * back S v + back S v * x
    = Ideal.rsqrt v * u - x * (Ideal.rsqrt v * Ideal.rsqrt v * Ideal.rsqrt v) * Ideal.div S (Ideal.ofBits .f32 0x44800000#32) := by
  have h := Root.root_grad 0 u x S v hv
  rw [zero_add, zero_add] at h
  exact h

/-- The mean square of row `i`, plus the small constant. -/
def vr (y : Act) (i : Fin 2048) : EReal :=
  Ideal.div (∑ k : Fin 1024, y (ix2 i k) * y (ix2 i k)) (Ideal.ofBits .f32 0x44800000#32) + Ideal.ofBits .f32 0x358637BD#32

/-- The cotangent of the normed row. -/
def up (d : Act) (gt g : Row) (i : Fin 2048) (k : Fin 1024) : EReal := gt (ix2 0 k) * d (ix2 i k) * g (ix2 0 k)

/-- The gradient by the product before the norm. -/
def dyv (d y : Act) (gt g : Row) (i : Fin 2048) (k : Fin 1024) : EReal :=
  up d gt g i k * Ideal.rsqrt (vr y i) + y (ix2 i k) * back (∑ l : Fin 1024, y (ix2 i l) * up d gt g i l) (vr y i)
    + back (∑ l : Fin 1024, y (ix2 i l) * up d gt g i l) (vr y i) * y (ix2 i k)

/-- The gradient by the merge. -/
def dm (d y : Act) (wo : Sq) (gt g : Row) (i : Fin 2048) (l : Fin 1024) : EReal := ∑ n : Fin 1024, dyv d y gt g i n * wo (ix2 l n)

/-- The two gates. -/
def sp (p : Proj) (i : Fin 2048) (l : Fin 1024) : EReal := sg (p (ix2 i ⟨5120 + l.val, by omega⟩))
def sh (p : Proj) (i : Fin 2048) (l : Fin 1024) : EReal := sg (p (ix2 i ⟨6144 + l.val, by omega⟩))

section Values

variable (d y : Act) (p : Proj) (a b : Low) (wp : Wp) (wh wo : Sq) (gt g : Row)

/-- The eight arrays: the gradients by the product, by the two branches, by the two gates' columns, by the pool's and the
    recurrence's outputs, and of the output gate and the norm's weight. -/
def DY : Low := fun j => dyv d y gt g (j 0) (j 1)
def DA : Low := fun j => sp p (j 0) (j 1) * dm d y wo gt g (j 0) (j 1)
def DB : Low := fun j => sh p (j 0) (j 1) * dm d y wo gt g (j 0) (j 1)
/-- The gradient by the first gate's columns, by the second's. -/
def dgp (i : Fin 2048) (l : Fin 1024) : EReal := dm d y wo gt g i l * a (ix2 i l) * (sp p i l * (1 - sp p i l))
def dgh (i : Fin 2048) (l : Fin 1024) : EReal := dm d y wo gt g i l * b (ix2 i l) * (sh p i l * (1 - sh p i l))
def DG2 : FVec Ideal Cert.ReferenceMergeIdeal.S2048x2048 .bf16 := fun j =>
  if h : (j 1).val < 1024 then dgp d y p a wo gt g (j 0) ⟨(j 1).val, h⟩
  else dgh d y p b wo gt g (j 0) ⟨(j 1).val - 1024, by have := (j 1).isLt; simp at this; omega⟩
def DPOOL : FVec Ideal Cert.ReferenceMergeIdeal.S2048x512 .f32 := fun j =>
  ∑ l : Fin 1024, sp p (j 0) l * dm d y wo gt g (j 0) l * wp (ix3 ⟨l.val / 256, by omega⟩ (j 1) ⟨l.val % 256, by omega⟩)
def DREC : Act := fun j => ∑ l : Fin 1024, sh p (j 0) l * dm d y wo gt g (j 0) l * wh (ix2 (j 1) l)
def DGATE : Row := fun j => ∑ i : Fin 2048, d (ix2 i (j 1)) * (y (ix2 i (j 1)) * Ideal.rsqrt (vr y i) * g (ix2 0 (j 1)))
def DNORM : Row := fun j => ∑ i : Fin 2048, y (ix2 i (j 1)) * Ideal.rsqrt (vr y i) * (gt (ix2 0 (j 1)) * d (ix2 i (j 1)))

end Values

section Reference
open Cert.ReferenceMergeIdeal

variable (m : (ℓ : Loc nD τ sig) → Buf (Elt Ideal) ℓ)

theorem ref_DY (c : Dev nD) : Cert.ReferenceMergeIdeal.Value.res_main_v87 m c = DY (m ((c : Thread nD τ).loc main_arg0)) (m ((c : Thread nD τ).loc main_arg1)) (m ((c : Thread nD τ).loc main_arg8)) (m ((c : Thread nD τ).loc main_arg9)) := by
  funext j
  pointwise [Cert.ReferenceMergeIdeal.Value.res_main_v87, DY, up, vr, dyv, back, dm, sp, sh, sg, dgp, dgh]
theorem ref_DA (c : Dev nD) : Cert.ReferenceMergeIdeal.Value.res_main_v88 m c = DA (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) := by
  funext j
  pointwise [Cert.ReferenceMergeIdeal.Value.res_main_v88, DA, up, vr, dyv, back, dm, sp, sh, sg, dgp, dgh]
theorem ref_DB (c : Dev nD) : Cert.ReferenceMergeIdeal.Value.res_main_v89 m c = DB (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) := by
  funext j
  pointwise [Cert.ReferenceMergeIdeal.Value.res_main_v89, DB, up, vr, dyv, back, dm, sp, sh, sg, dgp, dgh]
theorem ref_DG2 (c : Dev nD) : Cert.ReferenceMergeIdeal.Value.res_main_v91 m c = DG2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := by
  funext j
  pointwise [Cert.ReferenceMergeIdeal.Value.res_main_v91, DG2, up, vr, dyv, back, dm, sp, sh, sg, dgp, dgh]
theorem ref_DPOOL (c : Dev nD) : Cert.ReferenceMergeIdeal.Value.res_main_v82 m c = DPOOL (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) (m ((c : Thread nD τ).loc main_arg9)) := by
  funext j
  pointwise [Cert.ReferenceMergeIdeal.Value.res_main_v82, DPOOL, up, vr, dyv, back, dm, sp, sh, sg, dgp, dgh]
theorem ref_DREC (c : Dev nD) : Cert.ReferenceMergeIdeal.Value.res_main_v86 m c = DREC (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) := by
  funext j
  pointwise [Cert.ReferenceMergeIdeal.Value.res_main_v86, DREC, up, vr, dyv, back, dm, sp, sh, sg, dgp, dgh]

/-- The run of the reference, its eight results written as those arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v87) = DY (m ((c : Thread nD τ).loc main_arg0)) (m ((c : Thread nD τ).loc main_arg1)) (m ((c : Thread nD τ).loc main_arg8)) (m ((c : Thread nD τ).loc main_arg9))
      ∧ r.2.mem ((c.tc : Thread nD τ).loc main_v88) = DA (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9))
      ∧ r.2.mem ((c.tc : Thread nD τ).loc main_v89) = DB (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9))
      ∧ r.2.mem ((c.tc : Thread nD τ).loc main_v91) = DG2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9))
      ∧ r.2.mem ((c.tc : Thread nD τ).loc main_v82) = DPOOL (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) (m ((c : Thread nD τ).loc main_arg9))
      ∧ r.2.mem ((c.tc : Thread nD τ).loc main_v86) = DREC (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v21) = DGATE (m ((c : Thread nD τ).loc main_arg0)) (m ((c : Thread nD τ).loc main_arg1)) (m ((c : Thread nD τ).loc main_arg9))
      ∧ r.2.mem ((c.tc : Thread nD τ).loc main_v24) = DNORM (m ((c : Thread nD τ).loc main_arg0)) (m ((c : Thread nD τ).loc main_arg1)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
    obtain ⟨h0, h1, h2, h3, h4, h5, h6, h7, ha⟩ := h c
    exact ⟨h0.trans (ref_DY m c), h1.trans (ref_DA m c), h2.trans (ref_DB m c), h3.trans (ref_DG2 m c), h4.trans (ref_DPOOL m c), h5.trans (ref_DREC m c),
      h6.trans (by funext j; pointwise [DGATE, up, vr, dyv, back, dm, sp, sh, sg, dgp, dgh]), h7.trans (by funext j; pointwise [DNORM, up, vr, dyv, back, dm, sp, sh, sg, dgp, dgh]), ha⟩)
    (Cert.ReferenceMergeIdeal.Value.run m ρ)

end Reference

section Kernel
open Cert.KernelMergeIdeal Cert.KernelMergeIdeal.Gen Cert.KernelMergeIdeal.Hand

variable (m : (ℓ : Loc nD τ sig) → Buf (Elt Ideal) ℓ)

/-- The blocks that grid point `t` writes, -/
theorem idxO : ∀ t : Fin cfg0.N, win0_11.index t = ![t.val / 2, 0] ∧ win0_12.index t = ![t.val / 2, 0] ∧ win0_13.index t = ![t.val / 2, 0]
    ∧ win0_14.index t = ![t.val / 2, 5 + t.val % 2] ∧ win0_15.index t = ![t.val / 2, 0] ∧ win0_16.index t = ![t.val / 2, 0]
    ∧ win0_17.index t = ![0, 0] ∧ win0_18.index t = ![0, 0] :=
  (by decide +kernel : ∀ t : Fin grid0.N, _)
/-- that the first point of its pair reads, -/
theorem idxE : ∀ t : Fin cfg0.N, win0_0.index (even t) = ![t.val / 2, 0] ∧ win0_1.index (even t) = ![t.val / 2, 0] ∧ win0_2.index (even t) = ![t.val / 2, 5] ∧ win0_3.index (even t) = ![t.val / 2, 6] ∧ win0_4.index (even t) = ![t.val / 2, 0] ∧ win0_5.index (even t) = ![t.val / 2, 0]
    ∧ win0_6.index (even t) = ![0, 0, 0] ∧ win0_7.index (even t) = ![0, 0] ∧ win0_8.index (even t) = ![0, 0] ∧ win0_9.index (even t) = ![0, 0] ∧ win0_10.index (even t) = ![0, 0] :=
  (by decide +kernel : ∀ t : Fin grid0.N, _)
/-- and that the first point of the `k`-th pair reads. -/
theorem idxP : ∀ k : Fin 8, win0_0.index (pt k.val k.isLt) = ![k.val, 0] ∧ win0_1.index (pt k.val k.isLt) = ![k.val, 0] ∧ win0_2.index (pt k.val k.isLt) = ![k.val, 5] ∧ win0_3.index (pt k.val k.isLt) = ![k.val, 6] ∧ win0_4.index (pt k.val k.isLt) = ![k.val, 0] ∧ win0_5.index (pt k.val k.isLt) = ![k.val, 0]
    ∧ win0_6.index (pt k.val k.isLt) = ![0, 0, 0] ∧ win0_7.index (pt k.val k.isLt) = ![0, 0] ∧ win0_8.index (pt k.val k.isLt) = ![0, 0] ∧ win0_9.index (pt k.val k.isLt) = ![0, 0] ∧ win0_10.index (pt k.val k.isLt) = ![0, 0] := by decide +kernel

section Tile

variable (x0 : FVec Ideal S256x1024 .f32) (x1 : FVec Ideal S256x1024 .f32) (x2 : FVec Ideal S256x1024 .bf16) (x3 : FVec Ideal S256x1024 .bf16) (x4 : FVec Ideal S256x1024 .bf16) (x5 : FVec Ideal S256x1024 .bf16) (x6 : FVec Ideal S4x512x256 .bf16) (x7 : FVec Ideal S1024x1024 .bf16) (x8 : FVec Ideal S1024x1024 .bf16) (x9 : FVec Ideal S1x1024 .f32) (x10 : FVec Ideal S1x1024 .f32)

/-- The same values of a tile of 256 rows, from the blocks that the tile's grid point reads. -/
def tv (i : Fin 256) : EReal :=
  Ideal.div (∑ k : Fin 1024, x1 (ix2 i k) * x1 (ix2 i k)) (Ideal.ofBits .f32 0x44800000#32) + Ideal.ofBits .f32 0x358637BD#32
def tu (i : Fin 256) (k : Fin 1024) : EReal := x9 (ix2 0 k) * x0 (ix2 i k) * x10 (ix2 0 k)
def td (i : Fin 256) (k : Fin 1024) : EReal :=
  tu x0 x9 x10 i k * Ideal.rsqrt (tv x1 i) + x1 (ix2 i k) * back (∑ l : Fin 1024, x1 (ix2 i l) * tu x0 x9 x10 i l) (tv x1 i)
    + back (∑ l : Fin 1024, x1 (ix2 i l) * tu x0 x9 x10 i l) (tv x1 i) * x1 (ix2 i k)
def tm (i : Fin 256) (l : Fin 1024) : EReal := ∑ n : Fin 1024, td x0 x1 x9 x10 i n * x8 (ix2 l n)

theorem up_at (i : Fin 256) (k : Fin 1024) : (k0_pay9 (F := Ideal) x0 x10 x9 (ix2 i k) : EReal) = tu x0 x9 x10 i k := by
  pointwise [k0_pay9, tu]
  rw [mul_comm (x0 _)]
theorem root_at (i : Fin 256) (k : Fin 1) : (k0_pay5 (F := Ideal) x1 (ix2 i k) : EReal) = Ideal.rsqrt (tv x1 i) := by
  pointwise [k0_pay5, tv]

/-- The gradient by the product, of a tile. -/
theorem dy_at (i : Fin 256) (k : Fin 1024) : (k0_pay11 (F := Ideal) x1 (k0_pay5 x1) (k0_pay9 x0 x10 x9) (k0_pay10 x1) (ix2 i k) : EReal) = td x0 x1 x9 x10 i k := by
  unfold td
  rw [back_eq _ _ _ (tv x1 i) (Root.mean_pos _)]
  pointwise [k0_pay11, k0_pay10]
  simp only [root_at, up_at]
  pointwise []
  simp only [mul_comm]

/-- The gradient by the merge, of a tile. -/
theorem dm_at (i : Fin 256) (l : Fin 1024) : (k0_pay12 (F := Ideal) x1 (k0_pay5 x1) (k0_pay9 x0 x10 x9) (k0_pay10 x1) x8 (ix2 i l) : EReal) = tm x0 x1 x8 x9 x10 i l := by
  pointwise [k0_pay12, tm]
  simp only [dy_at]

theorem sp_at (i : Fin 256) (l : Fin 1024) : (k0_pay13 (F := Ideal) x2 (ix2 i l) : EReal) = sg (x2 (ix2 i l)) := by
  pointwise [k0_pay13, sg]
  simp only [zero_sub]
theorem sh_at (i : Fin 256) (l : Fin 1024) : (k0_pay14 (F := Ideal) x3 (ix2 i l) : EReal) = sg (x3 (ix2 i l)) := by
  pointwise [k0_pay14, sg]
  simp only [zero_sub]

theorem da_at (i : Fin 256) (l : Fin 1024) : (k0_pay15 (F := Ideal) x1 (k0_pay5 x1) (k0_pay9 x0 x10 x9) (k0_pay10 x1) x8 x2 (ix2 i l) : EReal) = sg (x2 (ix2 i l)) * tm x0 x1 x8 x9 x10 i l := by
  pointwise [k0_pay15]
  rw [dm_at, sp_at, mul_comm]
theorem db_at (i : Fin 256) (l : Fin 1024) : (k0_pay16 (F := Ideal) x1 (k0_pay5 x1) (k0_pay9 x0 x10 x9) (k0_pay10 x1) x8 x3 (ix2 i l) : EReal) = sg (x3 (ix2 i l)) * tm x0 x1 x8 x9 x10 i l := by
  pointwise [k0_pay16]
  rw [dm_at, sh_at, mul_comm]

/-- The two gates' columns of a tile. -/
theorem gp_at (i : Fin 256) (l : Fin 1024) : (T14 (F := Ideal) x0 x1 x2 x4 x8 x9 x10 (ix2 i l) : EReal)
    = tm x0 x1 x8 x9 x10 i l * x4 (ix2 i l) * (sg (x2 (ix2 i l)) * (1 - sg (x2 (ix2 i l)))) := by
  unfold T14
  pointwise [k0_pay17]
  rw [dm_at, sp_at, mul_assoc]
theorem gh_at (i : Fin 256) (l : Fin 1024) : (T19 (F := Ideal) x0 x1 x3 x5 x8 x9 x10 (ix2 i l) : EReal)
    = tm x0 x1 x8 x9 x10 i l * x5 (ix2 i l) * (sg (x3 (ix2 i l)) * (1 - sg (x3 (ix2 i l)))) := by
  unfold T19
  pointwise [k0_pay18]
  rw [dm_at, sh_at, mul_assoc]

/-- The gradient by the pool's output, of a tile: the four shards' products add up to the whole one. -/
theorem pool_at (i : Fin 256) (k : Fin 512) : (T15 (F := Ideal) x0 x1 x2 x6 x8 x9 x10 (ix2 i k) : EReal)
    = ∑ l : Fin 1024, sg (x2 (ix2 i l)) * tm x0 x1 x8 x9 x10 i l * x6 (ix3 ⟨l.val / 256, by omega⟩ k ⟨l.val % 256, by omega⟩) := by
  unfold T15
  pointwise [k0_pay3, k0_pay19, k0_pay20, k0_pay21]
  simp only [da_at]
  refine Eq.trans ?_ (Fin.sum_mul_add_congr (S := 4) (n := 256)
    (F := fun s r => sg (x2 (ix2 i ⟨s.val * 256 + r.val, by omega⟩)) * tm x0 x1 x8 x9 x10 i ⟨s.val * 256 + r.val, by omega⟩ * x6 (ix3 s k r))
    fun s r hl => by
      have e1 : (⟨(s.val * 256 + r.val) / 256, by omega⟩ : Fin 4) = s := Fin.ext (by simp only; omega)
      have e2 : (⟨(s.val * 256 + r.val) % 256, by omega⟩ : Fin 256) = r := Fin.ext (by simp only; omega)
      simp only [e1, e2])
  rw [Fin.sum_univ_four]
  pointwise []

/-- The gradient by the recurrence's output, of a tile. -/
theorem rec_at (i : Fin 256) (k : Fin 1024) : (T16 (F := Ideal) x0 x1 x3 x7 x8 x9 x10 (ix2 i k) : EReal)
    = ∑ l : Fin 1024, sg (x3 (ix2 i l)) * tm x0 x1 x8 x9 x10 i l * x7 (ix2 k l) := by
  unfold T16
  pointwise [k0_pay4]
  simp only [db_at]

/-- A tile's part of the gate's gradient, of the norm's weight's. -/
def tGate (j : S1x1024.Idx) : EReal := ∑ i : Fin 256, x0 (ix2 i (j 1)) * (x1 (ix2 i (j 1)) * Ideal.rsqrt (tv x1 i) * x10 (ix2 0 (j 1)))
def tNorm (j : S1x1024.Idx) : EReal := ∑ i : Fin 256, x1 (ix2 i (j 1)) * Ideal.rsqrt (tv x1 i) * (x9 (ix2 0 (j 1)) * x0 (ix2 i (j 1)))

theorem zero1 (j : S1x1024.Idx) : k0_pay1 (F := Ideal) j = 0 := by pointwise [k0_pay1]
theorem zero2 (j : S1x1024.Idx) : k0_pay2 (F := Ideal) j = 0 := by pointwise [k0_pay2]
theorem gate_at (acc : FVec Ideal S1x1024 .f32) (j : S1x1024.Idx) : (k0_pay7 (F := Ideal) x1 x0 x10 acc j : EReal) = acc j + tGate x0 x1 x10 j := by
  pointwise [k0_pay7, k0_pay6, tGate]
  simp only [root_at]
theorem norm_at (acc : FVec Ideal S1x1024 .f32) (j : S1x1024.Idx) : (k0_pay8 (F := Ideal) x1 x0 x9 acc j : EReal) = acc j + tNorm x0 x1 x9 j := by
  pointwise [k0_pay8, k0_pay6, tNorm]
  simp only [root_at]
  refine congrArg _ (Finset.sum_congr rfl fun i _ => ?_)
  rw [mul_comm (x0 _), mul_comm]

end Tile

/-- The gradient by the product. -/
theorem final11 (c : Dev nD) : (dats m 0 c).arrAt 11 (cfgs 0).N = DY (m ((c : Thread nD τ).loc main_arg0)) (m ((c : Thread nD τ).loc main_arg1)) (m ((c : Thread nD τ).loc main_arg8)) (m ((c : Thread nD τ).loc main_arg9)) := by
  refine (dats m 0 c).arrAt_eq_of_covers 11 _ (by decide +kernel) fun t hf y => ?_
  blk_simp
  rw [after11]
  unfold T11
  idx_vars y
  refine (dy_at _ _ _ _ _ _).trans ?_
  pointwise [DY, up, vr, dyv, back, dm, sp, sh, sg, dgp, dgh, tv, tu, td, tm]
  blk_point [iblk, V, idxO t, idxE t]

/-- The gradient by the branch of the pool. -/
theorem final12 (c : Dev nD) : (dats m 0 c).arrAt 12 (cfgs 0).N = DA (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) := by
  refine (dats m 0 c).arrAt_eq_of_covers 12 _ (by decide +kernel) fun t hf y => ?_
  blk_simp
  rw [after12]
  unfold T12
  idx_vars y
  refine (da_at _ _ _ _ _ _ _ _).trans ?_
  pointwise [DA, up, vr, dyv, back, dm, sp, sh, sg, dgp, dgh, tv, tu, td, tm]
  blk_point [iblk, V, idxO t, idxE t]

/-- The gradient by the branch of the recurrence. -/
theorem final13 (c : Dev nD) : (dats m 0 c).arrAt 13 (cfgs 0).N = DB (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) := by
  refine (dats m 0 c).arrAt_eq_of_covers 13 _ (by decide +kernel) fun t hf y => ?_
  blk_simp
  rw [after13]
  unfold T13
  idx_vars y
  refine (db_at _ _ _ _ _ _ _ _).trans ?_
  pointwise [DB, up, vr, dyv, back, dm, sp, sh, sg, dgp, dgh, tv, tu, td, tm]
  blk_point [iblk, V, idxO t, idxE t]

/-- The gradient by the pool's output. -/
theorem final15 (c : Dev nD) : (dats m 0 c).arrAt 15 (cfgs 0).N = DPOOL (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) (m ((c : Thread nD τ).loc main_arg9)) := by
  refine (dats m 0 c).arrAt_eq_of_covers 15 _ (by decide +kernel) fun t hf y => ?_
  blk_simp
  rw [after15]
  idx_vars y
  refine (pool_at _ _ _ _ _ _ _ _ _).trans ?_
  pointwise [DPOOL, up, vr, dyv, back, dm, sp, sh, sg, dgp, dgh, tv, tu, td, tm]
  blk_point [iblk, V, idxO t, idxE t]

/-- The gradient by the recurrence's output. -/
theorem final16 (c : Dev nD) : (dats m 0 c).arrAt 16 (cfgs 0).N = DREC (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) := by
  refine (dats m 0 c).arrAt_eq_of_covers 16 _ (by decide +kernel) fun t hf y => ?_
  blk_simp
  rw [after16]
  idx_vars y
  refine (rec_at _ _ _ _ _ _ _ _ _).trans ?_
  pointwise [DREC, up, vr, dyv, back, dm, sp, sh, sg, dgp, dgh, tv, tu, td, tm]
  blk_point [iblk, V, idxO t, idxE t]

/-- The running sum after the `k`-th block of rows. -/
theorem sumGate_at (c : Dev nD) (j : S1x1024.Idx) : ∀ (k : ℕ) (h : k < 8),
    (sumGate m c k h j : EReal) = ∑ s : Fin (k + 1), tGate (iblk m c 0 (pt s.val (by omega))) (iblk m c 1 (pt s.val (by omega))) (iblk m c 10 (pt s.val (by omega))) j
  | 0, h => by
    rw [Fin.sum_univ_one]
    refine (gate_at _ _ _ _ j).trans ?_
    rw [zero1, zero_add]
    rfl
  | k + 1, h => by
    rw [Fin.sum_univ_castSucc]
    refine (gate_at _ _ _ _ j).trans ?_
    rw [sumGate_at c j k (Nat.lt_of_succ_lt h)]
    rfl

theorem final17 (c : Dev nD) : (dats m 0 c).arrAt 17 (cfgs 0).N = DGATE (m ((c : Thread nD τ).loc main_arg0)) (m ((c : Thread nD τ).loc main_arg1)) (m ((c : Thread nD τ).loc main_arg9)) := by
  refine (dats m 0 c).arrAt_eq_of_covers 17 _ (by decide +kernel) fun t hf y => ?_
  have ht : t.val / 2 = 7 := by have := (flush0_17 t).mp hf; have := t.isLt; have : cfg0.N = 16 := N_0; omega
  blk_simp
  rw [after17, sumGate_congr m c (half t) (by decide : 7 < 8) ht]
  refine (sumGate_at m c _ 7 _).trans ?_
  pointwise [tGate, tv, DGATE, vr]
  refine Fin.sum_mul_add_congr fun s k hl => ?_
  blk_point [iblk, V, idxO t, idxP s]

/-- The running sum after the `k`-th block of rows. -/
theorem sumNorm_at (c : Dev nD) (j : S1x1024.Idx) : ∀ (k : ℕ) (h : k < 8),
    (sumNorm m c k h j : EReal) = ∑ s : Fin (k + 1), tNorm (iblk m c 0 (pt s.val (by omega))) (iblk m c 1 (pt s.val (by omega))) (iblk m c 9 (pt s.val (by omega))) j
  | 0, h => by
    rw [Fin.sum_univ_one]
    refine (norm_at _ _ _ _ j).trans ?_
    rw [zero2, zero_add]
    rfl
  | k + 1, h => by
    rw [Fin.sum_univ_castSucc]
    refine (norm_at _ _ _ _ j).trans ?_
    rw [sumNorm_at c j k (Nat.lt_of_succ_lt h)]
    rfl

theorem final18 (c : Dev nD) : (dats m 0 c).arrAt 18 (cfgs 0).N = DNORM (m ((c : Thread nD τ).loc main_arg0)) (m ((c : Thread nD τ).loc main_arg1)) (m ((c : Thread nD τ).loc main_arg8)) := by
  refine (dats m 0 c).arrAt_eq_of_covers 18 _ (by decide +kernel) fun t hf y => ?_
  have ht : t.val / 2 = 7 := by have := (flush0_18 t).mp hf; have := t.isLt; have : cfg0.N = 16 := N_0; omega
  blk_simp
  rw [after18, sumNorm_congr m c (half t) (by decide : 7 < 8) ht]
  refine (sumNorm_at m c _ 7 _).trans ?_
  pointwise [tNorm, tv, DNORM, vr]
  refine Fin.sum_mul_add_congr fun s k hl => ?_
  blk_point [iblk, V, idxO t, idxP s]
/-- The blocks at a point that writes the first gate's columns, at one that writes the second's. -/
theorem idxF : ∀ t : Fin cfg0.N, t.val % 2 = 0 → win0_0.index t = ![t.val / 2, 0] ∧ win0_1.index t = ![t.val / 2, 0] ∧ win0_2.index t = ![t.val / 2, 5]
    ∧ win0_4.index t = ![t.val / 2, 0] ∧ win0_8.index t = ![0, 0] ∧ win0_9.index t = ![0, 0] ∧ win0_10.index t = ![0, 0] ∧ win0_14.index t = ![t.val / 2, 5] :=
  (by decide +kernel : ∀ t : Fin grid0.N, _)
theorem idxS : ∀ t : Fin cfg0.N, t.val % 2 = 1 → win0_14.index t = ![t.val / 2, 6] :=
  (by decide +kernel : ∀ t : Fin grid0.N, _)

/-- The gates' columns as a part of the whole packed array. -/
def GALL (d y : Act) (p : Proj) (a b : Low) (wo : Sq) (gt g : Row) : Proj := fun j =>
  if (j 1).val < 6144 then dgp d y p a wo gt g (j 0) ⟨(j 1).val % 1024, Nat.mod_lt _ (by decide)⟩
  else dgh d y p b wo gt g (j 0) ⟨(j 1).val % 1024, Nat.mod_lt _ (by decide)⟩

/-- Read in the first gate's columns, in the second's. -/
theorem GALL_low (d y : Act) (p : Proj) (a b : Low) (wo : Sq) (gt g : Row) (j : Cert.ReferenceMergeIdeal.S2048x7168.Idx) (h1 : 5120 ≤ (j 1).val) (h2 : (j 1).val < 6144) :
    GALL d y p a b wo gt g j = dgp d y p a wo gt g (j 0) ⟨(j 1).val - 5120, by omega⟩ := by
  unfold GALL
  rw [if_pos h2]
  exact congrArg _ (Fin.ext (by simp only; omega))
theorem GALL_high (d y : Act) (p : Proj) (a b : Low) (wo : Sq) (gt g : Row) (j : Cert.ReferenceMergeIdeal.S2048x7168.Idx) (h2 : 6144 ≤ (j 1).val) (h3 : (j 1).val < 7168) :
    GALL d y p a b wo gt g j = dgh d y p b wo gt g (j 0) ⟨(j 1).val - 6144, by omega⟩ := by
  unfold GALL
  rw [if_neg (by omega)]
  exact congrArg _ (Fin.ext (by simp only; omega))

/-- The buffer of the gates' columns: they are written at the columns from 5120 on. -/
theorem final14 (c : Dev nD) : (dats m 0 c).arrAt 14 (cfgs 0).N
    = fun i => if 5120 ≤ (i 1).val then GALL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) i else (dats m 0 c).A 14 i := by
  refine (dats m 0 c).arrAt_eq_of_coversWhere 14 _ (fun β => 5 ≤ β (1 : Fin _)) (by decide +kernel) (fun t hf y => ?_)
    (fun j => by blk_simp [Pipeline.Window.cell_apply]; omega)
  blk_simp
  rw [after14]
  rcases Nat.mod_two_eq_zero_or_one t.val with h | h
  · rw [if_pos h]
    idx_vars y
    refine (gp_at _ _ _ _ _ _ _ _ _).trans ?_
    refine Eq.trans ?_ (GALL_low _ _ _ _ _ _ _ _ _ (by blk_simp [idxF t h]; omega) (by blk_simp [idxF t h]; omega)).symm
    pointwise [up, vr, dyv, back, dm, sp, sh, sg, dgp, dgh, tv, tu, td, tm]
    blk_point [iblk, V, idxF t h]
  · rw [if_neg (by omega)]
    unfold kept
    idx_vars y
    refine (gh_at _ _ _ _ _ _ _ _ _).trans ?_
    refine Eq.trans ?_ (GALL_high _ _ _ _ _ _ _ _ _ (by blk_simp [idxS t h]; omega) (by blk_simp [idxS t h]; omega)).symm
    pointwise [up, vr, dyv, back, dm, sp, sh, sg, dgp, dgh, tv, tu, td, tm]
    blk_point [iblk, V, idxS t h, idxE t]

/-- From column 5120 on it is the two gates' columns side by side. -/
theorem GALL_slice (d y : Act) (p : Proj) (a b : Low) (wo : Sq) (gt g : Row) (i : Fin 2048) (l : Fin 2048) :
    GALL d y p a b wo gt g (ix2 i ⟨5120 + l.val, by omega⟩) = DG2 d y p a b wo gt g (ix2 i l) := by
  by_cases h : l.val < 1024
  · refine (GALL_low _ _ _ _ _ _ _ _ _ (Nat.le_add_right _ _) (by show 5120 + l.val < 6144; omega)).trans ?_
    refine Eq.trans ?_ (dif_pos (show ((ix2 i l : Cert.ReferenceMergeIdeal.S2048x2048.Idx) 1).val < 1024 from h)).symm
    exact congrArg (dgp d y p a wo gt g i) (Fin.ext (Nat.add_sub_cancel_left _ _))
  · refine (GALL_high _ _ _ _ _ _ _ _ _ (by show 6144 ≤ 5120 + l.val; omega) (by show 5120 + l.val < 7168; omega)).trans ?_
    refine Eq.trans ?_ (dif_neg (show ¬ ((ix2 i l : Cert.ReferenceMergeIdeal.S2048x2048.Idx) 1).val < 1024 from h)).symm
    exact congrArg (dgh d y p b wo gt g i) (Fin.ext (by show 5120 + l.val - 6144 = l.val - 1024; omega))

/-- The host's slice after the call takes the two gates' columns. -/
theorem tail_v1 (c : Dev nD) : Pipeline.afterTail₀ cfgs (dats m) 0 (V0 m) [hostOps1] c main_v1 = DG2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := by
  unfold Pipeline.afterTail₀
  after_results
  refine (congrArg (fun x => extractStridedSlice S2048x2048 ![0, 5120] x slices_S2048x7168_S2048x2048_0_5120)
    (((dats m 0 c).withArrays_arrAt sharedIn0 (V0 m c) (A_eq m c) 14).trans (final14 m c))).trans ?_
  funext j
  idx_vars j
  pointwise []
  exact GALL_slice _ _ _ _ _ _ _ _ _ _

end Kernel

end Cert.MergeValue

end
-- ==== Proof.MergeClaim.lean ====
/- The claims on the gradient of the merge: the arguments end unchanged and every counter at zero, the results equal the
   reference's. -/
module

public import proofs.«01_k».proof.Defs
public import proofs.«01_k».proof.Proof.Gen.KernelMerge.Frame
public import proofs.«01_k».proof.Proof.MergeValue
public import Idealize.ShloMosaic.Lib.Claim

@[expose] public section

set_option maxRecDepth 16384

noncomputable section

open Idealize.ShloMosaic Idealize.ShloMosaic.TcCoe Idealize.SL.Sem

namespace Cert.Proof

/-- The two programs' tables of bodies are the same, -/
theorem bodies_merge : Cert.KernelMerge.defs₀ (F := Bits) = Cert.KernelMergeIdeal.defs₀ :=
  congrArg (Defs.onTc (nD := Cert.KernelMerge.nD) (τ := Cert.KernelMerge.τ) (sig := Cert.KernelMerge.sig) (Val := Elt Bits) (Λ := Cert.KernelMerge.Λ₀))
    (funext fun l => funext fun a =>
      match l, a with
      | 0, (t, s) => rfl
      | ⟨_ + 1, h⟩, _ => absurd h (Nat.not_lt.2 (Nat.le_add_left _ _)))
/-- and so are their tables with the pipeline's. -/
theorem tables_merge : Cert.KernelMerge.defs (F := Bits) = Cert.KernelMergeIdeal.defs :=
  congrArg (Pipeline.defs (Cert.KernelMerge.pcfgs (F := Bits))) bodies_merge

/-- The frame of the merge's gradient at machine floats, by the run written for any float values, -/
theorem frame_merge : Cert.quiescent_KernelMerge := by
  intro m ρ _
  rw [tables_merge]
  exact Cert.KernelMergeIdeal.Hand.frame (F := Bits) m ρ
/-- and at the reals. -/
theorem frame_merge_ideal : Cert.quiescent_KernelMergeIdeal := fun m ρ _ => Cert.KernelMergeIdeal.Hand.frame m ρ
set_option maxHeartbeats 8000000 in
/-- The eight results are the reference's. -/
theorem algebraic_merge : Cert.algebraic_KernelMergeIdeal_ReferenceMergeIdeal := by
  intro m g m' g' hpre hagree
  refine ⟨fun c => (Cert.KernelMergeIdeal.Hand.dats m 0 c).arrAt 11 (Cert.KernelMergeIdeal.cfgs 0).N, fun c => (Cert.KernelMergeIdeal.Hand.dats m 0 c).arrAt 12 (Cert.KernelMergeIdeal.cfgs 0).N, fun c => (Cert.KernelMergeIdeal.Hand.dats m 0 c).arrAt 13 (Cert.KernelMergeIdeal.cfgs 0).N, fun c => Pipeline.afterTail₀ Cert.KernelMergeIdeal.cfgs (Cert.KernelMergeIdeal.Hand.dats m) 0 (Cert.KernelMergeIdeal.Gen.V0 m) [Cert.KernelMergeIdeal.Gen.hostOps1] c Cert.KernelMergeIdeal.main_v1, fun c => (Cert.KernelMergeIdeal.Hand.dats m 0 c).arrAt 15 (Cert.KernelMergeIdeal.cfgs 0).N, fun c => (Cert.KernelMergeIdeal.Hand.dats m 0 c).arrAt 16 (Cert.KernelMergeIdeal.cfgs 0).N, fun c => (Cert.KernelMergeIdeal.Hand.dats m 0 c).arrAt 17 (Cert.KernelMergeIdeal.cfgs 0).N, fun c => (Cert.KernelMergeIdeal.Hand.dats m 0 c).arrAt 18 (Cert.KernelMergeIdeal.cfgs 0).N, ?_, ?_⟩
  · exact (θ_run _ _ _).mono (fun r h c => ⟨(h.2 c).1 11, (h.2 c).1 12, (h.2 c).1 13, (h.2 c).2 Cert.KernelMergeIdeal.main_v1 (by decide), (h.2 c).1 15, (h.2 c).1 16, (h.2 c).1 17, (h.2 c).1 18, h.1.1 c⟩)
      (θ_run_and (Cert.KernelMergeIdeal.Hand.frame m g) (Cert.KernelMergeIdeal.Hand.run_main m g))
  · run_from Cert.MergeValue.ref_run m' g'
    · exact (Cert.MergeValue.final11 m c).symm
    · exact (Cert.MergeValue.final12 m c).symm
    · exact (Cert.MergeValue.final13 m c).symm
    · exact (Cert.MergeValue.tail_v1 m c).symm
    · exact (Cert.MergeValue.final15 m c).symm
    · exact (Cert.MergeValue.final16 m c).symm
    · exact (Cert.MergeValue.final17 m c).symm
    · exact (Cert.MergeValue.final18 m c).symm

end Cert.Proof

end
-- ==== Proof.PoolSums.lean ====
/- Window sums: the sum of a sequence's last `w` values up to a place, as a difference of running sums and as sums of
   shorter window sums, both ways in which the pool writes it. -/
module

public import Idealize.ShloMosaic.Lib.Pipeline.ValueKit

@[expose] public section

noncomputable section

open Idealize.ShloMosaic

namespace Cert.PoolSums

/-- The sum of the last `w` values of `f` up to `i`, fewer at the beginning. -/
def win (f : ℕ → EReal) (w i : ℕ) : EReal := ∑ r ∈ Finset.range w, if r ≤ i then f (i - r) else 0

/-- The sum of all values of `f` up to `i`. -/
def run (f : ℕ → EReal) (i : ℕ) : EReal := ∑ r ∈ Finset.range (i + 1), f r

/-- A window of one value. -/
theorem win_one (f : ℕ → EReal) (i : ℕ) : win f 1 i = f i := by simp [win]

/-- A window twice as long is two windows, the second shifted by the first's length. -/
theorem win_double (f : ℕ → EReal) (w i : ℕ) :
    win f w i + (if w ≤ i then win f w (i - w) else 0) = win f (w + w) i := by
  unfold win
  rw [Finset.sum_range_add]
  congr 1
  split
  · rename_i h
    refine Finset.sum_congr rfl fun r _ => ?_
    by_cases hr : r ≤ i - w
    · rw [if_pos hr, if_pos (by omega), Nat.sub_sub]
    · rw [if_neg hr, if_neg (by omega)]
  · rename_i h
    exact (Finset.sum_eq_zero fun r _ => if_neg (by omega)).symm

/-- A running sum is the running sum `w` places earlier and a window. -/
theorem win_add_run (f : ℕ → EReal) (w i : ℕ) : win f w i + (if w ≤ i then run f (i - w) else 0) = run f i := by
  have hrun : ∀ n, run f n = ∑ r ∈ Finset.range (n + 1), f (n - r) := fun n => by
    unfold run
    exact (Finset.sum_range_reflect f (n + 1)).symm
  by_cases h : w ≤ i
  · rw [if_pos h, hrun, hrun, show i + 1 = w + (i - w + 1) by omega, Finset.sum_range_add (fun r => f (i - r)) w]
    refine congrArg₂ (fun a b : EReal => a + b) (Finset.sum_congr rfl fun r hr => ?_) (Finset.sum_congr rfl fun r hr => ?_)
    · exact if_pos (by have := Finset.mem_range.1 hr; omega)
    · exact congrArg f (Nat.sub_sub _ _ _)
  · rw [if_neg h, add_zero, hrun]
    unfold win
    rw [show w = (i + 1) + (w - (i + 1)) by omega, Finset.sum_range_add]
    rw [show ∑ x ∈ Finset.range (w - (i + 1)), (if i + 1 + x ≤ i then f (i - (i + 1 + x)) else 0) = 0 from
      Finset.sum_eq_zero fun r _ => if_neg (by omega), add_zero]
    refine Finset.sum_congr rfl fun r hr => ?_
    rw [if_pos (by have := Finset.mem_range.1 hr; omega)]

/-- A running sum of finite values is finite. -/
theorem run_real (f : ℕ → EReal) (hf : ∀ r, f r ≠ ⊤ ∧ f r ≠ ⊥) (i : ℕ) : run f i ≠ ⊤ ∧ run f i ≠ ⊥ := by
  have h : ∀ n, (∑ r ∈ Finset.range n, f r) = ((∑ r ∈ Finset.range n, (f r).toReal : ℝ) : EReal) := fun n => by
    induction n with
    | zero => simp
    | succ n ih => rw [Finset.sum_range_succ, Finset.sum_range_succ, ih, EReal.coe_add, EReal.coe_toReal (hf n).1 (hf n).2]
  unfold run
  rw [h]
  exact ⟨EReal.coe_ne_top _, EReal.coe_ne_bot _⟩

/-- For finite values a window is the difference of two running sums. -/
theorem run_sub (f : ℕ → EReal) (hf : ∀ r, f r ≠ ⊤ ∧ f r ≠ ⊥) (w i : ℕ) :
    run f i - (if w ≤ i then run f (i - w) else 0) = win f w i := by
  rw [← win_add_run f w i]
  split
  · have hr := run_real f hf (i - w)
    rw [← EReal.coe_toReal hr.1 hr.2]
    exact EReal.add_sub_cancel_right
  · simp

/-- A fold by addition is the sum. -/
theorem fold_add {α : Type} (g : α → EReal) (l : List α) (a : EReal) :
    l.foldl (fun r n => r + g n) a = a + (l.map g).sum := by
  induction l generalizing a with
  | nil => simp
  | cons x l ih => rw [List.foldl_cons, ih, List.map_cons, List.sum_cons, add_assoc]

/-- What one place of the host's window adds: the element there, or nothing beside the array. -/
def term {N K : ℕ} {φ : FTy} (x : FVec Ideal ⟨3, ![1, N, K]⟩ φ) (i : Fin N) (k : Fin K) (p : (⟨3, ![1, N, 1]⟩ : Shape).Idx) : EReal :=
  if hin : ∀ a : Fin 3, (![0, N - 1, 0] : Fin 3 → ℕ) a ≤ ((ix3 0 i k : (⟨3, ![1, N, K]⟩ : Shape).Idx) a).val * (![1, 1, 1] : Fin 3 → ℕ) a + (p a).val ∧
    ((ix3 0 i k : (⟨3, ![1, N, K]⟩ : Shape).Idx) a).val * (![1, 1, 1] : Fin 3 → ℕ) a + (p a).val - (![0, N - 1, 0] : Fin 3 → ℕ) a < (![1, N, K] : Fin 3 → ℕ) a
  then x (fun a => ⟨_, (hin a).2⟩) else 0

/-- The host's running sum along the rows. -/
theorem cumsum_at {N K : ℕ} {φ : FTy} (x : FVec Ideal ⟨3, ![1, N, K]⟩ φ) (init : FVec Ideal ⟨0, ![]⟩ φ)
    (h : Shape.ReduceWindows ⟨3, ![1, N, K]⟩ ![1, N, 1] ![1, 1, 1] ![0, N - 1, 0] ![0, 0, 0] ⟨3, ![1, N, K]⟩)
    (hu : 0 < (⟨0, ![]⟩ : Shape).numel) (h0 : ∀ j, (init j : EReal) = 0) (f : ℕ → EReal) (i : Fin N) (k : Fin K)
    (hf : ∀ r : Fin N, (x (ix3 0 r k) : EReal) = f r) :
    (Host.reduceWindowAdd (F := Ideal) ![1, N, 1] ![1, 1, 1] ![0, N - 1, 0] ![0, 0, 0] x init h hu (ix3 0 i k) : EReal)
      = run f i := by
  refine (fold_add _ _ _).trans ?_
  rw [h0, zero_add, ← Fin.sum_univ_def]
  let G := term x i k
  refine (Finset.sum_congr rfl fun n _ => (?_ : _ = G ((Shape.rowMajor ⟨3, ![1, N, 1]⟩).symm n))).trans
    ((Equiv.sum_comp (Shape.rowMajor ⟨3, ![1, N, 1]⟩).symm G).trans ?_)
  · split
    · rename_i hin
      show _ = term x i k _
      unfold term
      split
      · rfl
      · rename_i hn
        exact absurd (fun a => hin a) hn
    · rename_i hin
      show _ = term x i k _
      unfold term
      split
      · rename_i hn
        exact absurd (fun a => hn a) hin
      · rfl
  rw [sum_idx3, Fin.sum_univ_one]
  have hN := i.isLt
  have step : ∀ b : Fin N, (∑ c : Fin 1, G (ix3 0 b c))
      = if N - 1 ≤ i.val + b.val then f (i.val + b.val - (N - 1)) else 0 := fun b => by
    rw [Fin.sum_univ_one]
    show term x i k _ = _
    unfold term
    by_cases hb : N - 1 ≤ i.val + b.val
    · have hlt : i.val + b.val - (N - 1) < N := by have := b.isLt; omega
      rw [if_pos hb, dif_pos (fun a => match a with
        | 0 => ⟨Nat.zero_le _, by simp⟩
        | 1 => ⟨by simpa using hb, by simpa using hlt⟩
        | 2 => ⟨Nat.zero_le _, by simp [k.isLt]⟩)]
      refine Eq.trans (congrArg x (funext fun a => Fin.ext ?_)) (hf ⟨_, hlt⟩)
      match a with
      | 0 => simp
      | 1 => simp
      | 2 => simp
    · rw [if_neg hb, dif_neg (fun hin => hb (by simpa using (hin 1).1))]
  refine (Finset.sum_congr rfl fun b _ => step b).trans ?_
  rw [Fin.sum_univ_eq_sum_range (fun b => if N - 1 ≤ i.val + b then f (i.val + b - (N - 1)) else 0) N]
  unfold run
  rw [show Finset.range N = Finset.range ((N - 1 - i.val) + (i.val + 1)) from congrArg _ (by omega), Finset.sum_range_add,
    Finset.sum_eq_zero (fun b hb => if_neg (by have := Finset.mem_range.1 hb; omega)), zero_add]
  refine Finset.sum_congr rfl fun r _ => ?_
  rw [if_pos (by omega)]
  exact congrArg f (by omega)

end Cert.PoolSums

end
-- ==== Proof.PoolRef.lean ====
/- The pooling branch, as the reference writes it: each group's window means are differences of running sums, which for
   finite inputs are the window sums themselves. -/
module

public import proofs.«01_k».proof.Proof.Gen.ReferencePoolIdeal.Run
public import proofs.«01_k».proof.Proof.PoolSums
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PoolValue

open Cert.PoolSums

/-- The packed projection, the groups' weights, the scale. -/
abbrev Proj := FVec Ideal Cert.ReferencePoolIdeal.S2048x7168 .bf16
abbrev Wts := FVec Ideal Cert.ReferencePoolIdeal.S4x128x128 .f32
abbrev Sca := FVec Ideal Cert.ReferencePoolIdeal.S1x512 .f32

/-- Column `k` of the projection, as a sequence. -/
def col (x : Proj) (k : ℕ) (r : ℕ) : EReal := if h : r < 2048 ∧ k < 7168 then x (ix2 ⟨r, h.1⟩ ⟨k, h.2⟩) else 0

theorem col_at (x : Proj) (i : Fin 2048) (k : Fin 7168) : col x k.val i.val = x (ix2 i k) := dif_pos ⟨i.isLt, k.isLt⟩

/-- How many rows the window at row `i` holds. -/
def cnt (w i : ℕ) : EReal := ((min (i + 1) w : ℕ) : ℝ)

/-- The pooled value: the window's mean less the row itself. -/
def pooled (x : Proj) (w k i : ℕ) : EReal := Ideal.div (win (col x k) w i) (cnt w i) - col x k i

/-- What is pooled is finite. -/
def Finite (x : Proj) : Prop := ∀ (i : Fin 2048) (k : Fin 7168), k.val < 512 → (x (ix2 i k) : EReal) ≠ ⊤ ∧ (x (ix2 i k) : EReal) ≠ ⊥

theorem col_real (x : Proj) (hx : Finite x) (k : ℕ) (hk : k < 512) (r : ℕ) : col x k r ≠ ⊤ ∧ col x k r ≠ ⊥ := by
  unfold col
  split
  · exact hx _ _ hk
  · exact ⟨EReal.zero_ne_top, EReal.zero_ne_bot⟩

/-- The pool's result: the pooled rows by the group's weights, scaled, times the gate. -/
def A (x : Proj) (w : Wts) (s : Sca) : FVec Ideal Cert.ReferencePoolIdeal.S2048x512 .bf16 := fun j =>
  (∑ k : Fin 128, w (ix3 ⟨(j 1).val / 128, by have := (j 1).isLt; change _ < 512 at this; change _ < 4; omega⟩ k ⟨(j 1).val % 128, Nat.mod_lt _ (by decide)⟩)
      * pooled x (2 ^ ((j 1).val / 128 + 1)) (128 * ((j 1).val / 128) + k.val) (j 0).val)
    * s (ix2 0 (j 1))
    * (col x (512 + (j 1).val) (j 0).val * Ideal.div 1 (1 + Ideal.exp (-(col x (512 + (j 1).val) (j 0).val))))

/-- Its transpose. -/
def AT (x : Proj) (w : Wts) (s : Sca) : FVec Ideal Cert.ReferencePoolIdeal.S512x2048 .bf16 := fun j => A x w s (ix2 (j 1) (j 0))

/-- A running sum less the one `w` rows before it is the window's sum. -/
theorem run_diff (f : ℕ → EReal) (hf : ∀ r, f r ≠ ⊤ ∧ f r ≠ ⊥) (w i : ℕ) :
    (run f i - if h : i < w then 0 else run f (i - w)) = win f w i := by
  rw [← run_sub f hf w i]
  by_cases h : i < w
  · rw [dif_pos h, if_neg (by omega)]
  · rw [dif_neg h, if_pos (by omega)]

/-- The reference's count of rows, in floats. -/
theorem cnt_float (w : ℕ) (hw : w < 2048) (b : BitVec 32) (hb : Ideal.ofBits .f32 b = ((w : ℝ) : EReal)) (i : Fin 2048) :
    (min ((FloatOps.sitofp (F := Ideal) .f32 (BitVec.ofNat 32 i.val) : EReal) + 1) (Ideal.ofBits .f32 b) : EReal) = cnt w i.val := by
  have e : (FloatOps.sitofp (F := Ideal) .f32 (BitVec.ofNat 32 i.val) : EReal) = ((i.val : ℝ) : EReal) := by
    show ((((BitVec.ofNat 32 i.val).toInt : ℝ)) : EReal) = _
    have : (BitVec.ofNat 32 i.val).toInt = (i.val : ℤ) := by
      have := i.isLt
      rw [BitVec.toInt_eq_toNat_cond, BitVec.toNat_ofNat]
      split <;> omega
    rw [this]
    norm_cast
  rw [e, hb, cnt]
  rw [show (((i.val : ℝ) : EReal) + 1) = (((i.val + 1 : ℕ) : ℝ) : EReal) by push_cast; rfl]
  rcases le_total (i.val + 1) w with h | h
  · rw [min_eq_left h, min_eq_left]
    exact_mod_cast h
  · rw [min_eq_right h, min_eq_right]
    exact_mod_cast h

/-- The window length 2 as a float. -/
theorem bits2 : Ideal.ofBits .f32 0x40000000#32 = (((2 : ℕ) : ℝ) : EReal) := by
  simp [Ideal.ofBits, Ideal.ieee, -EReal.coe_mul]; norm_num

/-- The window length 4 as a float. -/
theorem bits4 : Ideal.ofBits .f32 0x40800000#32 = (((4 : ℕ) : ℝ) : EReal) := by
  simp [Ideal.ofBits, Ideal.ieee, -EReal.coe_mul]; norm_num

/-- The window length 8 as a float. -/
theorem bits8 : Ideal.ofBits .f32 0x41000000#32 = (((8 : ℕ) : ℝ) : EReal) := by
  simp [Ideal.ofBits, Ideal.ieee, -EReal.coe_mul]; norm_num

/-- The window length 16 as a float. -/
theorem bits16 : Ideal.ofBits .f32 0x41800000#32 = (((16 : ℕ) : ℝ) : EReal) := by
  simp [Ideal.ofBits, Ideal.ieee, -EReal.coe_mul]; norm_num

/-- One group's pooled value as the reference writes it. -/
theorem pooled_ref (x : Proj) (hx : Finite x) (k : ℕ) (hk : k < 512) (w : ℕ) (hw : w < 2048) (b : BitVec 32)
    (hb : Ideal.ofBits .f32 b = (((w : ℕ) : ℝ) : EReal)) (i : Fin 2048) (h : k < 7168) :
    (Ideal.div (run (col x k) i.val - if h : i.val < w then 0 else run (col x k) (i.val - w))
        (min ((FloatOps.sitofp (F := Ideal) .f32 (BitVec.ofNat 32 i.val) : EReal) + 1) (Ideal.ofBits .f32 b)) - x (ix2 i ⟨k, h⟩) : EReal)
      = pooled x w k i.val := by
  rw [run_diff _ (col_real x hx k hk), cnt_float w hw b hb i, ← col_at x i ⟨k, h⟩, pooled]

section Reference
open Cert.ReferencePoolIdeal

variable (m : (ℓ : Loc nD τ sig) → Buf (Elt Ideal) ℓ)

set_option maxHeartbeats 4000000 in
/-- The reference's result, element by element. -/
theorem ref_at (c : Dev nD) (hx : Finite (m ((c : Thread nD τ).loc main_arg0))) (i : Fin 2048) (q : Fin 512) :
   Cert.ReferencePoolIdeal.Value.res_main_v74 m c (ix2 i q) = A (m ((c : Thread nD τ).loc main_arg0)) (m ((c : Thread nD τ).loc main_arg1)) (m ((c : Thread nD τ).loc main_arg2)) (ix2 i q) := by
  have CS : ∀ (i : Fin 2048) (k : Fin 512), (Host.reduceWindowAdd (F := Ideal) ![1, 2048, 1] ![1, 1, 1] ![0, 2047, 0] ![0, 0, 0]
      (broadcastInDim S1x2048x512 ![1, 2] Gen.bcast_S2048x512_S1x2048x512_1_2
        (extf .f32 (extractStridedSlice S2048x512 ![0, 0] (m ((c : Thread nD τ).loc main_arg0)) Gen.slices_S2048x7168_S2048x512_0_0) Gen.bitsLt_bf16_f32))
      (broadcastInDim S_ ![] Gen.bcast_S_S_ (constant S_ .f32 0#32))
      Gen.reduceWindows_S1x2048x512_S1x2048x512_w1s1p0_0_w2048s1p2047_0_w1s1p0_0 Gen.h_S_ (ix3 0 i k) : EReal)
      = run (col (m ((c : Thread nD τ).loc main_arg0)) k.val) i.val := fun i k => by
    refine cumsum_at _ _ _ _ (fun j => ?_) _ i k fun r => ?_
    · pointwise []
    · pointwise []
      exact (col_at _ r ⟨k.val, by omega⟩).symm
  pointwise [Cert.ReferencePoolIdeal.Value.res_main_v74, A]
  simp only [CS]
  have hp := pooled_ref (m ((c : Thread nD τ).loc main_arg0)) hx
  have hq := q.isLt
  refine congrArg₂ (fun a b : EReal => a * b) (congrArg₂ (fun a b : EReal => a * b) (Finset.sum_congr rfl fun x _ => congrArg₂ (fun a b : EReal => a * b) rfl ?_) rfl) ?_
  · have hk := x.isLt
    by_cases h1 : q.val / 128 < 1
    · rw [dif_pos h1, show q.val / 128 = 0 by omega]
      refine (hp x.val (by omega) 2 (by decide) _ bits2 i _).trans ?_
      simp only [Nat.mul_zero, Nat.zero_add]
      rfl
    rw [dif_neg h1]
    by_cases h2 : q.val / 128 - 1 < 1
    · rw [dif_pos h2, show q.val / 128 = 1 by omega]
      exact hp (128 + x.val) (by omega) 4 (by decide) _ bits4 i _
    rw [dif_neg h2]
    by_cases h3 : q.val / 128 - 1 - 1 < 1
    · rw [dif_pos h3, show q.val / 128 = 2 by omega]
      exact hp (256 + x.val) (by omega) 8 (by decide) _ bits8 i _
    rw [dif_neg h3, show q.val / 128 = 3 by omega]
    exact hp (384 + x.val) (by omega) 16 (by decide) _ bits16 i _
  · exact congrArg (fun e : EReal => e * Ideal.div 1 (1 + Ideal.exp (-e))) (col_at (m ((c : Thread nD τ).loc main_arg0)) i ⟨512 + q.val, by omega⟩).symm

/-- The run of the reference, its two results written as the pool and its transpose. -/
theorem ref_run (ρ : Dev nD → PrngReg) (hx : ∀ c : Dev nD, Finite (m ((c : Thread nD τ).loc main_arg0))) :
    θ_run defs (onTc (τ := τ) (main (F := Ideal))) ⟨m, fun _ => 0, ρ⟩ fun r => ∀ c : Dev nD,
      r.2.mem ((c.tc : Thread nD τ).loc main_v74) = A (m ((c : Thread nD τ).loc main_arg0)) (m ((c : Thread nD τ).loc main_arg1)) (m ((c : Thread nD τ).loc main_arg2))
      ∧ r.2.mem ((c.tc : Thread nD τ).loc main_v75) = AT (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, ha⟩ := h c
    have e : ∀ j, Cert.ReferencePoolIdeal.Value.res_main_v74 m c j = A (m ((c : Thread nD τ).loc main_arg0)) (m ((c : Thread nD τ).loc main_arg1)) (m ((c : Thread nD τ).loc main_arg2)) j := fun j => by
      idx_vars j
      exact ref_at m c (hx c) _ _
    refine ⟨h0.trans (funext e), h1.trans (funext fun j => ?_), ha⟩
    refine Eq.trans ?_ (e (ix2 (j 1) (j 0)))
    show transpose S512x2048 [1, 0] (Cert.ReferencePoolIdeal.Value.res_main_v74 m c) _ j = _
    idx_vars j
    pointwise [])
    (Cert.ReferencePoolIdeal.Value.run m ρ)

end Reference

end Cert.PoolValue

end
-- ==== Proof.PoolValue.lean ====
/- The pooling branch of the forward pass: the two results of `KernelPoolIdeal`, the pool and its transpose, are those of
   `ReferencePoolIdeal` where what is pooled is finite. The kernel adds a window up by doubling: two rows, four, eight,
   sixteen. -/
module

public import proofs.«01_k».proof.Proof.Gen.KernelPoolIdeal.Frame
public import proofs.«01_k».proof.Proof.PoolRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PoolValue

open Cert.KernelPoolIdeal Cert.KernelPoolIdeal.Gen Cert.PoolSums

/-- A choice by a literal bit. -/
theorem sel1 {α : Type} (a b : α) : Scalar.select 1#1 a b = a := rfl
theorem sel0 {α : Type} (a b : α) : Scalar.select 0#1 a b = b := rfl

/-- One stage of the kernel's window sum: a tile plus itself shifted down by `k` rows. -/
def stage (k : BitVec 32) (x : FVec Ideal S2048x128 .f32) : FVec Ideal S2048x128 .f32 :=
  addf x (select (broadcastTo S2048x128 (shapeCast S2048x1 (cmpi .sge (iota .tc S2048x1 32 [0] iota_S2048x1_d0_w32) (broadcast S2048x1 k)) shapeCasts_S2048x1_S2048x1)
    broadcasts_S2048x1_S2048x128) (dynamicRotate 0 k none x rotates_S2048x128_d0) (broadcast S2048x128 (Scalar.ofBits .f32 0x00000000#32)))

theorem pay2_eq (i : grid0.Coords) (v : FVec Ideal S2048x128 .bf16) :
    k0_pay2 (F := Ideal) i v = Scalar.select (Scalar.cmpi .eq (BitVec.ofNat 32 (i 0).val) 0#32) (stage 1#32 (k0_pay1 v))
      (Scalar.select (Scalar.cmpi .eq (BitVec.ofNat 32 (i 0).val) 1#32) (stage 2#32 (stage 1#32 (k0_pay1 v)))
        (Scalar.select (Scalar.cmpi .eq (BitVec.ofNat 32 (i 0).val) 2#32) (stage 4#32 (stage 2#32 (stage 1#32 (k0_pay1 v))))
          (stage 8#32 (stage 4#32 (stage 2#32 (stage 1#32 (k0_pay1 v))))))) := rfl

theorem stage1_at (x : FVec Ideal S2048x128 .f32) (f : ℕ → EReal) (j : Fin 128) (hf : ∀ r : Fin 2048, (x (ix2 r j) : EReal) = win f 1 r.val) (i : Fin 2048) :
    (stage 1#32 x (ix2 i j) : EReal) = win f 2 i.val := by
  have hc : ∀ r : Fin 2048, IntOp.cmpi .sge (BitVec.ofNat 32 r.val) 1#32 = if 1 ≤ r.val then 1#1 else 0#1 := by decide +kernel
  pointwise [stage]
  rw [hc, hf, ← win_double f 1 i.val]
  refine congrArg₂ (fun a b : EReal => a + b) rfl ?_
  by_cases h : 1 ≤ i.val
  · have hi := i.isLt
    rw [if_pos h, if_pos h, sel1, hf]
    exact congrArg (win f 1) (by show (i.val + 2048 - 1) % 2048 = _; omega)
  · rw [if_neg h, if_neg h, sel0]

theorem stage2_at (x : FVec Ideal S2048x128 .f32) (f : ℕ → EReal) (j : Fin 128) (hf : ∀ r : Fin 2048, (x (ix2 r j) : EReal) = win f 2 r.val) (i : Fin 2048) :
    (stage 2#32 x (ix2 i j) : EReal) = win f 4 i.val := by
  have hc : ∀ r : Fin 2048, IntOp.cmpi .sge (BitVec.ofNat 32 r.val) 2#32 = if 2 ≤ r.val then 1#1 else 0#1 := by decide +kernel
  pointwise [stage]
  rw [hc, hf, ← win_double f 2 i.val]
  refine congrArg₂ (fun a b : EReal => a + b) rfl ?_
  by_cases h : 2 ≤ i.val
  · have hi := i.isLt
    rw [if_pos h, if_pos h, sel1, hf]
    exact congrArg (win f 2) (by show (i.val + 2048 - 2) % 2048 = _; omega)
  · rw [if_neg h, if_neg h, sel0]

theorem stage4_at (x : FVec Ideal S2048x128 .f32) (f : ℕ → EReal) (j : Fin 128) (hf : ∀ r : Fin 2048, (x (ix2 r j) : EReal) = win f 4 r.val) (i : Fin 2048) :
    (stage 4#32 x (ix2 i j) : EReal) = win f 8 i.val := by
  have hc : ∀ r : Fin 2048, IntOp.cmpi .sge (BitVec.ofNat 32 r.val) 4#32 = if 4 ≤ r.val then 1#1 else 0#1 := by decide +kernel
  pointwise [stage]
  rw [hc, hf, ← win_double f 4 i.val]
  refine congrArg₂ (fun a b : EReal => a + b) rfl ?_
  by_cases h : 4 ≤ i.val
  · have hi := i.isLt
    rw [if_pos h, if_pos h, sel1, hf]
    exact congrArg (win f 4) (by show (i.val + 2048 - 4) % 2048 = _; omega)
  · rw [if_neg h, if_neg h, sel0]

theorem stage8_at (x : FVec Ideal S2048x128 .f32) (f : ℕ → EReal) (j : Fin 128) (hf : ∀ r : Fin 2048, (x (ix2 r j) : EReal) = win f 8 r.val) (i : Fin 2048) :
    (stage 8#32 x (ix2 i j) : EReal) = win f 16 i.val := by
  have hc : ∀ r : Fin 2048, IntOp.cmpi .sge (BitVec.ofNat 32 r.val) 8#32 = if 8 ≤ r.val then 1#1 else 0#1 := by decide +kernel
  pointwise [stage]
  rw [hc, hf, ← win_double f 8 i.val]
  refine congrArg₂ (fun a b : EReal => a + b) rfl ?_
  by_cases h : 8 ≤ i.val
  · have hi := i.isLt
    rw [if_pos h, if_pos h, sel1, hf]
    exact congrArg (win f 8) (by show (i.val + 2048 - 8) % 2048 = _; omega)
  · rw [if_neg h, if_neg h, sel0]

/-- The tile's window sum: group `g` adds up `2 ^ (g + 1)` rows. -/
theorem win_at (i : grid0.Coords) (v : FVec Ideal S2048x128 .bf16) (f : ℕ → EReal) (x : Fin 128) (hf : ∀ r : Fin 2048, (v (ix2 r x) : EReal) = f r.val) (r : Fin 2048) :
    (k0_pay2 (F := Ideal) i v (ix2 r x) : EReal) = win f (2 ^ ((i 0).val + 1)) r.val := by
  have h0 : ∀ r : Fin 2048, (k0_pay1 (F := Ideal) v (ix2 r x) : EReal) = win f 1 r.val := fun r => by
    rw [win_one, ← hf r]
    pointwise [k0_pay1]
  have h1 := stage1_at _ f x h0
  have h2 := stage2_at _ f x h1
  have h4 := stage4_at _ f x h2
  have h8 := stage8_at _ f x h4
  rw [pay2_eq]
  have hi : (i 0).val < 4 := (i 0).isLt
  generalize (i 0).val = g at hi ⊢
  interval_cases g
  · exact h1 r
  · exact h2 r
  · exact h4 r
  · exact h8 r

/-- The tile's count of rows. -/
theorem cnt_at (g : ℕ) (hg : g < 4) (r : Fin 2048) :
    (FloatOps.sitofp (F := Ideal) .f32 (IntOp.minsi (IntOp.addi (BitVec.ofNat 32 r.val) 1#32)
      (Scalar.select (Scalar.cmpi .eq (BitVec.ofNat 32 g) 0#32) (2#32) (Scalar.select (Scalar.cmpi .eq (BitVec.ofNat 32 g) 1#32) (4#32)
        (Scalar.select (Scalar.cmpi .eq (BitVec.ofNat 32 g) 2#32) (8#32) (16#32))))) : EReal) = cnt (2 ^ (g + 1)) r.val := by
  show ((((_ : BitVec 32).toInt : ℝ)) : EReal) = _
  have h : ∀ w ∈ [2, 4, 8, 16], ∀ r : Fin 2048, (IntOp.minsi (IntOp.addi (BitVec.ofNat 32 r.val) 1#32) (BitVec.ofNat 32 w)).toInt = ((min (r.val + 1) w : ℕ) : ℤ) := by decide +kernel
  unfold cnt
  interval_cases g
  · exact congrArg (fun z : ℤ => (((z : ℝ)) : EReal)) (h 2 (by simp) r)
  · exact congrArg (fun z : ℤ => (((z : ℝ)) : EReal)) (h 4 (by simp) r)
  · exact congrArg (fun z : ℤ => (((z : ℝ)) : EReal)) (h 8 (by simp) r)
  · exact congrArg (fun z : ℤ => (((z : ℝ)) : EReal)) (h 16 (by simp) r)

set_option maxHeartbeats 1000000 in
/-- The pool's tile. -/
theorem pool_tile (i : grid0.Coords) (v p : FVec Ideal S2048x128 .bf16) (w : FVec Ideal S1x128x128 .f32) (s : FVec Ideal S1x128 .f32)
    (f : Fin 128 → ℕ → EReal) (hf : ∀ (x : Fin 128) (r : Fin 2048), (v (ix2 r x) : EReal) = f x r.val) (r : Fin 2048) (j : Fin 128) :
    (k0_pay3 (F := Ideal) (BitVec.ofNat 32 (i 0).val) (k0_pay1 v) (iota .tc S2048x1 32 [0] iota_S2048x1_d0_w32) (k0_pay2 i v) 0#32 w p s (ix2 r j) : EReal)
      = (∑ x : Fin 128, w (ix3 0 x j) * (Ideal.div (win (f x) (2 ^ ((i 0).val + 1)) r.val) (cnt (2 ^ ((i 0).val + 1)) r.val) - f x r.val))
        * s (ix2 0 j) * (p (ix2 r j) * Ideal.div 1 (1 + Ideal.exp (-(p (ix2 r j))))) := by
  pointwise [k0_pay3]
  refine congrArg₂ (fun a b : EReal => a * b) (congrArg₂ (fun a b : EReal => a * b) (Finset.sum_congr rfl fun x _ => ?_) rfl) ?_
  · rw [mul_comm, win_at i v (f x) x (hf x) r, cnt_at _ (i 0).isLt r, ← hf x r]
    pointwise [k0_pay1]
  · rw [zero_sub]

/-- The result at a column of group `g`. -/
theorem A_at (x : Proj) (w : Wts) (s : Sca) (i : Fin 2048) (g : Fin 4) (j : Fin 128) :
    A x w s (ix2 i ⟨128 * g.val + j.val, by omega⟩) = (∑ k : Fin 128, w (ix3 g k j) * pooled x (2 ^ (g.val + 1)) (128 * g.val + k.val) i.val)
      * s (ix2 0 ⟨128 * g.val + j.val, by omega⟩)
      * (col x (512 + (128 * g.val + j.val)) i.val * Ideal.div 1 (1 + Ideal.exp (-(col x (512 + (128 * g.val + j.val)) i.val)))) := by
  have hd : (128 * g.val + j.val) / 128 = g.val := by omega
  have hm : (128 * g.val + j.val) % 128 = j.val := by omega
  unfold A
  simp only [ix2_0, ix2_1, hd, hm]

section Kernel

variable (m : (ℓ : Loc nD τ sig) → Buf (Elt Ideal) ℓ)

/-- The blocks that grid point `t` reads and writes. -/
theorem idx : ∀ t : Fin cfg0.N, win0_0.index t = ![0, t.val] ∧ win0_1.index t = ![0, t.val + 4] ∧ win0_2.index t = ![t.val, 0, 0]
    ∧ win0_3.index t = ![0, t.val] ∧ win0_4.index t = ![0, t.val] ∧ win0_5.index t = ![t.val, 0] :=
  (by decide +kernel : ∀ t : Fin grid0.N, _)

theorem blk0 (c : Dev nD) (t : Fin cfg0.N) (r : Fin 2048) (x : Fin 128) : (iblk m c 0 t (ix2 r x) : EReal) = col (m ((c : Thread nD τ).loc main_arg0)) (128 * t.val + x.val) r.val := by
  have ht : t.val < 4 := t.isLt
  refine Eq.trans ?_ (col_at (m ((c : Thread nD τ).loc main_arg0)) r ⟨128 * t.val + x.val, by omega⟩).symm
  blk_point [iblk, V, idx t]

theorem blk1 (c : Dev nD) (t : Fin cfg0.N) (r : Fin 2048) (x : Fin 128) : (iblk m c 1 t (ix2 r x) : EReal) = col (m ((c : Thread nD τ).loc main_arg0)) (512 + (128 * t.val + x.val)) r.val := by
  have ht : t.val < 4 := t.isLt
  refine Eq.trans ?_ (col_at (m ((c : Thread nD τ).loc main_arg0)) r ⟨512 + (128 * t.val + x.val), by omega⟩).symm
  blk_point [iblk, V, idx t]

theorem blk2 (c : Dev nD) (t : Fin cfg0.N) (k j : Fin 128) : (iblk m c 2 t (ix3 0 k j) : EReal) = m ((c : Thread nD τ).loc main_arg1) (ix3 ⟨t.val, t.isLt⟩ k j) := by
  blk_point [iblk, V, idx t]

theorem blk3 (c : Dev nD) (t : Fin cfg0.N) (j : Fin 128) : (iblk m c 3 t (ix2 0 j) : EReal) = m ((c : Thread nD τ).loc main_arg2) (ix2 0 ⟨128 * t.val + j.val, by have : t.val < 4 := t.isLt; omega⟩) := by
  blk_point [iblk, V, idx t]

theorem coord (t : Fin cfg0.N) : (grid0.coords t 0).val = t.val := by
  revert t
  exact (by decide +kernel : ∀ t : Fin grid0.N, (grid0.coords t 0).val = t.val)

/-- What grid point `t` computes is the result's columns of its group. -/
theorem tile_eq (c : Dev nD) (t : Fin cfg0.N) (r : Fin 2048) (j : Fin 128) :
    (k0_pay3 (F := Ideal) (BitVec.ofNat 32 (grid0.coords t 0).val) (k0_pay1 (iblk m c 0 t)) (iota .tc S2048x1 32 [0] iota_S2048x1_d0_w32) (k0_pay2 (grid0.coords t) (iblk m c 0 t)) 0#32
      (iblk m c 2 t) (iblk m c 1 t) (iblk m c 3 t) (ix2 r j) : EReal)
      = A (m ((c : Thread nD τ).loc main_arg0)) (m ((c : Thread nD τ).loc main_arg1)) (m ((c : Thread nD τ).loc main_arg2)) (ix2 r ⟨128 * t.val + j.val, by have : t.val < 4 := t.isLt; omega⟩) := by
  refine (pool_tile (grid0.coords t) _ _ _ _ (fun x => col (m ((c : Thread nD τ).loc main_arg0)) (128 * t.val + x.val)) (fun x r => blk0 m c t r x) r j).trans ?_
  rw [blk1, blk3, coord]
  refine Eq.trans ?_ (A_at _ _ _ r ⟨t.val, t.isLt⟩ j).symm
  refine congrArg₂ (fun a b : EReal => a * b) (congrArg₂ (fun a b : EReal => a * b) (Finset.sum_congr rfl fun x _ => ?_) rfl) rfl
  rw [blk2]
  rfl

/-- What the body leaves in the first output's block, as the payload of the four blocks it reads. -/
theorem out4 (i : grid0.Coords) (x0 x1 : Vec Ideal S2048x128 .bf16) (x2 : Vec Ideal S1x128x128 .f32) (x3 : Vec Ideal S1x128 .f32) :
    out0_4 i x0 x1 x2 x3 = k0_pay4 (BitVec.ofNat 32 (i 0).val) (k0_pay1 x0) (iota .tc S2048x1 32 [0] iota_S2048x1_d0_w32) (k0_pay2 i x0) 0#32 x2 x1 x3 := by
  unfold out0_4 k0_pay8 k0_pay7 k0_pay6 r0_0 r0_1 r0_2
  simp (disch := decide) only [View.canon_cons_unit_lit', View.ld_unit_lit']

/-- What the body leaves in the second output's block. -/
theorem out5 (i : grid0.Coords) (x0 x1 : Vec Ideal S2048x128 .bf16) (x2 : Vec Ideal S1x128x128 .f32) (x3 : Vec Ideal S1x128 .f32) :
    out0_5 i x0 x1 x2 x3 = k0_pay5 (BitVec.ofNat 32 (i 0).val) (k0_pay1 x0) (iota .tc S2048x1 32 [0] iota_S2048x1_d0_w32) (k0_pay2 i x0) 0#32 x2 x1 x3 := by
  unfold out0_5 k0_pay8 k0_pay7 k0_pay6 r0_0 r0_1 r0_2 r0_3
  simp (disch := decide) only [View.canon_cons_unit_lit', View.ld_unit_lit']

/-- The first payload is the tile itself. -/
theorem pay4_at (a : BitVec 32) (b : FVec Ideal S2048x128 .f32) (d : IVec S2048x1 32) (e : FVec Ideal S2048x128 .f32) (z : BitVec 32) (f : Vec Ideal S1x128x128 .f32) (g : Vec Ideal S2048x128 .bf16) (h : Vec Ideal S1x128 .f32) (r : Fin 2048) (j : Fin 128) :
    (k0_pay4 a b d e z f g h (ix2 r j) : EReal) = k0_pay3 a b d e z f g h (ix2 r j) := by
  unfold k0_pay4
  generalize k0_pay3 a b d e z f g h = T
  pointwise

/-- The second payload is the tile transposed. -/
theorem pay5_at (a : BitVec 32) (b : FVec Ideal S2048x128 .f32) (d : IVec S2048x1 32) (e : FVec Ideal S2048x128 .f32) (z : BitVec 32) (f : Vec Ideal S1x128x128 .f32) (g : Vec Ideal S2048x128 .bf16) (h : Vec Ideal S1x128 .f32) (r : Fin 2048) (j : Fin 128) :
    (k0_pay5 a b d e z f g h (ix2 j r) : EReal) = k0_pay3 a b d e z f g h (ix2 r j) := by
  unfold k0_pay5
  generalize k0_pay3 a b d e z f g h = T
  pointwise

/-- The first output array. -/
theorem final4 (c : Dev nD) : (dats m 0 c).arrAt 4 (cfgs 0).N = A (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, out4]
  idx_vars y
  refine (pay4_at _ _ _ _ _ _ _ _ y0 y1).trans ?_
  refine (tile_eq m c t y0 y1).trans ?_
  generalize A (m ((c : Thread nD τ).loc main_arg0)) (m ((c : Thread nD τ).loc main_arg1)) (m ((c : Thread nD τ).loc main_arg2)) = X
  blk_point [idx t]

/-- The second output array. -/
theorem final5 (c : Dev nD) : (dats m 0 c).arrAt 5 (cfgs 0).N = AT (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, out5]
  idx_vars y
  refine (pay5_at _ _ _ _ _ _ _ _ y1 y0).trans ?_
  refine (tile_eq m c t y1 y0).trans ?_
  unfold AT
  generalize A (m ((c : Thread nD τ).loc main_arg0)) (m ((c : Thread nD τ).loc main_arg1)) (m ((c : Thread nD τ).loc main_arg2)) = X
  blk_point [idx t]

end Kernel

end Cert.PoolValue

end
-- ==== Proof.PoolClaim.lean ====
/- The value claim on the pooling branch: for finite pooled columns the two results equal the reference's. -/
module

public import proofs.«01_k».proof.Defs
public import proofs.«01_k».proof.Proof.Gen.Pre_pool_real
public import proofs.«01_k».proof.Proof.Gen.KernelPool.Frame
public import proofs.«01_k».proof.Proof.PoolValue
public import Idealize.ShloMosaic.Lib.Claim

@[expose] public section

set_option maxRecDepth 16384

noncomputable section

open Idealize.ShloMosaic Idealize.ShloMosaic.TcCoe Idealize.SL.Sem

namespace Cert.Proof

/-- A number whose difference with itself is 0 is neither infinity. -/
theorem finite_of_sub (x : EReal) (h : x - x = 0) : x ≠ ⊤ ∧ x ≠ ⊥ := by
  constructor
  · rintro rfl
    simp at h
  · rintro rfl
    simp at h

/-- Where the precondition's test is all ones, the columns it reads are finite. -/
theorem finite_of_pre (x : FVec Ideal ⟨2, ![2048, 7168]⟩ .bf16) (w : FVec Ideal ⟨3, ![4, 128, 128]⟩ .f32) (s : FVec Ideal ⟨2, ![1, 512]⟩ .f32)
    (h : Cert.Pre_pool_real.fn (F := Ideal) x w s = fun _ => 1#1) : Cert.PoolValue.Finite x := by
  intro i k hk
  have e := congrFun h (ix2 i ⟨k.val, hk⟩)
  refine finite_of_sub _ ?_
  revert e
  pointwise [Cert.Pre_pool_real.fn]
  intro e
  by_contra hn
  rw [decide_eq_false hn] at e
  exact absurd e (by decide)

set_option maxHeartbeats 8000000 in
/-- The pool and its transpose are the reference's. -/
theorem algebraic_pool : Cert.algebraic_KernelPoolIdeal_ReferencePoolIdeal_pre_pool_real := by
  intro m g m' g' hpre hagree
  refine ⟨fun c => (Cert.KernelPoolIdeal.Gen.dats m 0 c).arrAt 4 (Cert.KernelPoolIdeal.cfgs 0).N, fun c => (Cert.KernelPoolIdeal.Gen.dats m 0 c).arrAt 5 (Cert.KernelPoolIdeal.cfgs 0).N, ?_, ?_⟩
  · exact (θ_run _ _ _).mono (fun r h c => ⟨(h.2 c).1 4, (h.2 c).1 5, h.1.1 c⟩)
      (θ_run_and (Cert.KernelPoolIdeal.Gen.frame m g) (Cert.KernelPoolIdeal.Gen.run_main m g))
  · have hx : ∀ c : Dev Cert.ReferencePoolIdeal.nD, Cert.PoolValue.Finite (m' ((c : Thread Cert.ReferencePoolIdeal.nD Cert.ReferencePoolIdeal.τ).loc Cert.ReferencePoolIdeal.main_arg0)) := fun c => by
      have e := finite_of_pre _ _ _ (hpre c)
      rw [(hagree c).1]
      exact e
    run_from Cert.PoolValue.ref_run m' g' hx
    · exact (Cert.PoolValue.final4 m c).symm
    · exact (Cert.PoolValue.final5 m c).symm

end Cert.Proof

end
-- ==== Proof.PoolGradRun.lean ====
/- The body of the pool's gradient, run once in each of its two cases over any float values. -/
module

public import proofs.«01_k».proof.Proof.Gen.KernelIdeal.Frame
public import proofs.«01_k».proof.Proof.Gen.KernelIdeal.Skeleton
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## When the body's branches are taken -/

/-- The kept columns are handed out. -/
abbrev cond1 (i : grid0.Coords) : Prop := k0_cond1 i = 1#1
/-- A group's gradients are computed. -/
abbrev cond2 (i : grid0.Coords) : Prop := k0_cond2 i = 1#1

theorem hcond1 : ∀ t : Fin cfg0.N, cond1 (grid0.coords t) ↔ t.val % 2 = 1 :=
  (by decide +kernel : ∀ t : Fin grid0.N, cond1 (grid0.coords t) ↔ t.val % 2 = 1)
theorem hcond2 : ∀ t : Fin cfg0.N, cond2 (grid0.coords t) ↔ t.val % 2 = 0 :=
  (by decide +kernel : ∀ t : Fin grid0.N, cond2 (grid0.coords t) ↔ t.val % 2 = 0)

variable (c : Dev nD) (i : grid0.Coords)
  (arg2 : Memref sig .tc .vmem S2048x128 .f32) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S1x128x128 .f32) (harg5 : arg5.IsWhole)
  (arg6 : Memref sig .tc .vmem S1x128 .f32) (harg6 : arg6.IsWhole)
  (arg7 : Memref sig .tc .hbm S2048x7168 .bf16) (harg7 : arg7.IsWhole)
  (arg8 : Memref sig .tc .vmem S2048x128 .bf16) (harg8 : arg8.IsWhole)
  (arg9 : Memref sig .tc .vmem S1x128x128 .f32) (harg9 : arg9.IsWhole)
  (arg10 : Memref sig .tc .vmem S1x128 .f32) (harg10 : arg10.IsWhole)
  (arg11 : Memref sig .tc .vmem S2048x128 .bf16) (harg11 : arg11.IsWhole)
  (x0 : Vec F S2048x128 .f32)
  (x1 : Vec F S2048x128 .bf16)
  (x2 : Vec F S2048x128 .bf16)
  (x3 : Vec F S1x128x128 .f32)
  (x4 : Vec F S1x128 .f32)

set_option maxHeartbeats 4000000 in
/-- The body at a group's first point: its gradients are computed. What its stores leave in each buffer, as pieces, with the proof that it runs to them. -/
noncomputable def runA (hc1 : ¬cond1 i) (hc2 : cond2 i)  :
    Σ' (L5 : List (View.Piece (Elt F) S2048x128 .bf16)), Σ' (L6 : List (View.Piece (Elt F) S1x128x128 .f32)), Σ' (L7 : List (View.Piece (Elt F) S1x128 .f32)), { L8 : List (View.Piece (Elt F) S2048x128 .bf16) //
      ∀  (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8)) -∗ K ⟨⟩))
          ⊢ wp frame (wpE (defs₀ (F := F)) Variants.none c none) E (cc0_pool_bwd i arg2 harg2 arg3 harg3 arg4 harg4 arg5 harg5 arg6 harg6 arg7 harg7 arg8 harg8 arg9 harg9 arg10 harg10 arg11 harg11) K } := by
  refine ⟨?_, ?_, ?_, ?_, fun  E K => ?run⟩
  case run =>
    simp only [cc0_pool_bwd_eq_skeleton]; unfold cc0_pool_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact H8

set_option maxHeartbeats 4000000 in
/-- The body at a group's second point: the columns kept in scratch are handed out. What its stores leave in each buffer, as pieces, with the proof that it runs to them. -/
noncomputable def runB (hc1 : cond1 i) (hc2 : ¬cond2 i) (y8 : Vec F S2048x128 .bf16) :
    { L5 : List (View.Piece (Elt F) S2048x128 .bf16) //
      ∀ (y6 : Vec F S1x128x128 .f32) (y7 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg9 fullShare y6 ∗ owns (c : Thread nD τ) arg10 fullShare y7 ∗ owns (c : Thread nD τ) arg11 fullShare y8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L5) ∗ owns (c : Thread nD τ) arg9 fullShare y6 ∗ owns (c : Thread nD τ) arg10 fullShare y7 ∗ owns (c : Thread nD τ) arg11 fullShare y8) -∗ K ⟨⟩))
          ⊢ wp frame (wpE (defs₀ (F := F)) Variants.none c none) E (cc0_pool_bwd i arg2 harg2 arg3 harg3 arg4 harg4 arg5 harg5 arg6 harg6 arg7 harg7 arg8 harg8 arg9 harg9 arg10 harg10 arg11 harg11) K } := by
  refine ⟨?_, fun y6 y7 E K => ?run⟩
  case run =>
    simp only [cc0_pool_bwd_eq_skeleton]; unfold cc0_pool_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf6; obtain rfl := harg10.eq_unread hf7; obtain rfl := harg11.eq_unread hf8
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg9.read_unread _
      iexact H6
    isplitl [H7]
    · iexists _; isplitr; · ipureintro; exact harg10.read_unread _
      iexact H7
    iexists _; isplitr; · ipureintro; exact harg11.read_unread _
    iexact H8

end Cert.KernelIdeal.Hand

end
-- ==== Proof.PoolGradFrame.lean ====
/- The frame of the pool's gradient: what every buffer holds after each point in closed form, the body's obligation from its
   two runs, the launch, and the arguments unchanged. -/
module

public import proofs.«01_k».proof.Proof.PoolGradRun
public import Idealize.ShloMosaic.Lib.Pipeline.TableIdle
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the body computes of its blocks -/

section
variable (i : grid0.Coords)
variable (x0 : Vec F S2048x128 .f32)
variable (x1 : Vec F S2048x128 .bf16)
variable (x2 : Vec F S2048x128 .bf16)
variable (x3 : Vec F S1x128x128 .f32)
variable (x4 : Vec F S1x128 .f32)
/-- The gradient by the pooled columns. -/
def T5 : Vec F S2048x128 .bf16 := k0_pay1 i (iota .tc S2048x1 32 [0] iota_S2048x1_d0_w32) (k0_pay18 (k0_pay6 x3) x4 (k0_pay10 x2 x0)) (k0_pay19 (iota .tc S2048x1 32 [0] iota_S2048x1_d0_w32) (k0_pay4 (F := F) (BitVec.ofNat 32 (i 0).val) (iota .tc S2048x1 32 [0] iota_S2048x1_d0_w32) (Scalar.cmpi .eq (BitVec.ofNat 32 (i 0).val) 0#32)) (k0_pay6 x3) x4 (k0_pay10 x2 x0)) (k0_pay20 (iota .tc S2048x1 32 [0] iota_S2048x1_d0_w32) (k0_pay4 (F := F) (BitVec.ofNat 32 (i 0).val) (iota .tc S2048x1 32 [0] iota_S2048x1_d0_w32) (Scalar.cmpi .eq (BitVec.ofNat 32 (i 0).val) 0#32)) (k0_pay6 x3) x4 (k0_pay10 x2 x0)) (k0_pay21 (iota .tc S2048x1 32 [0] iota_S2048x1_d0_w32))
/-- The gradient by the group's weight. -/
def T6 : Vec F S1x128x128 .f32 := k0_pay17 (k0_pay5 (BitVec.ofNat 32 (i 0).val) (k0_pay2 x1) (iota .tc S2048x1 32 [0] iota_S2048x1_d0_w32) (k0_pay3 (BitVec.ofNat 32 (i 0).val) x1) (Scalar.cmpi .eq (BitVec.ofNat 32 (i 0).val) 0#32)) x4 (k0_pay10 x2 x0)
/-- The gradient by the scale. -/
def T7 : Vec F S1x128 .f32 := k0_pay15 (k0_pay7 (BitVec.ofNat 32 (i 0).val) (k0_pay2 x1) (iota .tc S2048x1 32 [0] iota_S2048x1_d0_w32) (k0_pay3 (BitVec.ofNat 32 (i 0).val) x1) (Scalar.cmpi .eq (BitVec.ofNat 32 (i 0).val) 0#32) x3) (k0_pay10 x2 x0)
/-- The gradient by the gate columns. -/
def T8 : Vec F S2048x128 .bf16 := k0_pay14 (k0_pay9 x2) (k0_pay11 (BitVec.ofNat 32 (i 0).val) (k0_pay2 x1) (iota .tc S2048x1 32 [0] iota_S2048x1_d0_w32) (k0_pay3 (BitVec.ofNat 32 (i 0).val) x1) (Scalar.cmpi .eq (BitVec.ofNat 32 (i 0).val) 0#32) x3 x4 x0) (k0_pay12 x2) (k0_pay13 (F := F))
end

/-! ## The pieces each run found, read back -/

section
variable (c : Dev nD) (i : grid0.Coords)
  (arg2 : Memref sig .tc .vmem S2048x128 .f32) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S1x128x128 .f32) (harg5 : arg5.IsWhole)
  (arg6 : Memref sig .tc .vmem S1x128 .f32) (harg6 : arg6.IsWhole)
  (arg7 : Memref sig .tc .hbm S2048x7168 .bf16) (harg7 : arg7.IsWhole)
  (arg8 : Memref sig .tc .vmem S2048x128 .bf16) (harg8 : arg8.IsWhole)
  (arg9 : Memref sig .tc .vmem S1x128x128 .f32) (harg9 : arg9.IsWhole)
  (arg10 : Memref sig .tc .vmem S1x128 .f32) (harg10 : arg10.IsWhole)
  (arg11 : Memref sig .tc .vmem S2048x128 .bf16) (harg11 : arg11.IsWhole)
  (x0 : Vec F S2048x128 .f32)
  (x1 : Vec F S2048x128 .bf16)
  (x2 : Vec F S2048x128 .bf16)
  (x3 : Vec F S1x128x128 .f32)
  (x4 : Vec F S1x128 .f32)
theorem gotA5 (hc1 : ¬cond1 i) (hc2 : cond2 i)  (f) :
    arg8.view.read (Elt F) (arg8.view.writes (Elt F) f (runA c i arg2 harg2 arg3 harg3 arg4 harg4 arg5 harg5 arg6 harg6 arg7 harg7 arg8 harg8 arg9 harg9 arg10 harg10 arg11 harg11 x0 x1 x2 x3 x4 hc1 hc2 ).1) = T5 i x0 x2 x3 x4 := by
  rw [View.read_writes_eq_canon _ _ _ (View.cover_of_tiledL _ S2048x128.size (by sl_kernel_rfl))]
  frame_out
  rfl
theorem gotA6 (hc1 : ¬cond1 i) (hc2 : cond2 i)  (f) :
    arg9.view.read (Elt F) (arg9.view.writes (Elt F) f (runA c i arg2 harg2 arg3 harg3 arg4 harg4 arg5 harg5 arg6 harg6 arg7 harg7 arg8 harg8 arg9 harg9 arg10 harg10 arg11 harg11 x0 x1 x2 x3 x4 hc1 hc2 ).2.1) = T6 i x0 x1 x2 x4 := by
  rw [View.read_writes_eq_canon _ _ _ (View.cover_of_tiledL _ S1x128x128.size (by sl_kernel_rfl))]
  frame_out
  rfl
theorem gotA7 (hc1 : ¬cond1 i) (hc2 : cond2 i)  (f) :
    arg10.view.read (Elt F) (arg10.view.writes (Elt F) f (runA c i arg2 harg2 arg3 harg3 arg4 harg4 arg5 harg5 arg6 harg6 arg7 harg7 arg8 harg8 arg9 harg9 arg10 harg10 arg11 harg11 x0 x1 x2 x3 x4 hc1 hc2 ).2.2.1) = T7 i x0 x1 x2 x3 := by
  rw [View.read_writes_eq_canon _ _ _ (View.cover_of_tiledL _ S1x128.size (by sl_kernel_rfl))]
  frame_out
  rfl
theorem gotA8 (hc1 : ¬cond1 i) (hc2 : cond2 i)  (f) :
    arg11.view.read (Elt F) (arg11.view.writes (Elt F) f (runA c i arg2 harg2 arg3 harg3 arg4 harg4 arg5 harg5 arg6 harg6 arg7 harg7 arg8 harg8 arg9 harg9 arg10 harg10 arg11 harg11 x0 x1 x2 x3 x4 hc1 hc2 ).2.2.2.1) = T8 i x0 x1 x2 x3 x4 := by
  rw [View.read_writes_eq_canon _ _ _ (View.cover_of_tiledL _ S2048x128.size (by sl_kernel_rfl))]
  frame_out
  rfl
theorem gotB5 (hc1 : cond1 i) (hc2 : ¬cond2 i) (y8 : Vec F S2048x128 .bf16) (f) :
    arg8.view.read (Elt F) (arg8.view.writes (Elt F) f (runB c i arg2 harg2 arg3 harg3 arg4 harg4 arg5 harg5 arg6 harg6 arg7 harg7 arg8 harg8 arg9 harg9 arg10 harg10 arg11 harg11 x0 x1 x2 x3 x4 hc1 hc2 y8).1) = y8 := by
  rw [View.read_writes_eq_canon _ _ _ (View.cover_of_tiledL _ S2048x128.size (by sl_kernel_rfl))]
  frame_out

end

/-! ## What each buffer holds after each point -/

variable (m : (ℓ : Loc nD τ sig) → Buf (Elt F) ℓ) (ρ : Dev nD → PrngReg)

/-- The point at which the group of point `t` was computed: the even one of the pair. -/
def even (t : Fin cfg0.N) : Fin cfg0.N := ⟨t.val / 2 * 2, lt_of_le_of_lt (Nat.div_mul_le_self _ _) t.isLt⟩
theorem even_of (t : Fin cfg0.N) (h : t.val % 2 = 0) : even t = t := Fin.ext (by show t.val / 2 * 2 = t.val; omega)
theorem even_pred (t : Fin cfg0.N) (h : t.val % 2 = 1) (h') : even ⟨t.val - 1, h'⟩ = even t :=
  Fin.ext (by show (t.val - 1) / 2 * 2 = t.val / 2 * 2; omega)

/-- The columns kept in scratch after the group of point `t`. -/
def kept (c : Dev nD) (t : Fin cfg0.N) : Vec F S2048x128 .bf16 := T8 (grid0.coords t) (iblk m c 0 t) (iblk m c 1 t) (iblk m c 2 t) (iblk m c 3 t) (iblk m c 4 t)

/-- The invariant: before the first point the scratch holds anything, afterwards the gate columns of the last group. -/
def PhiS (c : Dev nD) : (n : ℕ) → n ≤ cfg0.N → sProp 𝕄
  | 0, _ => Pipeline.ΦA spec0 c
  | n + 1, hn => iprop(owns (c : Thread nD τ) (Memref.whole cc0_scratch0) fullShare (kept m c (even ⟨n, hn⟩)) ∗ (∃ r, prngReg c r))

theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn
    = iprop(owns (c : Thread nD τ) (Memref.whole cc0_scratch0) fullShare (kept m c (even ⟨n, hn⟩)) ∗ (∃ r, prngReg c r)) := rfl
theorem PhiS_pos (c : Dev nD) (n : ℕ) (h : n ≤ cfg0.N) (hz : n ≠ 0) : PhiS m c n h
    = iprop(owns (c : Thread nD τ) (Memref.whole cc0_scratch0) fullShare (kept m c (even ⟨n - 1, by omega⟩)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => if t.val % 2 = 0 then T5 (grid0.coords t) (iblk m c 0 t) (iblk m c 2 t) (iblk m c 3 t) (iblk m c 4 t) else kept m c (even t)
    | ⟨6, _⟩ => T6 (grid0.coords (even t)) (iblk m c 0 (even t)) (iblk m c 1 (even t)) (iblk m c 2 (even t)) (iblk m c 4 (even t))
    | ⟨7, _⟩ => T7 (grid0.coords (even t)) (iblk m c 0 (even t)) (iblk m c 1 (even t)) (iblk m c 2 (even t)) (iblk m c 3 (even t))
    | ⟨_ + 8, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = if t.val % 2 = 0 then T5 (grid0.coords t) (iblk m c 0 t) (iblk m c 2 t) (iblk m c 3 t) (iblk m c 4 t) else kept m c (even t) := by dsimp only [dats]
theorem after6 (c : Dev nD) (t : Fin cfg0.N) : (dats m 0 c).after 6 t = T6 (grid0.coords (even t)) (iblk m c 0 (even t)) (iblk m c 1 (even t)) (iblk m c 2 (even t)) (iblk m c 4 (even t)) := by dsimp only [dats]
theorem after7 (c : Dev nD) (t : Fin cfg0.N) : (dats m 0 c).after 7 t = T7 (grid0.coords (even t)) (iblk m c 0 (even t)) (iblk m c 1 (even t)) (iblk m c 2 (even t)) (iblk m c 3 (even t)) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! An output idle at a pair's second point holds there what the first point left. -/

theorem idle6 : ∀ t : Fin cfg0.N, cfg0.idle 6 (cfg0.grid.coords t) = true → t.val % 2 = 1 :=
  (by decide +kernel : ∀ t : Fin grid0.N, cfg0.idle 6 (grid0.coords t) = true → t.val % 2 = 1)
theorem carry6 (c : Dev nD) (t : Fin cfg0.N) (h : t.val % 2 = 1) (h') :
    (dats m 0 c).after 6 t = (dats m 0 c).after 6 ⟨t.val - 1, h'⟩ := by rw [after6, after6, even_pred t h]
theorem fresh6 : ∀ t : Fin cfg0.N, t.val % 2 = 1 → cfg0.fresh 6 t.val = false :=
  (by decide +kernel : ∀ t : Fin grid0.N, t.val % 2 = 1 → cfg0.fresh 6 t.val = false)
theorem beforeC6 (c : Dev nD) (t : Fin cfg0.N) (h : t.val % 2 = 1) (d) : (dats m 0 c).before 6 t d = (dats m 0 c).after 6 t := by
  have e := (dats m 0 c).before_out_traj 6 rfl (fun _ _ => rfl) (fun t _ hi _ => carry6 m c t (idle6 t hi) _) t.val t rfl d
  rw [fresh6 t h] at e
  exact e.trans (carry6 m c t h _).symm
theorem idle7 : ∀ t : Fin cfg0.N, cfg0.idle 7 (cfg0.grid.coords t) = true → t.val % 2 = 1 :=
  (by decide +kernel : ∀ t : Fin grid0.N, cfg0.idle 7 (grid0.coords t) = true → t.val % 2 = 1)
theorem carry7 (c : Dev nD) (t : Fin cfg0.N) (h : t.val % 2 = 1) (h') :
    (dats m 0 c).after 7 t = (dats m 0 c).after 7 ⟨t.val - 1, h'⟩ := by rw [after7, after7, even_pred t h]
theorem fresh7 : ∀ t : Fin cfg0.N, t.val % 2 = 1 → cfg0.fresh 7 t.val = false :=
  (by decide +kernel : ∀ t : Fin grid0.N, t.val % 2 = 1 → cfg0.fresh 7 t.val = false)
theorem beforeC7 (c : Dev nD) (t : Fin cfg0.N) (h : t.val % 2 = 1) (d) : (dats m 0 c).before 7 t d = (dats m 0 c).after 7 t := by
  have e := (dats m 0 c).before_out_traj 7 rfl (fun _ _ => rfl) (fun t _ hi _ => carry7 m c t (idle7 t hi) _) t.val t rfl d
  rw [fresh7 t h] at e
  exact e.trans (carry7 m c t h _).symm

/-! ## The body's obligation -/

/-- A buffer at its stated contents is what the obligation asks, at an idle point as well if it was found at them. -/
theorem leaves_of (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  cases hi : cfg0.idle w (cfg0.grid.coords t) with
  | false => exact .rfl
  | true =>
    cases hf : (cfg0.win w).flush t with
    | true => exact .rfl
    | false =>
      show _ ⊢ iprop(∃ d, owns (c : Thread nD τ) ((cfg0.win w).stage (cfg0.slots t w)) fullShare ((dats m 0 c).before w t d))
      iintro H
      iexists (dats m 0 c).after w t
      rw [h hi]
      iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- what it leaves, -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))
/-- and what is asked of it. -/
def bodyAsk (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem live5 : ∀ t : Fin cfg0.N, cfg0.idle 5 (cfg0.grid.coords t) = false :=
  (by decide +kernel : ∀ t : Fin grid0.N, cfg0.idle 5 (grid0.coords t) = false)

theorem ask (c : Dev nD) (t : Fin cfg0.N) : bodyPost m c t ⊢ bodyAsk m c t := by
  unfold bodyPost bodyAsk
  iintro ⟨HP, Ho, H0, H1, H2, H3, H4, H5, H6, H7⟩
  isplitl [HP]; · iexact HP
  isplitl [Ho]; · iexact Ho
  isplitl [H0]; · iapply (leaves_of m c 0 t (fun hi => absurd hi Bool.false_ne_true)); iexact H0
  isplitl [H1]; · iapply (leaves_of m c 1 t (fun hi => absurd hi Bool.false_ne_true)); iexact H1
  isplitl [H2]; · iapply (leaves_of m c 2 t (fun hi => absurd hi Bool.false_ne_true)); iexact H2
  isplitl [H3]; · iapply (leaves_of m c 3 t (fun hi => absurd hi Bool.false_ne_true)); iexact H3
  isplitl [H4]; · iapply (leaves_of m c 4 t (fun hi => absurd hi Bool.false_ne_true)); iexact H4
  isplitl [H5]; · iapply (leaves_of m c 5 t (fun hi => absurd ((live5 t).symm.trans hi) Bool.false_ne_true)); iexact H5
  isplitl [H6]; · iapply (leaves_of m c 6 t (fun hi => beforeC6 m c t (idle6 t hi))); iexact H6
  iapply (leaves_of m c 7 t (fun hi => beforeC7 m c t (idle7 t hi))); iexact H7

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  by_cases h : t.val % 2 = 0
  · have hc1 : ¬cond1 (grid0.coords t) := fun e => by have := (hcond1 t).mp e; omega
    have hc2 : cond2 (grid0.coords t) := (hcond2 t).mpr h
    rw [even_of t h, Phi_castSucc m c t]
    have hs : PhiS m c t.val (Nat.le_of_lt t.isLt) ⊢ iprop((∃ d, owns (c : Thread nD τ) (Memref.whole cc0_scratch0) fullShare d) ∗ (∃ r, prngReg c r)) := by
      by_cases hz : t.val = 0
      · rw [PhiS_zero m c _ _ hz, PhiA_eq]
      · rw [PhiS_pos m c _ _ hz]
        iintro ⟨H, Hg⟩
        isplitl [H]
        · iexists _; iexact H
        iexact Hg
    rw [after5 m c t, after6 m c t, after7 m c t, if_pos h, even_of t h]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
    ihave ⟨H8, Hg⟩ := hs $$ HP
    iapply ((runA c (grid0.coords t) _ _ _ _ _ _ _ _ _ _ _ _ _ _ _ _ _ _ _ _ (iblk m c 0 t) (iblk m c 1 t) (iblk m c 2 t) (iblk m c 3 t) (iblk m c 4 t) hc1 hc2).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    iintro ⟨H0, H1, H2, H3, H4, ⟨%e5, H5⟩, ⟨%e6, H6⟩, ⟨%e7, H7⟩, ⟨%e8, H8⟩⟩
    isplitl [H8 Hg]
    · isplitl [H8]
      · unfold owns; iexists _; isplitr
        swap; · iexact H8
        ipureintro; exact gotA8 c _ _ _ _ _ _ _ _ _ _ _ _ _ _ _ _ _ _ _ _ _ (iblk m c 0 t) (iblk m c 1 t) (iblk m c 2 t) (iblk m c 3 t) (iblk m c 4 t) hc1 hc2 _
      iexact Hg
    isplitl [Ho]; · iexact Ho
    isplitl [H0]; · rw [after0]; iexact H0
    isplitl [H1]; · rw [after1]; iexact H1
    isplitl [H2]; · rw [after2]; iexact H2
    isplitl [H3]; · rw [after3]; iexact H3
    isplitl [H4]; · rw [after4]; iexact H4
    isplitl [H5]
    · unfold owns; iexists _; isplitr
      swap; · iexact H5
      ipureintro; exact gotA5 c _ _ _ _ _ _ _ _ _ _ _ _ _ _ _ _ _ _ _ _ _ (iblk m c 0 t) (iblk m c 1 t) (iblk m c 2 t) (iblk m c 3 t) (iblk m c 4 t) hc1 hc2 _
    isplitl [H6]
    · unfold owns; iexists _; isplitr
      swap; · iexact H6
      ipureintro; exact gotA6 c _ _ _ _ _ _ _ _ _ _ _ _ _ _ _ _ _ _ _ _ _ (iblk m c 0 t) (iblk m c 1 t) (iblk m c 2 t) (iblk m c 3 t) (iblk m c 4 t) hc1 hc2 _
    unfold owns; iexists _; isplitr
    swap; · iexact H7
    ipureintro; exact gotA7 c _ _ _ _ _ _ _ _ _ _ _ _ _ _ _ _ _ _ _ _ _ (iblk m c 0 t) (iblk m c 1 t) (iblk m c 2 t) (iblk m c 3 t) (iblk m c 4 t) hc1 hc2 _
  · have h : t.val % 2 = 1 := by omega
    have hz : t.val ≠ 0 := by omega
    have hc1 : cond1 (grid0.coords t) := (hcond1 t).mpr h
    have hc2 : ¬cond2 (grid0.coords t) := fun e => by have := (hcond2 t).mp e; omega
    rw [Phi_castSucc m c t, PhiS_pos m c _ _ hz, even_pred t h]
    simp only [beforeC6 m c t h, beforeC7 m c t h]
    rw [after5 m c t, if_neg (by omega)]
    iintro ⟨⟨H8, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) _ _ _ _ _ _ _ _ _ _ _ _ _ _ _ _ _ _ _ _ (iblk m c 0 t) (iblk m c 1 t) (iblk m c 2 t) (iblk m c 3 t) (iblk m c 4 t) hc1 hc2 _).2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    iintro ⟨H0, H1, H2, H3, H4, ⟨%e5, H5⟩, H6, H7, H8⟩
    isplitl [H8 Hg]
    · isplitl [H8]; · iexact H8
      iexact Hg
    isplitl [Ho]; · iexact Ho
    isplitl [H0]; · rw [after0]; iexact H0
    isplitl [H1]; · rw [after1]; iexact H1
    isplitl [H2]; · rw [after2]; iexact H2
    isplitl [H3]; · rw [after3]; iexact H3
    isplitl [H4]; · rw [after4]; iexact H4
    isplitl [H5]
    · unfold owns; iexists _; isplitr
      swap; · iexact H5
      ipureintro; exact gotB5 c _ _ _ _ _ _ _ _ _ _ _ _ _ _ _ _ _ _ _ _ _ (iblk m c 0 t) (iblk m c 1 t) (iblk m c 2 t) (iblk m c 3 t) (iblk m c 4 t) hc1 hc2 _ _
    isplitl [H6]; · iexact H6
    iexact H7

/-- The body table's row is the body at the point. -/
theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => ask m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦA spec0 c := by
  rw [show (dats m 0 c).Φ (Fin.last cfg0.N) = PhiS m c cfg0.N le_rfl from rfl,
    PhiS_pos m c _ _ (by have : cfg0.N = 8 := N_0; omega), PhiA_eq]
  iintro ⟨H8, Hg⟩
  isplitl [H8]
  · iexists _; iexact H8
  iexact Hg

/-! ## The run -/

set_option maxHeartbeats 4000000 in
set_option backward.isDefEq.respectTransparency.types false in
/-- The launch: every run ends with the arrays at what the proof data says and every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl)
    (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.KernelIdeal.Hand

end
-- ==== Proof.PoolGradSums.lean ====
/- Sums run backwards: the adjoint of a running sum, over real numbers, and which operations keep numbers real. -/
module

public import proofs.«01_k».proof.Proof.PoolSums

@[expose] public section

noncomputable section

open Idealize.ShloMosaic

namespace Cert.PoolSums

/-- A number that is neither infinity. -/
def IsR (x : EReal) : Prop := ∃ a : ℝ, x = (a : EReal)

theorem IsR.of_ne {x : EReal} (h : x ≠ ⊤ ∧ x ≠ ⊥) : IsR x := ⟨x.toReal, (EReal.coe_toReal h.1 h.2).symm⟩
theorem IsR.ne {x : EReal} (h : IsR x) : x ≠ ⊤ ∧ x ≠ ⊥ := by
  obtain ⟨a, rfl⟩ := h
  exact ⟨EReal.coe_ne_top _, EReal.coe_ne_bot _⟩
theorem IsR.zero : IsR 0 := ⟨0, rfl⟩
theorem IsR.add {x y : EReal} (hx : IsR x) (hy : IsR y) : IsR (x + y) := by
  obtain ⟨a, rfl⟩ := hx; obtain ⟨b, rfl⟩ := hy
  exact ⟨a + b, (EReal.coe_add a b).symm⟩
theorem IsR.mul {x y : EReal} (hx : IsR x) (hy : IsR y) : IsR (x * y) := by
  obtain ⟨a, rfl⟩ := hx; obtain ⟨b, rfl⟩ := hy
  exact ⟨a * b, (EReal.coe_mul a b).symm⟩
theorem IsR.neg {x : EReal} (hx : IsR x) : IsR (-x) := by
  obtain ⟨a, rfl⟩ := hx
  exact ⟨-a, (EReal.coe_neg a).symm⟩
theorem IsR.sub {x y : EReal} (hx : IsR x) (hy : IsR y) : IsR (x - y) := by
  rw [sub_eq_add_neg]
  exact hx.add hy.neg
theorem IsR.sum {α : Type} {s : Finset α} {f : α → EReal} (h : ∀ i, IsR (f i)) : IsR (∑ i ∈ s, f i) := by
  classical
  induction s using Finset.induction_on with
  | empty => exact IsR.zero
  | insert a s ha ih => rw [Finset.sum_insert ha]; exact (h a).add ih
/-- A quotient by a number other than 0. -/
theorem IsR.div {x y : EReal} (hx : IsR x) (hy : IsR y) (h0 : y ≠ 0) : IsR (Ideal.div x y) := by
  obtain ⟨a, rfl⟩ := hx; obtain ⟨b, rfl⟩ := hy
  unfold Ideal.div
  rw [if_neg h0]
  exact ⟨a * b⁻¹, by rw [EReal.coe_mul, EReal.coe_inv]⟩

/-- The logistic function. -/
def sg (e : EReal) : EReal := Ideal.div 1 (1 + Ideal.exp (-e))

theorem sg_real {e : EReal} (h : IsR e) : IsR (sg e) := by
  obtain ⟨a, rfl⟩ := h
  have e1 : (1 + Ideal.exp (-(a : EReal)) : EReal) = ((1 + Real.exp (-a) : ℝ) : EReal) := by
    rw [← EReal.coe_neg, EReal.coe_add, EReal.coe_one]
    rfl
  unfold sg
  rw [e1]
  exact IsR.div ⟨1, rfl⟩ ⟨_, rfl⟩ (by
    have : (0 : ℝ) < 1 + Real.exp (-a) := by positivity
    exact_mod_cast this.ne')

/-- The logistic gate's derivative, over real numbers, in the two ways it is written. -/
theorem gate_grad {t e : EReal} (ht : IsR t) (he : IsR e) :
    t * sg e + e * t * (sg e * (1 - sg e)) = t * (sg e * (1 + e * (1 - sg e))) := by
  obtain ⟨s, hs⟩ := sg_real he
  rw [hs]
  obtain ⟨a, rfl⟩ := ht; obtain ⟨b, rfl⟩ := he
  rw [← EReal.coe_one]
  simp only [← EReal.coe_mul, ← EReal.coe_sub, ← EReal.coe_add]
  congr 1
  ring

/-- A sequence of `N` values read from its end. -/
def back (N : ℕ) (f : Fin N → EReal) (n : ℕ) : EReal := if h : n < N then f ⟨N - 1 - n, by omega⟩ else 0

theorem back_at (N : ℕ) (f : Fin N → EReal) (i : Fin N) : back N f (N - 1 - i.val) = f i := by
  have := i.isLt
  unfold back
  rw [dif_pos (by omega)]
  exact congrArg f (Fin.ext (by show N - 1 - (N - 1 - i.val) = i.val; omega))

theorem back_real {N : ℕ} {f : Fin N → EReal} (h : ∀ i, IsR (f i)) (n : ℕ) : IsR (back N f n) := by
  unfold back
  split
  · exact h _
  · exact IsR.zero

/-- A running sum of a sequence from which its own values `w` places earlier are taken away is a window sum. -/
theorem run_shift (f : ℕ → EReal) (hf : ∀ r, IsR (f r)) (w i : ℕ) :
    run (fun n => f n + if w ≤ n then -f (n - w) else 0) i = win f w i := by
  have hneg : ∀ n, (∑ r ∈ Finset.range n, -f r) = -(∑ r ∈ Finset.range n, f r) := fun n => by
    induction n with
    | zero => simp
    | succ n ih =>
      rw [Finset.sum_range_succ, Finset.sum_range_succ, ih]
      obtain ⟨a, ha⟩ := IsR.sum (s := Finset.range n) hf
      obtain ⟨b, hb⟩ := hf n
      rw [ha, hb, ← EReal.coe_neg, ← EReal.coe_neg, ← EReal.coe_add, ← EReal.coe_add, ← EReal.coe_neg]
      congr 1
      ring
  rw [← run_sub f (fun r => (hf r).ne) w i, sub_eq_add_neg]
  unfold run
  rw [Finset.sum_add_distrib]
  refine congrArg₂ (fun a b : EReal => a + b) rfl ?_
  by_cases h : w ≤ i
  · rw [if_pos h, show i + 1 = w + (i - w + 1) by omega, Finset.sum_range_add,
      Finset.sum_eq_zero (fun r hr => if_neg (by have := Finset.mem_range.1 hr; omega)), zero_add,
      ← hneg]
    refine Finset.sum_congr rfl fun r _ => ?_
    rw [if_pos (by omega)]
    exact congrArg (fun n => -f n) (by omega)
  · rw [if_neg h, Finset.sum_eq_zero (fun r hr => if_neg (by have := Finset.mem_range.1 hr; omega)), neg_zero]

/-- What one place of the host's backward window adds: the element there, or nothing behind the array. -/
def rterm {N K : ℕ} {φ : FTy} (x : FVec Ideal ⟨3, ![1, N, K]⟩ φ) (i : Fin N) (k : Fin K) (p : (⟨3, ![1, N, 1]⟩ : Shape).Idx) : EReal :=
  if hin : ∀ a : Fin 3, (![0, 0, 0] : Fin 3 → ℕ) a ≤ ((ix3 0 i k : (⟨3, ![1, N, K]⟩ : Shape).Idx) a).val * (![1, 1, 1] : Fin 3 → ℕ) a + (p a).val ∧
    ((ix3 0 i k : (⟨3, ![1, N, K]⟩ : Shape).Idx) a).val * (![1, 1, 1] : Fin 3 → ℕ) a + (p a).val - (![0, 0, 0] : Fin 3 → ℕ) a < (![1, N, K] : Fin 3 → ℕ) a
  then x (fun a => ⟨_, (hin a).2⟩) else 0

/-- The host's running sum from the rows' end. -/
theorem rcumsum_at {N K : ℕ} {φ : FTy} (x : FVec Ideal ⟨3, ![1, N, K]⟩ φ) (init : FVec Ideal ⟨0, ![]⟩ φ)
    (h : Shape.ReduceWindows ⟨3, ![1, N, K]⟩ ![1, N, 1] ![1, 1, 1] ![0, 0, 0] ![0, N - 1, 0] ⟨3, ![1, N, K]⟩)
    (hu : 0 < (⟨0, ![]⟩ : Shape).numel) (h0 : ∀ j, (init j : EReal) = 0) (f : ℕ → EReal) (i : Fin N) (k : Fin K)
    (hf : ∀ r : Fin N, (x (ix3 0 r k) : EReal) = f (N - 1 - r.val)) :
    (Host.reduceWindowAdd (F := Ideal) ![1, N, 1] ![1, 1, 1] ![0, 0, 0] ![0, N - 1, 0] x init h hu (ix3 0 i k) : EReal)
      = run f (N - 1 - i.val) := by
  refine (fold_add _ _ _).trans ?_
  rw [h0, zero_add, ← Fin.sum_univ_def]
  let G := rterm x i k
  refine (Finset.sum_congr rfl fun n _ => (?_ : _ = G ((Shape.rowMajor ⟨3, ![1, N, 1]⟩).symm n))).trans
    ((Equiv.sum_comp (Shape.rowMajor ⟨3, ![1, N, 1]⟩).symm G).trans ?_)
  · split
    · rename_i hin
      show _ = rterm x i k _
      unfold rterm
      split
      · rfl
      · rename_i hn
        exact absurd (fun a => hin a) hn
    · rename_i hin
      show _ = rterm x i k _
      unfold rterm
      split
      · rename_i hn
        exact absurd (fun a => hn a) hin
      · rfl
  rw [sum_idx3, Fin.sum_univ_one]
  have hN := i.isLt
  have step : ∀ b : Fin N, (∑ c : Fin 1, G (ix3 0 b c))
      = if b.val < N - i.val then f (N - 1 - (i.val + b.val)) else 0 := fun b => by
    rw [Fin.sum_univ_one]
    show rterm x i k _ = _
    unfold rterm
    by_cases hb : b.val < N - i.val
    · have hlt : i.val + b.val < N := by omega
      rw [if_pos hb, dif_pos (fun a => match a with
        | 0 => ⟨Nat.zero_le _, by simp⟩
        | 1 => ⟨Nat.zero_le _, by simpa using hlt⟩
        | 2 => ⟨Nat.zero_le _, by simp [k.isLt]⟩)]
      refine Eq.trans (congrArg x (funext fun a => Fin.ext ?_)) (hf ⟨_, hlt⟩)
      match a with
      | 0 => simp
      | 1 => simp
      | 2 => simp
    · rw [if_neg hb, dif_neg (fun hin => hb (by
        have := (hin 1).2
        simp at this
        omega))]
  refine (Finset.sum_congr rfl fun b _ => step b).trans ?_
  rw [Fin.sum_univ_eq_sum_range (fun b => if b < N - i.val then f (N - 1 - (i.val + b)) else 0) N]
  unfold run
  rw [show Finset.range N = Finset.range ((N - 1 - i.val + 1) + i.val) from congrArg _ (by omega), Finset.sum_range_add]
  rw [Finset.sum_eq_zero (s := Finset.range i.val) (fun b hb => if_neg (by omega)), add_zero,
    ← Finset.sum_range_reflect (fun r => f r)]
  refine Finset.sum_congr rfl fun r hr => ?_
  have := Finset.mem_range.1 hr
  rw [if_pos (by omega)]
  exact congrArg f (by omega)

end Cert.PoolSums

end
-- ==== Proof.PoolGradRef.lean ====
/- The pooling branch's gradient, as the reference computes it, element by element. -/
module

public import proofs.«01_k».proof.Proof.Gen.ReferenceIdeal.Run
public import proofs.«01_k».proof.Proof.PoolGradSums
public import proofs.«01_k».proof.Proof.PoolRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PoolGrad

open Cert.PoolSums Cert.PoolValue

/-- The gradient that comes in. -/
abbrev Ct := FVec Ideal ⟨2, ![2048, 512]⟩ .f32

/-- Column `j` of group `g`. -/
def cix (g : Fin 4) (j : Fin 128) : Fin 512 := ⟨128 * g.val + j.val, by omega⟩

variable (D : Ct) (X : Proj) (W : Wts) (S : Sca)

/-- The gate's argument at row `i`. -/
def gat (i : Fin 2048) (g : Fin 4) (j : Fin 128) : EReal := col X (512 + (128 * g.val + j.val)) i.val
/-- The pooled value at row `i`. -/
def po (i : Fin 2048) (g : Fin 4) (k : Fin 128) : EReal := pooled X (2 ^ (g.val + 1)) (128 * g.val + k.val) i.val
/-- The pooled row by the group's weights. -/
def pw (i : Fin 2048) (g : Fin 4) (j : Fin 128) : EReal := ∑ k : Fin 128, W (ix3 g k j) * po X i g k
/-- The gradient that comes in, gated. -/
def up (i : Fin 2048) (g : Fin 4) (j : Fin 128) : EReal := D (ix2 i (cix g j)) * (gat X i g j * sg (gat X i g j))
/-- The same scaled: the gradient by the product with the weights. -/
def en (i : Fin 2048) (g : Fin 4) (j : Fin 128) : EReal := up D X i g j * S (ix2 0 (cix g j))
/-- The gradient by the pooled value. -/
def zz (i : Fin 2048) (g : Fin 4) (k : Fin 128) : EReal := ∑ j : Fin 128, en D X S i g j * W (ix3 g k j)
/-- The gradient by the pooled columns: the window sum of the means' gradients at the rows from `i` on, less the row's own. -/
def dpv (i : Fin 2048) (g : Fin 4) (k : Fin 128) : EReal :=
  win (back 2048 fun r => Ideal.div (zz D X W S r g k) (cnt (2 ^ (g.val + 1)) r.val)) (2 ^ (g.val + 1)) (2047 - i.val) - zz D X W S i g k
/-- The gradient by the gate columns. -/
def dpg (i : Fin 2048) (g : Fin 4) (j : Fin 128) : EReal :=
  D (ix2 i (cix g j)) * (pw X W i g j * S (ix2 0 (cix g j)))
    * (sg (gat X i g j) * (1 + gat X i g j * (1 - sg (gat X i g j))))
/-- The gradient by the weights. -/
def dpw (g : Fin 4) (k j : Fin 128) : EReal := ∑ i : Fin 2048, po X i g k * en D X S i g j
/-- The gradient by the scale. -/
def dsc (g : Fin 4) (j : Fin 128) : EReal := ∑ i : Fin 2048, up D X i g j * pw X W i g j

/-- The group and the lane of a column. -/
def grp (q : ℕ) : Fin 4 := ⟨q / 128 % 4, Nat.mod_lt _ (by decide)⟩
def lane (q : ℕ) : Fin 128 := ⟨q % 128, Nat.mod_lt _ (by decide)⟩

theorem cix_grp (q : ℕ) (h : q < 512) : cix (grp q) (lane q) = ⟨q, h⟩ := Fin.ext (by show 128 * (q / 128 % 4) + q % 128 = q; omega)

/-- The first result: the gradients by the pooled and the gate columns, then the columns given. -/
def DP (C : Proj) : Proj := fun q =>
  if (q 1).val < 512 then dpv D X W S (q 0) (grp (q 1).val) (lane (q 1).val)
  else if (q 1).val < 1024 then dpg D X W S (q 0) (grp ((q 1).val - 512)) (lane ((q 1).val - 512))
  else C q
/-- The second: the gradient by the weights. -/
def DW : Wts := fun q => dpw D X S (q 0) (q 1) (q 2)
/-- The third: the gradient by the scale. -/
def DS : Sca := fun q => dsc D X W (grp (q 1).val) (lane (q 1).val)

/-- The gradient by the running sums, read from the last row: the mean's gradient less the one a window further on. -/
def shifted (g : Fin 4) (k : Fin 128) (n : ℕ) : EReal :=
  back 2048 (fun r => Ideal.div (zz D X W S r g k) (cnt (2 ^ (g.val + 1)) r.val)) n
    + if 2 ^ (g.val + 1) ≤ n then -back 2048 (fun r => Ideal.div (zz D X W S r g k) (cnt (2 ^ (g.val + 1)) r.val)) (n - 2 ^ (g.val + 1)) else 0

theorem diff_at (g : Fin 4) (k : Fin 128) (w : ℕ) (hw : 2 ^ (g.val + 1) = w) (i : Fin 2048) :
    Ideal.div (zz D X W S i g k) (cnt w i.val)
        + (if h : i.val < 2048 - w then -Ideal.div (zz D X W S ⟨i.val + w, by omega⟩ g k) (cnt w (i.val + w)) else 0)
      = shifted D X W S g k (2047 - i.val) := by
  unfold shifted
  rw [hw]
  have hi := i.isLt
  have b := fun j => back_at 2048 (fun r => Ideal.div (zz D X W S r g k) (cnt w r.val)) j
  refine congrArg₂ (fun a b : EReal => a + b) (b i).symm ?_
  by_cases h : i.val < 2048 - w
  · rw [dif_pos h, if_pos (by omega)]
    refine congrArg (fun a : EReal => -a) ((b ⟨i.val + w, by omega⟩).symm.trans (congrArg _ ?_))
    show 2048 - 1 - (i.val + w) = _
    omega
  · rw [dif_neg h, if_neg (by omega)]

/-- What the claim supposes: the four inputs are finite where they are read. -/
structure Fin4 : Prop where
  d : ∀ i k, IsR (D (ix2 i k))
  x : ∀ (i : Fin 2048) (k : Fin 7168), k.val < 1024 → IsR (X (ix2 i k))
  w : ∀ g k j, IsR (W (ix3 g k j))
  s : ∀ k, IsR (S (ix2 0 k))

variable {D X W S}

theorem Fin4.fin (h : Fin4 D X W S) : Finite X := fun i k hk => (h.x i k (by omega)).ne

/-- A window's row count is a real number other than 0. -/
theorem cnt_real (w i : ℕ) : IsR (cnt w i) := ⟨_, rfl⟩
theorem cnt_ne (w i : ℕ) (hw : 0 < w) : cnt w i ≠ 0 := by
  unfold cnt
  have : 0 < min (i + 1) w := by omega
  exact_mod_cast this.ne'

/-- The pooled values, the products, the gated gradients are real numbers. -/
theorem po_real (h : Fin4 D X W S) (i : Fin 2048) (g : Fin 4) (k : Fin 128) : IsR (po X i g k) := by
  have hc := fun r => IsR.of_ne (col_real X h.fin (128 * g.val + k.val) (by omega) r)
  unfold po pooled
  refine (IsR.div ?_ (cnt_real _ _) (cnt_ne _ _ (by positivity))).sub (hc _)
  unfold win
  refine IsR.sum fun r => ?_
  split
  · exact hc _
  · exact IsR.zero
theorem pw_real (h : Fin4 D X W S) (i : Fin 2048) (g : Fin 4) (j : Fin 128) : IsR (pw X W i g j) :=
  IsR.sum fun k => (h.w g k j).mul (po_real h i g k)
theorem gat_real (h : Fin4 D X W S) (i : Fin 2048) (g : Fin 4) (j : Fin 128) : IsR (gat X i g j) := by
  unfold gat col
  split
  · exact h.x _ _ (by show 512 + (128 * g.val + j.val) < 1024; omega)
  · exact IsR.zero
theorem en_real (h : Fin4 D X W S) (i : Fin 2048) (g : Fin 4) (j : Fin 128) : IsR (en D X S i g j) :=
  ((h.d _ _).mul ((gat_real h i g j).mul (sg_real (gat_real h i g j)))).mul (h.s _)
theorem zz_real (h : Fin4 D X W S) (i : Fin 2048) (g : Fin 4) (k : Fin 128) : IsR (zz D X W S i g k) :=
  IsR.sum fun j => (en_real h i g j).mul (h.w g k j)
theorem q_real (h : Fin4 D X W S) (w : ℕ) (hw : 0 < w) (g : Fin 4) (k : Fin 128) (i : Fin 2048) :
    IsR (Ideal.div (zz D X W S i g k) (cnt w i.val)) := (zz_real h i g k).div (cnt_real _ _) (cnt_ne _ _ hw)

/-- A sum over two axes of one element each is that element. -/
theorem sum_units {K : ℕ} (h : (⟨3, ![1, 1, K]⟩ : Shape).ReducesTo [0, 1] ⟨1, ![K]⟩) (x : (⟨3, ![1, 1, K]⟩ : Shape).Idx → EReal) (y : Fin K) :
    Ideal.hostReduceAdd h x 0 (ix1 y) = x (ix3 0 0 y) := by
  unfold Ideal.hostReduceAdd
  rw [zero_add, Finset.sum_filter, sum_idx3, Fin.sum_univ_one, Fin.sum_univ_one]
  have e : ∀ k : Fin K, (h.drop (ix3 0 0 k) = ix1 y) ↔ k = y := fun k => by
    have e1 : h.drop (ix3 0 0 k) = ix1 k := by
      funext b
      match b with
      | 0 => rfl
    rw [e1]
    exact ⟨fun e => congrFun e 0, fun e => by rw [e]⟩
  simp only [e]
  exact Finset.sum_ite_eq' _ _ _ |>.trans (by simp)

section Reference
open Cert.ReferenceIdeal Cert.ReferenceIdeal.Gen Cert.ReferenceIdeal.Value Idealize.ShloMosaic.StableHlo

variable (V : Valuation τ sig (Elt Ideal))

abbrev vD : Ct := V (Proc.devRef .tc main_arg0)
abbrev vX : Proj := V (Proc.devRef .tc main_arg1)
abbrev vW : Wts := V (Proc.devRef .tc main_arg2)
abbrev vS : Sca := V (Proc.devRef .tc main_arg3)

set_option maxHeartbeats 1000000 in
theorem v5_at (i : Fin 2048) (g : Fin 4) (j : Fin 128) : (res_main_v5 V (ix3 0 i (cix g j)) : EReal) = gat (vX V) i g j := by
  refine Eq.trans ?_ (col_at (vX V) i ⟨512 + (128 * g.val + j.val), by omega⟩).symm
  pointwise [res_main_v5, cix]

theorem v75_2_at (i : Fin 2048) (g : Fin 4) (j : Fin 128) : (res_main_v75_2 V (ix3 0 i (cix g j)) : EReal) = sg (gat (vX V) i g j) := by
  rw [← v5_at V i g j]
  generalize hy : cix g j = y
  unfold res_main_v75_2
  generalize res_main_v5 V = T
  pointwise [sg]

theorem v79_at (i : Fin 2048) (g : Fin 4) (j : Fin 128) : (res_main_v79 V (ix3 0 i (cix g j)) : EReal) = up (vD V) (vX V) i g j := by
  unfold up
  rw [← v75_2_at V i g j, ← v5_at V i g j]
  generalize hy : cix g j = y
  unfold res_main_v79 res_main_v75_0
  generalize res_main_v5 V = T
  generalize res_main_v75_2 V = U
  pointwise [res_main_v77]

theorem v88_at (i : Fin 2048) (g : Fin 4) (j : Fin 128) : (res_main_v88 V (ix4 g j 0 i) : EReal) = en (vD V) (vX V) (vS V) i g j := by
  unfold en
  rw [← v79_at V i g j]
  unfold res_main_v88
  generalize res_main_v79 V = T
  pointwise [res_main_v72, cix]
  simp only [Nat.mul_comm g.val 128]

theorem v90_at (i : Fin 2048) (g : Fin 4) (k : Fin 128) : (res_main_v90 V (ix4 0 i g k) : EReal) = zz (vD V) (vX V) (vW V) (vS V) i g k := by
  unfold zz
  simp only [← v88_at V i g]
  unfold res_main_v90
  generalize res_main_v88 V = T
  pointwise []

theorem v7_at (i : Fin 2048) (k : Fin 512) : (res_main_v7 V (ix3 0 i k) : EReal) = run (col (vX V) k.val) i.val := by
  refine cumsum_at _ _ _ _ (fun j => ?_) _ i k fun r => ?_
  · pointwise []
  · pointwise [res_main_v4]
    exact (col_at _ r ⟨k.val, by omega⟩).symm

set_option maxHeartbeats 4000000 in
theorem v68_at (h : Finite (vX V)) (i : Fin 2048) (g : Fin 4) (k : Fin 128) : (res_main_v68 V (ix4 0 i g k) : EReal) = po (vX V) i g k := by
  unfold po
  have hp := pooled_ref (vX V) h
  unfold res_main_v68 res_main_v12 res_main_v25 res_main_v38 res_main_v51
  have H := v7_at V
  generalize res_main_v7 V = T at H ⊢
  pointwise [res_main_v4, res_main_v19, res_main_v32, res_main_v45, res_main_v58, res_main_v11]
  simp only [H]
  have hk := k.isLt
  have hg := g.isLt
  by_cases h1 : g.val < 1
  · rw [dif_pos h1, show g.val = 0 by omega]
    refine (hp k.val (by omega) 2 (by decide) _ bits2 i _).trans ?_
    simp only [Nat.mul_zero, Nat.zero_add]
    rfl
  rw [dif_neg h1]
  by_cases h2 : g.val - 1 < 1
  · rw [dif_pos h2, show g.val = 1 by omega]
    exact hp (128 + k.val) (by omega) 4 (by decide) _ bits4 i _
  rw [dif_neg h2]
  by_cases h3 : g.val - 1 - 1 < 1
  · rw [dif_pos h3, show g.val = 2 by omega]
    exact hp (256 + k.val) (by omega) 8 (by decide) _ bits8 i _
  rw [dif_neg h3, show g.val = 3 by omega]
  exact hp (384 + k.val) (by omega) 16 (by decide) _ bits16 i _

theorem v71_at (h : Finite (vX V)) (i : Fin 2048) (g : Fin 4) (j : Fin 128) : (res_main_v71 V (ix3 0 i (cix g j)) : EReal) = pw (vX V) (vW V) i g j := by
  unfold pw
  simp only [← v68_at V h i g]
  unfold res_main_v71
  generalize res_main_v68 V = T
  have hd : (128 * g.val + j.val) / 128 = g.val := by omega
  have hm : (128 * g.val + j.val) % 128 = j.val := by omega
  pointwise [cix, hd, hm]

theorem v92_at (h : Finite (vX V)) (g : Fin 4) (k j : Fin 128) : (transpose S4x128x128 [0, 2, 1] (Host.dotGeneral (F := Ideal) (φ₁ := .f32) (φ₂ := .f32) dot_S4x128x1x2048_S1x2048x4x128_S4x128x128_23_01_1_3_0_2 none (res_main_v88 V) (res_main_v68 V)) transposes_S4x128x128_S4x128x128_0_2_1 (ix3 g k j) : EReal)
    = dpw (vD V) (vX V) (vS V) g k j := by
  unfold dpw
  simp only [← v68_at V h, ← v88_at V]
  generalize res_main_v68 V = T
  generalize res_main_v88 V = U
  pointwise []
  rw [Fin.sum_univ_one]
  exact Finset.sum_congr rfl fun x _ => mul_comm _ _

theorem v155_at (h : Finite (vX V)) (g : Fin 4) (j : Fin 128) : (broadcastInDim S1x512 ![1] bcast_S512_S1x512_1 (Host.reduceAdd (shapeCast _ (Host.reduceAdd (mulf (res_main_v71 V) (res_main_v79 V)) (constant S_ .f32 0x00000000#32) reducesTo_S1x2048x512_S1x512_d1 h_S_) shapeCasts_S1x512_S1x1x512) (constant S_ .f32 0x00000000#32) reducesTo_S1x1x512_S512_d0_1 h_S_) (ix2 0 (cix g j)) : EReal)
    = dsc (vD V) (vX V) (vW V) g j := by
  unfold dsc
  simp only [← v71_at V h, ← v79_at V]
  generalize hy : cix g j = y
  generalize res_main_v71 V = T
  generalize res_main_v79 V = U
  pointwise []
  rw [sum_units]
  pointwise []
  simp only [mul_comm]

theorem v80_at (h : Fin4 (vD V) (vX V) (vW V) (vS V)) (i : Fin 2048) (g : Fin 4) (j : Fin 128) :
    (addf (mulf (res_main_v78 V) (res_main_v75_2 V)) (mulf (mulf (res_main_v5 V) (res_main_v78 V)) (mulf (res_main_v75_2 V) (subf (broadcastInDim S1x2048x512 ![] bcast_S_S1x2048x512 (constant S_ .f32 0x3F800000#32)) (res_main_v75_2 V)))) (ix3 0 i (cix g j)) : EReal)
    = dpg (vD V) (vX V) (vW V) (vS V) i g j := by
  have hx := h.fin
  have hg := gat_real h i g j
  have hp := pw_real h i g j
  refine Eq.trans ?_ (gate_grad (((h.d i (cix g j)).mul (hp.mul (h.s (cix g j))))) hg)
  rw [← v75_2_at V i g j, ← v5_at V i g j, ← v71_at V hx i g j]
  generalize hy : cix g j = y
  unfold res_main_v78 res_main_v74
  generalize res_main_v5 V = T
  generalize res_main_v75_2 V = U
  generalize res_main_v71 V = R
  pointwise [res_main_v77, res_main_v72]
  rw [mul_comm (vD V (ix2 i y))]

/-- A group's columns laid into all columns: inside they are the group's, outside zero. -/
theorem padded_in (x : FVec Ideal S1x2048x128 .f32) (o p : ℕ) (hp : S1x2048x128.Pads (![0, 0, o] : Fin 3 → Nat) ![0, 0, p] ![0, 0, 0] S1x2048x512) (i : Fin 2048) (j : Fin 512) (k : Fin 128) (hj : j.val = o + k.val) :
    (pad S1x2048x512 ![0, 0, o] ![0, 0, p] ![0, 0, 0] x (constant (F := Ideal) S_ .f32 0x00000000#32) hp h_S_ (ix3 0 i j) : EReal) = x (ix3 0 i k) := by
  unfold pad
  refine (dif_pos ?_).trans (congrArg x ?_)
  · intro a
    match a with
    | 0 => exact ⟨Nat.zero_le _, Nat.mod_one _, by show (0 - 0) / 1 < 1; omega⟩
    | 1 => exact ⟨Nat.zero_le _, Nat.mod_one _, by show (i.val - 0) / 1 < 2048; omega⟩
    | 2 => exact ⟨by show o ≤ j.val; omega, Nat.mod_one _, by show (j.val - o) / 1 < 128; omega⟩
  · funext a
    match a with
    | 0 => exact Fin.ext (by show (0 - 0) / 1 = 0; omega)
    | 1 => exact Fin.ext (by show (i.val - 0) / 1 = i.val; omega)
    | 2 => exact Fin.ext (by show (j.val - o) / 1 = k.val; omega)
theorem padded_out (x : FVec Ideal S1x2048x128 .f32) (o p : ℕ) (hp : S1x2048x128.Pads (![0, 0, o] : Fin 3 → Nat) ![0, 0, p] ![0, 0, 0] S1x2048x512) (i : Fin 2048) (j : Fin 512) (hj : j.val < o ∨ o + 128 ≤ j.val) :
    (pad S1x2048x512 ![0, 0, o] ![0, 0, p] ![0, 0, 0] x (constant (F := Ideal) S_ .f32 0x00000000#32) hp h_S_ (ix3 0 i j) : EReal) = 0 := by
  unfold pad
  refine (dif_neg fun H => ?_).trans (by pointwise [])
  obtain ⟨a, _, b⟩ := H 2
  have a' : o ≤ j.val := a
  have b' : (j.val - o) / 1 < 128 := b
  omega

/-- The four groups' columns laid side by side. -/
theorem groups_at (T0 T1 T2 T3 : FVec Ideal S1x2048x128 .f32) (q : Fin 4 → EReal) (i : Fin 2048) (k : Fin 128)
    (h0 : (T0 (ix3 0 i k) : EReal) = q 0) (h1 : (T1 (ix3 0 i k) : EReal) = q 1) (h2 : (T2 (ix3 0 i k) : EReal) = q 2) (h3 : (T3 (ix3 0 i k) : EReal) = q 3) (g : Fin 4) :
    (addf (F := Ideal) (φ := .f32) (addf (addf (pad S1x2048x512 ![0, 0, 384] ![0, 0, 0] ![0, 0, 0] T3 (constant (F := Ideal) S_ .f32 0x00000000#32) pads_S1x2048x128_S1x2048x512_000_000_38400 h_S_) (pad S1x2048x512 ![0, 0, 256] ![0, 0, 128] ![0, 0, 0] T2 (constant (F := Ideal) S_ .f32 0x00000000#32) pads_S1x2048x128_S1x2048x512_000_000_2561280 h_S_)) (pad S1x2048x512 ![0, 0, 128] ![0, 0, 256] ![0, 0, 0] T1 (constant (F := Ideal) S_ .f32 0x00000000#32) pads_S1x2048x128_S1x2048x512_000_000_1282560 h_S_)) (pad S1x2048x512 ![0, 0, 0] ![0, 0, 384] ![0, 0, 0] T0 (constant (F := Ideal) S_ .f32 0x00000000#32) pads_S1x2048x128_S1x2048x512_000_000_03840 h_S_) (ix3 0 i (cix g k)) : EReal) = q g := by
  have hk := k.isLt
  have a : ∀ a b c d : FVec Ideal S1x2048x512 .f32, ∀ j, (addf (F := Ideal) (φ := .f32) (addf (addf a b) c) d j : EReal) = a j + b j + c j + d j := fun _ _ _ _ _ => rfl
  rw [a]
  match g with
  | 0 => rw [padded_out T3 384 0 _ i _ (Or.inl (by show 128 * 0 + k.val < 384; omega)), padded_out T2 256 128 _ i _ (Or.inl (by show 128 * 0 + k.val < 256; omega)), padded_out T1 128 256 _ i _ (Or.inl (by show 128 * 0 + k.val < 128; omega)), padded_in T0 0 384 _ i _ k (by show 128 * 0 + k.val = _; omega), h0]; simp
  | 1 => rw [padded_out T3 384 0 _ i _ (Or.inl (by show 128 * 1 + k.val < 384; omega)), padded_out T2 256 128 _ i _ (Or.inl (by show 128 * 1 + k.val < 256; omega)), padded_in T1 128 256 _ i _ k (by show 128 * 1 + k.val = _; omega), padded_out T0 0 384 _ i _ (Or.inr (by show _ ≤ 128 * 1 + k.val; omega)), h1]; simp
  | 2 => rw [padded_out T3 384 0 _ i _ (Or.inl (by show 128 * 2 + k.val < 384; omega)), padded_in T2 256 128 _ i _ k (by show 128 * 2 + k.val = _; omega), padded_out T1 128 256 _ i _ (Or.inr (by show _ ≤ 128 * 2 + k.val; omega)), padded_out T0 0 384 _ i _ (Or.inr (by show _ ≤ 128 * 2 + k.val; omega)), h2]; simp
  | 3 => rw [padded_in T3 384 0 _ i _ k (by show 128 * 3 + k.val = _; omega), padded_out T2 256 128 _ i _ (Or.inr (by show _ ≤ 128 * 3 + k.val; omega)), padded_out T1 128 256 _ i _ (Or.inr (by show _ ≤ 128 * 3 + k.val; omega)), padded_out T0 0 384 _ i _ (Or.inr (by show _ ≤ 128 * 3 + k.val; omega)), h3]; simp

theorem v94_at (i : Fin 2048) (k : Fin 128) : (res_main_v94 V (ix3 0 i k) : EReal) = zz (vD V) (vX V) (vW V) (vS V) i 0 k := by
  rw [← v90_at V i 0 k]
  unfold res_main_v94
  generalize res_main_v90 V = T
  pointwise []

theorem v139_at (i : Fin 2048) (k : Fin 128) : (res_main_v139 V (ix3 0 i k) : EReal) = Ideal.div (zz (vD V) (vX V) (vW V) (vS V) i 0 k) (cnt 2 i.val) := by
  rw [← v94_at V i k, ← cnt_float 2 (by decide) _ bits2 i]
  unfold res_main_v139
  generalize res_main_v94 V = T
  pointwise [res_main_v19, res_main_v11]

/-- Group 0's addends: the mean's gradient at a row, less the one 2 rows on. -/
theorem add0_at (i : Fin 2048) (k : Fin 128) :
    (addf (F := Ideal) (φ := .f32) (res_main_v139 V) (pad S1x2048x128 ![0, 0, 0] ![0, 2, 0] ![0, 0, 0] (extractStridedSlice S1x2046x128 ![0, 2, 0] (res_main_v140 V) slices_S1x2048x128_S1x2046x128_0_2_0) (constant S_ .f32 0x00000000#32) pads_S1x2046x128_S1x2048x128_000_020_000 h_S_) (ix3 0 i k) : EReal)
    = shifted (vD V) (vX V) (vW V) (vS V) 0 k (2047 - i.val) := by
  have H := v139_at V
  unfold res_main_v140
  generalize res_main_v139 V = T at H ⊢
  pointwise []
  refine Eq.trans ?_ (diff_at (vD V) (vX V) (vW V) (vS V) 0 k 2 rfl i)
  simp only [H]
  refine congrArg₂ (fun a b : EReal => a + b) rfl ?_
  by_cases hi : i.val < 2046
  · rw [dif_pos hi]
    refine Eq.trans ?_ (dif_pos (show i.val < 2048 - 2 from hi)).symm
    simp only [Nat.add_comm 2]
  · rw [dif_neg hi]
    refine Eq.trans ?_ (dif_neg (show ¬ i.val < 2048 - 2 from hi)).symm
    rfl

theorem v96_at (i : Fin 2048) (k : Fin 128) : (res_main_v96 V (ix3 0 i k) : EReal) = zz (vD V) (vX V) (vW V) (vS V) i 1 k := by
  rw [← v90_at V i 1 k]
  unfold res_main_v96
  generalize res_main_v90 V = T
  pointwise []

theorem v127_at (i : Fin 2048) (k : Fin 128) : (res_main_v127 V (ix3 0 i k) : EReal) = Ideal.div (zz (vD V) (vX V) (vW V) (vS V) i 1 k) (cnt 4 i.val) := by
  rw [← v96_at V i k, ← cnt_float 4 (by decide) _ bits4 i]
  unfold res_main_v127
  generalize res_main_v96 V = T
  pointwise [res_main_v32, res_main_v11]

/-- Group 1's addends: the mean's gradient at a row, less the one 4 rows on. -/
theorem add1_at (i : Fin 2048) (k : Fin 128) :
    (addf (F := Ideal) (φ := .f32) (res_main_v127 V) (pad S1x2048x128 ![0, 0, 0] ![0, 4, 0] ![0, 0, 0] (extractStridedSlice S1x2044x128 ![0, 4, 0] (res_main_v128 V) slices_S1x2048x128_S1x2044x128_0_4_0) (constant S_ .f32 0x00000000#32) pads_S1x2044x128_S1x2048x128_000_040_000 h_S_) (ix3 0 i k) : EReal)
    = shifted (vD V) (vX V) (vW V) (vS V) 1 k (2047 - i.val) := by
  have H := v127_at V
  unfold res_main_v128
  generalize res_main_v127 V = T at H ⊢
  pointwise []
  refine Eq.trans ?_ (diff_at (vD V) (vX V) (vW V) (vS V) 1 k 4 rfl i)
  simp only [H]
  refine congrArg₂ (fun a b : EReal => a + b) rfl ?_
  by_cases hi : i.val < 2044
  · rw [dif_pos hi]
    refine Eq.trans ?_ (dif_pos (show i.val < 2048 - 4 from hi)).symm
    simp only [Nat.add_comm 4]
  · rw [dif_neg hi]
    refine Eq.trans ?_ (dif_neg (show ¬ i.val < 2048 - 4 from hi)).symm
    rfl

theorem v98_at (i : Fin 2048) (k : Fin 128) : (res_main_v98 V (ix3 0 i k) : EReal) = zz (vD V) (vX V) (vW V) (vS V) i 2 k := by
  rw [← v90_at V i 2 k]
  unfold res_main_v98
  generalize res_main_v90 V = T
  pointwise []

theorem v115_at (i : Fin 2048) (k : Fin 128) : (res_main_v115 V (ix3 0 i k) : EReal) = Ideal.div (zz (vD V) (vX V) (vW V) (vS V) i 2 k) (cnt 8 i.val) := by
  rw [← v98_at V i k, ← cnt_float 8 (by decide) _ bits8 i]
  unfold res_main_v115
  generalize res_main_v98 V = T
  pointwise [res_main_v45, res_main_v11]

/-- Group 2's addends: the mean's gradient at a row, less the one 8 rows on. -/
theorem add2_at (i : Fin 2048) (k : Fin 128) :
    (addf (F := Ideal) (φ := .f32) (res_main_v115 V) (pad S1x2048x128 ![0, 0, 0] ![0, 8, 0] ![0, 0, 0] (extractStridedSlice S1x2040x128 ![0, 8, 0] (res_main_v116 V) slices_S1x2048x128_S1x2040x128_0_8_0) (constant S_ .f32 0x00000000#32) pads_S1x2040x128_S1x2048x128_000_080_000 h_S_) (ix3 0 i k) : EReal)
    = shifted (vD V) (vX V) (vW V) (vS V) 2 k (2047 - i.val) := by
  have H := v115_at V
  unfold res_main_v116
  generalize res_main_v115 V = T at H ⊢
  pointwise []
  refine Eq.trans ?_ (diff_at (vD V) (vX V) (vW V) (vS V) 2 k 8 rfl i)
  simp only [H]
  refine congrArg₂ (fun a b : EReal => a + b) rfl ?_
  by_cases hi : i.val < 2040
  · rw [dif_pos hi]
    refine Eq.trans ?_ (dif_pos (show i.val < 2048 - 8 from hi)).symm
    simp only [Nat.add_comm 8]
  · rw [dif_neg hi]
    refine Eq.trans ?_ (dif_neg (show ¬ i.val < 2048 - 8 from hi)).symm
    rfl

theorem v100_at (i : Fin 2048) (k : Fin 128) : (res_main_v100 V (ix3 0 i k) : EReal) = zz (vD V) (vX V) (vW V) (vS V) i 3 k := by
  rw [← v90_at V i 3 k]
  unfold res_main_v100
  generalize res_main_v90 V = T
  pointwise []

theorem v104_at (i : Fin 2048) (k : Fin 128) : (res_main_v104 V (ix3 0 i k) : EReal) = Ideal.div (zz (vD V) (vX V) (vW V) (vS V) i 3 k) (cnt 16 i.val) := by
  rw [← v100_at V i k, ← cnt_float 16 (by decide) _ bits16 i]
  unfold res_main_v104
  generalize res_main_v100 V = T
  pointwise [res_main_v58, res_main_v11]

/-- Group 3's addends: the mean's gradient at a row, less the one 16 rows on. -/
theorem add3_at (i : Fin 2048) (k : Fin 128) :
    (addf (F := Ideal) (φ := .f32) (res_main_v104 V) (pad S1x2048x128 ![0, 0, 0] ![0, 16, 0] ![0, 0, 0] (extractStridedSlice S1x2032x128 ![0, 16, 0] (res_main_v105 V) slices_S1x2048x128_S1x2032x128_0_16_0) (constant S_ .f32 0x00000000#32) pads_S1x2032x128_S1x2048x128_000_0160_000 h_S_) (ix3 0 i k) : EReal)
    = shifted (vD V) (vX V) (vW V) (vS V) 3 k (2047 - i.val) := by
  have H := v104_at V
  unfold res_main_v105
  generalize res_main_v104 V = T at H ⊢
  pointwise []
  refine Eq.trans ?_ (diff_at (vD V) (vX V) (vW V) (vS V) 3 k 16 rfl i)
  simp only [H]
  refine congrArg₂ (fun a b : EReal => a + b) rfl ?_
  by_cases hi : i.val < 2032
  · rw [dif_pos hi]
    refine Eq.trans ?_ (dif_pos (show i.val < 2048 - 16 from hi)).symm
    simp only [Nat.add_comm 16]
  · rw [dif_neg hi]
    refine Eq.trans ?_ (dif_neg (show ¬ i.val < 2048 - 16 from hi)).symm
    rfl

set_option maxHeartbeats 4000000 in
/-- The running sum from the rows' end of all groups' addends. -/
theorem v149_at (h : Fin4 (vD V) (vX V) (vW V) (vS V)) (i : Fin 2048) (g : Fin 4) (k : Fin 128) :
    (((addf (addf (addf (addf (pad S1x2048x512 ![0, 0, 384] ![0, 0, 0] ![0, 0, 0] (Host.negf (res_main_v100 V)) (constant S_ .f32 0x00000000#32) pads_S1x2048x128_S1x2048x512_000_000_38400 h_S_) (pad S1x2048x512 ![0, 0, 256] ![0, 0, 128] ![0, 0, 0] (Host.negf (res_main_v98 V)) (constant S_ .f32 0x00000000#32) pads_S1x2048x128_S1x2048x512_000_000_2561280 h_S_)) (pad S1x2048x512 ![0, 0, 128] ![0, 0, 256] ![0, 0, 0] (Host.negf (res_main_v96 V)) (constant S_ .f32 0x00000000#32) pads_S1x2048x128_S1x2048x512_000_000_1282560 h_S_)) (pad S1x2048x512 ![0, 0, 0] ![0, 0, 384] ![0, 0, 0] (Host.negf (res_main_v94 V)) (constant S_ .f32 0x00000000#32) pads_S1x2048x128_S1x2048x512_000_000_03840 h_S_)) (Host.reduceWindowAdd ![1, 2048, 1] ![1, 1, 1] ![0, 0, 0] ![0, 2047, 0] (addf (addf (addf (pad S1x2048x512 ![0, 0, 384] ![0, 0, 0] ![0, 0, 0] (addf (res_main_v104 V) (pad S1x2048x128 ![0, 0, 0] ![0, 16, 0] ![0, 0, 0] (extractStridedSlice S1x2032x128 ![0, 16, 0] (res_main_v105 V) slices_S1x2048x128_S1x2032x128_0_16_0) (constant S_ .f32 0x00000000#32) pads_S1x2032x128_S1x2048x128_000_0160_000 h_S_)) (constant S_ .f32 0x00000000#32) pads_S1x2048x128_S1x2048x512_000_000_38400 h_S_) (pad S1x2048x512 ![0, 0, 256] ![0, 0, 128] ![0, 0, 0] (addf (res_main_v115 V) (pad S1x2048x128 ![0, 0, 0] ![0, 8, 0] ![0, 0, 0] (extractStridedSlice S1x2040x128 ![0, 8, 0] (res_main_v116 V) slices_S1x2048x128_S1x2040x128_0_8_0) (constant S_ .f32 0x00000000#32) pads_S1x2040x128_S1x2048x128_000_080_000 h_S_)) (constant S_ .f32 0x00000000#32) pads_S1x2048x128_S1x2048x512_000_000_2561280 h_S_)) (pad S1x2048x512 ![0, 0, 128] ![0, 0, 256] ![0, 0, 0] (addf (res_main_v127 V) (pad S1x2048x128 ![0, 0, 0] ![0, 4, 0] ![0, 0, 0] (extractStridedSlice S1x2044x128 ![0, 4, 0] (res_main_v128 V) slices_S1x2048x128_S1x2044x128_0_4_0) (constant S_ .f32 0x00000000#32) pads_S1x2044x128_S1x2048x128_000_040_000 h_S_)) (constant S_ .f32 0x00000000#32) pads_S1x2048x128_S1x2048x512_000_000_1282560 h_S_)) (pad S1x2048x512 ![0, 0, 0] ![0, 0, 384] ![0, 0, 0] (addf (res_main_v139 V) (pad S1x2048x128 ![0, 0, 0] ![0, 2, 0] ![0, 0, 0] (extractStridedSlice S1x2046x128 ![0, 2, 0] (res_main_v140 V) slices_S1x2048x128_S1x2046x128_0_2_0) (constant S_ .f32 0x00000000#32) pads_S1x2046x128_S1x2048x128_000_020_000 h_S_)) (constant S_ .f32 0x00000000#32) pads_S1x2048x128_S1x2048x512_000_000_03840 h_S_)) (broadcastInDim S_ ![] bcast_S_S_ (constant S_ .f32 0x00000000#32)) reduceWindows_S1x2048x512_S1x2048x512_w1s1p0_0_w2048s1p0_2047_w1s1p0_0 h_S_)) : FVec Ideal S1x2048x512 .f32) (ix3 0 i (cix g k)) : EReal)
    = dpv (vD V) (vX V) (vW V) (vS V) i g k := by
  have hs := fun i : Fin 2048 => groups_at _ _ _ _ (fun g => shifted (vD V) (vX V) (vW V) (vS V) g k (2047 - i.val)) i k (add0_at V i k) (add1_at V i k) (add2_at V i k) (add3_at V i k) g
  have hn := groups_at (Host.negf (F := Ideal) (φ := .f32) (res_main_v94 V)) (Host.negf (F := Ideal) (φ := .f32) (res_main_v96 V)) (Host.negf (F := Ideal) (φ := .f32) (res_main_v98 V)) (Host.negf (F := Ideal) (φ := .f32) (res_main_v100 V)) (fun g => -zz (vD V) (vX V) (vW V) (vS V) i g k) i k
    (congrArg (fun e : EReal => -e) (v94_at V i k)) (congrArg (fun e : EReal => -e) (v96_at V i k)) (congrArg (fun e : EReal => -e) (v98_at V i k)) (congrArg (fun e : EReal => -e) (v100_at V i k)) g
  have hr := rcumsum_at _ (broadcastInDim S_ ![] bcast_S_S_ (constant S_ .f32 0x00000000#32)) reduceWindows_S1x2048x512_S1x2048x512_w1s1p0_0_w2048s1p0_2047_w1s1p0_0 h_S_ (fun j => by pointwise []) _ i (cix g k) hs
  refine (congrArg₂ (fun a b : EReal => a + b) hn hr).trans ?_
  unfold dpv shifted
  rw [run_shift _ (fun r => back_real (fun r => IsR.div (zz_real h r g k) (cnt_real _ _) (cnt_ne _ _ (by positivity))) r)]
  rw [add_comm]
  rfl

/-- The columns of the two gradients, then the given ones. -/
theorem v154_at (T U : FVec Ideal S1x2048x512 .f32) (C : FVec Ideal S2048x7168 .bf16) (i : Fin 2048) (q : Fin 7168) :
    ((concatenate S2048x7168 1 [⟨S2048x1024, (truncf .bf16 (concatenate S2048x1024 1 [⟨S2048x512, (shapeCast _ T shapeCasts_S1x2048x512_S2048x512)⟩, ⟨S2048x512, (shapeCast _ U shapeCasts_S1x2048x512_S2048x512)⟩] concatenates_S2048x512_S2048x512_S2048x1024_d1) bitsLt_bf16_f32)⟩, ⟨S2048x6144, (extractStridedSlice S2048x6144 ![0, 1024] C slices_S2048x7168_S2048x6144_0_1024)⟩] concatenates_S2048x1024_S2048x6144_S2048x7168_d1 : FVec Ideal S2048x7168 .bf16) (ix2 i q) : EReal)
    = if h : q.val < 512 then T (ix3 0 i ⟨q.val, h⟩) else if h : q.val < 1024 then U (ix3 0 i ⟨q.val - 512, by omega⟩) else C (ix2 i q) := by
  pointwise []
  by_cases h : q.val < 512
  · rw [dif_pos (by omega), dif_pos h, dif_pos h]
  rw [dif_neg h]
  by_cases h1 : q.val < 1024
  · rw [dif_pos h1, dif_neg h, dif_pos h1]
  rw [dif_neg h1, dif_neg h1]
  exact congrArg (fun z : Fin 7168 => C (ix2 i z)) (Fin.ext (by show 1024 + (q.val - 1024) = q.val; omega))

/-- The reference's run: its three results are the gradients. -/
theorem ref_run (m : (ℓ : Loc nD τ sig) → Buf (Elt Ideal) ℓ) (ρ : Dev nD → PrngReg)
    (h : ∀ c : Dev nD, Fin4 (m ((c : Thread nD τ).loc main_arg0)) (m ((c : Thread nD τ).loc main_arg1)) (m ((c : Thread nD τ).loc main_arg2)) (m ((c : Thread nD τ).loc main_arg3))) :
    θ_run defs (onTc (τ := τ) (main (F := Ideal))) ⟨m, fun _ => 0, ρ⟩ fun r => ∀ c : Dev nD,
      r.2.mem ((c.tc : Thread nD τ).loc main_v154) = DP (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v92) = DW (m ((c : Thread nD τ).loc main_arg0)) (m ((c : Thread nD τ).loc main_arg1)) (m ((c : Thread nD τ).loc main_arg3))
      ∧ r.2.mem ((c.tc : Thread nD τ).loc main_v155) = DS (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ hr c => by
    obtain ⟨h0, h1, h2, ha⟩ := hr c
    have H : Fin4 (vD (launchContents m c)) (vX (launchContents m c)) (vW (launchContents m c)) (vS (launchContents m c)) := h c
    refine ⟨h0.trans (funext fun j => ?_), h1.trans (funext fun j => ?_), h2.trans (funext fun j => ?_), ha⟩
    · idx_vars j
      refine (v154_at _ _ _ j0 j1).trans ?_
      show _ = (if j1.val < 512 then _ else if j1.val < 1024 then _ else _)
      by_cases e : j1.val < 512
      · rw [dif_pos e, if_pos e, ← cix_grp j1.val e]
        exact v149_at (launchContents m c) H j0 (grp j1.val) (lane j1.val)
      rw [dif_neg e, if_neg e]
      by_cases e1 : j1.val < 1024
      · rw [dif_pos e1, if_pos e1, ← cix_grp (j1.val - 512) (by omega)]
        exact v80_at (launchContents m c) H j0 (grp (j1.val - 512)) (lane (j1.val - 512))
      rw [dif_neg e1, if_neg e1]
    · idx_vars j
      exact v92_at (launchContents m c) H.fin j0 j1 j2
    · idx_vars j
      have e0 : j0 = 0 := Subsingleton.elim _ _
      subst e0
      have e1 : j1 = cix (grp j1.val) (lane j1.val) := (cix_grp j1.val j1.isLt).symm
      refine Eq.trans ?_ (v155_at (launchContents m c) H.fin (grp j1.val) (lane j1.val))
      exact congrArg _ (congrArg (ix2 0) e1))
    (Cert.ReferenceIdeal.Value.run m ρ)

end Reference

end Cert.PoolGrad

end
-- ==== Proof.PoolGradTile.lean ====
/- The pooling branch's gradient, as the kernel computes it: what it leaves in each output block is the gradient of the group. -/
module

public import proofs.«01_k».proof.Proof.PoolGradFrame
public import proofs.«01_k».proof.Proof.PoolGradRef
public import proofs.«01_k».proof.Proof.PoolValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PoolGrad

open Cert.KernelIdeal Cert.KernelIdeal.Gen Cert.KernelIdeal.Hand Cert.PoolSums Cert.PoolValue

/-- The rows' numbers. -/
abbrev rowIx : IVec S2048x1 32 := iota .tc S2048x1 32 [0] iota_S2048x1_d0_w32
/-- The group as a word, and whether it is the first. -/
abbrev gw (i : grid0.Coords) : BitVec 32 := BitVec.ofNat 32 (i 0).val
abbrev gz (i : grid0.Coords) : BitVec 1 := Scalar.cmpi .eq (gw i) 0#32

/-- One stage of the window sum taken from a row on: a tile plus itself shifted up. -/
def rstage (k : BitVec 32) (x : FVec Ideal S2048x128 .f32) : FVec Ideal S2048x128 .f32 :=
  addf x (select (broadcastTo S2048x128 (shapeCast S2048x1 (cmpi .slt rowIx (broadcast S2048x1 k)) shapeCasts_S2048x1_S2048x1)
    broadcasts_S2048x1_S2048x128) (dynamicRotate 0 k none x rotates_S2048x128_d0) (broadcast S2048x128 (Scalar.ofBits .f32 0x00000000#32)))

theorem rstage1_at (x : FVec Ideal S2048x128 .f32) (f : ℕ → EReal) (j : Fin 128) (hf : ∀ r : Fin 2048, (x (ix2 r j) : EReal) = win f 1 (2047 - r.val)) (i : Fin 2048) :
    (rstage 2047#32 x (ix2 i j) : EReal) = win f 2 (2047 - i.val) := by
  have hc : ∀ r : Fin 2048, IntOp.cmpi .slt (BitVec.ofNat 32 r.val) 2047#32 = if r.val < 2047 then 1#1 else 0#1 := by decide +kernel
  pointwise [rstage]
  rw [hc, hf, ← win_double f 1 (2047 - i.val)]
  refine congrArg₂ (fun a b : EReal => a + b) rfl ?_
  have hi := i.isLt
  by_cases h : i.val < 2047
  · rw [if_pos h, if_pos (by omega), sel1, hf]
    exact congrArg (win f 1) (by show 2047 - (i.val + 2048 - 2047) % 2048 = _; omega)
  · rw [if_neg h, if_neg (by omega), sel0]

theorem rstage2_at (x : FVec Ideal S2048x128 .f32) (f : ℕ → EReal) (j : Fin 128) (hf : ∀ r : Fin 2048, (x (ix2 r j) : EReal) = win f 2 (2047 - r.val)) (i : Fin 2048) :
    (rstage 2046#32 x (ix2 i j) : EReal) = win f 4 (2047 - i.val) := by
  have hc : ∀ r : Fin 2048, IntOp.cmpi .slt (BitVec.ofNat 32 r.val) 2046#32 = if r.val < 2046 then 1#1 else 0#1 := by decide +kernel
  pointwise [rstage]
  rw [hc, hf, ← win_double f 2 (2047 - i.val)]
  refine congrArg₂ (fun a b : EReal => a + b) rfl ?_
  have hi := i.isLt
  by_cases h : i.val < 2046
  · rw [if_pos h, if_pos (by omega), sel1, hf]
    exact congrArg (win f 2) (by show 2047 - (i.val + 2048 - 2046) % 2048 = _; omega)
  · rw [if_neg h, if_neg (by omega), sel0]

theorem rstage4_at (x : FVec Ideal S2048x128 .f32) (f : ℕ → EReal) (j : Fin 128) (hf : ∀ r : Fin 2048, (x (ix2 r j) : EReal) = win f 4 (2047 - r.val)) (i : Fin 2048) :
    (rstage 2044#32 x (ix2 i j) : EReal) = win f 8 (2047 - i.val) := by
  have hc : ∀ r : Fin 2048, IntOp.cmpi .slt (BitVec.ofNat 32 r.val) 2044#32 = if r.val < 2044 then 1#1 else 0#1 := by decide +kernel
  pointwise [rstage]
  rw [hc, hf, ← win_double f 4 (2047 - i.val)]
  refine congrArg₂ (fun a b : EReal => a + b) rfl ?_
  have hi := i.isLt
  by_cases h : i.val < 2044
  · rw [if_pos h, if_pos (by omega), sel1, hf]
    exact congrArg (win f 4) (by show 2047 - (i.val + 2048 - 2044) % 2048 = _; omega)
  · rw [if_neg h, if_neg (by omega), sel0]

theorem rstage8_at (x : FVec Ideal S2048x128 .f32) (f : ℕ → EReal) (j : Fin 128) (hf : ∀ r : Fin 2048, (x (ix2 r j) : EReal) = win f 8 (2047 - r.val)) (i : Fin 2048) :
    (rstage 2040#32 x (ix2 i j) : EReal) = win f 16 (2047 - i.val) := by
  have hc : ∀ r : Fin 2048, IntOp.cmpi .slt (BitVec.ofNat 32 r.val) 2040#32 = if r.val < 2040 then 1#1 else 0#1 := by decide +kernel
  pointwise [rstage]
  rw [hc, hf, ← win_double f 8 (2047 - i.val)]
  refine congrArg₂ (fun a b : EReal => a + b) rfl ?_
  have hi := i.isLt
  by_cases h : i.val < 2040
  · rw [if_pos h, if_pos (by omega), sel1, hf]
    exact congrArg (win f 8) (by show 2047 - (i.val + 2048 - 2040) % 2048 = _; omega)
  · rw [if_neg h, if_neg (by omega), sel0]

theorem pay3_eq (i : grid0.Coords) (v : FVec Ideal S2048x128 .bf16) :
    k0_pay3 (F := Ideal) (gw i) v = Scalar.select (gz i) (stage 1#32 (k0_pay2 v))
      (Scalar.select (Scalar.cmpi .eq (gw i) 1#32) (stage 2#32 (stage 1#32 (k0_pay2 v)))
        (Scalar.select (Scalar.cmpi .eq (gw i) 2#32) (stage 4#32 (stage 2#32 (stage 1#32 (k0_pay2 v))))
          (stage 8#32 (stage 4#32 (stage 2#32 (stage 1#32 (k0_pay2 v))))))) := rfl

theorem pay1_eq (i : grid0.Coords) (z p q : FVec Ideal S2048x128 .f32) :
    k0_pay1 (F := Ideal) i rowIx z p q (k0_pay21 rowIx) = truncf .bf16 (subf (Scalar.select (gz i) p
      (Scalar.select (Scalar.cmpi .eq (gw i) 1#32) q
        (Scalar.select (Scalar.cmpi .eq (gw i) 2#32) (rstage 2044#32 q) (rstage 2040#32 (rstage 2044#32 q))))) z) bitsLt_bf16_f32 := rfl

theorem pay19_eq (b : FVec Ideal S2048x1 .f32) (w : FVec Ideal S128x128 .bf16) (s : FVec Ideal S1x128 .f32) (u : FVec Ideal S2048x128 .f32) :
    k0_pay19 (F := Ideal) rowIx b w s u = rstage 2047#32 (divf (k0_pay18 w s u) (broadcastTo S2048x128 b broadcasts_S2048x1_S2048x128)) := rfl

theorem pay20_eq (b : FVec Ideal S2048x1 .f32) (w : FVec Ideal S128x128 .bf16) (s : FVec Ideal S1x128 .f32) (u : FVec Ideal S2048x128 .f32) :
    k0_pay20 (F := Ideal) rowIx b w s u = rstage 2046#32 (k0_pay19 rowIx b w s u) := rfl

/-! ## One group's tile -/

section Tile

variable (D : Ct) (X : Proj) (W : Wts) (S : Sca) (g : Fin 4) (i : grid0.Coords)
variable (x0 : Vec Ideal S2048x128 .f32) (x1 x2 : Vec Ideal S2048x128 .bf16) (x3 : Vec Ideal S1x128x128 .f32) (x4 : Vec Ideal S1x128 .f32)

/-- The blocks are the group's columns and weights. -/
structure Blocks : Prop where
  gi : (i 0).val = g.val
  b0 : ∀ (r : Fin 2048) (j : Fin 128), (x0 (ix2 r j) : EReal) = D (ix2 r (cix g j))
  b1 : ∀ (r : Fin 2048) (k : Fin 128), (x1 (ix2 r k) : EReal) = col X (128 * g.val + k.val) r.val
  b2 : ∀ (r : Fin 2048) (j : Fin 128), (x2 (ix2 r j) : EReal) = gat X r g j
  b3 : ∀ k j : Fin 128, (x3 (ix3 0 k j) : EReal) = W (ix3 g k j)
  b4 : ∀ j : Fin 128, (x4 (ix2 0 j) : EReal) = S (ix2 0 (cix g j))

variable {D X W S g i x0 x1 x2 x3 x4}
variable (h : Blocks D X W S g i x0 x1 x2 x3 x4)
include h

theorem p3_at (r : Fin 2048) (k : Fin 128) : (k0_pay3 (F := Ideal) (gw i) x1 (ix2 r k) : EReal) = win (col X (128 * g.val + k.val)) (2 ^ (g.val + 1)) r.val := by
  have h0 : ∀ r : Fin 2048, (k0_pay2 (F := Ideal) x1 (ix2 r k) : EReal) = win (col X (128 * g.val + k.val)) 1 r.val := fun r => by
    rw [win_one, ← h.b1 r k]
    pointwise [k0_pay2]
  have h1 := stage1_at _ _ k h0
  have h2 := stage2_at _ _ k h1
  have h4 := stage4_at _ _ k h2
  have h8 := stage8_at _ _ k h4
  rw [pay3_eq]
  unfold gz gw
  rw [h.gi]
  generalize col X (128 * g.val + k.val) = f at h1 h2 h4 h8 ⊢
  match g with
  | 0 => exact h1 r
  | 1 => exact h2 r
  | 2 => exact h4 r
  | 3 => exact h8 r

theorem p4_at (r : Fin 2048) : (k0_pay4 (F := Ideal) (gw i) rowIx (gz i) (ix2 r 0) : EReal) = cnt (2 ^ (g.val + 1)) r.val := by
  rw [← h.gi]
  refine Eq.trans ?_ (cnt_at (i 0).val (i 0).isLt r)
  pointwise [k0_pay4]

theorem p5_at (r : Fin 2048) (k : Fin 128) : (k0_pay5 (F := Ideal) (gw i) (k0_pay2 x1) rowIx (k0_pay3 (gw i) x1) (gz i) (ix2 r k) : EReal) = po X r g k := by
  have h3 := p3_at h r k
  have h4 := p4_at h r
  have h1 := h.b1 r k
  unfold po pooled
  rw [← h3, ← h4, ← h1]
  unfold k0_pay5 k0_pay2
  generalize k0_pay3 (F := Ideal) (gw i) x1 = P
  generalize k0_pay4 (F := Ideal) (gw i) rowIx (gz i) = Q
  pointwise []

theorem p7_at (r : Fin 2048) (j : Fin 128) : (k0_pay7 (F := Ideal) (gw i) (k0_pay2 x1) rowIx (k0_pay3 (gw i) x1) (gz i) x3 (ix2 r j) : EReal) = pw X W r g j := by
  have h5 := p5_at h
  unfold pw
  simp only [← h5, ← h.b3]
  unfold k0_pay7
  generalize k0_pay5 (F := Ideal) (gw i) (k0_pay2 x1) rowIx (k0_pay3 (gw i) x1) (gz i) = P
  pointwise [k0_pay6]
  simp only [mul_comm]

theorem p9_at (r : Fin 2048) (j : Fin 128) : (k0_pay9 (F := Ideal) x2 (ix2 r j) : EReal) = sg (gat X r g j) := by
  rw [← h.b2 r j]
  unfold sg
  pointwise [k0_pay9, k0_pay8]
  rw [zero_sub]

theorem p10_at (r : Fin 2048) (j : Fin 128) : (k0_pay10 (F := Ideal) x2 x0 (ix2 r j) : EReal) = up D X r g j := by
  unfold up
  rw [← p9_at h r j, ← h.b2 r j, ← h.b0 r j]
  unfold k0_pay10
  generalize k0_pay9 (F := Ideal) x2 = P
  pointwise [k0_pay8]

theorem p16_at (r : Fin 2048) (j : Fin 128) : (k0_pay16 (F := Ideal) x4 (k0_pay10 x2 x0) (ix2 r j) : EReal) = en D X S r g j := by
  unfold en
  rw [← p10_at h r j, ← h.b4 j]
  unfold k0_pay16
  generalize k0_pay10 (F := Ideal) x2 x0 = P
  pointwise []

theorem p18_at (r : Fin 2048) (k : Fin 128) : (k0_pay18 (F := Ideal) (k0_pay6 x3) x4 (k0_pay10 x2 x0) (ix2 r k) : EReal) = zz D X W S r g k := by
  unfold zz
  simp only [← p16_at h, ← h.b3]
  unfold k0_pay18
  generalize k0_pay16 (F := Ideal) x4 (k0_pay10 x2 x0) = P
  pointwise [k0_pay6]

/-- The gradient by the group's weights. -/
theorem T6_at (k j : Fin 128) : (T6 (F := Ideal) i x0 x1 x2 x4 (ix3 0 k j) : EReal) = dpw D X S g k j := by
  unfold dpw
  simp only [← p16_at h, ← p5_at h]
  unfold T6 k0_pay17
  generalize k0_pay16 (F := Ideal) x4 (k0_pay10 x2 x0) = P
  generalize k0_pay5 (F := Ideal) (gw i) (k0_pay2 x1) rowIx (k0_pay3 (gw i) x1) (gz i) = Q
  pointwise []

/-- The gradient by the group's scale. -/
theorem T7_at (j : Fin 128) : (T7 (F := Ideal) i x0 x1 x2 x3 (ix2 0 j) : EReal) = dsc D X W g j := by
  unfold dsc
  simp only [← p10_at h, ← p7_at h]
  unfold T7 k0_pay15
  generalize k0_pay10 (F := Ideal) x2 x0 = P
  generalize k0_pay7 (F := Ideal) (gw i) (k0_pay2 x1) rowIx (k0_pay3 (gw i) x1) (gz i) x3 = Q
  pointwise []

/-- The gradient by the gate columns. -/
theorem T8_at (r : Fin 2048) (j : Fin 128) : (T8 (F := Ideal) i x0 x1 x2 x3 x4 (ix2 r j) : EReal) = dpg D X W S r g j := by
  unfold dpg
  rw [← p9_at h r j, ← p7_at h r j, ← h.b2 r j, ← h.b0 r j, ← h.b4 j]
  unfold T8 k0_pay14 k0_pay11 k0_pay12
  generalize k0_pay9 (F := Ideal) x2 = P
  generalize k0_pay7 (F := Ideal) (gw i) (k0_pay2 x1) rowIx (k0_pay3 (gw i) x1) (gz i) x3 = Q
  pointwise [k0_pay8, k0_pay13]

/-- The gradient by the pooled columns. -/
theorem T5_at (r : Fin 2048) (k : Fin 128) : (T5 (F := Ideal) i x0 x2 x3 x4 (ix2 r k) : EReal) = dpv D X W S r g k := by
  have hz := p18_at h
  have h0 : ∀ r : Fin 2048, (divf (F := Ideal) (φ := .f32) (k0_pay18 (k0_pay6 x3) x4 (k0_pay10 x2 x0)) (broadcastTo S2048x128 (k0_pay4 (F := Ideal) (gw i) rowIx (gz i)) broadcasts_S2048x1_S2048x128) (ix2 r k) : EReal)
      = win (back 2048 fun r => Ideal.div (zz D X W S r g k) (cnt (2 ^ (g.val + 1)) r.val)) 1 (2047 - r.val) := fun r => by
    rw [win_one]
    refine Eq.trans ?_ (back_at 2048 (fun r => Ideal.div (zz D X W S r g k) (cnt (2 ^ (g.val + 1)) r.val)) r).symm
    simp only [← hz, ← p4_at h]
    generalize k0_pay18 (F := Ideal) (k0_pay6 x3) x4 (k0_pay10 x2 x0) = P
    generalize k0_pay4 (F := Ideal) (gw i) rowIx (gz i) = Q
    pointwise []
  have h1 := rstage1_at _ _ k h0
  rw [← pay19_eq] at h1
  have h2 := rstage2_at _ _ k h1
  rw [← pay20_eq] at h2
  have h4 := rstage4_at _ _ k h2
  have h8 := rstage8_at _ _ k h4
  have hr := hz r k
  unfold T5 dpv
  rw [← hr]
  refine (congrFun (pay1_eq i _ _ _) (ix2 r k)).trans ?_
  generalize back 2048 (fun r => Ideal.div (zz D X W S r g k) (cnt (2 ^ (g.val + 1)) r.val)) = f at h1 h2 h4 h8 ⊢
  revert h1 h2 h4 h8
  generalize k0_pay19 (F := Ideal) rowIx (k0_pay4 (F := Ideal) (gw i) rowIx (gz i)) (k0_pay6 x3) x4 (k0_pay10 x2 x0) = P
  generalize k0_pay20 (F := Ideal) rowIx (k0_pay4 (F := Ideal) (gw i) rowIx (gz i)) (k0_pay6 x3) x4 (k0_pay10 x2 x0) = Q
  generalize k0_pay18 (F := Ideal) (k0_pay6 x3) x4 (k0_pay10 x2 x0) = Z
  intro h1 h2 h4 h8
  unfold gz gw
  rw [h.gi]
  show (_ : EReal) - _ = _
  refine congrArg₂ (fun a b : EReal => a - b) ?_ rfl
  match g with
  | 0 => exact h1 r
  | 1 => exact h2 r
  | 2 => exact h4 r
  | 3 => exact h8 r

end Tile

end Cert.PoolGrad

end
-- ==== Proof.PoolGradValue.lean ====
/- The pooling branch's gradient: the three results of `KernelIdeal` are the gradients of `PoolGradRef`. The kernel computes a
   group at every other grid point; the columns it does not write keep what was there. -/
module

public import proofs.«01_k».proof.Proof.PoolGradTile

@[expose] public section

set_option maxRecDepth 16384

noncomputable section

open Idealize.ShloMosaic Idealize.ShloMosaic.TcCoe Idealize.SL.Sem
open Idealize.ShloMosaic.Pipeline (Dat)

namespace Cert.PoolGrad

open Cert.KernelIdeal Cert.KernelIdeal.Gen Cert.KernelIdeal.Hand Cert.PoolSums Cert.PoolValue

variable (m : (ℓ : Loc nD τ sig) → Buf (Elt Ideal) ℓ)

/-- The blocks that the even grid points read. -/
theorem idx_in : ∀ t : Fin cfg0.N, t.val % 2 = 0 → win0_0.index t = ![0, t.val / 2] ∧ win0_1.index t = ![0, t.val / 2] ∧ win0_2.index t = ![0, t.val / 2 + 4]
    ∧ win0_3.index t = ![t.val / 2, 0, 0] ∧ win0_4.index t = ![0, t.val / 2] ∧ (grid0.coords t 0).val = t.val / 2 :=
  (by decide +kernel : ∀ t : Fin grid0.N, _)
/-- The blocks that the grid points write. -/
theorem idx_out : ∀ t : Fin cfg0.N, win0_5.index t = ![0, t.val / 2 + 4 * (t.val % 2)] ∧ win0_6.index t = ![t.val / 2, 0, 0] ∧ win0_7.index t = ![0, t.val / 2] :=
  (by decide +kernel : ∀ t : Fin grid0.N, _)

/-- The group of a grid point. -/
def gr (t : Fin cfg0.N) : Fin 4 := ⟨t.val / 2, by have : t.val < 8 := t.isLt; omega⟩

/-- The blocks that an even point reads are its group's. -/
theorem blocks (c : Dev nD) (t : Fin cfg0.N) (h : t.val % 2 = 0) :
    Blocks (m ((c : Thread nD τ).loc main_arg0)) (m ((c : Thread nD τ).loc main_arg1)) (m ((c : Thread nD τ).loc main_arg2)) (m ((c : Thread nD τ).loc main_arg3))
      (gr t) (grid0.coords t) (iblk m c 0 t) (iblk m c 1 t) (iblk m c 2 t) (iblk m c 3 t) (iblk m c 4 t) := by
  obtain ⟨e0, e1, e2, e3, e4, e5⟩ := idx_in t h
  have ht : t.val < 8 := t.isLt
  refine ⟨e5, fun r j => ?_, fun r k => ?_, fun r j => ?_, fun k j => ?_, fun j => ?_⟩
  · rw [← V_main_arg0 m c]
    blk_point [iblk, e0, cix, gr]
  · refine Eq.trans ?_ (col_at (m ((c : Thread nD τ).loc main_arg1)) r ⟨128 * (t.val / 2) + k.val, by omega⟩).symm
    rw [← V_main_arg1 m c]
    blk_point [iblk, e1]
  · unfold gat
    refine Eq.trans ?_ (col_at (m ((c : Thread nD τ).loc main_arg1)) r ⟨512 + (128 * (t.val / 2) + j.val), by omega⟩).symm
    rw [← V_main_arg1 m c]
    blk_point [iblk, e2]
  · rw [← V_main_arg2 m c]
    blk_point [iblk, e3, gr]
  · rw [← V_main_arg3 m c]
    blk_point [iblk, e4, cix, gr]

theorem even_mod (t : Fin cfg0.N) : (even t).val % 2 = 0 := by show t.val / 2 * 2 % 2 = 0; omega
theorem gr_even (t : Fin cfg0.N) : gr (even t) = gr t := Fin.ext (by show t.val / 2 * 2 / 2 = t.val / 2; omega)

/-- The gradient by the weights. -/
theorem final6 (c : Dev nD) : (dats m 0 c).arrAt 6 (cfgs 0).N = DW (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after6]
  idx_vars y
  obtain rfl : y0 = 0 := Subsingleton.elim _ _
  refine (T6_at (blocks m c (even t) (even_mod t)) y1 y2).trans ?_
  rw [gr_even]
  refine Eq.trans (show _ = DW (m ((c : Thread nD τ).loc main_arg0)) (m ((c : Thread nD τ).loc main_arg1)) (m ((c : Thread nD τ).loc main_arg3)) (ix3 (gr t) y1 y2) from rfl) ?_
  generalize DW (m ((c : Thread nD τ).loc main_arg0)) (m ((c : Thread nD τ).loc main_arg1)) (m ((c : Thread nD τ).loc main_arg3)) = X
  blk_point [idx_out t, gr]

/-- The gradient by the scale. -/
theorem final7 (c : Dev nD) : (dats m 0 c).arrAt 7 (cfgs 0).N = DS (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after7]
  idx_vars y
  obtain rfl : y0 = 0 := Subsingleton.elim _ _
  refine (T7_at (blocks m c (even t) (even_mod t)) y1).trans ?_
  rw [gr_even]
  have eg : grp (cix (gr t) y1).val = gr t := Fin.ext (by have := (gr t).isLt; show (128 * (gr t).val + y1.val) / 128 % 4 = (gr t).val; omega)
  have el : lane (cix (gr t) y1).val = y1 := Fin.ext (by show (128 * (gr t).val + y1.val) % 128 = y1.val; omega)
  have e : dsc (m ((c : Thread nD τ).loc main_arg0)) (m ((c : Thread nD τ).loc main_arg1)) (m ((c : Thread nD τ).loc main_arg2)) (gr t) y1
      = DS (m ((c : Thread nD τ).loc main_arg0)) (m ((c : Thread nD τ).loc main_arg1)) (m ((c : Thread nD τ).loc main_arg2)) (ix2 0 (cix (gr t) y1)) := by
    unfold DS
    rw [ix2_1, eg, el]
  rw [e]
  generalize DS (m ((c : Thread nD τ).loc main_arg0)) (m ((c : Thread nD τ).loc main_arg1)) (m ((c : Thread nD τ).loc main_arg2)) = X
  blk_point [idx_out t, gr, cix]

/-- What the first result holds before the launch: the columns given. -/
theorem V_out (c : Dev nD) : V m c main_v0_0 = m ((c : Thread nD τ).loc main_arg4) := by
  rfl

theorem DP_pool (D : Ct) (X : Proj) (W : Wts) (S : Sca) (C : Proj) (r : Fin 2048) (g : Fin 4) (k : Fin 128) (q : Fin 7168) (hq : q.val = 128 * g.val + k.val) :
    DP D X W S C (ix2 r q) = dpv D X W S r g k := by
  have eg : grp q.val = g := Fin.ext (by have := g.isLt; show q.val / 128 % 4 = g.val; omega)
  have el : lane q.val = k := Fin.ext (by show q.val % 128 = k.val; omega)
  unfold DP
  rw [ix2_1, ix2_0, if_pos (by omega), eg, el]
theorem DP_gate (D : Ct) (X : Proj) (W : Wts) (S : Sca) (C : Proj) (r : Fin 2048) (g : Fin 4) (k : Fin 128) (q : Fin 7168) (hq : q.val = 512 + (128 * g.val + k.val)) :
    DP D X W S C (ix2 r q) = dpg D X W S r g k := by
  have eg : grp (q.val - 512) = g := Fin.ext (by have := g.isLt; show (q.val - 512) / 128 % 4 = g.val; omega)
  have el : lane (q.val - 512) = k := Fin.ext (by show (q.val - 512) % 128 = k.val; omega)
  unfold DP
  rw [ix2_1, ix2_0, if_neg (by omega), if_pos (by omega), eg, el]

/-- The gradients by the projection's columns. -/
theorem final5 (c : Dev nD) : (dats m 0 c).arrAt 5 (cfgs 0).N = DP (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_coversWhere_of_agree 5 _ (fun β => β (1 : Fin 2) < 8) (by decide +kernel) (fun t hf y => ?_) (fun j hj => ?_)
  · blk_simp
    rw [after5]
    idx_vars y
    have ht : t.val < 8 := t.isLt
    have E : (if t.val % 2 = 0 then T5 (F := Ideal) (grid0.coords t) (iblk m c 0 t) (iblk m c 2 t) (iblk m c 3 t) (iblk m c 4 t) else kept m c (even t)) (ix2 y0 y1)
        = DP (m ((c : Thread nD τ).loc main_arg0)) (m ((c : Thread nD τ).loc main_arg1)) (m ((c : Thread nD τ).loc main_arg2)) (m ((c : Thread nD τ).loc main_arg3)) (m ((c : Thread nD τ).loc main_arg4))
          (ix2 y0 ⟨128 * (t.val / 2 + 4 * (t.val % 2)) + y1.val, by omega⟩) := by
      by_cases h : t.val % 2 = 0
      · rw [if_pos h]
        refine (T5_at (blocks m c t h) y0 y1).trans (DP_pool _ _ _ _ _ y0 (gr t) y1 _ ?_).symm
        show 128 * (t.val / 2 + 4 * (t.val % 2)) + y1.val = 128 * (t.val / 2) + y1.val
        omega
      · rw [if_neg h]
        refine (T8_at (blocks m c (even t) (even_mod t)) y0 y1).trans (DP_gate _ _ _ _ _ y0 (gr (even t)) y1 _ ?_).symm
        show 128 * (t.val / 2 + 4 * (t.val % 2)) + y1.val = 512 + (128 * (t.val / 2 * 2 / 2) + y1.val)
        omega
    refine E.trans ?_
    generalize DP (m ((c : Thread nD τ).loc main_arg0)) (m ((c : Thread nD τ).loc main_arg1)) (m ((c : Thread nD τ).loc main_arg2)) (m ((c : Thread nD τ).loc main_arg3)) (m ((c : Thread nD τ).loc main_arg4)) = X
    blk_point [idx_out t]
  · rw [A_eq]
    have hj' : ¬ (j 1).val / 128 < 8 := hj
    show V m c main_v0_0 j = _
    rw [V_out]
    unfold DP
    rw [if_neg (by show ¬ (j 1).val < 512; omega), if_neg (by show ¬ (j 1).val < 1024; omega)]
    rfl

end Cert.PoolGrad

end
-- ==== Proof.PoolGradClaim.lean ====
/- The claims on the pooling branch's gradient: the arguments end unchanged and every counter at zero; for finite inputs the
   results equal the reference's. -/
module

public import proofs.«01_k».proof.Defs
public import proofs.«01_k».proof.Proof.Gen.Pre_pool_grad_real
public import proofs.«01_k».proof.Proof.Gen.Kernel.Frame
public import proofs.«01_k».proof.Proof.PoolClaim
public import proofs.«01_k».proof.Proof.PoolGradValue
public import Idealize.ShloMosaic.Lib.Claim

@[expose] public section

set_option maxRecDepth 16384

noncomputable section

open Idealize.ShloMosaic Idealize.ShloMosaic.TcCoe Idealize.SL.Sem

namespace Cert.Proof

/-- The two programs' tables of bodies are the same, -/
theorem bodies_pool : Cert.Kernel.defs₀ (F := Bits) = Cert.KernelIdeal.defs₀ :=
  congrArg (Defs.onTc (nD := Cert.Kernel.nD) (τ := Cert.Kernel.τ) (sig := Cert.Kernel.sig) (Val := Elt Bits) (Λ := Cert.Kernel.Λ₀))
    (funext fun l => funext fun a =>
      match l, a with
      | 0, (t, s) => rfl
      | ⟨_ + 1, h⟩, _ => absurd h (Nat.not_lt.2 (Nat.le_add_left _ _)))
/-- and so are their tables with the pipeline's. -/
theorem tables_pool : Cert.Kernel.defs (F := Bits) = Cert.KernelIdeal.defs :=
  congrArg (Pipeline.defs (Cert.Kernel.pcfgs (F := Bits))) bodies_pool

/-- The frame of the pool's gradient at machine floats, by the run written for any float values, -/
theorem frame_pool_grad : Cert.quiescent_Kernel := by
  intro m ρ _
  rw [tables_pool]
  exact Cert.KernelIdeal.Hand.frame (F := Bits) m ρ
/-- and at the reals, -/
theorem frame_pool_grad_ideal : Cert.quiescent_KernelIdeal := fun m ρ _ => Cert.KernelIdeal.Hand.frame m ρ
/-- with finite inputs too. -/
theorem frame_pool_grad_pre : Cert.quiescent_KernelIdeal_pre_pool_grad_real := fun m ρ _ => Cert.KernelIdeal.Hand.frame m ρ

/-- Where a test for a number's difference with itself holds, the number is real. -/
theorem real_of_test (x : EReal) (h : BitVec.ofBool (decide (x - x = 0)) = 1#1) : Cert.PoolSums.IsR x := by
  by_contra hn
  have : ¬ x - x = 0 := fun e => hn (Cert.PoolSums.IsR.of_ne (finite_of_sub x e))
  rw [decide_eq_false this] at h
  exact absurd h (by decide)

/-- Where the precondition's tests are all ones, the inputs are finite. -/
theorem fin4_of_pre (d : FVec Ideal ⟨2, ![2048, 512]⟩ .f32) (x : FVec Ideal ⟨2, ![2048, 7168]⟩ .bf16) (w : FVec Ideal ⟨3, ![4, 128, 128]⟩ .f32) (s : FVec Ideal ⟨2, ![1, 512]⟩ .f32) (p : FVec Ideal ⟨2, ![2048, 7168]⟩ .bf16)
    (h : (Cert.Pre_pool_grad_real.fn (F := Ideal) d x w s p).1 = (fun _ => 1#1) ∧ (Cert.Pre_pool_grad_real.fn (F := Ideal) d x w s p).2.1 = (fun _ => 1#1)
      ∧ (Cert.Pre_pool_grad_real.fn (F := Ideal) d x w s p).2.2.1 = (fun _ => 1#1) ∧ (Cert.Pre_pool_grad_real.fn (F := Ideal) d x w s p).2.2.2 = (fun _ => 1#1)) : Cert.PoolGrad.Fin4 d x w s := by
  obtain ⟨h0, h1, h2, h3⟩ := h
  refine ⟨fun i k => ?_, fun i k hk => ?_, fun g k j => ?_, fun k => ?_⟩
  · refine real_of_test _ ?_
    refine Eq.trans ?_ (congrFun h0 (ix2 i k))
    pointwise [Cert.Pre_pool_grad_real.fn]
  · refine real_of_test _ ?_
    refine Eq.trans ?_ (congrFun h1 (ix2 i ⟨k.val, hk⟩))
    pointwise [Cert.Pre_pool_grad_real.fn]
  · refine real_of_test _ ?_
    refine Eq.trans ?_ (congrFun h2 (ix3 g k j))
    pointwise [Cert.Pre_pool_grad_real.fn]
  · refine real_of_test _ ?_
    refine Eq.trans ?_ (congrFun h3 (ix2 0 k))
    pointwise [Cert.Pre_pool_grad_real.fn]

set_option maxHeartbeats 8000000 in
/-- The three results are the reference's. -/
theorem algebraic_pool_grad : Cert.algebraic_KernelIdeal_ReferenceIdeal_pre_pool_grad_real := by
  intro m g m' g' hpre hagree
  refine ⟨fun c => (Cert.KernelIdeal.Hand.dats m 0 c).arrAt 5 (Cert.KernelIdeal.cfgs 0).N, fun c => (Cert.KernelIdeal.Hand.dats m 0 c).arrAt 6 (Cert.KernelIdeal.cfgs 0).N, fun c => (Cert.KernelIdeal.Hand.dats m 0 c).arrAt 7 (Cert.KernelIdeal.cfgs 0).N, ?_, ?_⟩
  · exact (θ_run _ _ _).mono (fun r h c => ⟨(h.2 c).1 5, (h.2 c).1 6, (h.2 c).1 7, h.1.1 c⟩)
      (θ_run_and (Cert.KernelIdeal.Hand.frame m g) (Cert.KernelIdeal.Hand.run_main m g))
  · have hx : ∀ c : Dev Cert.ReferenceIdeal.nD, Cert.PoolGrad.Fin4 (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1))
        (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) := fun c => by
      have e := fin4_of_pre _ _ _ _ _ (hpre c)
      obtain ⟨a0, a1, a2, a3, _⟩ := hagree c
      rw [a0, a1, a2, a3]
      exact e
    run_from Cert.PoolGrad.ref_run m' g' hx
    · exact (Cert.PoolGrad.final5 m c).symm
    · exact (Cert.PoolGrad.final6 m c).symm
    · exact (Cert.PoolGrad.final7 m c).symm

end Cert.Proof

end
-- ==== Proof.Norm.lean ====
/- The gradient of the layer's input norm: the four results of `KernelNormIdeal` are those of
   `ReferenceNormIdeal`, whatever the five argument arrays hold.

   Both are compared with the same formulas (`DX`, `DSHIFT`, `DSCALE`, `DG`). With `v` the mean square of a
   row plus the small constant and `r = v^(-1/2)`, the reference differentiates the inverse root as
   `-1/2 * (r / v)` and adds that term twice, once for each factor of the square; the kernel subtracts
   `r * r * r` once. They agree because `v` is positive, be it finite or not. -/
module

public import proofs.«01_k».proof.Proof.Gen.KernelNormIdeal.Frame
public import proofs.«01_k».proof.Proof.Gen.ReferenceNormIdeal.Run
public import proofs.«01_k».proof.Proof.Root
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormValue

/-- A whole activation array, a row vector. -/
abbrev Act := FVec Ideal Cert.ReferenceNormIdeal.S2048x1024 .f32
abbrev Row := FVec Ideal Cert.ReferenceNormIdeal.S1x1024 .f32

/-- The mean square of row `i`, plus the small constant. -/
def vr (x : Act) (i : Fin 2048) : EReal :=
  Ideal.div (∑ k : Fin 1024, x (ix2 i k) * x (ix2 i k)) (Ideal.ofBits .f32 0x44800000#32) + Ideal.ofBits .f32 0x358637BD#32

/-- The cotangent of the normalised row, times its gain. -/
def up (dh : Act) (g s : Row) (i : Fin 2048) (k : Fin 1024) : EReal :=
  dh (ix2 i k) * (1 + s (ix2 0 k)) * g (ix2 0 k)

/-- The gradient of the input. -/
def DX (dh dxn x : Act) (g s : Row) : Act := fun j =>
  dxn j + Ideal.rsqrt (vr x (j 0)) * up dh g s (j 0) (j 1)
    - x j * (Ideal.rsqrt (vr x (j 0)) * Ideal.rsqrt (vr x (j 0)) * Ideal.rsqrt (vr x (j 0)))
      * Ideal.div (∑ k : Fin 1024, x (ix2 (j 0) k) * up dh g s (j 0) k) (Ideal.ofBits .f32 0x44800000#32)

/-- The gradient of the shift: the cotangent's column sums. -/
def DSHIFT (dh : Act) : Row := fun j => ∑ i : Fin 2048, dh (ix2 i (j 1))

/-- The gradient of the scale. -/
def DSCALE (dh x : Act) (g : Row) : Row := fun j =>
  ∑ i : Fin 2048, dh (ix2 i (j 1)) * (x (ix2 i (j 1)) * Ideal.rsqrt (vr x i) * g (ix2 0 (j 1)))

/-- The gradient of the norm's gain. -/
def DG (dh x : Act) (s : Row) : Row := fun j =>
  ∑ i : Fin 2048, dh (ix2 i (j 1)) * (1 + s (ix2 0 (j 1))) * (x (ix2 i (j 1)) * Ideal.rsqrt (vr x i))

section Reference
open Cert.ReferenceNormIdeal

variable (m : (ℓ : Loc nD τ sig) → Buf (Elt Ideal) ℓ)

/-- The reference's gradient of the input is `DX`. -/
theorem ref_dx (c : Dev nD) : Cert.ReferenceNormIdeal.Value.res_main_v49 m c
    = DX (m ((c : Thread nD τ).loc main_arg0)) (m ((c : Thread nD τ).loc main_arg1)) (m ((c : Thread nD τ).loc main_arg2))
      (m ((c : Thread nD τ).loc main_arg3)) (m ((c : Thread nD τ).loc main_arg4)) := by
  funext j
  idx_vars j
  pointwise [Cert.ReferenceNormIdeal.Value.res_main_v49, DX, vr, up]
  exact Root.root_grad _ _ _ _ _ (Root.mean_pos _)

/-- The reference's inverse root of each row, as its operations compose it. -/
abbrev RINV (x : Act) : FVec Ideal S2048x1 .f32 :=
  Host.rsqrt (addf (Host.divf (broadcastInDim S2048x1 ![0] Gen.bcast_S2048_S2048x1_0
    (Host.reduceAdd (mulf x x) (constant S_ .f32 0x00000000#32) Gen.reducesTo_S2048x1024_S2048_d1 Gen.h_S_))
    (broadcastInDim S2048x1 ![] Gen.bcast_S_S2048x1 (constant S_ .f32 0x44800000#32)))
    (broadcastInDim S2048x1 ![] Gen.bcast_S_S2048x1 (constant S_ .f32 0x358637BD#32)))

/-- The reference's gradient of the shift is the column sum. -/
theorem ref_dshift (dh : Act) : (shapeCast S1x1024 (Host.reduceAdd dh (constant S_ .f32 0x00000000#32) Gen.reducesTo_S2048x1024_S1024_d0 Gen.h_S_)
    Gen.shapeCasts_S1024_S1x1024 : Row) = DSHIFT dh := by
  funext j
  pointwise [DSHIFT]

/-- The reference's gradient of the scale is `DSCALE`. -/
theorem ref_dscale (dh x : Act) (g : Row) : (shapeCast S1x1024 (Host.reduceAdd (mulf (mulf (mulf x (broadcastInDim S2048x1024 ![0, 1] Gen.bcast_S2048x1_S2048x1024_0_1 (RINV x)))
      (broadcastInDim S2048x1024 ![0, 1] Gen.bcast_S1x1024_S2048x1024_0_1 g)) (shapeCast S2048x1024 dh Gen.shapeCasts_S2048x1024_S2048x1024))
      (constant S_ .f32 0x00000000#32) Gen.reducesTo_S2048x1024_S1024_d0 Gen.h_S_) Gen.shapeCasts_S1024_S1x1024 : Row) = DSCALE dh x g := by
  funext j
  pointwise [DSCALE, vr, RINV]
  exact Finset.sum_congr rfl fun _ _ => mul_comm _ _

/-- The reference's gradient of the gain is `DG`. -/
theorem ref_dg (dh x : Act) (s : Row) : (shapeCast S1x1024 (Host.reduceAdd (mulf (mulf x (broadcastInDim S2048x1024 ![0, 1] Gen.bcast_S2048x1_S2048x1024_0_1 (RINV x)))
      (mulf (shapeCast S2048x1024 dh Gen.shapeCasts_S2048x1024_S2048x1024) (broadcastInDim S2048x1024 ![0, 1] Gen.bcast_S1x1024_S2048x1024_0_1
        (addf (broadcastInDim S1x1024 ![] Gen.bcast_S_S1x1024 (constant S_ .f32 0x3F800000#32)) s))))
      (constant S_ .f32 0x00000000#32) Gen.reducesTo_S2048x1024_S1024_d0 Gen.h_S_) Gen.shapeCasts_S1024_S1x1024 : Row) = DG dh x s := by
  funext j
  pointwise [DG, vr, RINV]
  exact Finset.sum_congr rfl fun _ _ => mul_comm _ _

end Reference

section Kernel
open Cert.KernelNormIdeal Cert.KernelNormIdeal.Gen

variable (m : (ℓ : Loc nD τ sig) → Buf (Elt Ideal) ℓ)

/-- The blocks that grid point `t` reads and writes. -/
theorem idx : ∀ t : Fin cfg0.N, win0_0.index t = ![t.val, 0] ∧ win0_1.index t = ![t.val, 0] ∧ win0_2.index t = ![t.val, 0]
    ∧ win0_3.index t = ![0, 0] ∧ win0_4.index t = ![0, 0]
    ∧ win0_5.index t = ![t.val, 0] ∧ win0_6.index t = ![0, 0] ∧ win0_7.index t = ![0, 0] ∧ win0_8.index t = ![0, 0] :=
  (by decide +kernel : ∀ t : Fin grid0.N, _)

/-- The first output array: the gradient of the input, tile by tile. -/
theorem final5 (c : Dev nD) : (dats m 0 c).arrAt 5 (cfgs 0).N
    = DX (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  by_cases h : t.val % 8 = 0
  · rw [outsAt0_A m c t h]; frame_out
    unfold_payloads
    pointwise [DX, vr, up]
    blk_point [iblk, V, idx t]
  · rw [outsAt0_B m c t h]; frame_out
    unfold_payloads
    pointwise [DX, vr, up]
    blk_point [iblk, V, idx t]

/-- One tile's part of the shift's gradient: the column sums of the cotangent's 256 rows. -/
def tShift (dh : FVec Ideal S256x1024 .f32) (j : S1x1024.Idx) : EReal := ∑ k : Fin 256, dh (ix2 k (j 1))

/-- The mean square of a tile's row, plus the small constant. -/
def tvr (x : FVec Ideal S256x1024 .f32) (k : Fin 256) : EReal :=
  Ideal.div (∑ l : Fin 1024, x (ix2 k l) * x (ix2 k l)) (Ideal.ofBits .f32 0x44800000#32) + Ideal.ofBits .f32 0x358637BD#32

/-- One tile's part of the scale's gradient. -/
def tScale (dh x : FVec Ideal S256x1024 .f32) (g : FVec Ideal S1x1024 .f32) (j : S1x1024.Idx) : EReal :=
  ∑ k : Fin 256, dh (ix2 k (j 1)) * (x (ix2 k (j 1)) * Ideal.rsqrt (tvr x k) * g (ix2 0 (j 1)))

/-- One tile's part of the gain's gradient. -/
def tGain (dh x : FVec Ideal S256x1024 .f32) (s : FVec Ideal S1x1024 .f32) (j : S1x1024.Idx) : EReal :=
  ∑ k : Fin 256, dh (ix2 k (j 1)) * (1 + s (ix2 0 (j 1))) * (x (ix2 k (j 1)) * Ideal.rsqrt (tvr x k))

theorem zero3 (j : S1x1024.Idx) : k0_pay3 (F := Ideal) j = 0 := by pointwise [k0_pay3]
theorem zero4 (j : S1x1024.Idx) : k0_pay4 (F := Ideal) j = 0 := by pointwise [k0_pay4]
theorem zero5 (j : S1x1024.Idx) : k0_pay5 (F := Ideal) j = 0 := by pointwise [k0_pay5]

/-- Each point adds its tile's part of the shift's gradient to what the output block holds. -/
theorem shift_at (dh : FVec Ideal S256x1024 .f32) (acc : FVec Ideal S1x1024 .f32) (j : S1x1024.Idx) :
    k0_pay9 dh acc j = acc j + tShift dh j := by pointwise [k0_pay9, tShift]

/-- Each point adds its tile's part of the scale's gradient. -/
theorem scale_at (x dh : FVec Ideal S256x1024 .f32) (g acc : FVec Ideal S1x1024 .f32) (j : S1x1024.Idx) :
    k0_pay10 x dh g acc j = acc j + tScale dh x g j := by pointwise [k0_pay10, k0_pay8, k0_pay7, tScale, tvr]

/-- Each point adds its tile's part of the gain's gradient. -/
theorem gain_at (x dh : FVec Ideal S256x1024 .f32) (s acc : FVec Ideal S1x1024 .f32) (j : S1x1024.Idx) :
    k0_pay1 dh (k0_pay6 s) (k0_pay8 x) acc j = acc j + tGain dh x s j := by
  pointwise [k0_pay1, k0_pay6, k0_pay8, k0_pay7, tGain, tvr]

/-- The second output array: the shift's gradient, summed over the eight tiles. -/
theorem final6 (c : Dev nD) : (dats m 0 c).arrAt 6 (cfgs 0).N = DSHIFT (m ((c : Thread nD τ).loc main_arg0)) := by
  refine (dats m 0 c).arrAt_eq_of_covers 6 _ (by decide +kernel) fun t hf y => ?_
  have ht := (flush0_6 t).mp hf
  blk_simp
  rw [after0_6, Pipeline.eq_sum_fin_of_reset_step_apply_of_flush (fun n h => (outsAt0 m c n h).2.1) 8 (fun _ => 0)
    (fun p j => tShift (iblk m c 0 p) j)
    (fun t h j => by rw [outsAt0_A m c t h]; frame_out; rw [shift_at, zero3])
    (fun t h j => by rw [outsAt0_B m c t h]; frame_out; rw [shift_at]) t ht _, zero_add]
  pointwise [tShift, DSHIFT]
  refine Fin.sum_mul_add_congr fun s k hl => ?_
  blk_point [iblk, V, idx t, idx ⟨_, Pipeline.run_point_lt_of_flush t ht s⟩]

/-- The third output array: the scale's gradient, summed over the eight tiles. -/
theorem final7 (c : Dev nD) : (dats m 0 c).arrAt 7 (cfgs 0).N
    = DSCALE (m ((c : Thread nD τ).loc main_arg0)) (m ((c : Thread nD τ).loc main_arg2)) (m ((c : Thread nD τ).loc main_arg3)) := by
  refine (dats m 0 c).arrAt_eq_of_covers 7 _ (by decide +kernel) fun t hf y => ?_
  have ht := (flush0_7 t).mp hf
  blk_simp
  rw [after0_7, Pipeline.eq_sum_fin_of_reset_step_apply_of_flush (fun n h => (outsAt0 m c n h).2.2.1) 8 (fun _ => 0)
    (fun p j => tScale (iblk m c 0 p) (iblk m c 2 p) (iblk m c 3 p) j)
    (fun t h j => by rw [outsAt0_A m c t h]; frame_out; rw [scale_at, zero4])
    (fun t h j => by rw [outsAt0_B m c t h]; frame_out; rw [scale_at]) t ht _, zero_add]
  pointwise [tScale, tvr, DSCALE, vr]
  refine Fin.sum_mul_add_congr fun s k hl => ?_
  blk_point [iblk, V, idx t, idx ⟨_, Pipeline.run_point_lt_of_flush t ht s⟩]

/-- The fourth output array: the gain's gradient, summed over the eight tiles. -/
theorem final8 (c : Dev nD) : (dats m 0 c).arrAt 8 (cfgs 0).N
    = DG (m ((c : Thread nD τ).loc main_arg0)) (m ((c : Thread nD τ).loc main_arg2)) (m ((c : Thread nD τ).loc main_arg4)) := by
  refine (dats m 0 c).arrAt_eq_of_covers 8 _ (by decide +kernel) fun t hf y => ?_
  have ht := (flush0_8 t).mp hf
  blk_simp
  rw [after0_8, Pipeline.eq_sum_fin_of_reset_step_apply_of_flush (fun n h => (outsAt0 m c n h).2.2.2) 8 (fun _ => 0)
    (fun p j => tGain (iblk m c 0 p) (iblk m c 2 p) (iblk m c 4 p) j)
    (fun t h j => by rw [outsAt0_A m c t h]; frame_out; rw [gain_at, zero5])
    (fun t h j => by rw [outsAt0_B m c t h]; frame_out; rw [gain_at]) t ht _, zero_add]
  pointwise [tGain, tvr, DG, vr]
  refine Fin.sum_mul_add_congr fun s k hl => ?_
  blk_point [iblk, V, idx t, idx ⟨_, Pipeline.run_point_lt_of_flush t ht s⟩]

end Kernel

end Cert.NormValue

end
-- ==== Proof.Gw.lean ====
/- The gradient of the packed input projection: the result of `KernelGwIdeal` is the result of
   `ReferenceGwIdeal`, whatever the two argument arrays hold. -/
module

public import proofs.«01_k».proof.Proof.Gen.KernelGwIdeal.Frame
public import proofs.«01_k».proof.Proof.Gen.ReferenceGwIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GwValue

open Cert.KernelGwIdeal Cert.KernelGwIdeal.Gen

variable (m : (ℓ : Loc nD τ sig) → Buf (Elt Ideal) ℓ)

/-- The reference's result as one term over its two arguments: the transposed activations `H` and the
    cotangent `D` of the projection. -/
abbrev REF (H : FVec Ideal Cert.ReferenceGwIdeal.S1024x2048 .bf16) (D : FVec Ideal Cert.ReferenceGwIdeal.S2048x7168 .bf16) :
    FVec Ideal Cert.ReferenceGwIdeal.S4x1024x1792 .bf16 :=
  truncf .bf16 (transpose Cert.ReferenceGwIdeal.S4x1024x1792 [1, 0, 2] (shapeCast _ (transpose Cert.ReferenceGwIdeal.S1024x7168 [1, 0]
    (Host.dotGeneral Cert.ReferenceGwIdeal.dot_S2048x7168_S2048x1024_S7168x1024_0_0_1_1_n_n none
      (extf .f32 D Cert.ReferenceGwIdeal.Gen.bitsLt_bf16_f32)
      (transpose Cert.ReferenceGwIdeal.S2048x1024 [1, 0] (extf .f32 H Cert.ReferenceGwIdeal.Gen.bitsLt_bf16_f32)
        Cert.ReferenceGwIdeal.Gen.transposes_S1024x2048_S2048x1024_1_0))
    Cert.ReferenceGwIdeal.Gen.transposes_S7168x1024_S1024x7168_1_0) Cert.ReferenceGwIdeal.Gen.shapeCasts_S1024x7168_S1024x4x1792)
    Cert.ReferenceGwIdeal.Gen.transposes_S1024x4x1792_S4x1024x1792_1_0_2) Cert.ReferenceGwIdeal.Gen.bitsLt_bf16_f32

/-- The blocks that grid point `t` reads and writes. -/
theorem idx : ∀ t : Fin cfg0.N, win0_0.index t = ![0, 0] ∧ win0_1.index t = ![0, t.val]
    ∧ win0_2.index t = ![t.val / 7, 0, t.val % 7] :=
  (by decide +kernel : ∀ t : Fin grid0.N, _)

/-- What a grid point writes at a place of its block is the reference's value at that place of the array. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay1, k0_pay2, k0_pay3, REF]
  refine Fin.sum_fin_congr fun x => ?_
  refine Eq.trans ?_ (EReal.mul_comm _ _)
  blk_point [iblk, V, idx t]

end Cert.GwValue

end
-- ==== Proof.Dh.lean ====
/- The gradient of the normalised activations through the packed input projection: the result of
   `KernelDhIdeal` is that of `ReferenceDhIdeal`, whatever the two argument arrays hold. The kernel adds the
   four column shards of the weight one after another into a scratch block. -/
module

public import proofs.«01_k».proof.Proof.Gen.KernelDhIdeal.Frame
public import proofs.«01_k».proof.Proof.Gen.ReferenceDhIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DhValue

open Cert.KernelDhIdeal Cert.KernelDhIdeal.Gen

variable (m : (ℓ : Loc nD τ sig) → Buf (Elt Ideal) ℓ)

/-- The reference's result as one term: the cotangent `D` of the projection times the transposed weight `W`. -/
abbrev REF (D : FVec Ideal Cert.ReferenceDhIdeal.S2048x7168 .bf16) (W : FVec Ideal Cert.ReferenceDhIdeal.S4x1024x1792 .bf16) :
    FVec Ideal Cert.ReferenceDhIdeal.S2048x1024 .f32 :=
  Host.dotGeneral Cert.ReferenceDhIdeal.dot_S2048x7168_S1024x7168_S2048x1024_1_1_0_0_n_n none
    (extf .f32 D Cert.ReferenceDhIdeal.Gen.bitsLt_bf16_f32)
    (shapeCast _ (transpose Cert.ReferenceDhIdeal.S1024x4x1792 [1, 0, 2] (extf .f32 W Cert.ReferenceDhIdeal.Gen.bitsLt_bf16_f32)
      Cert.ReferenceDhIdeal.Gen.transposes_S4x1024x1792_S1024x4x1792_1_0_2) Cert.ReferenceDhIdeal.Gen.shapeCasts_S1024x4x1792_S1024x7168)

/-- The blocks that grid point `t` reads and writes. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

/-- The block of zeros that the scratch starts from. -/
theorem zero_at (j : S1024x1024.Idx) : k0_pay1 (F := Ideal) j = 0 := by pointwise [k0_pay1]

/-- One shard's part of the product is added to what the scratch holds. -/
theorem step_at (acc : FVec Ideal S1024x1024 .f32) (D : FVec Ideal S1024x1792 .bf16) (W : FVec Ideal S1x1024x1792 .bf16) (j : S1024x1024.Idx) :
    k0_pay2 acc D W j = acc j + ∑ k : Fin 1792, D (ix2 (j 0) k) * W (ix3 0 (j 1) k) := by pointwise [k0_pay2]

/-- The scratch after the last of a row block's four points: the sum of the four shards' parts. -/
theorem acc_at (c : Dev nD) (t : Fin cfg0.N) (ht : t.val % 4 = 3) (j : S1024x1024.Idx) :
    (outsAt0 m c t.val t.isLt).2 j = ∑ s : Fin 4, ∑ k : Fin 1792,
      (show FVec Ideal S1024x1792 .bf16 from iblk m c 0 ⟨4 * (t.val / 4) + s.val, Pipeline.run_point_lt_of_flush t ht s⟩) (ix2 (j 0) k)
      * (show FVec Ideal S1x1024x1792 .bf16 from iblk m c 1 ⟨4 * (t.val / 4) + s.val, Pipeline.run_point_lt_of_flush t ht s⟩) (ix3 0 (j 1) k) := by
  rw [Pipeline.eq_sum_fin_of_reset_step_apply_of_flush (fun n h => (outsAt0 m c n h).2) 4 (fun _ => 0)
    (fun p j => ∑ k : Fin 1792, (show FVec Ideal S1024x1792 .bf16 from iblk m c 0 p) (ix2 (j 0) k)
      * (show FVec Ideal S1x1024x1792 .bf16 from iblk m c 1 p) (ix3 0 (j 1) k))
    (fun t h j => by rw [outsAt0_A m c t h (by omega)]; frame_out; rw [step_at, zero_at])
    (fun t h j => by
      by_cases h1 : t.val % 4 = 3
      · rw [outsAt0_C m c t h h1]; frame_out; simp only [read_unread_whole]; rw [step_at]
      · rw [outsAt0_B m c t h h1]; frame_out; simp only [read_unread_whole]; rw [step_at])
    t ht j, zero_add]

/-- The output block written after a row block's four points is the scratch. -/
theorem out_at (c : Dev nD) (t : Fin cfg0.N) (ht : t.val % 4 = 3) :
    (outsAt0 m c t.val t.isLt).1 = (outsAt0 m c t.val t.isLt).2 := by
  rw [outsAt0_C m c t (by omega) ht]; frame_out

/-- The output array is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, out_at m c t ht, acc_at m c t ht]
  pointwise [REF]
  refine Fin.sum_mul_add_congr fun s k hl => ?_
  blk_point [iblk, V, idx t, idx ⟨_, Pipeline.run_point_lt_of_flush t ht s⟩]

end Cert.DhValue

end
-- ==== Proof.Tail.lean ====
/- The gradients of the three output projections: the results of `KernelTailIdeal` are those of
   `ReferenceTailIdeal`, whatever the six argument arrays hold. -/
module

public import proofs.«01_k».proof.Proof.Gen.KernelTailIdeal.Frame
public import proofs.«01_k».proof.Proof.Gen.ReferenceTailIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.TailValue

open Cert.KernelTailIdeal Cert.KernelTailIdeal.Gen

variable (m : (ℓ : Loc nD τ sig) → Buf (Elt Ideal) ℓ)

/-- The reference's gradient of a square projection: the transposed activations `A` and the cotangent `B`. -/
abbrev SQ (A : FVec Ideal Cert.ReferenceTailIdeal.S1024x2048 .bf16) (B : FVec Ideal Cert.ReferenceTailIdeal.S2048x1024 .bf16) :
    FVec Ideal Cert.ReferenceTailIdeal.S1024x1024 .bf16 :=
  truncf .bf16 (transpose Cert.ReferenceTailIdeal.S1024x1024 [1, 0]
    (Host.dotGeneral Cert.ReferenceTailIdeal.dot_S2048x1024_S2048x1024_S1024x1024_0_0_1_1_n_n none
      (extf .f32 B Cert.ReferenceTailIdeal.Gen.bitsLt_bf16_f32)
      (transpose Cert.ReferenceTailIdeal.S2048x1024 [1, 0] (extf .f32 A Cert.ReferenceTailIdeal.Gen.bitsLt_bf16_f32)
        Cert.ReferenceTailIdeal.Gen.transposes_S1024x2048_S2048x1024_1_0))
    Cert.ReferenceTailIdeal.Gen.transposes_S1024x1024_S1024x1024_1_0) Cert.ReferenceTailIdeal.Gen.bitsLt_bf16_f32

/-- The reference's gradient of the pool's projection, cut into the four column shards. -/
abbrev SHARD (A : FVec Ideal Cert.ReferenceTailIdeal.S512x2048 .bf16) (B : FVec Ideal Cert.ReferenceTailIdeal.S2048x1024 .bf16) :
    FVec Ideal Cert.ReferenceTailIdeal.S4x512x256 .bf16 :=
  transpose Cert.ReferenceTailIdeal.S4x512x256 [1, 0, 2] (shapeCast _ (truncf .bf16 (transpose Cert.ReferenceTailIdeal.S512x1024 [1, 0]
    (Host.dotGeneral Cert.ReferenceTailIdeal.dot_S2048x1024_S2048x512_S1024x512_0_0_1_1_n_n none
      (extf .f32 B Cert.ReferenceTailIdeal.Gen.bitsLt_bf16_f32)
      (transpose Cert.ReferenceTailIdeal.S2048x512 [1, 0] (extf .f32 A Cert.ReferenceTailIdeal.Gen.bitsLt_bf16_f32)
        Cert.ReferenceTailIdeal.Gen.transposes_S512x2048_S2048x512_1_0))
    Cert.ReferenceTailIdeal.Gen.transposes_S1024x512_S512x1024_1_0) Cert.ReferenceTailIdeal.Gen.bitsLt_bf16_f32)
    Cert.ReferenceTailIdeal.Gen.shapeCasts_S512x1024_S512x4x256) Cert.ReferenceTailIdeal.Gen.transposes_S512x4x256_S4x512x256_1_0_2

/-- The blocks that grid point `t` reads and writes. -/
theorem idx : ∀ t : Fin cfg0.N, win0_0.index t = ![0, 0] ∧ win0_1.index t = ![0, 0] ∧ win0_2.index t = ![0, 0]
    ∧ win0_3.index t = ![0, t.val] ∧ win0_4.index t = ![0, t.val] ∧ win0_5.index t = ![0, t.val]
    ∧ win0_6.index t = ![0, t.val] ∧ win0_7.index t = ![0, t.val] ∧ win0_8.index t = ![t.val, 0, 0] :=
  (by decide +kernel : ∀ t : Fin grid0.N, _)

/-- The first output array is the reference's gradient of the mixer's projection. -/
theorem final6 (c : Dev nD) : (dats m 0 c).arrAt 6 (cfgs 0).N
    = SQ (m ((c : Thread nD τ).loc main_arg0)) (m ((c : Thread nD τ).loc main_arg3)) := by
  refine (dats m 0 c).arrAt_eq_of_covers 6 _ (by decide +kernel) fun t hf y => ?_
  blk_simp
  rw [after0_6]
  frame_out
  pointwise [k0_pay1, SQ]
  refine Fin.sum_fin_congr fun x => ?_
  refine Eq.trans ?_ (EReal.mul_comm _ _)
  blk_point [iblk, V, idx t]

/-- The second output array is the reference's gradient of the recurrence's projection. -/
theorem final7 (c : Dev nD) : (dats m 0 c).arrAt 7 (cfgs 0).N
    = SQ (m ((c : Thread nD τ).loc main_arg1)) (m ((c : Thread nD τ).loc main_arg4)) := by
  refine (dats m 0 c).arrAt_eq_of_covers 7 _ (by decide +kernel) fun t hf y => ?_
  blk_simp
  rw [after0_7]
  frame_out
  pointwise [k0_pay2, SQ]
  refine Fin.sum_fin_congr fun x => ?_
  refine Eq.trans ?_ (EReal.mul_comm _ _)
  blk_point [iblk, V, idx t]

/-- The third output array is the reference's sharded gradient of the pool's projection. -/
theorem final8 (c : Dev nD) : (dats m 0 c).arrAt 8 (cfgs 0).N
    = SHARD (m ((c : Thread nD τ).loc main_arg2)) (m ((c : Thread nD τ).loc main_arg5)) := by
  refine (dats m 0 c).arrAt_eq_of_covers 8 _ (by decide +kernel) fun t hf y => ?_
  blk_simp
  rw [after0_8]
  frame_out
  pointwise [k0_pay3, SHARD]
  refine Fin.sum_fin_congr fun x => ?_
  refine Eq.trans ?_ (EReal.mul_comm _ _)
  blk_point [iblk, V, idx t]

end Cert.TailValue

end
-- ==== Proof.Claims.lean ====
/- The value claims of the modulated norm's gradient, of the two gradients of the packed input projection and of the
   three gradients of the output projections: each kernel's run beside its reference's run. -/
module

public import proofs.«01_k».proof.Defs
public import proofs.«01_k».proof.Proof.Norm
public import proofs.«01_k».proof.Proof.Gw
public import proofs.«01_k».proof.Proof.Dh
public import proofs.«01_k».proof.Proof.Tail
public import Idealize.ShloMosaic.Lib.Claim

@[expose] public section

set_option maxRecDepth 16384

noncomputable section

open Idealize.ShloMosaic Idealize.ShloMosaic.TcCoe Idealize.SL.Sem

namespace Cert.Proof

section
open Cert.ReferenceNormIdeal

/-- The run of the norm's reference, its four results written as the four gradients of its arguments. -/
theorem norm_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = Cert.NormValue.DX (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_v24) = Cert.NormValue.DSHIFT (m ((c.tc : Thread nD τ).loc main_arg0))
      ∧ r.2.mem ((c.tc : Thread nD τ).loc main_v27) = Cert.NormValue.DSCALE (m ((c.tc : Thread nD τ).loc main_arg0))
        (m ((c.tc : Thread nD τ).loc main_arg2)) (m ((c.tc : Thread nD τ).loc main_arg3))
      ∧ r.2.mem ((c.tc : Thread nD τ).loc main_v32) = Cert.NormValue.DG (m ((c.tc : Thread nD τ).loc main_arg0))
        (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, h2, h3, ha⟩ := h c
    exact ⟨h0.trans (Cert.NormValue.ref_dx m c), h1.trans (Cert.NormValue.ref_dshift _),
      h2.trans (Cert.NormValue.ref_dscale _ _ _), h3.trans (Cert.NormValue.ref_dg _ _ _), ha⟩)
    (Cert.ReferenceNormIdeal.Value.run m ρ)

end

/-- The gradient of the modulated norm: the four results of the kernel are the reference's. -/
theorem algebraic_norm : Cert.algebraic_KernelNormIdeal_ReferenceNormIdeal := by
  pair_intro
  · run_from Cert.KernelNormIdeal.Gen.run_main m g
  · run_from norm_run m' g'
    · exact (Cert.NormValue.final5 m c).symm
    · exact (Cert.NormValue.final6 m c).symm
    · exact (Cert.NormValue.final7 m c).symm
    · exact (Cert.NormValue.final8 m c).symm

/-- The gradient of the packed input projection by its weight. -/
theorem algebraic_gw : Cert.algebraic_KernelGwIdeal_ReferenceGwIdeal := by
  pair_intro
  · run_from Cert.KernelGwIdeal.Gen.run_main m g
  · run_from Cert.ReferenceGwIdeal.Value.run m' g'
    exact (Cert.GwValue.final m c).symm

/-- The gradient of the packed input projection by its input. -/
theorem algebraic_dh : Cert.algebraic_KernelDhIdeal_ReferenceDhIdeal := by
  pair_intro
  · run_from Cert.KernelDhIdeal.Gen.run_main m g
  · run_from Cert.ReferenceDhIdeal.Value.run m' g'
    exact (Cert.DhValue.final m c).symm

/-- The gradients of the three output projections by their weights. -/
theorem algebraic_tail : Cert.algebraic_KernelTailIdeal_ReferenceTailIdeal := by
  pair_intro
  · run_from Cert.KernelTailIdeal.Gen.run_main m g
  · run_from Cert.ReferenceTailIdeal.Value.run m' g'
    · exact (Cert.TailValue.final6 m c).symm
    · exact (Cert.TailValue.final7 m c).symm
    · exact (Cert.TailValue.final8 m c).symm

end Cert.Proof

end
-- ==== Proof.Pre.lean ====
/- The modulated norm of the forward pass: the two results of `KernelPreIdeal`, the activations and their
   transpose, are those of `ReferencePreIdeal`, whatever the four argument arrays hold. -/
module

public import proofs.«01_k».proof.Proof.Gen.KernelPreIdeal.Frame
public import proofs.«01_k».proof.Proof.Gen.ReferencePreIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PreValue

/-- A whole activation array, a row vector. -/
abbrev Act := FVec Ideal Cert.ReferencePreIdeal.S2048x1024 .f32
abbrev Row := FVec Ideal Cert.ReferencePreIdeal.S1x1024 .f32

/-- The mean square of row `i`, plus the small constant. -/
def vr (x : Act) (i : Fin 2048) : EReal :=
  Ideal.div (∑ k : Fin 1024, x (ix2 i k) * x (ix2 i k)) (Ideal.ofBits .f32 0x44800000#32) + Ideal.ofBits .f32 0x358637BD#32

/-- The normalised and modulated row. -/
def H (x : Act) (g s b : Row) : FVec Ideal Cert.ReferencePreIdeal.S2048x1024 .bf16 := fun j =>
  x j * Ideal.rsqrt (vr x (j 0)) * g (ix2 0 (j 1)) * (1 + s (ix2 0 (j 1))) + b (ix2 0 (j 1))

/-- Its transpose. -/
def HT (x : Act) (g s b : Row) : FVec Ideal Cert.ReferencePreIdeal.S1024x2048 .bf16 := fun j => H x g s b (ix2 (j 1) (j 0))

section Reference
open Cert.ReferencePreIdeal

variable (m : (ℓ : Loc nD τ sig) → Buf (Elt Ideal) ℓ)

/-- The run of the reference, its two results written as the modulated norm. -/
theorem ref_run (ρ : Dev nD → PrngReg) :
    θ_run defs (onTc (τ := τ) (main (F := Ideal))) ⟨m, fun _ => 0, ρ⟩ fun r => ∀ c : Dev nD,
      r.2.mem ((c.tc : Thread nD τ).loc main_v18) = H (m ((c : Thread nD τ).loc main_arg0)) (m ((c : Thread nD τ).loc main_arg1)) (m ((c : Thread nD τ).loc main_arg2)) (m ((c : Thread nD τ).loc main_arg3))
      ∧ r.2.mem ((c.tc : Thread nD τ).loc main_v19) = HT (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, ha⟩ := h c
    exact ⟨h0.trans (by funext j; pointwise [H, vr]),
      h1.trans (by funext j; pointwise [HT, H, vr]), ha⟩)
    (Cert.ReferencePreIdeal.Value.run m ρ)

end Reference

section Kernel
open Cert.KernelPreIdeal Cert.KernelPreIdeal.Gen

variable (m : (ℓ : Loc nD τ sig) → Buf (Elt Ideal) ℓ)

/-- The blocks that grid point `t` reads and writes. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, t.val] :=
  (by decide +kernel : ∀ t : Fin grid0.N, _)

/-- The first output array: the modulated norm, tile by tile. -/
theorem final4 (c : Dev nD) : (dats m 0 c).arrAt 4 (cfgs 0).N = H (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay2, k0_pay1, H, vr]
  blk_point [iblk, V, idx t]

/-- The second output array: its transpose, tile by tile. -/
theorem final5 (c : Dev nD) : (dats m 0 c).arrAt 5 (cfgs 0).N = HT (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay3, k0_pay1, HT, H, vr]
  blk_point [iblk, V, idx t]

end Kernel

end Cert.PreValue

end
-- ==== Proof.Proj.lean ====
/- The packed input projection of the forward pass: the result of `KernelProjIdeal` is that of `ReferenceProjIdeal`,
   whatever the two argument arrays hold. -/
module

public import proofs.«01_k».proof.Proof.Gen.KernelProjIdeal.Frame
public import proofs.«01_k».proof.Proof.Gen.ReferenceProjIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjValue

open Cert.KernelProjIdeal Cert.KernelProjIdeal.Gen

variable (m : (ℓ : Loc nD τ sig) → Buf (Elt Ideal) ℓ)

/-- The reference's result as one term over its two arguments: the activations `H` and the four column shards `W` of the weight. -/
abbrev REF (H : FVec Ideal Cert.ReferenceProjIdeal.S2048x1024 .bf16) (W : FVec Ideal Cert.ReferenceProjIdeal.S4x1024x1792 .bf16) : FVec Ideal Cert.ReferenceProjIdeal.S2048x7168 .bf16 :=
  truncf .bf16 (Host.dotGeneral Cert.ReferenceProjIdeal.dot_S2048x1024_S1024x7168_S2048x7168_1_0_0_1_n_n none (extf .f32 H Cert.ReferenceProjIdeal.Gen.bitsLt_bf16_f32)
    (shapeCast _ (transpose Cert.ReferenceProjIdeal.S1024x4x1792 [1, 0, 2] (extf .f32 W Cert.ReferenceProjIdeal.Gen.bitsLt_bf16_f32)
      Cert.ReferenceProjIdeal.Gen.transposes_S4x1024x1792_S1024x4x1792_1_0_2) Cert.ReferenceProjIdeal.Gen.shapeCasts_S1024x4x1792_S1024x7168)) Cert.ReferenceProjIdeal.Gen.bitsLt_bf16_f32

/-- The blocks that grid point `t` reads and writes. -/
theorem idx : ∀ t : Fin cfg0.N, win0_0.index t = ![0, 0] ∧ win0_1.index t = ![t.val / 7, 0, t.val % 7]
    ∧ win0_2.index t = ![0, t.val] :=
  (by decide +kernel : ∀ t : Fin grid0.N, _)

/-- What a grid point writes at a place of its block is the reference's value at that place of the array. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay1, k0_pay2, k0_pay3, REF]
  refine Fin.sum_fin_congr fun x => ?_
  blk_point [iblk, V, idx t]

end Cert.ProjValue

end
-- ==== Proof.Close.lean ====
/- The forward pass's close of a layer: the branches' products, the gated merge, its product and the output norm. The
   five results of `KernelCloseIdeal` are those of `ReferenceCloseIdeal`, whatever the nine argument arrays hold. -/
module

public import proofs.«01_k».proof.Proof.Gen.KernelCloseIdeal.Frame
public import proofs.«01_k».proof.Proof.Gen.ReferenceCloseIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CloseValue

/-- A whole activation array in either format, a row vector. -/
abbrev Act := FVec Ideal Cert.ReferenceCloseIdeal.S2048x1024 .f32
abbrev Low := FVec Ideal Cert.ReferenceCloseIdeal.S2048x1024 .bf16
abbrev Proj := FVec Ideal Cert.ReferenceCloseIdeal.S2048x7168 .bf16
abbrev Sq := FVec Ideal Cert.ReferenceCloseIdeal.S1024x1024 .bf16
abbrev Row := FVec Ideal Cert.ReferenceCloseIdeal.S1x1024 .f32

/-- The sigmoid. -/
def sg (p : EReal) : EReal := Ideal.div 1 (1 + Ideal.exp (-p))

/-- The pool's branch: its product with the projection that comes in four column shards. -/
def bra (a : FVec Ideal Cert.ReferenceCloseIdeal.S2048x512 .bf16) (w : FVec Ideal Cert.ReferenceCloseIdeal.S4x512x256 .bf16) (i : Fin 2048) (l : Fin 1024) : EReal :=
  ∑ k : Fin 512, a (ix2 i k) * w (ix3 ⟨l.val / 256, by omega⟩ k ⟨l.val % 256, by omega⟩)

/-- The recurrence's branch. -/
def brb (b : Low) (w : Sq) (i : Fin 2048) (l : Fin 1024) : EReal := ∑ k : Fin 1024, b (ix2 i k) * w (ix2 k l)

/-- The gated merge of two branches. -/
def mv (p : Proj) (ba bb : Fin 2048 → Fin 1024 → EReal) (i : Fin 2048) (l : Fin 1024) : EReal :=
  sg (p (ix2 i ⟨5120 + l.val, by omega⟩)) * ba i l + sg (p (ix2 i ⟨6144 + l.val, by omega⟩)) * bb i l

/-- The merge's product with the output projection. -/
def yv (mg : Fin 2048 → Fin 1024 → EReal) (w : Sq) (i : Fin 2048) (n : Fin 1024) : EReal := ∑ l : Fin 1024, mg i l * w (ix2 l n)

/-- The mean square of row `i`, plus the small constant. -/
def vr (y : Fin 2048 → Fin 1024 → EReal) (i : Fin 2048) : EReal :=
  Ideal.div (∑ k : Fin 1024, y i k * y i k) (Ideal.ofBits .f32 0x44800000#32) + Ideal.ofBits .f32 0x358637BD#32

/-- The residual plus the gated output norm. -/
def xn (x : Act) (y : Fin 2048 → Fin 1024 → EReal) (gate g : Row) (i : Fin 2048) (n : Fin 1024) : EReal :=
  x (ix2 i n) + gate (ix2 0 n) * (y i n * Ideal.rsqrt (vr y i) * g (ix2 0 n))

section Values

variable (p : Proj) (a : FVec Ideal Cert.ReferenceCloseIdeal.S2048x512 .bf16) (b : Low) (x : Act) (wp : FVec Ideal Cert.ReferenceCloseIdeal.S4x512x256 .bf16)
  (wh wo : Sq) (gate g : Row)

/-- The five arrays: the two branches, the merge transposed, its product, and the layer's output. -/
def BRA : Low := fun j => bra a wp (j 0) (j 1)
def BRB : Low := fun j => brb b wh (j 0) (j 1)
def MT : FVec Ideal Cert.ReferenceCloseIdeal.S1024x2048 .bf16 := fun j => mv p (bra a wp) (brb b wh) (j 1) (j 0)
def Y : Act := fun j => yv (mv p (bra a wp) (brb b wh)) wo (j 0) (j 1)
def XN : Act := fun j => xn x (yv (mv p (bra a wp) (brb b wh)) wo) gate g (j 0) (j 1)

end Values

section Reference
open Cert.ReferenceCloseIdeal

variable (m : (ℓ : Loc nD τ sig) → Buf (Elt Ideal) ℓ)

/-- The run of the reference, its five results written as those arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v31) = BRA (m ((c : Thread nD τ).loc main_arg1)) (m ((c : Thread nD τ).loc main_arg4))
      ∧ r.2.mem ((c.tc : Thread nD τ).loc main_v32) = BRB (m ((c : Thread nD τ).loc main_arg2)) (m ((c : Thread nD τ).loc main_arg5))
      ∧ r.2.mem ((c.tc : Thread nD τ).loc main_v33) = MT (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c.tc : Thread nD τ).loc main_v30) = Y (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
      ∧ r.2.mem ((c.tc : Thread nD τ).loc main_v48) = XN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
    obtain ⟨h0, h1, h2, h3, h4, ha⟩ := h c
    exact ⟨h0.trans (by funext j; pointwise [BRA, bra, brb, mv, yv, vr, xn, sg]),
      h1.trans (by funext j; pointwise [BRB, bra, brb, mv, yv, vr, xn, sg]),
      h2.trans (by funext j; pointwise [MT, bra, brb, mv, yv, vr, xn, sg]),
      h3.trans (by funext j; pointwise [Y, bra, brb, mv, yv, vr, xn, sg]),
      h4.trans (by funext j; pointwise [Cert.ReferenceCloseIdeal.Value.res_main_v48, XN, bra, brb, mv, yv, vr, xn, sg]), ha⟩)
    (Cert.ReferenceCloseIdeal.Value.run m ρ)

end Reference

section Kernel
open Cert.KernelCloseIdeal Cert.KernelCloseIdeal.Gen

variable (m : (ℓ : Loc nD τ sig) → Buf (Elt Ideal) ℓ)

/-- The blocks that grid point `t` reads and writes. -/
theorem idx : ∀ t : Fin cfg0.N, win0_0.index t = ![t.val, 5] ∧ win0_1.index t = ![t.val, 6] ∧ win0_2.index t = ![t.val, 0]
    ∧ win0_3.index t = ![t.val, 0] ∧ win0_4.index t = ![t.val, 0] ∧ win0_5.index t = ![0, 0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![0, t.val] ∧ win0_13.index t = ![t.val, 0] ∧ win0_14.index t = ![t.val, 0] :=
  (by decide +kernel : ∀ t : Fin grid0.N, _)

section Tile

variable (x0 x1 : FVec Ideal S256x1024 .bf16) (x2 : FVec Ideal S256x512 .bf16) (x3 : FVec Ideal S256x1024 .bf16) (x4 : FVec Ideal S256x1024 .f32)
  (x5 : FVec Ideal S4x512x256 .bf16) (x6 x7 : FVec Ideal S1024x1024 .bf16) (x8 x9 : FVec Ideal S1x1024 .f32)

/-- The merge, its product and the mean square of a tile of 256 rows, from the blocks that the tile's grid point reads. -/
def tm (i : Fin 256) (l : Fin 1024) : EReal :=
  sg (x0 (ix2 i l)) * (∑ k : Fin 512, x2 (ix2 i k) * x5 (ix3 ⟨l.val / 256, by omega⟩ k ⟨l.val % 256, by omega⟩))
    + sg (x1 (ix2 i l)) * ∑ k : Fin 1024, x3 (ix2 i k) * x6 (ix2 k l)
def ty (i : Fin 256) (n : Fin 1024) : EReal := ∑ l : Fin 1024, tm x0 x1 x2 x3 x5 x6 i l * x7 (ix2 l n)
def tv (i : Fin 256) : EReal :=
  Ideal.div (∑ k : Fin 1024, ty x0 x1 x2 x3 x5 x6 x7 i k * ty x0 x1 x2 x3 x5 x6 x7 i k) (Ideal.ofBits .f32 0x44800000#32)
    + Ideal.ofBits .f32 0x358637BD#32

/-- The pool's branch of a tile, from the four shards read one by one. -/
theorem bra_at (j : S256x1024.Idx) :
    (k0_pay2 (F := Ideal) x2 (View.ld x5 r0_1) (View.ld x5 r0_2) (View.ld x5 r0_3) (View.ld x5 r0_4) j : EReal)
      = ∑ k : Fin 512, x2 (ix2 (j 0) k) * x5 (ix3 ⟨(j 1).val / 256, by have := (j 1).isLt; simp at this; omega⟩ k ⟨(j 1).val % 256, by omega⟩) := by
  idx_vars j
  pointwise [k0_pay2, r0_1, r0_2, r0_3, r0_4]
  have cut : ∀ (q : Fin 4) (r : Fin 256), q.val * 256 + r.val = j1.val →
      ∑ k, x2 (ix2 j0 k) * x5 (ix3 q k r) = ∑ k, x2 (ix2 j0 k) * x5 (ix3 ⟨j1.val / 256, by omega⟩ k ⟨j1.val % 256, by omega⟩) :=
    fun q r h => by
      have hq : q = ⟨j1.val / 256, by omega⟩ := Fin.ext (by have := r.isLt; simp only; omega)
      have hr : r = ⟨j1.val % 256, by omega⟩ := Fin.ext (by have := r.isLt; simp only; omega)
      rw [hq, hr]
  split_ifs <;> refine cut _ _ ?_ <;> simp <;> omega

/-- The merge of a tile. -/
theorem merged_at (i : Fin 256) (l : Fin 1024) : (k0_pay6 (k0_pay12 (F := Ideal) x0 x1 x2 x3 x4 x5 x6 x7 x8 x9) (k0_pay13 (F := Ideal) x0 x1 x2 x3 x4 x5 x6 x7 x8 x9) (k0_pay14 (F := Ideal) x0 x1 x2 x3 x4 x5 x6 x7 x8 x9) (ix2 i l) : EReal) = tm x0 x1 x2 x3 x5 x6 i l := by
  unfold k0_pay12 k0_pay13 k0_pay14
  pointwise [k0_pay6, k0_pay5, k0_pay4, k0_pay3, tm, sg, r0_5, r0_0, r0_6]
  rw [bra_at]
  simp only [zero_sub]
  pointwise []

/-- The merge's product of a tile. -/
theorem y_at (i : Fin 256) (n : Fin 1024) :
    (k0_pay10 (k0_pay12 (F := Ideal) x0 x1 x2 x3 x4 x5 x6 x7 x8 x9) (k0_pay13 (F := Ideal) x0 x1 x2 x3 x4 x5 x6 x7 x8 x9) (k0_pay14 (F := Ideal) x0 x1 x2 x3 x4 x5 x6 x7 x8 x9) x7 (ix2 i n) : EReal) = ty x0 x1 x2 x3 x5 x6 x7 i n := by
  pointwise [k0_pay10, ty]
  simp only [merged_at]

/-- The normed product of a tile. -/
theorem normed_at (i : Fin 256) (n : Fin 1024) :
    (k0_pay11 (k0_pay12 (F := Ideal) x0 x1 x2 x3 x4 x5 x6 x7 x8 x9) (k0_pay13 (F := Ideal) x0 x1 x2 x3 x4 x5 x6 x7 x8 x9) (k0_pay14 (F := Ideal) x0 x1 x2 x3 x4 x5 x6 x7 x8 x9) x7 (ix2 i n) : EReal) = ty x0 x1 x2 x3 x5 x6 x7 i n * Ideal.rsqrt (tv x0 x1 x2 x3 x5 x6 x7 i) := by
  pointwise [k0_pay11, tv]
  simp only [y_at]

/-- The layer's output of a tile. -/
theorem out_at (i : Fin 256) (n : Fin 1024) :
    (k0_pay1 x4 x8 (k0_pay11 (k0_pay12 (F := Ideal) x0 x1 x2 x3 x4 x5 x6 x7 x8 x9) (k0_pay13 (F := Ideal) x0 x1 x2 x3 x4 x5 x6 x7 x8 x9) (k0_pay14 (F := Ideal) x0 x1 x2 x3 x4 x5 x6 x7 x8 x9) x7) x9 (ix2 i n) : EReal)
      = x4 (ix2 i n) + x8 (ix2 0 n) * (ty x0 x1 x2 x3 x5 x6 x7 i n * Ideal.rsqrt (tv x0 x1 x2 x3 x5 x6 x7 i) * x9 (ix2 0 n)) := by
  pointwise [k0_pay1]
  simp only [normed_at]

end Tile

/-- The first output array: the pool's branch. -/
theorem final10 (c : Dev nD) : (dats m 0 c).arrAt 10 (cfgs 0).N = BRA (m ((c : Thread nD τ).loc main_arg1)) (m ((c : Thread nD τ).loc main_arg4)) := by
  refine (dats m 0 c).arrAt_eq_of_covers 10 _ (by decide +kernel) fun t hf y => ?_
  blk_simp
  rw [after0_10]
  frame_out
  pointwise [k0_pay7]
  rw [bra_at]
  pointwise [BRA, bra, brb, mv, yv, vr, xn, sg]
  blk_point [iblk, V, idx t]
/-- The second: the recurrence's branch. -/
theorem final11 (c : Dev nD) : (dats m 0 c).arrAt 11 (cfgs 0).N = BRB (m ((c : Thread nD τ).loc main_arg2)) (m ((c : Thread nD τ).loc main_arg5)) := by
  refine (dats m 0 c).arrAt_eq_of_covers 11 _ (by decide +kernel) fun t hf y => ?_
  blk_simp
  rw [after0_11]
  frame_out
  pointwise [k0_pay8, k0_pay3, BRB, bra, brb, mv, yv, vr, xn, sg]
  blk_point [iblk, V, idx t]
/-- The third: the merge, transposed. -/
theorem final12 (c : Dev nD) : (dats m 0 c).arrAt 12 (cfgs 0).N = MT (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 12 _ (by decide +kernel) fun t hf y => ?_
  blk_simp
  rw [after0_12]
  frame_out
  idx_vars y
  pointwise [k0_pay9, MT, bra, brb, mv, yv, vr, xn, sg]
  refine (merged_at _ _ _ _ _ _ _ _ _ _ _ _).trans ?_
  pointwise [tm, sg]
  blk_point [iblk, V, idx t]
/-- The fourth: its product with the output projection. -/
theorem final13 (c : Dev nD) : (dats m 0 c).arrAt 13 (cfgs 0).N = Y (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 13 _ (by decide +kernel) fun t hf y => ?_
  blk_simp
  rw [after0_13]
  frame_out
  idx_vars y
  refine (y_at _ _ _ _ _ _ _ _ _ _ _ _).trans ?_
  pointwise [Y, bra, brb, mv, yv, vr, xn, sg, ty, tm]
  blk_point [iblk, V, idx t]
/-- The fifth: the layer's output. -/
theorem final14 (c : Dev nD) : (dats m 0 c).arrAt 14 (cfgs 0).N = XN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  blk_simp
  rw [after0_14]
  frame_out
  idx_vars y
  refine (out_at _ _ _ _ _ _ _ _ _ _ _ _).trans ?_
  pointwise [XN, bra, brb, mv, yv, vr, xn, sg, tv, ty, tm]
  blk_point [iblk, V, idx t]

end Kernel

end Cert.CloseValue

end
-- ==== Proof.Loss.lean ====
/- The close of the last layer, which ends in the loss: the six results of `KernelLossIdeal`, with the loss and its
   gradient, are those of `ReferenceLossIdeal`, whatever the ten argument arrays hold. -/
module

public import proofs.«01_k».proof.Proof.Gen.KernelLossIdeal.Frame
public import proofs.«01_k».proof.Proof.Gen.ReferenceLossIdeal.Run
public import proofs.«01_k».proof.Proof.Close
public import proofs.«01_k».proof.Proof.Root
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossValue

open Cert.CloseValue (BRA BRB MT Y XN bra brb mv yv vr xn sg Act)

/-- The difference to the target, the loss's gradient and the loss, which fills its block. -/
def ERR (x tg : Act) : Act := fun j => x j - tg j
def DX (x tg : Act) : Act := fun j => ERR x tg j * Ideal.ofBits .f32 0x3A800000#32
def LOSS (x tg : Act) : FVec Ideal Cert.ReferenceLossIdeal.S8x128 .f32 := fun _ => Ideal.ofBits .f32 0x3F000000#32 * ∑ i : Fin 2048,
  Ideal.div (∑ n : Fin 1024, ERR x tg (ix2 i n) * ERR x tg (ix2 i n)) (Ideal.ofBits .f32 0x44800000#32)

/-- The binary32 pattern of one half. -/
theorem half : Ideal.ofBits .f32 0x3F000000#32 = ((1 / 2 : ℝ) : EReal) := by
  simp [Ideal.ofBits, Ideal.ieee, -EReal.coe_mul]; norm_num

/-- Half of a mean's weight, times two, is the weight. -/
theorem weight (e : EReal) : Ideal.div (Ideal.ofBits .f32 0x3F000000#32) (Ideal.ofBits .f32 0x44800000#32)
    * (Ideal.ofBits .f32 0x40000000#32 * e) = e * Ideal.ofBits .f32 0x3A800000#32 := by
  have h2 : Ideal.ofBits .f32 0x40000000#32 = ((2 : ℝ) : EReal) := by
    simp [Ideal.ofBits, Ideal.ieee, -EReal.coe_mul]; norm_num
  have hw : Ideal.ofBits .f32 0x3A800000#32 = ((1 / 1024 : ℝ) : EReal) := by
    simp [Ideal.ofBits, Ideal.ieee, -EReal.coe_mul]; norm_num
  rw [half, Cert.Root.c1024, h2, hw, Ideal.div_coe (by norm_num), ← EReal.coe_mul, ← mul_assoc, ← EReal.coe_mul, EReal.mul_comm]
  norm_num

/-- A sum of halves is half of the sum. -/
theorem sum_half {n : ℕ} (f : Fin n → EReal) :
    ∑ s, Ideal.ofBits .f32 0x3F000000#32 * f s = Ideal.ofBits .f32 0x3F000000#32 * ∑ s, f s := by
  rw [half]
  induction n with
  | zero => simp
  | succ n ih =>
    rw [Fin.sum_univ_succ, Fin.sum_univ_succ, ih, EReal.left_distrib_of_nonneg_of_ne_top]
    · exact_mod_cast (by norm_num : (0 : ℝ) ≤ 1 / 2)
    · exact EReal.coe_ne_top _

section Reference
open Cert.ReferenceLossIdeal

variable (m : (ℓ : Loc nD τ sig) → Buf (Elt Ideal) ℓ)

/-- The run of the reference, its six results written as those arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v61) = BRA (m ((c : Thread nD τ).loc main_arg1)) (m ((c : Thread nD τ).loc main_arg4))
      ∧ r.2.mem ((c.tc : Thread nD τ).loc main_v62) = BRB (m ((c : Thread nD τ).loc main_arg2)) (m ((c : Thread nD τ).loc main_arg5))
      ∧ r.2.mem ((c.tc : Thread nD τ).loc main_v63) = MT (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c.tc : Thread nD τ).loc main_v30) = Y (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
      ∧ r.2.mem ((c.tc : Thread nD τ).loc main_v60) = DX (XN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9))
      ∧ r.2.mem ((c.tc : Thread nD τ).loc main_v64) = LOSS (XN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
    obtain ⟨h0, h1, h2, h3, h4, h5, ha⟩ := h c
    exact ⟨h0.trans (by funext j; pointwise [BRA, bra, brb, mv, yv, vr, xn, sg]),
      h1.trans (by funext j; pointwise [BRB, bra, brb, mv, yv, vr, xn, sg]),
      h2.trans (by funext j; pointwise [CloseValue.MT, bra, brb, mv, yv, vr, xn, sg]),
      h3.trans (by funext j; pointwise [Y, bra, brb, mv, yv, vr, xn, sg]),
      h4.trans (by
        funext j
        unfold DX
        rw [← weight]
        pointwise [Cert.ReferenceLossIdeal.Value.res_main_v60, ERR, XN, bra, brb, mv, yv, vr, xn, sg]),
      h5.trans (by funext j; pointwise [Cert.ReferenceLossIdeal.Value.res_main_v64, LOSS, ERR, XN, bra, brb, mv, yv, vr, xn, sg]), ha⟩)
    (Cert.ReferenceLossIdeal.Value.run m ρ)

end Reference

section Kernel
open Cert.KernelLossIdeal Cert.KernelLossIdeal.Gen

variable (m : (ℓ : Loc nD τ sig) → Buf (Elt Ideal) ℓ)

/-- The blocks that grid point `t` reads and writes. -/
theorem idx : ∀ t : Fin cfg0.N, win0_0.index t = ![t.val, 5] ∧ win0_1.index t = ![t.val, 6] ∧ win0_2.index t = ![t.val, 0] ∧ win0_3.index t = ![t.val, 0] ∧ win0_4.index t = ![t.val, 0] ∧ win0_5.index t = ![0, 0, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![0, t.val] ∧ win0_14.index t = ![t.val, 0] ∧ win0_15.index t = ![t.val, 0] ∧ win0_16.index t = ![0, 0] :=
  (by decide +kernel : ∀ t : Fin grid0.N, _)

section Tile

variable (x0 x1 : FVec Ideal S256x1024 .bf16) (x2 : FVec Ideal S256x512 .bf16) (x3 : FVec Ideal S256x1024 .bf16) (x4 : FVec Ideal S256x1024 .f32)
  (x5 : FVec Ideal S4x512x256 .bf16) (x6 x7 : FVec Ideal S1024x1024 .bf16) (x8 x9 : FVec Ideal S1x1024 .f32)

/-- The merge, its product and the mean square of a tile of 256 rows, from the blocks that the tile's grid point reads. -/
def tm (i : Fin 256) (l : Fin 1024) : EReal :=
  sg (x0 (ix2 i l)) * (∑ k : Fin 512, x2 (ix2 i k) * x5 (ix3 ⟨l.val / 256, by omega⟩ k ⟨l.val % 256, by omega⟩))
    + sg (x1 (ix2 i l)) * ∑ k : Fin 1024, x3 (ix2 i k) * x6 (ix2 k l)
def ty (i : Fin 256) (n : Fin 1024) : EReal := ∑ l : Fin 1024, tm x0 x1 x2 x3 x5 x6 i l * x7 (ix2 l n)
def tv (i : Fin 256) : EReal :=
  Ideal.div (∑ k : Fin 1024, ty x0 x1 x2 x3 x5 x6 x7 i k * ty x0 x1 x2 x3 x5 x6 x7 i k) (Ideal.ofBits .f32 0x44800000#32)
    + Ideal.ofBits .f32 0x358637BD#32

/-- The pool's branch of a tile, from the four shards read one by one. -/
theorem bra_at (j : S256x1024.Idx) :
    (k0_pay5 (F := Ideal) x2 (View.ld x5 (Rect.unit (s := S4x512x256) ![0, 0, 0] S1x512x256.size inb_S4x512x256_S1x512x256_0_0_0)) (View.ld x5 (Rect.unit (s := S4x512x256) ![1, 0, 0] S1x512x256.size inb_S4x512x256_S1x512x256_1_0_0)) (View.ld x5 (Rect.unit (s := S4x512x256) ![2, 0, 0] S1x512x256.size inb_S4x512x256_S1x512x256_2_0_0)) (View.ld x5 (Rect.unit (s := S4x512x256) ![3, 0, 0] S1x512x256.size inb_S4x512x256_S1x512x256_3_0_0)) j : EReal)
      = ∑ k : Fin 512, x2 (ix2 (j 0) k) * x5 (ix3 ⟨(j 1).val / 256, by have := (j 1).isLt; simp at this; omega⟩ k ⟨(j 1).val % 256, by omega⟩) := by
  idx_vars j
  pointwise [k0_pay5]
  have cut : ∀ (q : Fin 4) (r : Fin 256), q.val * 256 + r.val = j1.val →
      ∑ k, x2 (ix2 j0 k) * x5 (ix3 q k r) = ∑ k, x2 (ix2 j0 k) * x5 (ix3 ⟨j1.val / 256, by omega⟩ k ⟨j1.val % 256, by omega⟩) :=
    fun q r h => by
      have hq : q = ⟨j1.val / 256, by omega⟩ := Fin.ext (by have := r.isLt; simp only; omega)
      have hr : r = ⟨j1.val % 256, by omega⟩ := Fin.ext (by have := r.isLt; simp only; omega)
      rw [hq, hr]
  split_ifs <;> refine cut _ _ ?_ <;> simp <;> omega

/-- The merge of a tile. -/
theorem merged_at (i : Fin 256) (l : Fin 1024) : (k0_pay9 (k0_pay6 (F := Ideal) x3 x6) (k0_pay7 (F := Ideal) x2 (View.ld x5 (Rect.unit (s := S4x512x256) ![0, 0, 0] S1x512x256.size inb_S4x512x256_S1x512x256_0_0_0)) (View.ld x5 (Rect.unit (s := S4x512x256) ![1, 0, 0] S1x512x256.size inb_S4x512x256_S1x512x256_1_0_0)) (View.ld x5 (Rect.unit (s := S4x512x256) ![2, 0, 0] S1x512x256.size inb_S4x512x256_S1x512x256_2_0_0)) (View.ld x5 (Rect.unit (s := S4x512x256) ![3, 0, 0] S1x512x256.size inb_S4x512x256_S1x512x256_3_0_0)) x0) (k0_pay8 (F := Ideal) x1) (ix2 i l) : EReal) = tm x0 x1 x2 x3 x5 x6 i l := by
  pointwise [k0_pay9, k0_pay8, k0_pay7, k0_pay6, tm, sg]
  rw [bra_at]
  simp only [zero_sub]
  pointwise []

/-- The merge's product of a tile. -/
theorem y_at (i : Fin 256) (n : Fin 1024) :
    (k0_pay13 (k0_pay6 (F := Ideal) x3 x6) (k0_pay7 (F := Ideal) x2 (View.ld x5 (Rect.unit (s := S4x512x256) ![0, 0, 0] S1x512x256.size inb_S4x512x256_S1x512x256_0_0_0)) (View.ld x5 (Rect.unit (s := S4x512x256) ![1, 0, 0] S1x512x256.size inb_S4x512x256_S1x512x256_1_0_0)) (View.ld x5 (Rect.unit (s := S4x512x256) ![2, 0, 0] S1x512x256.size inb_S4x512x256_S1x512x256_2_0_0)) (View.ld x5 (Rect.unit (s := S4x512x256) ![3, 0, 0] S1x512x256.size inb_S4x512x256_S1x512x256_3_0_0)) x0) (k0_pay8 (F := Ideal) x1) x7 (ix2 i n) : EReal) = ty x0 x1 x2 x3 x5 x6 x7 i n := by
  pointwise [k0_pay13, ty]
  simp only [merged_at]

/-- The normed product of a tile. -/
theorem normed_at (i : Fin 256) (n : Fin 1024) :
    (k0_pay14 (k0_pay6 (F := Ideal) x3 x6) (k0_pay7 (F := Ideal) x2 (View.ld x5 (Rect.unit (s := S4x512x256) ![0, 0, 0] S1x512x256.size inb_S4x512x256_S1x512x256_0_0_0)) (View.ld x5 (Rect.unit (s := S4x512x256) ![1, 0, 0] S1x512x256.size inb_S4x512x256_S1x512x256_1_0_0)) (View.ld x5 (Rect.unit (s := S4x512x256) ![2, 0, 0] S1x512x256.size inb_S4x512x256_S1x512x256_2_0_0)) (View.ld x5 (Rect.unit (s := S4x512x256) ![3, 0, 0] S1x512x256.size inb_S4x512x256_S1x512x256_3_0_0)) x0) (k0_pay8 (F := Ideal) x1) x7 (ix2 i n) : EReal) = ty x0 x1 x2 x3 x5 x6 x7 i n * Ideal.rsqrt (tv x0 x1 x2 x3 x5 x6 x7 i) := by
  pointwise [k0_pay14, tv]
  simp only [y_at]

variable (x10 : FVec Ideal S256x1024 .f32)

/-- The difference to the target of a tile. -/
def te (i : Fin 256) (n : Fin 1024) : EReal := (x4 (ix2 i n) + x8 (ix2 0 n) * (ty x0 x1 x2 x3 x5 x6 x7 i n * Ideal.rsqrt (tv x0 x1 x2 x3 x5 x6 x7 i) * x9 (ix2 0 n)) - x10 (ix2 i n))

/-- The tile's part of the loss: half the sum of its rows' mean square differences. -/
def tl : EReal := Ideal.ofBits .f32 0x3F000000#32 * ∑ i : Fin 256,
  Ideal.div (∑ n : Fin 1024, te x0 x1 x2 x3 x4 x5 x6 x7 x8 x9 x10 i n * te x0 x1 x2 x3 x4 x5 x6 x7 x8 x9 x10 i n) (Ideal.ofBits .f32 0x44800000#32)

theorem err_at (i : Fin 256) (n : Fin 1024) :
    (k0_pay2 x4 x8 (k0_pay14 (k0_pay6 (F := Ideal) x3 x6) (k0_pay7 (F := Ideal) x2 (View.ld x5 (Rect.unit (s := S4x512x256) ![0, 0, 0] S1x512x256.size inb_S4x512x256_S1x512x256_0_0_0)) (View.ld x5 (Rect.unit (s := S4x512x256) ![1, 0, 0] S1x512x256.size inb_S4x512x256_S1x512x256_1_0_0)) (View.ld x5 (Rect.unit (s := S4x512x256) ![2, 0, 0] S1x512x256.size inb_S4x512x256_S1x512x256_2_0_0)) (View.ld x5 (Rect.unit (s := S4x512x256) ![3, 0, 0] S1x512x256.size inb_S4x512x256_S1x512x256_3_0_0)) x0) (k0_pay8 (F := Ideal) x1) x7) x9 x10 (ix2 i n) : EReal) = te x0 x1 x2 x3 x4 x5 x6 x7 x8 x9 x10 i n := by
  pointwise [k0_pay2]
  simp only [normed_at, te]

/-- The gradient of a tile's loss. -/
theorem dx_at (i : Fin 256) (n : Fin 1024) :
    (k0_pay3 x4 x8 (k0_pay14 (k0_pay6 (F := Ideal) x3 x6) (k0_pay7 (F := Ideal) x2 (View.ld x5 (Rect.unit (s := S4x512x256) ![0, 0, 0] S1x512x256.size inb_S4x512x256_S1x512x256_0_0_0)) (View.ld x5 (Rect.unit (s := S4x512x256) ![1, 0, 0] S1x512x256.size inb_S4x512x256_S1x512x256_1_0_0)) (View.ld x5 (Rect.unit (s := S4x512x256) ![2, 0, 0] S1x512x256.size inb_S4x512x256_S1x512x256_2_0_0)) (View.ld x5 (Rect.unit (s := S4x512x256) ![3, 0, 0] S1x512x256.size inb_S4x512x256_S1x512x256_3_0_0)) x0) (k0_pay8 (F := Ideal) x1) x7) x9 x10 (ix2 i n) : EReal)
      = te x0 x1 x2 x3 x4 x5 x6 x7 x8 x9 x10 i n * Ideal.ofBits .f32 0x3A800000#32 := by
  pointwise [k0_pay3]
  simp only [err_at]

/-- Each point adds its tile's part of the loss. -/
theorem loss_at (acc : FVec Ideal S8x128 .f32) (j : S8x128.Idx) :
    (k0_pay4 x4 x8 (k0_pay14 (k0_pay6 (F := Ideal) x3 x6) (k0_pay7 (F := Ideal) x2 (View.ld x5 (Rect.unit (s := S4x512x256) ![0, 0, 0] S1x512x256.size inb_S4x512x256_S1x512x256_0_0_0)) (View.ld x5 (Rect.unit (s := S4x512x256) ![1, 0, 0] S1x512x256.size inb_S4x512x256_S1x512x256_1_0_0)) (View.ld x5 (Rect.unit (s := S4x512x256) ![2, 0, 0] S1x512x256.size inb_S4x512x256_S1x512x256_2_0_0)) (View.ld x5 (Rect.unit (s := S4x512x256) ![3, 0, 0] S1x512x256.size inb_S4x512x256_S1x512x256_3_0_0)) x0) (k0_pay8 (F := Ideal) x1) x7) x9 x10 acc j : EReal) = acc j + tl x0 x1 x2 x3 x4 x5 x6 x7 x8 x9 x10 := by
  idx_vars j
  pointwise [k0_pay4, tl]
  simp only [err_at, Finset.univ_unique, Finset.sum_singleton]

/-- The loss block starts from zero. -/
theorem zero_loss (j : S8x128.Idx) : k0_pay1 (F := Ideal) j = 0 := by pointwise [k0_pay1]

end Tile

/-- The first output array: the pool's branch. -/
theorem final11 (c : Dev nD) : (dats m 0 c).arrAt 11 (cfgs 0).N = BRA (m ((c : Thread nD τ).loc main_arg1)) (m ((c : Thread nD τ).loc main_arg4)) := by
  refine (dats m 0 c).arrAt_eq_of_covers 11 _ (by decide +kernel) fun t hf y => ?_
  blk_simp
  rw [after0_11]
  by_cases h : t.val % 8 = 0
  · rw [outsAt0_A m c t h]
    frame_out
    pointwise [k0_pay10]
    rw [bra_at]
    pointwise [BRA, bra, brb, mv, yv, vr, xn, sg]
    blk_point [iblk, V, idx t]
  · rw [outsAt0_B m c t h]
    frame_out
    pointwise [k0_pay10]
    rw [bra_at]
    pointwise [BRA, bra, brb, mv, yv, vr, xn, sg]
    blk_point [iblk, V, idx t]
/-- The second: the recurrence's branch. -/
theorem final12 (c : Dev nD) : (dats m 0 c).arrAt 12 (cfgs 0).N = BRB (m ((c : Thread nD τ).loc main_arg2)) (m ((c : Thread nD τ).loc main_arg5)) := by
  refine (dats m 0 c).arrAt_eq_of_covers 12 _ (by decide +kernel) fun t hf y => ?_
  blk_simp
  rw [after0_12]
  by_cases h : t.val % 8 = 0
  · rw [outsAt0_A m c t h]
    frame_out
    pointwise [k0_pay11, k0_pay6, BRB, bra, brb, mv, yv, vr, xn, sg]
    blk_point [iblk, V, idx t]
  · rw [outsAt0_B m c t h]
    frame_out
    pointwise [k0_pay11, k0_pay6, BRB, bra, brb, mv, yv, vr, xn, sg]
    blk_point [iblk, V, idx t]
/-- The third: the merge, transposed. -/
theorem final13 (c : Dev nD) : (dats m 0 c).arrAt 13 (cfgs 0).N = MT (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 13 _ (by decide +kernel) fun t hf y => ?_
  blk_simp
  rw [after0_13]
  by_cases h : t.val % 8 = 0
  · rw [outsAt0_A m c t h]
    frame_out
    idx_vars y
    pointwise [k0_pay12, CloseValue.MT, bra, brb, mv, yv, vr, xn, sg]
    refine (merged_at _ _ _ _ _ _ _ _).trans ?_
    pointwise [tm, sg]
    blk_point [iblk, V, idx t]
  · rw [outsAt0_B m c t h]
    frame_out
    idx_vars y
    pointwise [k0_pay12, CloseValue.MT, bra, brb, mv, yv, vr, xn, sg]
    refine (merged_at _ _ _ _ _ _ _ _).trans ?_
    pointwise [tm, sg]
    blk_point [iblk, V, idx t]
/-- The fourth: its product with the output projection. -/
theorem final14 (c : Dev nD) : (dats m 0 c).arrAt 14 (cfgs 0).N = Y (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 14 _ (by decide +kernel) fun t hf y => ?_
  blk_simp
  rw [after0_14]
  by_cases h : t.val % 8 = 0
  · rw [outsAt0_A m c t h]
    frame_out
    idx_vars y
    refine (y_at _ _ _ _ _ _ _ _ _).trans ?_
    pointwise [Y, bra, brb, mv, yv, vr, xn, sg, ty, tm]
    blk_point [iblk, V, idx t]
  · rw [outsAt0_B m c t h]
    frame_out
    idx_vars y
    refine (y_at _ _ _ _ _ _ _ _ _).trans ?_
    pointwise [Y, bra, brb, mv, yv, vr, xn, sg, ty, tm]
    blk_point [iblk, V, idx t]
/-- The fifth: the gradient of the loss. -/
theorem final15 (c : Dev nD) : (dats m 0 c).arrAt 15 (cfgs 0).N = DX (XN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) := by
  refine (dats m 0 c).arrAt_eq_of_covers 15 _ (by decide +kernel) fun t hf y => ?_
  blk_simp
  rw [after0_15]
  by_cases h : t.val % 8 = 0
  · rw [outsAt0_A m c t h]
    frame_out
    idx_vars y
    refine (dx_at _ _ _ _ _ _ _ _ _ _ _ _ _).trans ?_
    pointwise [te, DX, ERR, XN, bra, brb, mv, yv, vr, xn, sg, tv, ty, tm]
    blk_point [iblk, V, idx t]
  · rw [outsAt0_B m c t h]
    frame_out
    idx_vars y
    refine (dx_at _ _ _ _ _ _ _ _ _ _ _ _ _).trans ?_
    pointwise [te, DX, ERR, XN, bra, brb, mv, yv, vr, xn, sg, tv, ty, tm]
    blk_point [iblk, V, idx t]
/-- The sixth: the loss, summed over the eight tiles. -/
theorem final16 (c : Dev nD) : (dats m 0 c).arrAt 16 (cfgs 0).N = LOSS (XN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) := by
  refine (dats m 0 c).arrAt_eq_of_covers 16 _ (by decide +kernel) fun t hf y => ?_
  have ht := (flush0_16 t).mp hf
  blk_simp
  rw [after0_16, Pipeline.eq_sum_fin_of_reset_step_apply_of_flush (fun n h => (outsAt0 m c n h).2.2.2.2.2) 8 (fun _ => 0)
    (fun p _ => tl (iblk m c 0 p) (iblk m c 1 p) (iblk m c 2 p) (iblk m c 3 p) (iblk m c 4 p) (iblk m c 5 p) (iblk m c 6 p) (iblk m c 7 p) (iblk m c 8 p) (iblk m c 9 p) (iblk m c 10 p))
    (fun t h j => by rw [outsAt0_A m c t h]; frame_out; rw [loss_at, zero_loss])
    (fun t h j => by rw [outsAt0_B m c t h]; frame_out; rw [loss_at]) t ht _, zero_add]
  unfold tl LOSS
  rw [sum_half]
  refine congrArg _ ?_
  pointwise [te, ERR, XN, bra, brb, mv, yv, vr, xn, sg, tv, ty, tm]
  refine Fin.sum_mul_add_congr fun s k hl => ?_
  blk_point [iblk, V, idx t, idx ⟨_, Pipeline.run_point_lt_of_flush t ht s⟩]

end Kernel

end Cert.LossValue

end
-- ==== Proof.Adam.lean ====
/- The optimiser's update of one weight, as a function of the weight, its gradient and its two running moments. -/
module

public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Adam

/-- The new first moment. -/
def nm (g m : EReal) : EReal := Ideal.ofBits .f32 0x3F666666#32 * m + Ideal.ofBits .f32 0x3DCCCCCD#32 * g

/-- The new second moment. -/
def nv (g v : EReal) : EReal := Ideal.ofBits .f32 0x3F7FBE77#32 * v + Ideal.ofBits .f32 0x3A83126F#32 * (g * g)

/-- The weight's change: the corrected first moment over the root of the corrected second, and the decay. -/
def dl (w g m v : EReal) : EReal :=
  Ideal.ofBits .f32 0xBA83126F#32 * (Ideal.div (Ideal.div (nm g m) (Ideal.ofBits .f32 0x3F26BD02#32))
    (Ideal.sqrt (Ideal.div (nv g v) (Ideal.ofBits .f32 0x3C231ACC#32)) + Ideal.ofBits .f32 0x322BCC77#32)
    + Ideal.ofBits .f32 0x3C23D70A#32 * w)

end Cert.Adam

end
-- ==== Proof.Update.lean ====
/- The optimiser's step on one chip's share of the input projections: the results of `KernelUpdateIdeal` are those of
   `ReferenceUpdateIdeal`, whatever the argument arrays hold. -/
module

public import proofs.«01_k».proof.Proof.Adam
public import proofs.«01_k».proof.Proof.Gen.KernelUpdateIdeal.Frame
public import proofs.«01_k».proof.Proof.Gen.ReferenceUpdateIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpdateValue

/-- The three results of one weight's update, place by place. -/
abbrev NM {s : Shape} (g m : FVec Ideal s .f32) : FVec Ideal s .f32 := fun j => Adam.nm (g j) (m j)
abbrev NV {s : Shape} (g v : FVec Ideal s .f32) : FVec Ideal s .f32 := fun j => Adam.nv (g j) (v j)
abbrev DL {s : Shape} (w g m v : FVec Ideal s .f32) : FVec Ideal s .f32 := fun j => Adam.dl (w j) (g j) (m j) (v j)

section Reference
open Cert.ReferenceUpdateIdeal

variable (m : (ℓ : Loc nD τ sig) → Buf (Elt Ideal) ℓ)

/-- The run of the reference, its results written as the update. -/
theorem ref_run (ρ : Dev nD → PrngReg) :
    θ_run defs (onTc (τ := τ) (main (F := Ideal))) ⟨m, fun _ => 0, ρ⟩ fun r => ∀ c : Dev nD,
      r.2.mem ((c.tc : Thread nD τ).loc main_v23) = DL (s := Cert.ReferenceUpdateIdeal.S2048x1792) (m ((c : Thread nD τ).loc main_arg0)) (m ((c : Thread nD τ).loc main_arg1)) (m ((c : Thread nD τ).loc main_arg2)) (m ((c : Thread nD τ).loc main_arg3))
      ∧ r.2.mem ((c.tc : Thread nD τ).loc main_v4) = NM (s := Cert.ReferenceUpdateIdeal.S2048x1792) (m ((c : Thread nD τ).loc main_arg1)) (m ((c : Thread nD τ).loc main_arg2))
      ∧ r.2.mem ((c.tc : Thread nD τ).loc main_v10) = NV (s := Cert.ReferenceUpdateIdeal.S2048x1792) (m ((c : Thread nD τ).loc main_arg1)) (m ((c : Thread nD τ).loc main_arg3))
      ∧ r.2.mem ((c.tc : Thread nD τ).loc main_arg1) = m ((c : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, ha⟩ := h c
    exact ⟨h0.trans (by funext j; pointwise [DL, NM, NV, Adam.dl, Adam.nm, Adam.nv]),
      h1.trans (by funext j; pointwise [DL, NM, NV, Adam.dl, Adam.nm, Adam.nv]),
      h2.trans (by funext j; pointwise [DL, NM, NV, Adam.dl, Adam.nm, Adam.nv]),
      h3.trans (rfl), ha⟩)
    (Cert.ReferenceUpdateIdeal.Value.run m ρ)

end Reference

section Kernel
open Cert.KernelUpdateIdeal Cert.KernelUpdateIdeal.Gen

variable (m : (ℓ : Loc nD τ sig) → Buf (Elt Ideal) ℓ)

/-- The blocks that grid point `t` reads and writes. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Output array 1: the change of weight 1. -/
theorem final4 (c : Dev nD) : (dats m 0 c).arrAt 4 (cfgs 0).N = DL (s := Cert.ReferenceUpdateIdeal.S2048x1792) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay3, k0_pay1, k0_pay2, DL, NM, NV, Adam.dl, Adam.nm, Adam.nv]
  blk_point [iblk, V, idx t]

/-- Output array 2: the first moment of weight 1. -/
theorem final5 (c : Dev nD) : (dats m 0 c).arrAt 5 (cfgs 0).N = NM (s := Cert.ReferenceUpdateIdeal.S2048x1792) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, DL, NM, NV, Adam.dl, Adam.nm, Adam.nv]
  blk_point [iblk, V, idx t]

/-- Output array 3: the second moment of weight 1. -/
theorem final6 (c : Dev nD) : (dats m 0 c).arrAt 6 (cfgs 0).N = NV (s := Cert.ReferenceUpdateIdeal.S2048x1792) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay2, DL, NM, NV, Adam.dl, Adam.nm, Adam.nv]
  blk_point [iblk, V, idx t]

/-- Output array 4: the gradient, handed through of weight 1. -/
theorem final7 (c : Dev nD) : (dats m 0 c).arrAt 7 (cfgs 0).N = (m ((c : Thread nD τ).loc main_arg1)) := by
  refine (dats m 0 c).arrAt_eq_of_covers 7 _ (by decide +kernel) fun t hf y => ?_
  blk_simp
  rw [after0_7]
  frame_out
  blk_point [iblk, V, idx t]

end Kernel

end Cert.UpdateValue

end
-- ==== Proof.Ada.lean ====
/- The optimiser's step on one chip's share of the conditioning weights: the results of `KernelAdaIdeal` are those of
   `ReferenceAdaIdeal`, whatever the argument arrays hold. -/
module

public import proofs.«01_k».proof.Proof.Adam
public import proofs.«01_k».proof.Proof.Gen.KernelAdaIdeal.Frame
public import proofs.«01_k».proof.Proof.Gen.ReferenceAdaIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaValue

/-- The three results of one weight's update, place by place. -/
abbrev NM {s : Shape} (g m : FVec Ideal s .f32) : FVec Ideal s .f32 := fun j => Adam.nm (g j) (m j)
abbrev NV {s : Shape} (g v : FVec Ideal s .f32) : FVec Ideal s .f32 := fun j => Adam.nv (g j) (v j)
abbrev DL {s : Shape} (w g m v : FVec Ideal s .f32) : FVec Ideal s .f32 := fun j => Adam.dl (w j) (g j) (m j) (v j)

section Reference
open Cert.ReferenceAdaIdeal

variable (m : (ℓ : Loc nD τ sig) → Buf (Elt Ideal) ℓ)

/-- The run of the reference, its results written as the update. -/
theorem ref_run (ρ : Dev nD → PrngReg) :
    θ_run defs (onTc (τ := τ) (main (F := Ideal))) ⟨m, fun _ => 0, ρ⟩ fun r => ∀ c : Dev nD,
      r.2.mem ((c.tc : Thread nD τ).loc main_v23) = DL (s := Cert.ReferenceAdaIdeal.S2048x768) (m ((c : Thread nD τ).loc main_arg0)) (m ((c : Thread nD τ).loc main_arg1)) (m ((c : Thread nD τ).loc main_arg2)) (m ((c : Thread nD τ).loc main_arg3))
      ∧ r.2.mem ((c.tc : Thread nD τ).loc main_v4) = NM (s := Cert.ReferenceAdaIdeal.S2048x768) (m ((c : Thread nD τ).loc main_arg1)) (m ((c : Thread nD τ).loc main_arg2))
      ∧ r.2.mem ((c.tc : Thread nD τ).loc main_v10) = NV (s := Cert.ReferenceAdaIdeal.S2048x768) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, ha⟩ := h c
    exact ⟨h0.trans (by funext j; pointwise [DL, NM, NV, Adam.dl, Adam.nm, Adam.nv]),
      h1.trans (by funext j; pointwise [DL, NM, NV, Adam.dl, Adam.nm, Adam.nv]),
      h2.trans (by funext j; pointwise [DL, NM, NV, Adam.dl, Adam.nm, Adam.nv]), ha⟩)
    (Cert.ReferenceAdaIdeal.Value.run m ρ)

end Reference

section Kernel
open Cert.KernelAdaIdeal Cert.KernelAdaIdeal.Gen

variable (m : (ℓ : Loc nD τ sig) → Buf (Elt Ideal) ℓ)

/-- The blocks that grid point `t` reads and writes. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Output array 1: the change of weight 1. -/
theorem final4 (c : Dev nD) : (dats m 0 c).arrAt 4 (cfgs 0).N = DL (s := Cert.ReferenceAdaIdeal.S2048x768) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay3, k0_pay1, k0_pay2, DL, NM, NV, Adam.dl, Adam.nm, Adam.nv]
  blk_point [iblk, V, idx t]

/-- Output array 2: the first moment of weight 1. -/
theorem final5 (c : Dev nD) : (dats m 0 c).arrAt 5 (cfgs 0).N = NM (s := Cert.ReferenceAdaIdeal.S2048x768) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, DL, NM, NV, Adam.dl, Adam.nm, Adam.nv]
  blk_point [iblk, V, idx t]

/-- Output array 3: the second moment of weight 1. -/
theorem final6 (c : Dev nD) : (dats m 0 c).arrAt 6 (cfgs 0).N = NV (s := Cert.ReferenceAdaIdeal.S2048x768) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay2, DL, NM, NV, Adam.dl, Adam.nm, Adam.nv]
  blk_point [iblk, V, idx t]

end Kernel

end Cert.AdaValue

end
-- ==== Proof.Many.lean ====
/- The optimiser's step on one chip's shares of the three output projections: the results of `KernelManyIdeal` are those of
   `ReferenceManyIdeal`, whatever the argument arrays hold. -/
module

public import proofs.«01_k».proof.Proof.Adam
public import proofs.«01_k».proof.Proof.Gen.KernelManyIdeal.Frame
public import proofs.«01_k».proof.Proof.Gen.ReferenceManyIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ManyValue

/-- The three results of one weight's update, place by place. -/
abbrev NM {s : Shape} (g m : FVec Ideal s .f32) : FVec Ideal s .f32 := fun j => Adam.nm (g j) (m j)
abbrev NV {s : Shape} (g v : FVec Ideal s .f32) : FVec Ideal s .f32 := fun j => Adam.nv (g j) (v j)
abbrev DL {s : Shape} (w g m v : FVec Ideal s .f32) : FVec Ideal s .f32 := fun j => Adam.dl (w j) (g j) (m j) (v j)

section Reference
open Cert.ReferenceManyIdeal

variable (m : (ℓ : Loc nD τ sig) → Buf (Elt Ideal) ℓ)

/-- The run of the reference, its results written as the update. -/
theorem ref_run (ρ : Dev nD → PrngReg) :
    θ_run defs (onTc (τ := τ) (main (F := Ideal))) ⟨m, fun _ => 0, ρ⟩ fun r => ∀ c : Dev nD,
      r.2.mem ((c.tc : Thread nD τ).loc main_v23) = DL (s := Cert.ReferenceManyIdeal.S1024x256) (m ((c : Thread nD τ).loc main_arg0)) (m ((c : Thread nD τ).loc main_arg1)) (m ((c : Thread nD τ).loc main_arg2)) (m ((c : Thread nD τ).loc main_arg3))
      ∧ r.2.mem ((c.tc : Thread nD τ).loc main_v4) = NM (s := Cert.ReferenceManyIdeal.S1024x256) (m ((c : Thread nD τ).loc main_arg1)) (m ((c : Thread nD τ).loc main_arg2))
      ∧ r.2.mem ((c.tc : Thread nD τ).loc main_v10) = NV (s := Cert.ReferenceManyIdeal.S1024x256) (m ((c : Thread nD τ).loc main_arg1)) (m ((c : Thread nD τ).loc main_arg3))
      ∧ r.2.mem ((c.tc : Thread nD τ).loc main_arg1) = m ((c : Thread nD τ).loc main_arg1)
      ∧ r.2.mem ((c.tc : Thread nD τ).loc main_v47) = DL (s := Cert.ReferenceManyIdeal.S512x1024) (m ((c : Thread nD τ).loc main_arg4)) (m ((c : Thread nD τ).loc main_arg5)) (m ((c : Thread nD τ).loc main_arg6)) (m ((c : Thread nD τ).loc main_arg7))
      ∧ r.2.mem ((c.tc : Thread nD τ).loc main_v28) = NM (s := Cert.ReferenceManyIdeal.S512x1024) (m ((c : Thread nD τ).loc main_arg5)) (m ((c : Thread nD τ).loc main_arg6))
      ∧ r.2.mem ((c.tc : Thread nD τ).loc main_v34) = NV (s := Cert.ReferenceManyIdeal.S512x1024) (m ((c : Thread nD τ).loc main_arg5)) (m ((c : Thread nD τ).loc main_arg7))
      ∧ r.2.mem ((c.tc : Thread nD τ).loc main_arg5) = m ((c : Thread nD τ).loc main_arg5)
      ∧ r.2.mem ((c.tc : Thread nD τ).loc main_v71) = DL (s := Cert.ReferenceManyIdeal.S512x1024) (m ((c : Thread nD τ).loc main_arg8)) (m ((c : Thread nD τ).loc main_arg9)) (m ((c : Thread nD τ).loc main_arg10)) (m ((c : Thread nD τ).loc main_arg11))
      ∧ r.2.mem ((c.tc : Thread nD τ).loc main_v52) = NM (s := Cert.ReferenceManyIdeal.S512x1024) (m ((c : Thread nD τ).loc main_arg9)) (m ((c : Thread nD τ).loc main_arg10))
      ∧ r.2.mem ((c.tc : Thread nD τ).loc main_v58) = NV (s := Cert.ReferenceManyIdeal.S512x1024) (m ((c : Thread nD τ).loc main_arg9)) (m ((c : Thread nD τ).loc main_arg11))
      ∧ r.2.mem ((c.tc : Thread nD τ).loc main_arg9) = m ((c : Thread nD τ).loc main_arg9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
    obtain ⟨h0, h1, h2, h3, h4, h5, h6, h7, h8, h9, h10, h11, ha⟩ := h c
    exact ⟨h0.trans (by funext j; pointwise [DL, NM, NV, Adam.dl, Adam.nm, Adam.nv]),
      h1.trans (by funext j; pointwise [DL, NM, NV, Adam.dl, Adam.nm, Adam.nv]),
      h2.trans (by funext j; pointwise [DL, NM, NV, Adam.dl, Adam.nm, Adam.nv]),
      h3.trans (rfl),
      h4.trans (by funext j; pointwise [DL, NM, NV, Adam.dl, Adam.nm, Adam.nv]),
      h5.trans (by funext j; pointwise [DL, NM, NV, Adam.dl, Adam.nm, Adam.nv]),
      h6.trans (by funext j; pointwise [DL, NM, NV, Adam.dl, Adam.nm, Adam.nv]),
      h7.trans (rfl),
      h8.trans (by funext j; pointwise [DL, NM, NV, Adam.dl, Adam.nm, Adam.nv]),
      h9.trans (by funext j; pointwise [DL, NM, NV, Adam.dl, Adam.nm, Adam.nv]),
      h10.trans (by funext j; pointwise [DL, NM, NV, Adam.dl, Adam.nm, Adam.nv]),
      h11.trans (rfl), ha⟩)
    (Cert.ReferenceManyIdeal.Value.run m ρ)

end Reference

section Kernel
open Cert.KernelManyIdeal Cert.KernelManyIdeal.Gen

variable (m : (ℓ : Loc nD τ sig) → Buf (Elt Ideal) ℓ)

/-- The blocks that grid point `t` reads and writes. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] ∧ win0_22.index t = ![t.val, 0] ∧ win0_23.index t = ![t.val, 0] :=
  (by decide +kernel : ∀ t : Fin grid0.N, _)

/-- Output array 1: the change of weight 1. -/
theorem final12 (c : Dev nD) : (dats m 0 c).arrAt 12 (cfgs 0).N = DL (s := Cert.ReferenceManyIdeal.S1024x256) (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  blk_simp
  rw [after0_12]
  frame_out
  pointwise [k0_pay3, k0_pay1, k0_pay2, DL, NM, NV, Adam.dl, Adam.nm, Adam.nv]
  blk_point [iblk, V, idx t]

/-- Output array 2: the first moment of weight 1. -/
theorem final13 (c : Dev nD) : (dats m 0 c).arrAt 13 (cfgs 0).N = NM (s := Cert.ReferenceManyIdeal.S1024x256) (m ((c : Thread nD τ).loc main_arg1)) (m ((c : Thread nD τ).loc main_arg2)) := by
  refine (dats m 0 c).arrAt_eq_of_covers 13 _ (by decide +kernel) fun t hf y => ?_
  blk_simp
  rw [after0_13]
  frame_out
  pointwise [k0_pay1, DL, NM, NV, Adam.dl, Adam.nm, Adam.nv]
  blk_point [iblk, V, idx t]

/-- Output array 3: the second moment of weight 1. -/
theorem final14 (c : Dev nD) : (dats m 0 c).arrAt 14 (cfgs 0).N = NV (s := Cert.ReferenceManyIdeal.S1024x256) (m ((c : Thread nD τ).loc main_arg1)) (m ((c : Thread nD τ).loc main_arg3)) := by
  refine (dats m 0 c).arrAt_eq_of_covers 14 _ (by decide +kernel) fun t hf y => ?_
  blk_simp
  rw [after0_14]
  frame_out
  pointwise [k0_pay2, DL, NM, NV, Adam.dl, Adam.nm, Adam.nv]
  blk_point [iblk, V, idx t]

/-- Output array 4: the gradient, handed through of weight 1. -/
theorem final15 (c : Dev nD) : (dats m 0 c).arrAt 15 (cfgs 0).N = (m ((c : Thread nD τ).loc main_arg1)) := by
  refine (dats m 0 c).arrAt_eq_of_covers 15 _ (by decide +kernel) fun t hf y => ?_
  blk_simp
  rw [after0_15]
  frame_out
  blk_point [iblk, V, idx t]

/-- Output array 5: the change of weight 2. -/
theorem final16 (c : Dev nD) : (dats m 0 c).arrAt 16 (cfgs 0).N = DL (s := Cert.ReferenceManyIdeal.S512x1024) (m ((c : Thread nD τ).loc main_arg4)) (m ((c : Thread nD τ).loc main_arg5)) (m ((c : Thread nD τ).loc main_arg6)) (m ((c : Thread nD τ).loc main_arg7)) := by
  refine (dats m 0 c).arrAt_eq_of_covers 16 _ (by decide +kernel) fun t hf y => ?_
  blk_simp
  rw [after0_16]
  frame_out
  pointwise [k0_pay6, k0_pay4, k0_pay5, DL, NM, NV, Adam.dl, Adam.nm, Adam.nv]
  blk_point [iblk, V, idx t]

/-- Output array 6: the first moment of weight 2. -/
theorem final17 (c : Dev nD) : (dats m 0 c).arrAt 17 (cfgs 0).N = NM (s := Cert.ReferenceManyIdeal.S512x1024) (m ((c : Thread nD τ).loc main_arg5)) (m ((c : Thread nD τ).loc main_arg6)) := by
  refine (dats m 0 c).arrAt_eq_of_covers 17 _ (by decide +kernel) fun t hf y => ?_
  blk_simp
  rw [after0_17]
  frame_out
  pointwise [k0_pay4, DL, NM, NV, Adam.dl, Adam.nm, Adam.nv]
  blk_point [iblk, V, idx t]

/-- Output array 7: the second moment of weight 2. -/
theorem final18 (c : Dev nD) : (dats m 0 c).arrAt 18 (cfgs 0).N = NV (s := Cert.ReferenceManyIdeal.S512x1024) (m ((c : Thread nD τ).loc main_arg5)) (m ((c : Thread nD τ).loc main_arg7)) := by
  refine (dats m 0 c).arrAt_eq_of_covers 18 _ (by decide +kernel) fun t hf y => ?_
  blk_simp
  rw [after0_18]
  frame_out
  pointwise [k0_pay5, DL, NM, NV, Adam.dl, Adam.nm, Adam.nv]
  blk_point [iblk, V, idx t]

/-- Output array 8: the gradient, handed through of weight 2. -/
theorem final19 (c : Dev nD) : (dats m 0 c).arrAt 19 (cfgs 0).N = (m ((c : Thread nD τ).loc main_arg5)) := by
  refine (dats m 0 c).arrAt_eq_of_covers 19 _ (by decide +kernel) fun t hf y => ?_
  blk_simp
  rw [after0_19]
  frame_out
  blk_point [iblk, V, idx t]

/-- Output array 9: the change of weight 3. -/
theorem final20 (c : Dev nD) : (dats m 0 c).arrAt 20 (cfgs 0).N = DL (s := Cert.ReferenceManyIdeal.S512x1024) (m ((c : Thread nD τ).loc main_arg8)) (m ((c : Thread nD τ).loc main_arg9)) (m ((c : Thread nD τ).loc main_arg10)) (m ((c : Thread nD τ).loc main_arg11)) := by
  refine (dats m 0 c).arrAt_eq_of_covers 20 _ (by decide +kernel) fun t hf y => ?_
  blk_simp
  rw [after0_20]
  frame_out
  pointwise [k0_pay9, k0_pay7, k0_pay8, DL, NM, NV, Adam.dl, Adam.nm, Adam.nv]
  blk_point [iblk, V, idx t]

/-- Output array 10: the first moment of weight 3. -/
theorem final21 (c : Dev nD) : (dats m 0 c).arrAt 21 (cfgs 0).N = NM (s := Cert.ReferenceManyIdeal.S512x1024) (m ((c : Thread nD τ).loc main_arg9)) (m ((c : Thread nD τ).loc main_arg10)) := by
  refine (dats m 0 c).arrAt_eq_of_covers 21 _ (by decide +kernel) fun t hf y => ?_
  blk_simp
  rw [after0_21]
  frame_out
  pointwise [k0_pay7, DL, NM, NV, Adam.dl, Adam.nm, Adam.nv]
  blk_point [iblk, V, idx t]

/-- Output array 11: the second moment of weight 3. -/
theorem final22 (c : Dev nD) : (dats m 0 c).arrAt 22 (cfgs 0).N = NV (s := Cert.ReferenceManyIdeal.S512x1024) (m ((c : Thread nD τ).loc main_arg9)) (m ((c : Thread nD τ).loc main_arg11)) := by
  refine (dats m 0 c).arrAt_eq_of_covers 22 _ (by decide +kernel) fun t hf y => ?_
  blk_simp
  rw [after0_22]
  frame_out
  pointwise [k0_pay8, DL, NM, NV, Adam.dl, Adam.nm, Adam.nv]
  blk_point [iblk, V, idx t]

/-- Output array 12: the gradient, handed through of weight 3. -/
theorem final23 (c : Dev nD) : (dats m 0 c).arrAt 23 (cfgs 0).N = (m ((c : Thread nD τ).loc main_arg9)) := by
  refine (dats m 0 c).arrAt_eq_of_covers 23 _ (by decide +kernel) fun t hf y => ?_
  blk_simp
  rw [after0_23]
  frame_out
  blk_point [iblk, V, idx t]

end Kernel

end Cert.ManyValue

end
-- ==== Proof.Bounds.lean ====
/- The lower bounds of the recurrence's forget gate. The result of `KernelBoundsIdeal` is that of `ReferenceBoundsIdeal`,
   whatever the logits are. -/
module

public import proofs.«01_k».proof.Proof.Gen.KernelBoundsIdeal.Frame
public import proofs.«01_k».proof.Proof.Gen.ReferenceBoundsIdeal.Run
public import proofs.«01_k».proof.Proof.PoolSums
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.BoundsValue

/-- The numerator of the softmax of two logits `a` and `b`, at the logit `v`, -/
def ex (a b v : EReal) : EReal := Ideal.exp (v - max a b)

/-- and the softmax there. -/
def sm (a b v : EReal) : EReal := Ideal.div (ex a b v) (ex a b a + ex a b b)

/-- A value kept between zero and one. -/
def cut (v : EReal) : EReal := min 1 (max 0 v)

/-- The bounds of the two layers: the running sum of the softmax over the layers, less its first term, kept in range. -/
def LB (x : FVec Ideal Cert.ReferenceBoundsIdeal.S2x1024 .f32) : FVec Ideal Cert.ReferenceBoundsIdeal.S2x1024 .f32 := fun j =>
  let a := x (ix2 0 (j 1)); let b := x (ix2 1 (j 1))
  if (j 0).val = 0 then cut (sm a b a - sm a b a) else cut (sm a b a + sm a b b - sm a b a)

section Reference
open Cert.ReferenceBoundsIdeal

variable (m : (ℓ : Loc nD τ sig) → Buf (Elt Ideal) ℓ)

/-- The softmax over the layers, as the reference's host lines make it, -/
def soft (x : FVec Ideal S2x1024 .f32) : FVec Ideal S2x1024 .f32 :=
  Host.divf (Host.exp (subf x (broadcastInDim S2x1024 ![0, 1] Gen.bcast_S1x1024_S2x1024_0_1 (broadcastInDim S1x1024 ![1]
    Gen.bcast_S1024_S1x1024_1 (maximumf (broadcastInDim S1024 ![] Gen.bcast_S_S1024 (constant S_ .f32 0xFF800000#32)) (Host.reduce
    FloatOps.maximumf x (constant S_ .f32 0xFF800000#32) Gen.reducesTo_S2x1024_S1024_d0 Gen.h_S_)))))) (broadcastInDim S2x1024 ![0, 1]
    Gen.bcast_S1x1024_S2x1024_0_1 (broadcastInDim S1x1024 ![1] Gen.bcast_S1024_S1x1024_1 (Host.reduceAdd (Host.exp (subf x (broadcastInDim
    S2x1024 ![0, 1] Gen.bcast_S1x1024_S2x1024_0_1 (broadcastInDim S1x1024 ![1] Gen.bcast_S1024_S1x1024_1 (maximumf (broadcastInDim S1024
    ![] Gen.bcast_S_S1024 (constant S_ .f32 0xFF800000#32)) (Host.reduce FloatOps.maximumf x (constant S_ .f32 0xFF800000#32)
    Gen.reducesTo_S2x1024_S1024_d0 Gen.h_S_)))))) (constant S_ .f32 0x00000000#32) Gen.reducesTo_S2x1024_S1024_d0 Gen.h_S_)))

/-- at a layer and a column. -/
theorem soft_at (x : FVec Ideal S2x1024 .f32) (i : Fin 2) (k : Fin 1024) :
    soft x (ix2 i k) = sm (x (ix2 0 k)) (x (ix2 1 k)) (x (ix2 i k)) := by
  have hm : max (Ideal.ofBits .f32 0xFF800000#32) (Finset.fold max (Ideal.ofBits .f32 0xFF800000#32) (fun r : Fin 2 => (x (ix2 r k) : EReal)) Finset.univ)
      = max (x (ix2 0 k) : EReal) (x (ix2 1 k)) := by
    rw [show Ideal.ofBits .f32 0xFF800000#32 = ⊥ by simp [Ideal.ofBits, Ideal.ieee], show (Finset.univ : Finset (Fin 2)) = {0, 1} from rfl,
      Finset.fold_insert (by decide), Finset.fold_singleton]
    simp
  pointwise [soft, sm, ex]
  rw [hm, Fin.sum_univ_two]

/-- The running sum of two rows. -/
theorem sum_at (p : FVec Ideal S2x1024 .f32) (z : FVec Ideal S_ .f32) (hz : ∀ j, (z j : EReal) = 0) (i : Fin 2) (k : Fin 1024) :
    (Host.reduceWindowAdd (F := Ideal) ![2, 1] ![1, 1] ![1, 0] ![0, 0] p z Gen.reduceWindows_S2x1024_S2x1024_w2s1p1_0_w1s1p0_0 Gen.h_S_ (ix2 i k) : EReal)
      = if i.val = 0 then p (ix2 0 k) else p (ix2 0 k) + p (ix2 1 k) := by
  refine (Cert.PoolSums.fold_add _ _ _).trans ?_
  rw [hz, zero_add, ← Fin.sum_univ_def]
  refine (Fin.sum_univ_two (M := EReal) _).trans ?_
  have e0 : (Shape.rowMajor ⟨2, ![2, 1]⟩).symm (0 : Fin 2) = (ix2 0 0 : (⟨2, ![2, 1]⟩ : Shape).Idx) := (Equiv.symm_apply_eq _).2 rfl
  have e1 : (Shape.rowMajor ⟨2, ![2, 1]⟩).symm (1 : Fin 2) = (ix2 1 0 : (⟨2, ![2, 1]⟩ : Shape).Idx) := (Equiv.symm_apply_eq _).2 rfl
  rcases (by omega : i.val = 0 ∨ i.val = 1) with hi | hi
  · obtain rfl : i = 0 := Fin.ext hi
    refine Eq.trans ((congrArg₂ (fun a b : EReal => a + b) (dif_neg fun hin => ?_) ((dif_pos fun a => ?_).trans (congrArg p (funext fun a => Fin.ext ?_)))).trans (zero_add _)) (if_pos rfl).symm
    · have := (hin 0).1
      rw [e0] at this
      exact absurd this (by simp)
    · rw [e1]; fin_cases a <;> simp
    · simp only [e1]; fin_cases a <;> simp
  · obtain rfl : i = 1 := Fin.ext hi
    refine Eq.trans (congrArg₂ (fun a b : EReal => a + b) ((dif_pos fun a => ?_).trans (congrArg p (funext fun a => Fin.ext ?_))) ((dif_pos fun a => ?_).trans (congrArg p (funext fun a => Fin.ext ?_)))) (if_neg (by decide)).symm
    · rw [e0]; fin_cases a <;> simp
    · simp only [e0]; fin_cases a <;> simp
    · rw [e1]; fin_cases a <;> simp
    · simp only [e1]; fin_cases a <;> simp

/-- The running sum of the softmax, less its first row, kept in range: the bounds. -/
theorem ref_at (x : FVec Ideal S2x1024 .f32) :
    minimumf (broadcastInDim S2x1024 ![] Gen.bcast_S_S2x1024 (id (constant S_ .f32 0x3F800000#32)))
      (maximumf (broadcastInDim S2x1024 ![] Gen.bcast_S_S2x1024 (id (constant S_ .f32 0x00000000#32)))
        (subf (Host.reduceWindowAdd ![2, 1] ![1, 1] ![1, 0] ![0, 0] (soft x) (broadcastInDim S_ ![] Gen.bcast_S_S_ (constant S_ .f32 0x00000000#32))
            Gen.reduceWindows_S2x1024_S2x1024_w2s1p1_0_w1s1p0_0 Gen.h_S_)
          (broadcastInDim S2x1024 ![0, 1] Gen.bcast_S1x1024_S2x1024_0_1 (extractStridedSlice S1x1024 ![0, 0] (soft x) Gen.slices_S2x1024_S1x1024_0_0))))
      = LB x := by
  funext j
  idx_vars j
  simp only [id]
  pointwise [LB, cut]
  rw [sum_at _ _ (fun j => by pointwise []), soft_at, soft_at]
  split <;> rfl

/-- The run of the reference, its result written as the bounds. -/
theorem ref_run (ρ : Dev nD → PrngReg) :
    θ_run defs (onTc (τ := τ) (main (F := Ideal))) ⟨m, fun _ => 0, ρ⟩ fun r => ∀ c : Dev nD,
      r.2.mem ((c.tc : Thread nD τ).loc main_v15) = LB (m ((c : Thread nD τ).loc main_arg0))
      ∧ r.2.mem ((c.tc : Thread nD τ).loc main_arg0) = m ((c.tc : Thread nD τ).loc main_arg0) :=
  (θ_run defs _ _).mono (fun _ h c => by
    obtain ⟨h0, ha⟩ := h c
    exact ⟨h0.trans (ref_at _), ha⟩)
    (Cert.ReferenceBoundsIdeal.Value.run m ρ)

end Reference

section Kernel
open Cert.KernelBoundsIdeal Cert.KernelBoundsIdeal.Gen

variable (m : (ℓ : Loc nD τ sig) → Buf (Elt Ideal) ℓ)

/-- The only block of each array is the first. -/
theorem idx : ∀ t : Fin cfg0.N, win0_0.index t = ![0, 0] ∧ win0_1.index t = ![0, 0] :=
  (by decide +kernel : ∀ t : Fin grid0.N, _)

/-- The block is the whole array. -/
theorem whole0 (c : Dev nD) (t : Fin cfg0.N) (y : S2x1024.Idx) : iblk m c 0 t y = (m ((c : Thread nD τ).loc main_arg0)) y := by
  idx_vars y; blk_point [iblk, V, idx t]

/-- What the body leaves. -/
theorem out_at (x : FVec Ideal S2x1024 .f32) (y : S2x1024.Idx) : out0_1 (F := Ideal) x y = LB x y := by
  unfold out0_1
  canon_tiles x h
  · idx_vars x
    pointwise [k0_pay1, k0_pay2, k0_pay3, k0_pay4, k0_pay5, k0_pay7, LB, cut, sm, ex, r0_0, r0_1]
    rw [if_neg (by omega), show y 1 = x1 from Fin.ext (by simpa using h1)]
  · idx_vars x
    pointwise [k0_pay1, k0_pay2, k0_pay3, k0_pay4, k0_pay5, k0_pay6, LB, cut, sm, ex, r0_0, r0_1]
    rw [if_pos (by omega), show y 1 = x1 from Fin.ext (by simpa using h1)]

/-- The result array, from any memory. -/
theorem final (c : Dev nD) : (dats m 0 c).arrAt 1 (cfgs 0).N = LB (m ((c : Thread nD τ).loc main_arg0)) := by
  refine (dats m 0 c).arrAt_eq_of_covers 1 _ (by decide +kernel) fun t hf y => ?_
  blk_simp
  rw [after0_1]
  have e : ((View.whole main_v0).slice (win0_1.rect t)).emb y = y := by
    idx_vars y; blk_ext! [idx t]
  exact (out_at _ y).trans (by rw [funext (whole0 m c t), e])

end Kernel

end Cert.BoundsValue

end
-- ==== Proof.Cond.lean ====
/- The two layers' modulations from the conditioning. The result of `KernelCondIdeal` is that of `ReferenceCondIdeal`,
   whatever the three argument arrays hold. -/
module

public import proofs.«01_k».proof.Proof.Gen.KernelCondIdeal.Frame
public import proofs.«01_k».proof.Proof.Gen.ReferenceCondIdeal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.CondValue

/-- The silu of a value. -/
def sil (v : EReal) : EReal := v * Ideal.div 1 (1 + Ideal.exp (-v))

/-- The modulation of layer `l`: row `i` of the silu of the conditioning, times column `n` of the layer's weight, plus its bias. -/
def md (c : FVec Ideal Cert.ReferenceCondIdeal.S8x1024 .f32) (w : FVec Ideal Cert.ReferenceCondIdeal.S2x1024x768 .f32)
    (b : FVec Ideal Cert.ReferenceCondIdeal.S2x768 .f32) (l : Fin 2) (i : Fin 8) (n : Fin 768) : EReal :=
  (∑ k : Fin 1024, sil (c (ix2 i k)) * w (ix3 l k n)) + b (ix2 l n)

/-- The two layers' modulations side by side. -/
def MDS (c : FVec Ideal Cert.ReferenceCondIdeal.S8x1024 .f32) (w : FVec Ideal Cert.ReferenceCondIdeal.S2x1024x768 .f32)
    (b : FVec Ideal Cert.ReferenceCondIdeal.S2x768 .f32) : FVec Ideal Cert.ReferenceCondIdeal.S8x1536 .f32 := fun j =>
  if h : (j 1).val < 768 then md c w b 0 (j 0) ⟨(j 1).val, h⟩ else md c w b 1 (j 0) ⟨(j 1).val - 768, by have := (j 1).isLt; simp at this; omega⟩

section Reference
open Cert.ReferenceCondIdeal

variable (m : (ℓ : Loc nD τ sig) → Buf (Elt Ideal) ℓ)

/-- The run of the reference, its result written as the two modulations. -/
theorem ref_run (ρ : Dev nD → PrngReg) :
    θ_run defs (onTc (τ := τ) (main (F := Ideal))) ⟨m, fun _ => 0, ρ⟩ fun r => ∀ c : Dev nD,
      r.2.mem ((c.tc : Thread nD τ).loc main_v17) = MDS (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, ha⟩ := h c
    exact ⟨h0.trans (by funext j; pointwise [MDS, md, sil]), ha⟩)
    (Cert.ReferenceCondIdeal.Value.run m ρ)

end Reference

section Kernel
open Cert.KernelCondIdeal Cert.KernelCondIdeal.Gen

variable (m : (ℓ : Loc nD τ sig) → Buf (Elt Ideal) ℓ)

theorem idx : ∀ t : Fin cfg0.N, win0_0.index t = ![0, 0] ∧ win0_1.index t = ![0, 0, 0] ∧ win0_2.index t = ![0, 0] ∧ win0_3.index t = ![0, 0] :=
  (by decide +kernel : ∀ t : Fin grid0.N, _)

/-- The padded conditioning that the host prepares. -/
theorem padded (c : Dev nD) : V m c main_v0 = pad S128x1024 ![0, 0] ![120, 0] ![0, 0] (m ((c : Thread nD τ).loc main_arg0))
    (sitofp (F := Ideal) .f32 (constantI S_ 32 0#32)) pads_S8x1024_S128x1024_01200_000 h_S_ := by
  unfold_abbrev_sides
  simp only [List.flatten_cons, List.flatten_nil, List.append_nil, List.cons_append, List.nil_append, StableHlo.TRef.binary, StableHlo.TRef.nullary, StableHlo.TRef.unary, StableHlo.TRef.toBuf, StableHlo.TRef.ofBuf, cast_eq]
  after_results <;> rfl

/-- The blocks are the whole arrays. -/
theorem whole0 (c : Dev nD) (t : Fin cfg0.N) (y : S128x1024.Idx) : iblk m c 0 t y = V m c main_v0 y := by
  idx_vars y; blk_point [iblk, idx t]
theorem whole1 (c : Dev nD) (t : Fin cfg0.N) (y : S2x1024x768.Idx) : iblk m c 1 t y = (m ((c : Thread nD τ).loc main_arg1)) y := by
  idx_vars y; blk_point [iblk, V, idx t]
theorem whole2 (c : Dev nD) (t : Fin cfg0.N) (y : S2x768.Idx) : iblk m c 2 t y = (m ((c : Thread nD τ).loc main_arg2)) y := by
  idx_vars y; blk_point [iblk, V, idx t]

/-- What the body leaves, when the padded conditioning holds `c` in its first eight rows. -/
theorem out_at (x0 : FVec Ideal S128x1024 .f32) (x1 : FVec Ideal S2x1024x768 .f32) (x2 : FVec Ideal S2x768 .f32)
    (c : FVec Ideal Cert.ReferenceCondIdeal.S8x1024 .f32) (hc : ∀ i : Fin 8, ∀ k : Fin 1024, x0 (ix2 ⟨i.val, by omega⟩ k) = c (ix2 i k)) (y : S8x1536.Idx) :
    out0_3 (F := Ideal) x0 x1 x2 y = MDS c x1 x2 y := by
  unfold out0_3
  canon_tiles x h
  · idx_vars x
    pointwise [k0_pay1, k0_pay3, MDS, md, sil, r0_0, r0_4, r0_5]
    rw [dif_neg (by omega)]
    have e0 : y 0 = x0 := Fin.ext h0
    have e1 : (⟨(y 1).val - 768, by omega⟩ : Fin 768) = x1 := Fin.ext (by simp only [h1]; try omega)
    simp only [hc, zero_sub, e0, e1]
  · idx_vars x
    pointwise [k0_pay1, k0_pay2, MDS, md, sil, r0_0, r0_1, r0_2]
    rw [dif_pos (by omega)]
    have e0 : y 0 = x0 := Fin.ext h0
    have e1 : (⟨(y 1).val, by omega⟩ : Fin 768) = x1 := Fin.ext (by simp only [h1]; try omega)
    simp only [hc, zero_sub, e0, e1]

/-- The result array, from any memory. -/
theorem final (c : Dev nD) : (dats m 0 c).arrAt 3 (cfgs 0).N = MDS (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have e : ((View.whole main_v1).slice (win0_3.rect t)).emb y = y := by
    idx_vars y; blk_ext! [idx t]
  refine (out_at _ _ _ (m ((c : Thread nD τ).loc main_arg0)) (fun i k => ?_) y).trans ?_
  · rw [whole0, padded]
    exact pad_apply_of_inside _ _ _ _ _ _ _ _ (ix2 i k) (fun a => by fin_cases a <;> simp)
  · rw [funext (whole1 m c t), funext (whole2 m c t), e]

end Kernel

end Cert.CondValue

end
-- ==== Proof.CondGrad.lean ====
/- The gradient of the two conditioning weights. The result of `KernelCondGradIdeal` is that of
   `ReferenceCondGradIdeal`, whatever the two argument arrays hold. -/
module

public import proofs.«01_k».proof.Proof.Gen.KernelCondGradIdeal.Frame
public import proofs.«01_k».proof.Proof.Gen.ReferenceCondGradIdeal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.CondGradValue

/-- The silu of a value. -/
def sil (v : EReal) : EReal := v * Ideal.div 1 (1 + Ideal.exp (-v))

/-- The gradient of each layer's conditioning weight: the silu of the conditioning, transposed, times the gradient of its modulation. -/
def GW (c : FVec Ideal Cert.ReferenceCondGradIdeal.S8x1024 .f32) (d : FVec Ideal Cert.ReferenceCondGradIdeal.S2x8x768 .f32) :
    FVec Ideal Cert.ReferenceCondGradIdeal.S2x1024x768 .f32 := fun j =>
  ∑ k : Fin 8, sil (c (ix2 k (j 1))) * d (ix3 (j 0) k (j 2))

section Reference
open Cert.ReferenceCondGradIdeal

variable (m : (ℓ : Loc nD τ sig) → Buf (Elt Ideal) ℓ)

/-- The run of the reference, its result written as that gradient. -/
theorem ref_run (ρ : Dev nD → PrngReg) :
    θ_run defs (onTc (τ := τ) (main (F := Ideal))) ⟨m, fun _ => 0, ρ⟩ fun r => ∀ c : Dev nD,
      r.2.mem ((c.tc : Thread nD τ).loc main_v15) = GW (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨h0, ha⟩ := h c
    exact ⟨h0.trans (by funext j; idx_vars j; pointwise [GW, sil]; split_ifs with h <;> refine Finset.sum_congr rfl fun k _ => ?_ <;> [obtain rfl : j0 = 0 := Fin.ext (by simp; omega); obtain rfl : j0 = 1 := Fin.ext (by have := j0.isLt; simp; omega)] <;> exact EReal.mul_comm _ _), ha⟩)
    (Cert.ReferenceCondGradIdeal.Value.run m ρ)

end Reference

section Kernel
open Cert.KernelCondGradIdeal Cert.KernelCondGradIdeal.Gen

variable (m : (ℓ : Loc nD τ sig) → Buf (Elt Ideal) ℓ)

theorem idx : ∀ t : Fin cfg0.N, win0_0.index t = ![0, 0] ∧ win0_1.index t = ![0, 0, 0] ∧ win0_2.index t = ![0, 0, 0] :=
  (by decide +kernel : ∀ t : Fin grid0.N, _)

/-- The padded and transposed conditioning, and the padded gradient, that the host prepares. -/
theorem padded (c : Dev nD) : V m c main_v1 = transpose S1024x128 [1, 0] (pad S128x1024 ![0, 0] ![120, 0] ![0, 0] (m ((c : Thread nD τ).loc main_arg0))
    (sitofp (F := Ideal) .f32 (constantI S_ 32 0#32)) pads_S8x1024_S128x1024_01200_000 h_S_) transposes_S128x1024_S1024x128_1_0 := by
  unfold_abbrev_sides
  simp only [List.flatten_cons, List.flatten_nil, List.append_nil, List.cons_append, List.nil_append, StableHlo.TRef.binary, StableHlo.TRef.nullary, StableHlo.TRef.unary, StableHlo.TRef.toBuf, StableHlo.TRef.ofBuf, cast_eq]
  after_results <;> rfl
theorem padded2 (c : Dev nD) : V m c main_v2 = pad S2x128x768 ![0, 0, 0] ![0, 120, 0] ![0, 0, 0] (m ((c : Thread nD τ).loc main_arg1))
    (sitofp (F := Ideal) .f32 (constantI S_ 32 0#32)) pads_S2x8x768_S2x128x768_000_01200_000 h_S_ := by
  unfold_abbrev_sides
  simp only [List.flatten_cons, List.flatten_nil, List.append_nil, List.cons_append, List.nil_append, StableHlo.TRef.binary, StableHlo.TRef.nullary, StableHlo.TRef.unary, StableHlo.TRef.toBuf, StableHlo.TRef.ofBuf, cast_eq]
  after_results <;> rfl

/-- The blocks are the whole arrays. -/
theorem whole0 (c : Dev nD) (t : Fin cfg0.N) (y : S1024x128.Idx) : iblk m c 0 t y = V m c main_v1 y := by
  idx_vars y; blk_point [iblk, idx t]
theorem whole1 (c : Dev nD) (t : Fin cfg0.N) (y : S2x128x768.Idx) : iblk m c 1 t y = V m c main_v2 y := by
  idx_vars y; blk_point [iblk, idx t]

/-- A sum of 128 terms of which all but the first eight are zero. -/
theorem sum_head (f : Fin 128 → EReal) (h : ∀ i : Fin 128, 8 ≤ i.val → f i = 0) : ∑ i, f i = ∑ i : Fin 8, f ⟨i.val, by omega⟩ := by
  refine (Fin.sum_univ_add (a := 8) (b := 120) f).trans ?_
  rw [Finset.sum_eq_zero (f := fun i : Fin 120 => f (Fin.natAdd 8 i)) fun i _ => h _ (by simp), add_zero]
  rfl

/-- What the body leaves, when the padded arrays hold `c` and `d` in their first eight places and zeros in `d`'s other ones. -/
theorem out_at (x0 : FVec Ideal S1024x128 .f32) (x1 : FVec Ideal S2x128x768 .f32)
    (c : FVec Ideal Cert.ReferenceCondGradIdeal.S8x1024 .f32) (d : FVec Ideal Cert.ReferenceCondGradIdeal.S2x8x768 .f32)
    (hc : ∀ i : Fin 8, ∀ k : Fin 1024, x0 (ix2 k ⟨i.val, by omega⟩) = c (ix2 i k))
    (hd : ∀ l : Fin 2, ∀ i : Fin 8, ∀ n : Fin 768, x1 (ix3 l ⟨i.val, by omega⟩ n) = d (ix3 l i n))
    (hz : ∀ l : Fin 2, ∀ i : Fin 128, ∀ n : Fin 768, 8 ≤ i.val → (x1 (ix3 l i n) : EReal) = 0) (y : S2x1024x768.Idx) :
    out0_2 (F := Ideal) x0 x1 y = GW c d y := by
  unfold out0_2
  canon_tiles x h
  · idx_vars x
    pointwise [k0_pay1, k0_pay3, GW, sil, r0_0, r0_3]
    refine (sum_head _ fun i hi => by rw [hz _ _ _ hi, mul_zero]).trans ?_
    have e0 : (y 0 : Fin 2) = (1 : Fin 2) := Fin.ext (by simp only [h0]; simp)
    have e1 : y 1 = x1 := Fin.ext h1
    have e2 : y 2 = x2 := Fin.ext h2
    simp only [hc, hd, zero_sub, e0, e1, e2]
  · idx_vars x
    pointwise [k0_pay1, k0_pay2, GW, sil, r0_0, r0_1]
    refine (sum_head _ fun i hi => by rw [hz _ _ _ hi, mul_zero]).trans ?_
    have e0 : (y 0 : Fin 2) = (0 : Fin 2) := Fin.ext (by simp only [h0]; simp; try omega)
    have e1 : y 1 = x1 := Fin.ext h1
    have e2 : y 2 = x2 := Fin.ext h2
    simp only [hc, hd, zero_sub, e0, e1, e2]

/-- The result array, from any memory. -/
theorem final (c : Dev nD) : (dats m 0 c).arrAt 2 (cfgs 0).N = GW (m ((c : Thread nD τ).loc main_arg0)) (m ((c : Thread nD τ).loc main_arg1)) := by
  refine (dats m 0 c).arrAt_eq_of_covers 2 _ (by decide +kernel) fun t hf y => ?_
  blk_simp
  rw [after0_2]
  have e : ((View.whole main_v3).slice (win0_2.rect t)).emb y = y := by
    idx_vars y; blk_ext! [idx t]
  refine (out_at _ _ (m ((c : Thread nD τ).loc main_arg0)) (m ((c : Thread nD τ).loc main_arg1)) (fun i k => ?_) (fun l i n => ?_) (fun l i n hi => ?_) y).trans ?_
  · rw [whole0, padded]
    have h : transposes_S128x1024_S1024x128_1_0.src (ix2 k ⟨i.val, by omega⟩) = ix2 (⟨i.val, by omega⟩ : Fin 128) k := by
      funext a; fin_cases a <;> rfl
    refine (congrArg (pad S128x1024 ![0, 0] ![120, 0] ![0, 0] (m ((c : Thread nD τ).loc main_arg0)) (sitofp (F := Ideal) .f32 (constantI S_ 32 0#32))
      pads_S8x1024_S128x1024_01200_000 h_S_) h).trans ?_
    exact pad_apply_of_inside _ _ _ _ _ _ _ _ (ix2 i k) (fun a => by fin_cases a <;> simp)
  · rw [whole1, padded2]
    exact pad_apply_of_inside _ _ _ _ _ _ _ _ (ix3 l i n) (fun a => by fin_cases a <;> simp)
  · rw [whole1, padded2]
    refine (pad_apply_of_not_inside _ _ _ _ _ _ _ _ 1 (by simp; omega)).trans ?_
    first
    | (simp [sitofp, FloatOps.sitofp]; done)
    | (show (((0#32 : BitVec 32).toInt : ℝ) : EReal) = 0; simp)
  · rw [e]

end Kernel

end Cert.CondGradValue

end
-- ==== Proof.Step.lean ====
/- The value claims of the step's other calls: the norm that opens a layer, the packed input projection, the end of a
   layer with and without the loss, the three calls of the optimiser, and the conditioning with its gradient. -/
module

public import proofs.«01_k».proof.Defs
public import proofs.«01_k».proof.Proof.Pre
public import proofs.«01_k».proof.Proof.Proj
public import proofs.«01_k».proof.Proof.Close
public import proofs.«01_k».proof.Proof.Loss
public import proofs.«01_k».proof.Proof.Update
public import proofs.«01_k».proof.Proof.Ada
public import proofs.«01_k».proof.Proof.Many
public import proofs.«01_k».proof.Proof.Bounds
public import proofs.«01_k».proof.Proof.Cond
public import proofs.«01_k».proof.Proof.CondGrad
public import Idealize.ShloMosaic.Lib.Claim

@[expose] public section

set_option maxRecDepth 16384

noncomputable section

open Idealize.ShloMosaic Idealize.ShloMosaic.TcCoe Idealize.SL.Sem

namespace Cert.Proof

set_option maxHeartbeats 8000000 in
/-- The modulated norm and its transposed copy. -/
theorem algebraic_pre : Cert.algebraic_KernelPreIdeal_ReferencePreIdeal := by
  pair_intro
  · run_from Cert.KernelPreIdeal.Gen.run_main m g
  · run_from Cert.PreValue.ref_run m' g'
    · exact (Cert.PreValue.final4 m c).symm
    · exact (Cert.PreValue.final5 m c).symm

set_option maxHeartbeats 8000000 in
/-- The packed input projection. -/
theorem algebraic_proj : Cert.algebraic_KernelProjIdeal_ReferenceProjIdeal := by
  pair_intro
  · run_from Cert.KernelProjIdeal.Gen.run_main m g
  · run_from Cert.ReferenceProjIdeal.Value.run m' g'
    exact (Cert.ProjValue.final m c).symm

set_option maxHeartbeats 8000000 in
/-- The output projections, the branches and the closing norm, with what the backward pass keeps. -/
theorem algebraic_close : Cert.algebraic_KernelCloseIdeal_ReferenceCloseIdeal := by
  pair_intro
  · run_from Cert.KernelCloseIdeal.Gen.run_main m g
  · run_from Cert.CloseValue.ref_run m' g'
    · exact (Cert.CloseValue.final10 m c).symm
    · exact (Cert.CloseValue.final11 m c).symm
    · exact (Cert.CloseValue.final12 m c).symm
    · exact (Cert.CloseValue.final13 m c).symm
    · exact (Cert.CloseValue.final14 m c).symm

set_option maxHeartbeats 8000000 in
/-- The same with the loss and the gradient that starts the backward pass. -/
theorem algebraic_loss : Cert.algebraic_KernelLossIdeal_ReferenceLossIdeal := by
  intro m g m' g' hpre hagree
  refine ⟨fun c => (Cert.KernelLossIdeal.Gen.dats m 0 c).arrAt 11 (Cert.KernelLossIdeal.cfgs 0).N, fun c => (Cert.KernelLossIdeal.Gen.dats m 0 c).arrAt 12 (Cert.KernelLossIdeal.cfgs 0).N, fun c => (Cert.KernelLossIdeal.Gen.dats m 0 c).arrAt 13 (Cert.KernelLossIdeal.cfgs 0).N, fun c => (Cert.KernelLossIdeal.Gen.dats m 0 c).arrAt 14 (Cert.KernelLossIdeal.cfgs 0).N, fun c => (Cert.KernelLossIdeal.Gen.dats m 0 c).arrAt 15 (Cert.KernelLossIdeal.cfgs 0).N, fun c => (Cert.KernelLossIdeal.Gen.dats m 0 c).arrAt 16 (Cert.KernelLossIdeal.cfgs 0).N, ?_, ?_⟩
  · exact (θ_run _ _ _).mono (fun r h c => ⟨(h.2 c).1 11, (h.2 c).1 12, (h.2 c).1 13, (h.2 c).1 14, (h.2 c).1 15, (h.2 c).1 16, h.1.1 c⟩)
      (θ_run_and (Cert.KernelLossIdeal.Gen.frame m g) (Cert.KernelLossIdeal.Gen.run_main m g))
  · run_from Cert.LossValue.ref_run m' g'
    · exact (Cert.LossValue.final11 m c).symm
    · exact (Cert.LossValue.final12 m c).symm
    · exact (Cert.LossValue.final13 m c).symm
    · exact (Cert.LossValue.final14 m c).symm
    · exact (Cert.LossValue.final15 m c).symm
    · exact (Cert.LossValue.final16 m c).symm

set_option maxHeartbeats 8000000 in
/-- The optimiser's step on one device's part of the packed input weights. -/
theorem algebraic_update : Cert.algebraic_KernelUpdateIdeal_ReferenceUpdateIdeal := by
  pair_intro
  · run_from Cert.KernelUpdateIdeal.Gen.run_main m g
  · run_from Cert.UpdateValue.ref_run m' g'
    · exact (Cert.UpdateValue.final4 m c).symm
    · exact (Cert.UpdateValue.final5 m c).symm
    · exact (Cert.UpdateValue.final6 m c).symm
    · exact (Cert.UpdateValue.final7 m c).symm

set_option maxHeartbeats 8000000 in
/-- The optimiser's step on one device's part of the weights of the conditioning. -/
theorem algebraic_ada : Cert.algebraic_KernelAdaIdeal_ReferenceAdaIdeal := by
  pair_intro
  · run_from Cert.KernelAdaIdeal.Gen.run_main m g
  · run_from Cert.AdaValue.ref_run m' g'
    · exact (Cert.AdaValue.final4 m c).symm
    · exact (Cert.AdaValue.final5 m c).symm
    · exact (Cert.AdaValue.final6 m c).symm

set_option maxHeartbeats 8000000 in
/-- The optimiser's step on one device's parts of the three output weights. -/
theorem algebraic_many : Cert.algebraic_KernelManyIdeal_ReferenceManyIdeal := by
  intro m g m' g' hpre hagree
  refine ⟨fun c => (Cert.KernelManyIdeal.Gen.dats m 0 c).arrAt 12 (Cert.KernelManyIdeal.cfgs 0).N, fun c => (Cert.KernelManyIdeal.Gen.dats m 0 c).arrAt 13 (Cert.KernelManyIdeal.cfgs 0).N, fun c => (Cert.KernelManyIdeal.Gen.dats m 0 c).arrAt 14 (Cert.KernelManyIdeal.cfgs 0).N, fun c => (Cert.KernelManyIdeal.Gen.dats m 0 c).arrAt 15 (Cert.KernelManyIdeal.cfgs 0).N, fun c => (Cert.KernelManyIdeal.Gen.dats m 0 c).arrAt 16 (Cert.KernelManyIdeal.cfgs 0).N, fun c => (Cert.KernelManyIdeal.Gen.dats m 0 c).arrAt 17 (Cert.KernelManyIdeal.cfgs 0).N, fun c => (Cert.KernelManyIdeal.Gen.dats m 0 c).arrAt 18 (Cert.KernelManyIdeal.cfgs 0).N, fun c => (Cert.KernelManyIdeal.Gen.dats m 0 c).arrAt 19 (Cert.KernelManyIdeal.cfgs 0).N, fun c => (Cert.KernelManyIdeal.Gen.dats m 0 c).arrAt 20 (Cert.KernelManyIdeal.cfgs 0).N, fun c => (Cert.KernelManyIdeal.Gen.dats m 0 c).arrAt 21 (Cert.KernelManyIdeal.cfgs 0).N, fun c => (Cert.KernelManyIdeal.Gen.dats m 0 c).arrAt 22 (Cert.KernelManyIdeal.cfgs 0).N, fun c => (Cert.KernelManyIdeal.Gen.dats m 0 c).arrAt 23 (Cert.KernelManyIdeal.cfgs 0).N, ?_, ?_⟩
  · exact (θ_run _ _ _).mono (fun r h c => ⟨(h.2 c).1 12, (h.2 c).1 13, (h.2 c).1 14, (h.2 c).1 15, (h.2 c).1 16, (h.2 c).1 17, (h.2 c).1 18, (h.2 c).1 19, (h.2 c).1 20, (h.2 c).1 21, (h.2 c).1 22, (h.2 c).1 23, h.1.1 c⟩)
      (θ_run_and (Cert.KernelManyIdeal.Gen.frame m g) (Cert.KernelManyIdeal.Gen.run_main m g))
  · run_from Cert.ManyValue.ref_run m' g'
    · exact (Cert.ManyValue.final12 m c).symm
    · exact (Cert.ManyValue.final13 m c).symm
    · exact (Cert.ManyValue.final14 m c).symm
    · exact (Cert.ManyValue.final15 m c).symm
    · exact (Cert.ManyValue.final16 m c).symm
    · exact (Cert.ManyValue.final17 m c).symm
    · exact (Cert.ManyValue.final18 m c).symm
    · exact (Cert.ManyValue.final19 m c).symm
    · exact (Cert.ManyValue.final20 m c).symm
    · exact (Cert.ManyValue.final21 m c).symm
    · exact (Cert.ManyValue.final22 m c).symm
    · exact (Cert.ManyValue.final23 m c).symm

set_option maxHeartbeats 8000000 in
/-- The lower bounds of the recurrence's gate. -/
theorem algebraic_bounds : Cert.algebraic_KernelBoundsIdeal_ReferenceBoundsIdeal := by
  pair_intro
  · run_from Cert.KernelBoundsIdeal.Gen.run_main m g
  · run_from Cert.BoundsValue.ref_run m' g'
    exact (Cert.BoundsValue.final m c).symm

set_option maxHeartbeats 8000000 in
/-- The modulation of the two layers by the conditioning. -/
theorem algebraic_cond : Cert.algebraic_KernelCondIdeal_ReferenceCondIdeal := by
  pair_intro
  · run_from Cert.KernelCondIdeal.Gen.run_main m g
    · exact Cert.KernelCondIdeal.Gen.V_main_arg0 m c
  · run_from Cert.CondValue.ref_run m' g'
    exact (Cert.CondValue.final m c).symm

set_option maxHeartbeats 8000000 in
/-- The gradient of the weights of the conditioning. -/
theorem algebraic_condgrad : Cert.algebraic_KernelCondGradIdeal_ReferenceCondGradIdeal := by
  pair_intro
  · run_from Cert.KernelCondGradIdeal.Gen.run_main m g
    · exact Cert.KernelCondGradIdeal.Gen.V_main_arg0 m c
    · exact Cert.KernelCondGradIdeal.Gen.V_main_arg1 m c
  · run_from Cert.CondGradValue.ref_run m' g'
    exact (Cert.CondGradValue.final m c).symm

end Cert.Proof

end
-- ==== Proof.lean ====
module

public import proofs.«01_k».proof.Defs
public import proofs.«01_k».proof.Proof.Gen.Kernel.Frame
public import proofs.«01_k».proof.Proof.Gen.KernelPool.Frame
public import proofs.«01_k».proof.Proof.Gen.KernelNorm.Frame
public import proofs.«01_k».proof.Proof.Gen.KernelMerge.Frame
public import proofs.«01_k».proof.Proof.Gen.KernelGw.Frame
public import proofs.«01_k».proof.Proof.Gen.KernelDh.Frame
public import proofs.«01_k».proof.Proof.Gen.KernelTail.Frame
public import proofs.«01_k».proof.Proof.Gen.KernelPre.Frame
public import proofs.«01_k».proof.Proof.Gen.KernelProj.Frame
public import proofs.«01_k».proof.Proof.Gen.KernelClose.Frame
public import proofs.«01_k».proof.Proof.Gen.KernelLoss.Frame
public import proofs.«01_k».proof.Proof.Gen.KernelUpdate.Frame
public import proofs.«01_k».proof.Proof.Gen.KernelAda.Frame
public import proofs.«01_k».proof.Proof.Gen.KernelMany.Frame
public import proofs.«01_k».proof.Proof.Gen.KernelBounds.Frame
public import proofs.«01_k».proof.Proof.Gen.KernelCond.Frame
public import proofs.«01_k».proof.Proof.Gen.KernelCondGrad.Frame
public import proofs.«01_k».proof.Proof.MergeClaim
public import proofs.«01_k».proof.Proof.PoolClaim
public import proofs.«01_k».proof.Proof.PoolGradClaim
public import proofs.«01_k».proof.Proof.Claims
public import proofs.«01_k».proof.Proof.Step

@[expose] public section

set_option maxRecDepth 16384

noncomputable section

open Idealize.ShloMosaic Idealize.ShloMosaic.TcCoe Idealize.SL.Sem

namespace Cert.Proof

/-! Each reference is a line of host operations: it ends with its arguments unchanged, and it has no semaphore. -/

theorem frame_reference_pool_grad : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)
theorem frame_reference_pool : Cert.quiescent_ReferencePoolIdeal := fun m ρ _ =>
  (θ_run Cert.ReferencePoolIdeal.defs _ _).mono (fun r h => ⟨fun c => (h c).2.2, sem_eq_zero_of_no_sems (by decide) r.2⟩)
    (Cert.ReferencePoolIdeal.Value.run m ρ)
theorem frame_reference_norm : Cert.quiescent_ReferenceNormIdeal := fun m ρ _ =>
  (θ_run Cert.ReferenceNormIdeal.defs _ _).mono (fun r h => ⟨fun c => (h c).2.2.2.2, sem_eq_zero_of_no_sems (by decide) r.2⟩)
    (Cert.ReferenceNormIdeal.Value.run m ρ)
theorem frame_reference_merge : Cert.quiescent_ReferenceMergeIdeal := fun m ρ _ =>
  (θ_run Cert.ReferenceMergeIdeal.defs _ _).mono (fun r h => ⟨fun c => (h c).2.2.2.2.2.2.2.2, sem_eq_zero_of_no_sems (by decide) r.2⟩)
    (Cert.ReferenceMergeIdeal.Value.run m ρ)
theorem frame_reference_gw : Cert.quiescent_ReferenceGwIdeal := fun m ρ _ =>
  (θ_run Cert.ReferenceGwIdeal.defs _ _).mono (fun r h => ⟨fun c => (h c).2, sem_eq_zero_of_no_sems (by decide) r.2⟩)
    (Cert.ReferenceGwIdeal.Value.run m ρ)
theorem frame_reference_dh : Cert.quiescent_ReferenceDhIdeal := fun m ρ _ =>
  (θ_run Cert.ReferenceDhIdeal.defs _ _).mono (fun r h => ⟨fun c => (h c).2, sem_eq_zero_of_no_sems (by decide) r.2⟩)
    (Cert.ReferenceDhIdeal.Value.run m ρ)
theorem frame_reference_tail : Cert.quiescent_ReferenceTailIdeal := fun m ρ _ =>
  (θ_run Cert.ReferenceTailIdeal.defs _ _).mono (fun r h => ⟨fun c => (h c).2.2.2, sem_eq_zero_of_no_sems (by decide) r.2⟩)
    (Cert.ReferenceTailIdeal.Value.run m ρ)
theorem frame_reference_pre : Cert.quiescent_ReferencePreIdeal := fun m ρ _ =>
  (θ_run Cert.ReferencePreIdeal.defs _ _).mono (fun r h => ⟨fun c => (h c).2.2, sem_eq_zero_of_no_sems (by decide) r.2⟩)
    (Cert.ReferencePreIdeal.Value.run m ρ)
theorem frame_reference_proj : Cert.quiescent_ReferenceProjIdeal := fun m ρ _ =>
  (θ_run Cert.ReferenceProjIdeal.defs _ _).mono (fun r h => ⟨fun c => (h c).2, sem_eq_zero_of_no_sems (by decide) r.2⟩)
    (Cert.ReferenceProjIdeal.Value.run m ρ)
theorem frame_reference_close : Cert.quiescent_ReferenceCloseIdeal := fun m ρ _ =>
  (θ_run Cert.ReferenceCloseIdeal.defs _ _).mono (fun r h => ⟨fun c => (h c).2.2.2.2.2, sem_eq_zero_of_no_sems (by decide) r.2⟩)
    (Cert.ReferenceCloseIdeal.Value.run m ρ)
theorem frame_reference_loss : Cert.quiescent_ReferenceLossIdeal := fun m ρ _ =>
  (θ_run Cert.ReferenceLossIdeal.defs _ _).mono (fun r h => ⟨fun c => (h c).2.2.2.2.2.2, sem_eq_zero_of_no_sems (by decide) r.2⟩)
    (Cert.ReferenceLossIdeal.Value.run m ρ)
theorem frame_reference_update : Cert.quiescent_ReferenceUpdateIdeal := fun m ρ _ =>
  (θ_run Cert.ReferenceUpdateIdeal.defs _ _).mono (fun r h => ⟨fun c => (h c).2.2.2.2, sem_eq_zero_of_no_sems (by decide) r.2⟩)
    (Cert.ReferenceUpdateIdeal.Value.run m ρ)
theorem frame_reference_ada : Cert.quiescent_ReferenceAdaIdeal := fun m ρ _ =>
  (θ_run Cert.ReferenceAdaIdeal.defs _ _).mono (fun r h => ⟨fun c => (h c).2.2.2, sem_eq_zero_of_no_sems (by decide) r.2⟩)
    (Cert.ReferenceAdaIdeal.Value.run m ρ)
theorem frame_reference_many : Cert.quiescent_ReferenceManyIdeal := fun m ρ _ =>
  (θ_run Cert.ReferenceManyIdeal.defs _ _).mono (fun r h => ⟨fun c => (h c).2.2.2.2.2.2.2.2.2.2.2.2, sem_eq_zero_of_no_sems (by decide) r.2⟩)
    (Cert.ReferenceManyIdeal.Value.run m ρ)
theorem frame_reference_bounds : Cert.quiescent_ReferenceBoundsIdeal := fun m ρ _ =>
  (θ_run Cert.ReferenceBoundsIdeal.defs _ _).mono (fun r h => ⟨fun c => (h c).2, sem_eq_zero_of_no_sems (by decide) r.2⟩)
    (Cert.ReferenceBoundsIdeal.Value.run m ρ)
theorem frame_reference_cond : Cert.quiescent_ReferenceCondIdeal := fun m ρ _ =>
  (θ_run Cert.ReferenceCondIdeal.defs _ _).mono (fun r h => ⟨fun c => (h c).2, sem_eq_zero_of_no_sems (by decide) r.2⟩)
    (Cert.ReferenceCondIdeal.Value.run m ρ)
theorem frame_reference_condgrad : Cert.quiescent_ReferenceCondGradIdeal := fun m ρ _ =>
  (θ_run Cert.ReferenceCondGradIdeal.defs _ _).mono (fun r h => ⟨fun c => (h c).2, sem_eq_zero_of_no_sems (by decide) r.2⟩)
    (Cert.ReferenceCondGradIdeal.Value.run m ρ)

/-- Everything that is claimed of the calls. -/
theorem claim : Cert.Claim :=
  ⟨Cert.Kernel.Gen.facts, Cert.KernelIdeal.Gen.facts, Cert.ReferenceIdeal.Gen.facts,
   Cert.KernelPool.Gen.facts, Cert.KernelPoolIdeal.Gen.facts, Cert.ReferencePoolIdeal.Gen.facts,
   Cert.KernelNorm.Gen.facts, Cert.KernelNormIdeal.Gen.facts, Cert.ReferenceNormIdeal.Gen.facts,
   Cert.KernelMerge.Gen.facts, Cert.KernelMergeIdeal.Gen.facts, Cert.ReferenceMergeIdeal.Gen.facts,
   Cert.KernelGw.Gen.facts, Cert.KernelGwIdeal.Gen.facts, Cert.ReferenceGwIdeal.Gen.facts,
   Cert.KernelDh.Gen.facts, Cert.KernelDhIdeal.Gen.facts, Cert.ReferenceDhIdeal.Gen.facts,
   Cert.KernelTail.Gen.facts, Cert.KernelTailIdeal.Gen.facts, Cert.ReferenceTailIdeal.Gen.facts,
   Cert.KernelPre.Gen.facts, Cert.KernelPreIdeal.Gen.facts, Cert.ReferencePreIdeal.Gen.facts,
   Cert.KernelProj.Gen.facts, Cert.KernelProjIdeal.Gen.facts, Cert.ReferenceProjIdeal.Gen.facts,
   Cert.KernelClose.Gen.facts, Cert.KernelCloseIdeal.Gen.facts, Cert.ReferenceCloseIdeal.Gen.facts,
   Cert.KernelLoss.Gen.facts, Cert.KernelLossIdeal.Gen.facts, Cert.ReferenceLossIdeal.Gen.facts,
   Cert.KernelUpdate.Gen.facts, Cert.KernelUpdateIdeal.Gen.facts, Cert.ReferenceUpdateIdeal.Gen.facts,
   Cert.KernelAda.Gen.facts, Cert.KernelAdaIdeal.Gen.facts, Cert.ReferenceAdaIdeal.Gen.facts,
   Cert.KernelMany.Gen.facts, Cert.KernelManyIdeal.Gen.facts, Cert.ReferenceManyIdeal.Gen.facts,
   Cert.KernelBounds.Gen.facts, Cert.KernelBoundsIdeal.Gen.facts, Cert.ReferenceBoundsIdeal.Gen.facts,
   Cert.KernelCond.Gen.facts, Cert.KernelCondIdeal.Gen.facts, Cert.ReferenceCondIdeal.Gen.facts,
   Cert.KernelCondGrad.Gen.facts, Cert.KernelCondGradIdeal.Gen.facts, Cert.ReferenceCondGradIdeal.Gen.facts, Cert.Pre_pool_grad_real.Gen.facts, Cert.Pre_pool_real.Gen.facts,
   frame_pool_grad, frame_pool_grad_ideal, frame_pool_grad_pre, frame_reference_pool_grad, fun m ρ _ => frame_reference_pool_grad m ρ trivial,
   fun m ρ _ => Cert.KernelPool.Gen.frame m ρ, fun m ρ _ => Cert.KernelPoolIdeal.Gen.frame m ρ, fun m ρ _ => Cert.KernelPoolIdeal.Gen.frame m ρ, frame_reference_pool, fun m ρ _ => frame_reference_pool m ρ trivial,
   fun m ρ _ => Cert.KernelNorm.Gen.frame m ρ, fun m ρ _ => Cert.KernelNormIdeal.Gen.frame m ρ, frame_reference_norm,
   frame_merge, frame_merge_ideal, frame_reference_merge,
   fun m ρ _ => Cert.KernelGw.Gen.frame m ρ, fun m ρ _ => Cert.KernelGwIdeal.Gen.frame m ρ, frame_reference_gw,
   fun m ρ _ => Cert.KernelDh.Gen.frame m ρ, fun m ρ _ => Cert.KernelDhIdeal.Gen.frame m ρ, frame_reference_dh,
   fun m ρ _ => Cert.KernelTail.Gen.frame m ρ, fun m ρ _ => Cert.KernelTailIdeal.Gen.frame m ρ, frame_reference_tail,
   fun m ρ _ => Cert.KernelPre.Gen.frame m ρ, fun m ρ _ => Cert.KernelPreIdeal.Gen.frame m ρ, frame_reference_pre,
   fun m ρ _ => Cert.KernelProj.Gen.frame m ρ, fun m ρ _ => Cert.KernelProjIdeal.Gen.frame m ρ, frame_reference_proj,
   fun m ρ _ => Cert.KernelClose.Gen.frame m ρ, fun m ρ _ => Cert.KernelCloseIdeal.Gen.frame m ρ, frame_reference_close,
   fun m ρ _ => Cert.KernelLoss.Gen.frame m ρ, fun m ρ _ => Cert.KernelLossIdeal.Gen.frame m ρ, frame_reference_loss,
   fun m ρ _ => Cert.KernelUpdate.Gen.frame m ρ, fun m ρ _ => Cert.KernelUpdateIdeal.Gen.frame m ρ, frame_reference_update,
   fun m ρ _ => Cert.KernelAda.Gen.frame m ρ, fun m ρ _ => Cert.KernelAdaIdeal.Gen.frame m ρ, frame_reference_ada,
   fun m ρ _ => Cert.KernelMany.Gen.frame m ρ, fun m ρ _ => Cert.KernelManyIdeal.Gen.frame m ρ, frame_reference_many,
   fun m ρ _ => Cert.KernelBounds.Gen.frame m ρ, fun m ρ _ => Cert.KernelBoundsIdeal.Gen.frame m ρ, frame_reference_bounds,
   fun m ρ _ => Cert.KernelCond.Gen.frame m ρ, fun m ρ _ => Cert.KernelCondIdeal.Gen.frame m ρ, frame_reference_cond,
   fun m ρ _ => Cert.KernelCondGrad.Gen.frame m ρ, fun m ρ _ => Cert.KernelCondGradIdeal.Gen.frame m ρ, frame_reference_condgrad,
   trivial, algebraic_pool_grad,
   trivial, algebraic_pool,
   trivial, algebraic_norm,
   trivial, algebraic_merge,
   trivial, algebraic_gw,
   trivial, algebraic_dh,
   trivial, algebraic_tail,
   trivial, algebraic_pre,
   trivial, algebraic_proj,
   trivial, algebraic_close,
   trivial, algebraic_loss,
   trivial, algebraic_update,
   trivial, algebraic_ada,
   trivial, algebraic_many,
   trivial, algebraic_bounds,
   trivial, algebraic_cond,
   trivial, algebraic_condgrad⟩

end Cert.Proof

end
